-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "inv192" .f32 0x3BAAAAAB#32 ((1 / 192 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_v150) = v1 c
          ∧ r.2.mem ((c.tc : Thread Cert.Reference3Ideal.nD Cert.Reference3Ideal.τ).loc Cert.Reference3Ideal.main_v195) = v2 c
          ∧ r.2.mem ((c.tc : Thread Cert.Reference3Ideal.nD Cert.Reference3Ideal.τ).loc Cert.Reference3Ideal.main_v172) = v3 c
          ∧ r.2.mem ((c.tc : Thread Cert.Reference3Ideal.nD Cert.Reference3Ideal.τ).loc Cert.Reference3Ideal.main_v194) = v4 c
          ∧ r.2.mem ((c.tc : Thread Cert.Reference3Ideal.nD Cert.Reference3Ideal.τ).loc Cert.Reference3Ideal.main_v196) = v5 c
          ∧ r.2.mem ((c.tc : Thread Cert.Reference3Ideal.nD Cert.Reference3Ideal.τ).loc Cert.Reference3Ideal.main_v197) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x2048x1024 : Shape := ⟨3, ![8, 2048, 1024]⟩
abbrev S8x2048x512 : Shape := ⟨3, ![8, 2048, 512]⟩
abbrev S1x128x1024 : Shape := ⟨3, ![1, 128, 1024]⟩
abbrev S1x128x512 : Shape := ⟨3, ![1, 128, 512]⟩
abbrev S2x1x4608 : Shape := ⟨3, ![2, 1, 4608]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S4 : Shape := ⟨1, ![4]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x128x1024 : S_.BroadcastsInDim S1x128x1024 (![] : Fin 0 → Fin S1x128x1024.rank)
  reducesTo_S1x128x1024_S_d0_1_2 : S1x128x1024.ReducesTo [0, 1, 2] S_
  bcast_S_S8x2048x512 : S_.BroadcastsInDim S8x2048x512 (![] : Fin 0 → Fin S8x2048x512.rank)
  reducesTo_S8x2048x512_S_d0_1_2 : S8x2048x512.ReducesTo [0, 1, 2] S_
  bcast_S_S1x128x512 : S_.BroadcastsInDim S1x128x512 (![] : Fin 0 → Fin S1x128x512.rank)
  reducesTo_S1x128x512_S_d0_1_2 : S1x128x512.ReducesTo [0, 1, 2] S_
  bcast_S_S4 : S_.BroadcastsInDim S4 (![] : Fin 0 → Fin S4.rank)
  reducesTo_S4_S_d0 : S4.ReducesTo [0] S_

variable [Facts]

def fn_part2 {F : FTy → Type} [FloatOps F] (main_arg14 : FVec F S1x128x512 .bf16) (main_arg15 : FVec F S4 .f32) (main_v34 : IVec S_ 1) (main_v35 : FVec F S1x128x512 .f32) : IVec S_ 1 :=
  let main_v36 : FVec F S1x128x512 .f32 := Host.absf main_v35
  let main_cst_10 : FVec F S_ .f32 := constant S_ .f32 0x7F800000#32
  let main_v37 : FVec F S1x128x512 .f32 := broadcastInDim S1x128x512 ![] bcast_S_S1x128x512 main_cst_10
  let main_v38 : IVec S1x128x512 1 := cmpf .olt main_v36 main_v37
  let main_c_11 : IVec S_ 1 := constantI S_ 1 1#1
  let main_v39 : IVec S_ 1 := (fun x v => Host.reduce IntOp.andi x v reducesTo_S1x128x512_S_d0_1_2 h_S_) main_v38 main_c_11
  let main_v40 : IVec S_ 1 := andi main_v34 main_v39
  let main_v41 : FVec F S1x128x512 .f32 := (extf .f32 · bitsLt_bf16_f32) main_arg14
  let main_v42 : FVec F S1x128x512 .f32 := Host.absf main_v41
  let main_cst_12 : FVec F S_ .f32 := constant S_ .f32 0x7F800000#32
  let main_v43 : FVec F S1x128x512 .f32 := broadcastInDim S1x128x512 ![] bcast_S_S1x128x512 main_cst_12
  let main_v44 : IVec S1x128x512 1 := cmpf .olt main_v42 main_v43
  let main_c_13 : IVec S_ 1 := constantI S_ 1 1#1
  let main_v45 : IVec S_ 1 := (fun x v => Host.reduce IntOp.andi x v reducesTo_S1x128x512_S_d0_1_2 h_S_) main_v44 main_c_13
  let main_v46 : IVec S_ 1 := andi main_v40 main_v45
  let main_v47 : FVec F S4 .f32 := Host.absf main_arg15
  let main_cst_14 : FVec F S_ .f32 := constant S_ .f32 0x7F800000#32
  let main_v48 : FVec F S4 .f32 := broadcastInDim S4 ![] bcast_S_S4 main_cst_14
  let main_v49 : IVec S4 1 := cmpf .olt main_v47 main_v48
  let main_c_15 : IVec S_ 1 := constantI S_ 1 1#1
  let main_v50 : IVec S_ 1 := (fun x v => Host.reduce IntOp.andi x v reducesTo_S4_S_d0 h_S_) main_v49 main_c_15
  let main_v51 : IVec S_ 1 := andi main_v46 main_v50
  main_v51

def fn_part1 {F : FTy → Type} [FloatOps F] (main_arg10 : FVec F S8x2048x512 .bf16) (main_arg11 : FVec F S8x2048x512 .bf16) (main_arg13 : FVec F S1x128x512 .bf16) (main_arg14 : FVec F S1x128x512 .bf16) (main_arg15 : FVec F S4 .f32) (main_v16 : IVec S_ 1) (main_v17 : FVec F S8x2048x512 .f32) : IVec S_ 1 :=
  let main_v18 : FVec F S8x2048x512 .f32 := Host.absf main_v17
  let main_cst_4 : FVec F S_ .f32 := constant S_ .f32 0x7F800000#32
  let main_v19 : FVec F S8x2048x512 .f32 := broadcastInDim S8x2048x512 ![] bcast_S_S8x2048x512 main_cst_4
  let main_v20 : IVec S8x2048x512 1 := cmpf .olt main_v18 main_v19
  let main_c_5 : IVec S_ 1 := constantI S_ 1 1#1
  let main_v21 : IVec S_ 1 := (fun x v => Host.reduce IntOp.andi x v reducesTo_S8x2048x512_S_d0_1_2 h_S_) main_v20 main_c_5
  let main_v22 : IVec S_ 1 := andi main_v16 main_v21
  let main_v23 : FVec F S8x2048x512 .f32 := (extf .f32 · bitsLt_bf16_f32) main_arg10
  let main_v24 : FVec F S8x2048x512 .f32 := Host.absf main_v23
  let main_cst_6 : FVec F S_ .f32 := constant S_ .f32 0x7F800000#32
  let main_v25 : FVec F S8x2048x512 .f32 := broadcastInDim S8x2048x512 ![] bcast_S_S8x2048x512 main_cst_6
  let main_v26 : IVec S8x2048x512 1 := cmpf .olt main_v24 main_v25
  let main_c_7 : IVec S_ 1 := constantI S_ 1 1#1
  let main_v27 : IVec S_ 1 := (fun x v => Host.reduce IntOp.andi x v reducesTo_S8x2048x512_S_d0_1_2 h_S_) main_v26 main_c_7
  let main_v28 : IVec S_ 1 := andi main_v22 main_v27
  let main_v29 : FVec F S8x2048x512 .f32 := (extf .f32 · bitsLt_bf16_f32) main_arg11
  let main_v30 : FVec F S8x2048x512 .f32 := Host.absf main_v29
  let main_cst_8 : FVec F S_ .f32 := constant S_ .f32 0x7F800000#32
  let main_v31 : FVec F S8x2048x512 .f32 := broadcastInDim S8x2048x512 ![] bcast_S_S8x2048x512 main_cst_8
  let main_v32 : IVec S8x2048x512 1 := cmpf .olt main_v30 main_v31
  let main_c_9 : IVec S_ 1 := constantI S_ 1 1#1
  let main_v33 : IVec S_ 1 := (fun x v => Host.reduce IntOp.andi x v reducesTo_S8x2048x512_S_d0_1_2 h_S_) main_v32 main_c_9
  let main_v34 : IVec S_ 1 := andi main_v28 main_v33
  let main_v35 : FVec F S1x128x512 .f32 := (extf .f32 · bitsLt_bf16_f32) main_arg13
  fn_part2 (F := F) main_arg14 main_arg15 main_v34 main_v35

def fn {F : FTy → Type} [FloatOps F] (main_arg0 : FVec F S8x2048x1024 .bf16) (main_arg1 : FVec F S8x2048x1024 .bf16) (main_arg2 : FVec F S8x2048x512 .bf16) (main_arg3 : FVec F S1x128x1024 .bf16) (main_arg4 : FVec F S1x128x512 .bf16) (main_arg5 : FVec F S2x1x4608 .f32) (main_arg6 : FVec F S2x1024x1024 .f32) (main_arg7 : FVec F S2x1024x5632 .f32) (main_arg8 : FVec F S2x2816x1024 .f32) (main_arg9 : FVec F S8x2048x512 .bf16) (main_arg10 : FVec F S8x2048x512 .bf16) (main_arg11 : FVec F S8x2048x512 .bf16) (main_arg12 : FVec F S8x2048x512 .bf16) (main_arg13 : FVec F S1x128x512 .bf16) (main_arg14 : FVec F S1x128x512 .bf16) (main_arg15 : FVec F S4 .f32) : IVec S_ 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x1024 .f32 := (extf .f32 · bitsLt_bf16_f32) main_arg1
  let main_v6 : FVec F S8x2048x1024 .f32 := Host.absf main_v5
  let main_cst_0 : FVec F S_ .f32 := constant S_ .f32 0x7F800000#32
  let main_v7 : FVec F S8x2048x1024 .f32 := broadcastInDim S8x2048x1024 ![] bcast_S_S8x2048x1024 main_cst_0
  let main_v8 : IVec S8x2048x1024 1 := cmpf .olt main_v6 main_v7
  let main_c_1 : IVec S_ 1 := constantI S_ 1 1#1
  let main_v9 : IVec S_ 1 := (fun x v => Host.reduce IntOp.andi x v reducesTo_S8x2048x1024_S_d0_1_2 h_S_) main_v8 main_c_1
  let main_v10 : IVec S_ 1 := andi main_v4 main_v9
  let main_v11 : FVec F S1x128x1024 .f32 := (extf .f32 · bitsLt_bf16_f32) main_arg3
  let main_v12 : FVec F S1x128x1024 .f32 := Host.absf main_v11
  let main_cst_2 : FVec F S_ .f32 := constant S_ .f32 0x7F800000#32
  let main_v13 : FVec F S1x128x1024 .f32 := broadcastInDim S1x128x1024 ![] bcast_S_S1x128x1024 main_cst_2
  let main_v14 : IVec S1x128x1024 1 := cmpf .olt main_v12 main_v13
  let main_c_3 : IVec S_ 1 := constantI S_ 1 1#1
  let main_v15 : IVec S_ 1 := (fun x v => Host.reduce IntOp.andi x v reducesTo_S1x128x1024_S_d0_1_2 h_S_) main_v14 main_c_3
  let main_v16 : IVec S_ 1 := andi main_v10 main_v15
  let main_v17 : FVec F S8x2048x512 .f32 := (extf .f32 · bitsLt_bf16_f32) main_arg9
  fn_part1 (F := F) main_arg10 main_arg11 main_arg13 main_arg14 main_arg15 main_v16 main_v17
-- ==== Kernel.lean ====
abbrev S8x2048x1024 : Shape := ⟨3, ![8, 2048, 1024]⟩
abbrev S8x2048x512 : Shape := ⟨3, ![8, 2048, 512]⟩
abbrev S1x128x1024 : Shape := ⟨3, ![1, 128, 1024]⟩
abbrev S1x128x512 : Shape := ⟨3, ![1, 128, 512]⟩
abbrev S2x1x4608 : Shape := ⟨3, ![2, 1, 4608]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S4 : Shape := ⟨1, ![4]⟩
abbrev S4x1x1 : Shape := ⟨3, ![4, 1, 1]⟩
abbrev S4x8x128 : Shape := ⟨3, ![4, 8, 128]⟩
abbrev S1024x1024 : Shape := ⟨2, ![1024, 1024]⟩
abbrev S1024x5632 : Shape := ⟨2, ![1024, 5632]⟩
abbrev S2816x1024 : Shape := ⟨2, ![2816, 1024]⟩
abbrev S1x2048x512 : Shape := ⟨3, ![1, 2048, 512]⟩
abbrev S1x2048x256 : Shape := ⟨3, ![1, 2048, 256]⟩
abbrev S1x128x256 : Shape := ⟨3, ![1, 128, 256]⟩
abbrev S1x1x256 : Shape := ⟨3, ![1, 1, 256]⟩
abbrev S1x64x1024 : Shape := ⟨3, ![1, 64, 1024]⟩
abbrev S1x64x5632 : Shape := ⟨3, ![1, 64, 5632]⟩
abbrev S1x176x1024 : Shape := ⟨3, ![1, 176, 1024]⟩
abbrev S2x8x128 : Shape := ⟨3, ![2, 8, 128]⟩
abbrev S64x1024 : Shape := ⟨2, ![64, 1024]⟩
abbrev S64x5632 : Shape := ⟨2, ![64, 5632]⟩
abbrev S176x1024 : Shape := ⟨2, ![176, 1024]⟩
abbrev S256x2176 : Shape := ⟨2, ![256, 2176]⟩
abbrev S1x128x128 : Shape := ⟨3, ![1, 128, 128]⟩
abbrev S128x128 : Shape := ⟨2, ![128, 128]⟩
abbrev S1x2048x128 : Shape := ⟨3, ![1, 2048, 128]⟩
abbrev S2048x128 : Shape := ⟨2, ![2048, 128]⟩
abbrev S128x2048 : Shape := ⟨2, ![128, 2048]⟩
abbrev S128x1 : Shape := ⟨2, ![128, 1]⟩
abbrev S256x512 : Shape := ⟨2, ![256, 512]⟩
abbrev S256x256 : Shape := ⟨2, ![256, 256]⟩
abbrev S1x512x256 : Shape := ⟨3, ![1, 512, 256]⟩
abbrev S512x256 : Shape := ⟨2, ![512, 256]⟩
abbrev S128x256 : Shape := ⟨2, ![128, 256]⟩
abbrev S128x512 : Shape := ⟨2, ![128, 512]⟩
abbrev S1x256x256 : Shape := ⟨3, ![1, 256, 256]⟩
abbrev S384x512 : Shape := ⟨2, ![384, 512]⟩
abbrev S1x768x256 : Shape := ⟨3, ![1, 768, 256]⟩
abbrev S768x256 : Shape := ⟨2, ![768, 256]⟩
abbrev S768x512 : Shape := ⟨2, ![768, 512]⟩
abbrev S512x512 : Shape := ⟨2, ![512, 512]⟩
abbrev S896x512 : Shape := ⟨2, ![896, 512]⟩
abbrev S512 : Shape := ⟨1, ![512]⟩
abbrev S1x512 : Shape := ⟨2, ![1, 512]⟩
abbrev S1x256 : Shape := ⟨2, ![1, 256]⟩
abbrev S256 : Shape := ⟨1, ![256]⟩
abbrev S128x384 : Shape := ⟨2, ![128, 384]⟩
abbrev S512x128 : Shape := ⟨2, ![512, 128]⟩
abbrev S1x1x128 : Shape := ⟨3, ![1, 1, 128]⟩
abbrev S1x128 : Shape := ⟨2, ![1, 128]⟩
abbrev S1x512x128 : Shape := ⟨3, ![1, 512, 128]⟩
abbrev S1x8x128 : Shape := ⟨3, ![1, 8, 128]⟩
abbrev S8x128 : Shape := ⟨2, ![8, 128]⟩
abbrev S256x128 : Shape := ⟨2, ![256, 128]⟩
abbrev S1x256x128 : Shape := ⟨3, ![1, 256, 128]⟩
abbrev S256x1 : Shape := ⟨2, ![256, 1]⟩
abbrev S1x1280x256 : Shape := ⟨3, ![1, 1280, 256]⟩
abbrev S1280x256 : Shape := ⟨2, ![1280, 256]⟩
abbrev S1280x512 : Shape := ⟨2, ![1280, 512]⟩
abbrev S1024x512 : Shape := ⟨2, ![1024, 512]⟩
abbrev S1408x512 : Shape := ⟨2, ![1408, 512]⟩
abbrev S128x896 : Shape := ⟨2, ![128, 896]⟩
abbrev S1x1792x256 : Shape := ⟨3, ![1, 1792, 256]⟩
abbrev S1792x256 : Shape := ⟨2, ![1792, 256]⟩
abbrev S1792x512 : Shape := ⟨2, ![1792, 512]⟩
abbrev S1536x512 : Shape := ⟨2, ![1536, 512]⟩
abbrev S1920x512 : Shape := ⟨2, ![1920, 512]⟩
abbrev S128x1408 : Shape := ⟨2, ![128, 1408]⟩
abbrev S128x1920 : Shape := ⟨2, ![128, 1920]⟩

abbrev nBuf : Space → Nat
  | .hbm => 23
  | .vmem => 47
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S1x128x1024, .bf16⟩
  | .hbm, ⟨4, _⟩ => ⟨S1x128x512, .bf16⟩
  | .hbm, ⟨5, _⟩ => ⟨S2x1x4608, .f32⟩
  | .hbm, ⟨6, _⟩ => ⟨S2x1024x1024, .f32⟩
  | .hbm, ⟨7, _⟩ => ⟨S2x1024x5632, .f32⟩
  | .hbm, ⟨8, _⟩ => ⟨S2x2816x1024, .f32⟩
  | .hbm, ⟨9, _⟩ => ⟨S8x2048x512, .bf16⟩
  | .hbm, ⟨10, _⟩ => ⟨S8x2048x512, .bf16⟩
  | .hbm, ⟨11, _⟩ => ⟨S8x2048x512, .bf16⟩
  | .hbm, ⟨12, _⟩ => ⟨S8x2048x512, .bf16⟩
  | .hbm, ⟨13, _⟩ => ⟨S1x128x512, .bf16⟩
  | .hbm, ⟨14, _⟩ => ⟨S1x128x512, .bf16⟩
  | .hbm, ⟨15, _⟩ => ⟨S4, .f32⟩
  | .hbm, ⟨16, _⟩ => ⟨S4x1x1, .f32⟩
  | .hbm, ⟨17, _⟩ => ⟨S4x8x128, .f32⟩
  | .hbm, ⟨18, _⟩ => ⟨S8x2048x512, .bf16⟩
  | .hbm, ⟨19, _⟩ => ⟨S1024x1024, .bf16⟩
  | .hbm, ⟨20, _⟩ => ⟨S1024x5632, .bf16⟩
  | .hbm, ⟨21, _⟩ => ⟨S2816x1024, .bf16⟩
  | .hbm, ⟨22, _⟩ => ⟨S8x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x256, .bf16⟩
  | .local _ .vmem, ⟨9, _⟩ => ⟨S1x128x256, .bf16⟩
  | .local _ .vmem, ⟨10, _⟩ => ⟨S1x1x256, .f32⟩
  | .local _ .vmem, ⟨11, _⟩ => ⟨S1x1x256, .f32⟩
  | .local _ .vmem, ⟨12, _⟩ => ⟨S1x64x1024, .f32⟩
  | .local _ .vmem, ⟨13, _⟩ => ⟨S1x64x1024, .f32⟩
  | .local _ .vmem, ⟨14, _⟩ => ⟨S1x64x5632, .f32⟩
  | .local _ .vmem, ⟨15, _⟩ => ⟨S1x64x5632, .f32⟩
  | .local _ .vmem, ⟨16, _⟩ => ⟨S1x176x1024, .f32⟩
  | .local _ .vmem, ⟨17, _⟩ => ⟨S1x176x1024, .f32⟩
  | .local _ .vmem, ⟨18, _⟩ => ⟨S1x2048x256, .bf16⟩
  | .local _ .vmem, ⟨19, _⟩ => ⟨S1x2048x256, .bf16⟩
  | .local _ .vmem, ⟨20, _⟩ => ⟨S1x2048x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x2048x256, .bf16⟩
  | .local _ .vmem, ⟨24, _⟩ => ⟨S1x2048x256, .bf16⟩
  | .local _ .vmem, ⟨25, _⟩ => ⟨S1x2048x256, .bf16⟩
  | .local _ .vmem, ⟨26, _⟩ => ⟨S1x128x256, .bf16⟩
  | .local _ .vmem, ⟨27, _⟩ => ⟨S1x128x256, .bf16⟩
  | .local _ .vmem, ⟨28, _⟩ => ⟨S1x128x256, .bf16⟩
  | .local _ .vmem, ⟨29, _⟩ => ⟨S1x128x256, .bf16⟩
  | .local _ .vmem, ⟨30, _⟩ => ⟨S2x8x128, .f32⟩
  | .local _ .vmem, ⟨31, _⟩ => ⟨S2x8x128, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1x1x256, .f32⟩
  | .local _ .vmem, ⟨36, _⟩ => ⟨S1x2048x256, .bf16⟩
  | .local _ .vmem, ⟨37, _⟩ => ⟨S1x2048x256, .bf16⟩
  | .local _ .vmem, ⟨38, _⟩ => ⟨S64x1024, .bf16⟩
  | .local _ .vmem, ⟨39, _⟩ => ⟨S64x1024, .bf16⟩
  | .local _ .vmem, ⟨40, _⟩ => ⟨S64x5632, .bf16⟩
  | .local _ .vmem, ⟨41, _⟩ => ⟨S64x5632, .bf16⟩
  | .local _ .vmem, ⟨42, _⟩ => ⟨S176x1024, .bf16⟩
  | .local _ .vmem, ⟨43, _⟩ => ⟨S176x1024, .bf16⟩
  | .local _ .vmem, ⟨44, _⟩ => ⟨S1x2048x256, .bf16⟩
  | .local _ .vmem, ⟨45, _⟩ => ⟨S1x2048x256, .bf16⟩
  | .local _ .vmem, ⟨46, _⟩ => ⟨S256x2176, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v2_2 : Ref sig .tc := ⟨.hbm, 20, rfl⟩
abbrev main_v2_3 : Ref sig .tc := ⟨.hbm, 21, rfl⟩
abbrev main_v2_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  let c0_i32_1 : BitVec 32 := 0#32
  ![c0_i32.toNat, c0_i32_0.toNat, v0.toNat]

def cc0_transform_17 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S2x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x2048x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x5632 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S176x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2048x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S8x2048x512 : Shape := ⟨3, ![8, 2048, 512]⟩
abbrev S1x128x1024 : Shape := ⟨3, ![1, 128, 1024]⟩
abbrev S1x128x512 : Shape := ⟨3, ![1, 128, 512]⟩
abbrev S2x1x4608 : Shape := ⟨3, ![2, 1, 4608]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S4 : Shape := ⟨1, ![4]⟩
abbrev S8x2048x4x256 : Shape := ⟨4, ![8, 2048, 4, 256]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S8x2064x4x256 : Shape := ⟨4, ![8, 2064, 4, 256]⟩
abbrev S1x16x512 : Shape := ⟨3, ![1, 16, 512]⟩
abbrev S8x16x512 : Shape := ⟨3, ![8, 16, 512]⟩
abbrev S8x2064x512 : Shape := ⟨3, ![8, 2064, 512]⟩
abbrev S8x2064x4x128 : Shape := ⟨4, ![8, 2064, 4, 128]⟩
abbrev S8x4x2048x2064 : Shape := ⟨4, ![8, 4, 2048, 2064]⟩
abbrev S_ : Shape := ⟨0, ![]⟩
abbrev S2048x2064 : Shape := ⟨2, ![2048, 2064]⟩
abbrev S1x1x2048x2064 : Shape := ⟨4, ![1, 1, 2048, 2064]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x512 : Shape := ⟨3, ![1, 1, 512]⟩
abbrev S512 : Shape := ⟨1, ![512]⟩
abbrev S4x128 : Shape := ⟨2, ![4, 128]⟩
abbrev S1x1x4x128 : Shape := ⟨4, ![1, 1, 4, 128]⟩
abbrev S8x2048x2x2x2x64 : Shape := ⟨6, ![8, 2048, 2, 2, 2, 64]⟩
abbrev S8x128x512 : Shape := ⟨3, ![8, 128, 512]⟩
abbrev S8x2176x512 : Shape := ⟨3, ![8, 2176, 512]⟩
abbrev S8x2176x2x2x2x64 : Shape := ⟨6, ![8, 2176, 2, 2, 2, 64]⟩
abbrev S8x2176x4x128 : Shape := ⟨4, ![8, 2176, 4, 128]⟩
abbrev S2048x2176 : Shape := ⟨2, ![2048, 2176]⟩
abbrev S1x2048x2176 : Shape := ⟨3, ![1, 2048, 2176]⟩
abbrev S4x1x1 : Shape := ⟨3, ![4, 1, 1]⟩
abbrev S4x2048x2176 : Shape := ⟨3, ![4, 2048, 2176]⟩
abbrev S8x4x2048x2176 : Shape := ⟨4, ![8, 4, 2048, 2176]⟩
abbrev S1x4x2048x2176 : Shape := ⟨4, ![1, 4, 2048, 2176]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

abbrev nBuf : Space → Nat
  | .hbm => 181
  | .vmem => 0
  | .smem => 0
  | _ => 0

abbrev hbmTy0_0 (i : Nat) : BufTy := match i % 128 with
  | 0 => ⟨S8x2048x1024, .bf16⟩
  | 1 => ⟨S8x2048x1024, .bf16⟩
  | 2 => ⟨S8x2048x512, .bf16⟩
  | 3 => ⟨S1x128x1024, .bf16⟩
  | 4 => ⟨S1x128x512, .bf16⟩
  | 5 => ⟨S2x1x4608, .f32⟩
  | 6 => ⟨S2x1024x1024, .f32⟩
  | 7 => ⟨S2x1024x5632, .f32⟩
  | 8 => ⟨S2x2816x1024, .f32⟩
  | 9 => ⟨S8x2048x512, .bf16⟩
  | 10 => ⟨S8x2048x512, .bf16⟩
  | 11 => ⟨S8x2048x512, .bf16⟩
  | 12 => ⟨S8x2048x512, .bf16⟩
  | 13 => ⟨S1x128x512, .bf16⟩
  | 14 => ⟨S1x128x512, .bf16⟩
  | 15 => ⟨S4, .f32⟩
  | 16 => ⟨S8x2048x1024, .f32⟩
  | 17 => ⟨S8x2048x4x256, .f32⟩
  | 18 => ⟨S1x16x1024, .bf16⟩
  | 19 => ⟨S8x16x1024, .bf16⟩
  | 20 => ⟨S8x2064x1024, .bf16⟩
  | 21 => ⟨S8x2064x1024, .f32⟩
  | 22 => ⟨S8x2064x4x256, .f32⟩
  | 23 => ⟨S1x16x512, .bf16⟩
  | 24 => ⟨S8x16x512, .bf16⟩
  | 25 => ⟨S8x2064x512, .bf16⟩
  | 26 => ⟨S8x2064x512, .f32⟩
  | 27 => ⟨S8x2064x4x128, .f32⟩
  | 28 => ⟨S8x4x2048x2064, .f32⟩
  | 29 => ⟨S_, .f32⟩
  | 30 => ⟨S_, .f32⟩
  | 31 => ⟨S8x4x2048x2064, .f32⟩
  | 32 => ⟨S8x4x2048x2064, .f32⟩
  | 33 => ⟨S2048x2064, .i32⟩
  | 34 => ⟨S_, .i32⟩
  | 35 => ⟨S2048x2064, .i32⟩
  | 36 => ⟨S2048x2064, .i32⟩
  | 37 => ⟨S2048x2064, .i32⟩
  | 38 => ⟨S2048x2064, .i1⟩
  | 39 => ⟨S1x1x2048x2064, .i1⟩
  | 40 => ⟨S_, .f32⟩
  | 41 => ⟨S_, .f32⟩
  | 42 => ⟨S8x4x2048x2064, .i1⟩
  | 43 => ⟨S8x4x2048x2064, .f32⟩
  | 44 => ⟨S8x4x2048x2064, .f32⟩
  | 45 => ⟨S_, .f32⟩
  | 46 => ⟨S8x4x2048, .f32⟩
  | 47 => ⟨S_, .f32⟩
  | 48 => ⟨S8x4x2048, .f32⟩
  | 49 => ⟨S8x4x2048, .f32⟩
  | 50 => ⟨S8x4x2048x1, .f32⟩
  | 51 => ⟨S8x4x2048x2064, .f32⟩
  | 52 => ⟨S8x4x2048x2064, .f32⟩
  | 53 => ⟨S8x4x2048x2064, .f32⟩
  | 54 => ⟨S_, .f32⟩
  | 55 => ⟨S8x4x2048, .f32⟩
  | 56 => ⟨S8x4x2048x1, .f32⟩
  | 57 => ⟨S8x4x2048x2064, .f32⟩
  | 58 => ⟨S8x4x2048x2064, .f32⟩
  | 59 => ⟨S8x4x128x2048, .f32⟩
  | 60 => ⟨S8x2048x4x128, .f32⟩
  | 61 => ⟨S8x2048x4x128, .f32⟩
  | 62 => ⟨S_, .f32⟩
  | 63 => ⟨S8x2048x4, .f32⟩
  | 64 => ⟨S8x2048x4x1, .f32⟩
  | 65 => ⟨S_, .f32⟩
  | 66 => ⟨S8x2048x4x1, .f32⟩
  | 67 => ⟨S8x2048x4x1, .f32⟩
  | 68 => ⟨S_, .f32⟩
  | 69 => ⟨S8x2048x4x1, .f32⟩
  | 70 => ⟨S8x2048x4x1, .f32⟩
  | 71 => ⟨S8x2048x4x1, .f32⟩
  | 72 => ⟨S8x2048x4x128, .f32⟩
  | 73 => ⟨S8x2048x4x128, .f32⟩
  | 74 => ⟨S1x1x512, .f32⟩
  | 75 => ⟨S512, .f32⟩
  | 76 => ⟨S4x128, .f32⟩
  | 77 => ⟨S1x1x4x128, .f32⟩
  | 78 => ⟨S8x2048x4x128, .f32⟩
  | 79 => ⟨S8x2048x4x128, .f32⟩
  | 80 => ⟨S8x2048x512, .f32⟩
  | 81 => ⟨S8x2048x512, .bf16⟩
  | 82 => ⟨S8x2048x512, .f32⟩
  | 83 => ⟨S8x2048x2x2x2x64, .f32⟩
  | 84 => ⟨S8x2048x2x2x2x64, .f32⟩
  | 85 => ⟨S8x2048x4x128, .f32⟩
  | 86 => ⟨S8x128x512, .bf16⟩
  | 87 => ⟨S8x2176x512, .bf16⟩
  | 88 => ⟨S8x2176x512, .f32⟩
  | 89 => ⟨S8x2176x2x2x2x64, .f32⟩
  | 90 => ⟨S8x2176x2x2x2x64, .f32⟩
  | 91 => ⟨S8x2176x4x128, .f32⟩
  | 92 => ⟨S8x128x512, .bf16⟩
  | 93 => ⟨S8x2176x512, .bf16⟩
  | 94 => ⟨S8x2176x512, .f32⟩
  | 95 => ⟨S8x2176x4x128, .f32⟩
  | 96 => ⟨S2048x2176, .i32⟩
  | 97 => ⟨S_, .i32⟩
  | 98 => ⟨S2048x2176, .i32⟩
  | 99 => ⟨S2048x2176, .i32⟩
  | 100 => ⟨S2048x2176, .i32⟩
  | 101 => ⟨S2048x2176, .i32⟩
  | 102 => ⟨S2048x2176, .f32⟩
  | 103 => ⟨S_, .f32⟩
  | 104 => ⟨S2048x2176, .f32⟩
  | 105 => ⟨S2048x2176, .i1⟩
  | 106 => ⟨S_, .f32⟩
  | 107 => ⟨S2048x2176, .f32⟩
  | 108 => ⟨S2048x2176, .f32⟩
  | 109 => ⟨S1x2048x2176, .f32⟩
  | 110 => ⟨S4x1x1, .f32⟩
  | 111 => ⟨S4x2048x2176, .f32⟩
  | 112 => ⟨S4x2048x2176, .f32⟩
  | 113 => ⟨S4x2048x2176, .f32⟩
  | 114 => ⟨S4x2048x2176, .f32⟩
  | 115 => ⟨S_, .f32⟩
  | 116 => ⟨S_, .f32⟩
  | 117 => ⟨S4x2048x2176, .i1⟩
  | 118 => ⟨S4x2048x2176, .f32⟩
  | 119 => ⟨S4x2048x2176, .f32⟩
  | 120 => ⟨S8x4x2048x2176, .f32⟩
  | 121 => ⟨S1x4x2048x2176, .f32⟩
  | 122 => ⟨S8x4x2048x2176, .f32⟩
  | 123 => ⟨S8x4x2048x2176, .f32⟩
  | 124 => ⟨S8x4x128x2048, .f32⟩
  | 125 => ⟨S8x2048x4x128, .f32⟩
  | 126 => ⟨S_, .f32⟩
  | 127 => ⟨S8x2048x4, .f32⟩
  | _ => ⟨S8x2048x1024, .bf16⟩

abbrev hbmTy0_1 (i : Nat) : BufTy := match i % 128 with
  | 0 => ⟨S8x2048x4x1, .f32⟩
  | 1 => ⟨S_, .f32⟩
  | 2 => ⟨S8x2048x4x1, .f32⟩
  | 3 => ⟨S8x2048x4x1, .f32⟩
  | 4 => ⟨S8x2048x4x128, .f32⟩
  | 5 => ⟨S8x2048x4x128, .f32⟩
  | 6 => ⟨S8x2048x4x128, .f32⟩
  | 7 => ⟨S_, .f32⟩
  | 8 => ⟨S8x2048x4, .f32⟩
  | 9 => ⟨S8x2048x4x1, .f32⟩
  | 10 => ⟨S_, .f32⟩
  | 11 => ⟨S8x2048x4x1, .f32⟩
  | 12 => ⟨S8x2048x4x1, .f32⟩
  | 13 => ⟨S8x2048x4x128, .f32⟩
  | 14 => ⟨S8x2048x4x128, .f32⟩
  | 15 => ⟨S_, .f32⟩
  | 16 => ⟨S8x2048x4x1, .f32⟩
  | 17 => ⟨S8x2048x4x1, .f32⟩
  | 18 => ⟨S8x2048x4x1, .f32⟩
  | 19 => ⟨S8x2048x4x128, .f32⟩
  | 20 => ⟨S8x2048x4x128, .f32⟩
  | 21 => ⟨S8x2048x512, .f32⟩
  | 22 => ⟨S1x1x512, .f32⟩
  | 23 => ⟨S512, .f32⟩
  | 24 => ⟨S1x1x512, .f32⟩
  | 25 => ⟨S8x2048x512, .f32⟩
  | 26 => ⟨S8x2048x512, .f32⟩
  | 27 => ⟨S1x1x512, .f32⟩
  | 28 => ⟨S512, .f32⟩
  | 29 => ⟨S1x1x512, .f32⟩
  | 30 => ⟨S8x2048x512, .f32⟩
  | 31 => ⟨S8x2048x512, .f32⟩
  | 32 => ⟨S8x2048x512, .f32⟩
  | 33 => ⟨S8x2048x512, .f32⟩
  | 34 => ⟨S8x2048x512, .f32⟩
  | 35 => ⟨S_, .f32⟩
  | 36 => ⟨S8x2048x512, .f32⟩
  | 37 => ⟨S8x2048x512, .f32⟩
  | 38 => ⟨S_, .f32⟩
  | 39 => ⟨S8x2048x512, .f32⟩
  | 40 => ⟨S8x2048x512, .f32⟩
  | 41 => ⟨S8x2048x512, .f32⟩
  | 42 => ⟨S8x2048x512, .f32⟩
  | 43 => ⟨S8x2048x512, .bf16⟩
  | 44 => ⟨S1x1024x1024, .f32⟩
  | 45 => ⟨S1024x1024, .f32⟩
  | 46 => ⟨S1024x1024, .bf16⟩
  | 47 => ⟨S1x1024x5632, .f32⟩
  | 48 => ⟨S1024x5632, .f32⟩
  | 49 => ⟨S1024x5632, .bf16⟩
  | 50 => ⟨S1x2816x1024, .f32⟩
  | 51 => ⟨S2816x1024, .f32⟩
  | 52 => ⟨S2816x1024, .bf16⟩
  | _ => ⟨S8x2048x1024, .bf16⟩

abbrev hbmTy (i : Nat) : BufTy := match i / 128 with
  | 0 => hbmTy0_0 i
  | 1 => hbmTy0_1 i
  | _ => ⟨S8x2048x1024, .bf16⟩

abbrev bufTy : (tb : Table) → Fin (tcTables nBuf tb) → BufTy
  | .hbm, ⟨i, _⟩ => hbmTy i
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_7 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_8 : Ref sig .tc := ⟨.hbm, 103, rfl⟩
abbrev main_v74 : Ref sig .tc := ⟨.hbm, 104, rfl⟩
abbrev main_v75 : Ref sig .tc := ⟨.hbm, 105, rfl⟩
abbrev main_cst_9 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_10 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_11 : Ref sig .tc := ⟨.hbm, 126, rfl⟩
abbrev main_v91 : Ref sig .tc := ⟨.hbm, 127, rfl⟩
abbrev main_v92 : Ref sig .tc := ⟨.hbm, 128, rfl⟩
abbrev main_cst_12 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_13 : Ref sig .tc := ⟨.hbm, 135, rfl⟩
abbrev main_v98 : Ref sig .tc := ⟨.hbm, 136, rfl⟩
abbrev main_v99 : Ref sig .tc := ⟨.hbm, 137, rfl⟩
abbrev main_cst_14 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_15 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_call2_v0 : Ref sig .tc := ⟨.hbm, 161, rfl⟩
abbrev main_call2_v1 : Ref sig .tc := ⟨.hbm, 162, rfl⟩
abbrev main_call2_cst : Ref sig .tc := ⟨.hbm, 163, rfl⟩
abbrev main_call2_v2 : Ref sig .tc := ⟨.hbm, 164, rfl⟩
abbrev main_call2_v3 : Ref sig .tc := ⟨.hbm, 165, rfl⟩
abbrev main_call2_cst_0 : Ref sig .tc := ⟨.hbm, 166, rfl⟩
abbrev main_call2_v4 : Ref sig .tc := ⟨.hbm, 167, rfl⟩
abbrev main_call2_v5 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S1024x1024 : Shape := ⟨2, ![1024, 1024]⟩
abbrev S2x1x4608 : Shape := ⟨3, ![2, 1, 4608]⟩
abbrev S1024x5632 : Shape := ⟨2, ![1024, 5632]⟩
abbrev S2816x1024 : Shape := ⟨2, ![2816, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1024x2816 : Shape := ⟨2, ![1024, 2816]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S1x1024 : Shape := ⟨2, ![1, 1024]⟩
abbrev S1024x256 : Shape := ⟨2, ![1024, 256]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1024x1024, .bf16⟩
  | .hbm, ⟨4, _⟩ => ⟨S2x1x4608, .f32⟩
  | .hbm, ⟨5, _⟩ => ⟨S1024x5632, .bf16⟩
  | .hbm, ⟨6, _⟩ => ⟨S2816x1024, .bf16⟩
  | .hbm, ⟨7, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x1024, .bf16⟩
  | .local _ .vmem, ⟨7, _⟩ => ⟨S1x1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x2048x1024 : Shape := ⟨3, ![8, 2048, 1024]⟩
abbrev S8x2048x512 : Shape := ⟨3, ![8, 2048, 512]⟩
abbrev S1024x1024 : Shape := ⟨2, ![1024, 1024]⟩
abbrev S2x1x4608 : Shape := ⟨3, ![2, 1, 4608]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024 : Shape := ⟨1, ![1024]⟩
abbrev S8x2048x5632 : Shape := ⟨3, ![8, 2048, 5632]⟩
abbrev S8x2048x2816 : Shape := ⟨3, ![8, 2048, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1024x1024, .bf16⟩
  | .hbm, ⟨4, _⟩ => ⟨S2x1x4608, .f32⟩
  | .hbm, ⟨5, _⟩ => ⟨S1024x5632, .bf16⟩
  | .hbm, ⟨6, _⟩ => ⟨S2816x1024, .bf16⟩
  | .hbm, ⟨7, _⟩ => ⟨S8x2048x1024, .bf16⟩
  | .hbm, ⟨8, _⟩ => ⟨S8x2048x1024, .f32⟩
  | .hbm, ⟨9, _⟩ => ⟨S1024x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S1024x5632, .f32⟩
  | .hbm, ⟨31, _⟩ => ⟨S8x2048x5632, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S2816x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1x4608 : Shape := ⟨3, ![2, 1, 4608]⟩
abbrev S2x768x1024 : Shape := ⟨3, ![2, 768, 1024]⟩
abbrev S2x1024x1024 : Shape := ⟨3, ![2, 1024, 1024]⟩
abbrev S2x256x1024 : Shape := ⟨3, ![2, 256, 1024]⟩
abbrev S2x256x1536 : Shape := ⟨3, ![2, 256, 1536]⟩
abbrev S2048x128 : Shape := ⟨2, ![2048, 128]⟩
abbrev S8x2048x512 : Shape := ⟨3, ![8, 2048, 512]⟩
abbrev S1x1024x1024 : Shape := ⟨3, ![1, 1024, 1024]⟩
abbrev S1x1x1024 : Shape := ⟨3, ![1, 1, 1024]⟩
abbrev S1x768x1024 : Shape := ⟨3, ![1, 768, 1024]⟩
abbrev S1x1x256 : Shape := ⟨3, ![1, 1, 256]⟩
abbrev S1x256x1024 : Shape := ⟨3, ![1, 256, 1024]⟩
abbrev S1x256x1536 : Shape := ⟨3, ![1, 256, 1536]⟩
abbrev S1024x128 : Shape := ⟨2, ![1024, 128]⟩
abbrev S1x1024x512 : Shape := ⟨3, ![1, 1024, 512]⟩
abbrev S1024x1024 : Shape := ⟨2, ![1024, 1024]⟩
abbrev S1024x256 : Shape := ⟨2, ![1024, 256]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩
abbrev S1x256 : Shape := ⟨2, ![1, 256]⟩
abbrev S1x512x1024 : Shape := ⟨3, ![1, 512, 1024]⟩
abbrev S512x1024 : Shape := ⟨2, ![512, 1024]⟩
abbrev S1024x512 : Shape := ⟨2, ![1024, 512]⟩
abbrev S1x256x512 : Shape := ⟨3, ![1, 256, 512]⟩
abbrev S256x512 : Shape := ⟨2, ![256, 512]⟩
abbrev S1x1024x128 : Shape := ⟨3, ![1, 1024, 128]⟩

abbrev nBuf : Space → Nat
  | .hbm => 20
  | .vmem => 42
  | .smem => 0
  | _ => 0

abbrev bufTy : (tb : Table) → Fin (tcTables nBuf tb) → BufTy
  | .hbm, ⟨0, _⟩ => ⟨S8x2048x1024, .f32⟩
  | .hbm, ⟨1, _⟩ => ⟨S2x1x4608, .f32⟩
  | .hbm, ⟨2, _⟩ => ⟨S2x768x1024, .bf16⟩
  | .hbm, ⟨3, _⟩ => ⟨S2x1024x1024, .bf16⟩
  | .hbm, ⟨4, _⟩ => ⟨S2x1024x1024, .bf16⟩
  | .hbm, ⟨5, _⟩ => ⟨S2x256x1024, .bf16⟩
  | .hbm, ⟨6, _⟩ => ⟨S2x256x1536, .bf16⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S8x2048x1024, .bf16⟩
  | .hbm, ⟨14, _⟩ => ⟨S8x2048x1024, .bf16⟩
  | .hbm, ⟨15, _⟩ => ⟨S8x2048x512, .bf16⟩
  | .hbm, ⟨16, _⟩ => ⟨S8x2048x512, .bf16⟩
  | .hbm, ⟨17, _⟩ => ⟨S8x2048x512, .bf16⟩
  | .hbm, ⟨18, _⟩ => ⟨S8x2048x512, .bf16⟩
  | .hbm, ⟨19, _⟩ => ⟨S8x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x768x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x256, .f32⟩
  | .local _ .vmem, ⟨7, _⟩ => ⟨S1x256x1024, .bf16⟩
  | .local _ .vmem, ⟨8, _⟩ => ⟨S1x1x256, .f32⟩
  | .local _ .vmem, ⟨9, _⟩ => ⟨S1x256x1536, .bf16⟩
  | .local _ .vmem, ⟨10, _⟩ => ⟨S1x1x256, .f32⟩
  | .local _ .vmem, ⟨11, _⟩ => ⟨S1x1x256, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1x1024x1024, .bf16⟩
  | .local _ .vmem, ⟨25, _⟩ => ⟨S1x1024x1024, .bf16⟩
  | .local _ .vmem, ⟨26, _⟩ => ⟨S1x1024x1024, .bf16⟩
  | .local _ .vmem, ⟨27, _⟩ => ⟨S1x1024x1024, .bf16⟩
  | .local _ .vmem, ⟨28, _⟩ => ⟨S1x1024x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x1024x512, .bf16⟩
  | .local _ .vmem, ⟨36, _⟩ => ⟨S1x1024x512, .bf16⟩
  | .local _ .vmem, ⟨37, _⟩ => ⟨S1x1024x512, .bf16⟩
  | .local _ .vmem, ⟨38, _⟩ => ⟨S1024x1024, .bf16⟩
  | .local _ .vmem, ⟨39, _⟩ => ⟨S1024x256, .bf16⟩
  | .local _ .vmem, ⟨40, _⟩ => ⟨S1024x256, .bf16⟩
  | .local _ .vmem, ⟨41, _⟩ => ⟨S1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c14_i32 : BitVec 32 := 14#32
  let c0_i32_1 : BitVec 32 := 0#32
  ![c0_i32.toNat, c0_i32_0.toNat, c14_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c15_i32 : BitVec 32 := 15#32
  let c0_i32_1 : BitVec 32 := 0#32
  ![c0_i32.toNat, c0_i32_0.toNat, c15_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c16_i32 : BitVec 32 := 16#32
  let c0_i32_1 : BitVec 32 := 0#32
  ![c0_i32.toNat, c0_i32_0.toNat, c16_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c17_i32 : BitVec 32 := 17#32
  let c0_i32_1 : BitVec 32 := 0#32
  ![c0_i32.toNat, c0_i32_0.toNat, c17_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Kernel3Ideal.lean ====
variable {F : FTy → Type} [FloatOps F] [Named F]
def κ : String → Option EReal := fun
  | "inv192" => some ((1 / 192 : ℝ) : EReal)
  | _ => none
-- ==== Reference3Ideal.lean ====
abbrev S8x2048x1024 : Shape := ⟨3, ![8, 2048, 1024]⟩
abbrev S2x1x4608 : Shape := ⟨3, ![2, 1, 4608]⟩
abbrev S2x768x1024 : Shape := ⟨3, ![2, 768, 1024]⟩
abbrev S2x1024x1024 : Shape := ⟨3, ![2, 1024, 1024]⟩
abbrev S2x256x1024 : Shape := ⟨3, ![2, 256, 1024]⟩
abbrev S2x256x1536 : Shape := ⟨3, ![2, 256, 1536]⟩
abbrev S2048x128 : Shape := ⟨2, ![2048, 128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024 : Shape := ⟨1, ![1024]⟩
abbrev S1x768x1024 : Shape := ⟨3, ![1, 768, 1024]⟩
abbrev S768x1024 : Shape := ⟨2, ![768, 1024]⟩
abbrev S8x2048x768 : Shape := ⟨3, ![8, 2048, 768]⟩
abbrev S8x2048x256 : Shape := ⟨3, ![8, 2048, 256]⟩
abbrev S1x1024x1024 : Shape := ⟨3, ![1, 1024, 1024]⟩
abbrev S1024x1024 : Shape := ⟨2, ![1024, 1024]⟩
abbrev S8x2048x512 : Shape := ⟨3, ![8, 2048, 512]⟩
abbrev S1x1x256 : Shape := ⟨3, ![1, 1, 256]⟩
abbrev S256 : Shape := ⟨1, ![256]⟩
abbrev S1x256x1024 : Shape := ⟨3, ![1, 256, 1024]⟩
abbrev S256x1024 : Shape := ⟨2, ![256, 1024]⟩
abbrev S8x2048x4x256 : Shape := ⟨4, ![8, 2048, 4, 256]⟩
abbrev S1x256x1536 : Shape := ⟨3, ![1, 256, 1536]⟩
abbrev S256x1536 : Shape := ⟨2, ![256, 1536]⟩
abbrev S8x2048x1536 : Shape := ⟨3, ![8, 2048, 1536]⟩
abbrev S8x2048x1x256 : Shape := ⟨4, ![8, 2048, 1, 256]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩
abbrev S8x2048x4x128 : Shape := ⟨4, ![8, 2048, 4, 128]⟩
abbrev S2048x1x128 : Shape := ⟨3, ![2048, 1, 128]⟩
abbrev S1x2048x1x128 : Shape := ⟨4, ![1, 2048, 1, 128]⟩
abbrev S8x2048x2x256 : Shape := ⟨4, ![8, 2048, 2, 256]⟩
abbrev S8x2048x2x128 : Shape := ⟨4, ![8, 2048, 2, 128]⟩

abbrev nBuf : Space → Nat
  | .hbm => 226
  | .vmem => 0
  | .smem => 0
  | _ => 0

abbrev hbmTy0_0 (i : Nat) : BufTy := match i % 128 with
  | 0 => ⟨S8x2048x1024, .f32⟩
  | 1 => ⟨S2x1x4608, .f32⟩
  | 2 => ⟨S2x768x1024, .bf16⟩
  | 3 => ⟨S2x1024x1024, .bf16⟩
  | 4 => ⟨S2x1024x1024, .bf16⟩
  | 5 => ⟨S2x256x1024, .bf16⟩
  | 6 => ⟨S2x256x1536, .bf16⟩
  | 7 => ⟨S2048x128, .f32⟩
  | 8 => ⟨S2048x128, .f32⟩
  | 9 => ⟨S2048x128, .f32⟩
  | 10 => ⟨S2048x128, .f32⟩
  | 11 => ⟨S2048x128, .f32⟩
  | 12 => ⟨S2048x128, .f32⟩
  | 13 => ⟨S8x2048x1024, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S_, .f32⟩
  | 21 => ⟨S8x2048x1, .f32⟩
  | 22 => ⟨S8x2048x1, .f32⟩
  | 23 => ⟨S8x2048x1, .f32⟩
  | 24 => ⟨S8x2048x1024, .f32⟩
  | 25 => ⟨S8x2048x1024, .f32⟩
  | 26 => ⟨S1x1x1024, .f32⟩
  | 27 => ⟨S1024, .f32⟩
  | 28 => ⟨S1x1x1024, .f32⟩
  | 29 => ⟨S8x2048x1024, .f32⟩
  | 30 => ⟨S8x2048x1024, .f32⟩
  | 31 => ⟨S1x768x1024, .bf16⟩
  | 32 => ⟨S768x1024, .bf16⟩
  | 33 => ⟨S768x1024, .f32⟩
  | 34 => ⟨S8x2048x768, .f32⟩
  | 35 => ⟨S8x2048x256, .f32⟩
  | 36 => ⟨S8x2048x256, .f32⟩
  | 37 => ⟨S8x2048x256, .f32⟩
  | 38 => ⟨S1x1024x1024, .bf16⟩
  | 39 => ⟨S1024x1024, .bf16⟩
  | 40 => ⟨S1024x1024, .f32⟩
  | 41 => ⟨S8x2048x1024, .f32⟩
  | 42 => ⟨S8x2048x512, .f32⟩
  | 43 => ⟨S8x2048x512, .f32⟩
  | 44 => ⟨S1x1024x1024, .bf16⟩
  | 45 => ⟨S1024x1024, .bf16⟩
  | 46 => ⟨S1024x1024, .f32⟩
  | 47 => ⟨S8x2048x1024, .f32⟩
  | 48 => ⟨S8x2048x512, .f32⟩
  | 49 => ⟨S8x2048x512, .f32⟩
  | 50 => ⟨S8x2048x256, .f32⟩
  | 51 => ⟨S_, .f32⟩
  | 52 => ⟨S8x2048, .f32⟩
  | 53 => ⟨S8x2048x1, .f32⟩
  | 54 => ⟨S_, .f32⟩
  | 55 => ⟨S8x2048x1, .f32⟩
  | 56 => ⟨S8x2048x1, .f32⟩
  | 57 => ⟨S_, .f32⟩
  | 58 => ⟨S8x2048x1, .f32⟩
  | 59 => ⟨S8x2048x1, .f32⟩
  | 60 => ⟨S8x2048x1, .f32⟩
  | 61 => ⟨S8x2048x256, .f32⟩
  | 62 => ⟨S8x2048x256, .f32⟩
  | 63 => ⟨S1x1x256, .f32⟩
  | 64 => ⟨S256, .f32⟩
  | 65 => ⟨S1x1x256, .f32⟩
  | 66 => ⟨S8x2048x256, .f32⟩
  | 67 => ⟨S8x2048x256, .f32⟩
  | 68 => ⟨S1x256x1024, .bf16⟩
  | 69 => ⟨S256x1024, .bf16⟩
  | 70 => ⟨S256x1024, .f32⟩
  | 71 => ⟨S8x2048x1024, .f32⟩
  | 72 => ⟨S8x2048x4x256, .f32⟩
  | 73 => ⟨S8x2048x256, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S_, .f32⟩
  | 81 => ⟨S8x2048x1, .f32⟩
  | 82 => ⟨S8x2048x1, .f32⟩
  | 83 => ⟨S8x2048x1, .f32⟩
  | 84 => ⟨S8x2048x256, .f32⟩
  | 85 => ⟨S8x2048x256, .f32⟩
  | 86 => ⟨S1x1x256, .f32⟩
  | 87 => ⟨S256, .f32⟩
  | 88 => ⟨S1x1x256, .f32⟩
  | 89 => ⟨S8x2048x256, .f32⟩
  | 90 => ⟨S8x2048x256, .f32⟩
  | 91 => ⟨S1x256x1536, .bf16⟩
  | 92 => ⟨S256x1536, .bf16⟩
  | 93 => ⟨S256x1536, .f32⟩
  | 94 => ⟨S8x2048x1536, .f32⟩
  | 95 => ⟨S8x2048x1024, .f32⟩
  | 96 => ⟨S8x2048x4x256, .f32⟩
  | 97 => ⟨S8x2048x1x256, .f32⟩
  | 98 => ⟨S8x2048x4x256, .f32⟩
  | 99 => ⟨S8x2048x4x256, .f32⟩
  | 100 => ⟨S8x2048x512, .f32⟩
  | 101 => ⟨S8x2048x4x256, .f32⟩
  | 102 => ⟨S_, .f32⟩
  | 103 => ⟨S8x2048x4, .f32⟩
  | 104 => ⟨S8x2048x4x1, .f32⟩
  | 105 => ⟨S_, .f32⟩
  | 106 => ⟨S8x2048x4x1, .f32⟩
  | 107 => ⟨S8x2048x4x1, .f32⟩
  | 108 => ⟨S_, .f32⟩
  | 109 => ⟨S8x2048x4x1, .f32⟩
  | 110 => ⟨S8x2048x4x1, .f32⟩
  | 111 => ⟨S8x2048x4x1, .f32⟩
  | 112 => ⟨S8x2048x4x256, .f32⟩
  | 113 => ⟨S8x2048x4x256, .f32⟩
  | 114 => ⟨S1x1x256, .f32⟩
  | 115 => ⟨S256, .f32⟩
  | 116 => ⟨S1x1x1x256, .f32⟩
  | 117 => ⟨S8x2048x4x256, .f32⟩
  | 118 => ⟨S8x2048x4x256, .f32⟩
  | 119 => ⟨S8x2048x4x128, .f32⟩
  | 120 => ⟨S8x2048x4x128, .f32⟩
  | 121 => ⟨S2048x1x128, .f32⟩
  | 122 => ⟨S2048x1x128, .f32⟩
  | 123 => ⟨S1x2048x1x128, .f32⟩
  | 124 => ⟨S8x2048x4x128, .f32⟩
  | 125 => ⟨S8x2048x4x128, .f32⟩
  | 126 => ⟨S1x2048x1x128, .f32⟩
  | 127 => ⟨S8x2048x4x128, .f32⟩
  | _ => ⟨S8x2048x1024, .f32⟩

abbrev hbmTy0_1 (i : Nat) : BufTy := match i % 128 with
  | 0 => ⟨S8x2048x4x128, .f32⟩
  | 1 => ⟨S8x2048x4x128, .f32⟩
  | 2 => ⟨S1x2048x1x128, .f32⟩
  | 3 => ⟨S8x2048x4x128, .f32⟩
  | 4 => ⟨S8x2048x4x128, .f32⟩
  | 5 => ⟨S1x2048x1x128, .f32⟩
  | 6 => ⟨S8x2048x4x128, .f32⟩
  | 7 => ⟨S8x2048x4x128, .f32⟩
  | 8 => ⟨S8x2048x4x128, .f32⟩
  | 9 => ⟨S8x2048x4x256, .f32⟩
  | 10 => ⟨S8x2048x1024, .f32⟩
  | 11 => ⟨S8x2048x1024, .bf16⟩
  | 12 => ⟨S8x2048x4x256, .f32⟩
  | 13 => ⟨S_, .f32⟩
  | 14 => ⟨S8x2048x4, .f32⟩
  | 15 => ⟨S8x2048x4x1, .f32⟩
  | 16 => ⟨S_, .f32⟩
  | 17 => ⟨S8x2048x4x1, .f32⟩
  | 18 => ⟨S8x2048x4x1, .f32⟩
  | 19 => ⟨S_, .f32⟩
  | 20 => ⟨S8x2048x4x1, .f32⟩
  | 21 => ⟨S8x2048x4x1, .f32⟩
  | 22 => ⟨S8x2048x4x1, .f32⟩
  | 23 => ⟨S8x2048x4x256, .f32⟩
  | 24 => ⟨S8x2048x4x256, .f32⟩
  | 25 => ⟨S1x1x256, .f32⟩
  | 26 => ⟨S256, .f32⟩
  | 27 => ⟨S1x1x1x256, .f32⟩
  | 28 => ⟨S8x2048x4x256, .f32⟩
  | 29 => ⟨S8x2048x4x256, .f32⟩
  | 30 => ⟨S8x2048x4x128, .f32⟩
  | 31 => ⟨S8x2048x4x128, .f32⟩
  | 32 => ⟨S2048x1x128, .f32⟩
  | 33 => ⟨S2048x1x128, .f32⟩
  | 34 => ⟨S1x2048x1x128, .f32⟩
  | 35 => ⟨S8x2048x4x128, .f32⟩
  | 36 => ⟨S8x2048x4x128, .f32⟩
  | 37 => ⟨S1x2048x1x128, .f32⟩
  | 38 => ⟨S8x2048x4x128, .f32⟩
  | 39 => ⟨S8x2048x4x128, .f32⟩
  | 40 => ⟨S8x2048x4x128, .f32⟩
  | 41 => ⟨S1x2048x1x128, .f32⟩
  | 42 => ⟨S8x2048x4x128, .f32⟩
  | 43 => ⟨S8x2048x4x128, .f32⟩
  | 44 => ⟨S1x2048x1x128, .f32⟩
  | 45 => ⟨S8x2048x4x128, .f32⟩
  | 46 => ⟨S8x2048x4x128, .f32⟩
  | 47 => ⟨S8x2048x4x128, .f32⟩
  | 48 => ⟨S8x2048x4x256, .f32⟩
  | 49 => ⟨S8x2048x1024, .f32⟩
  | 50 => ⟨S8x2048x1024, .bf16⟩
  | 51 => ⟨S8x2048x2x256, .f32⟩
  | 52 => ⟨S8x2048x2x128, .f32⟩
  | 53 => ⟨S8x2048x2x128, .f32⟩
  | 54 => ⟨S2048x1x128, .f32⟩
  | 55 => ⟨S2048x1x128, .f32⟩
  | 56 => ⟨S1x2048x1x128, .f32⟩
  | 57 => ⟨S8x2048x2x128, .f32⟩
  | 58 => ⟨S8x2048x2x128, .f32⟩
  | 59 => ⟨S1x2048x1x128, .f32⟩
  | 60 => ⟨S8x2048x2x128, .f32⟩
  | 61 => ⟨S8x2048x2x128, .f32⟩
  | 62 => ⟨S8x2048x2x128, .f32⟩
  | 63 => ⟨S1x2048x1x128, .f32⟩
  | 64 => ⟨S8x2048x2x128, .f32⟩
  | 65 => ⟨S8x2048x2x128, .f32⟩
  | 66 => ⟨S1x2048x1x128, .f32⟩
  | 67 => ⟨S8x2048x2x128, .f32⟩
  | 68 => ⟨S8x2048x2x128, .f32⟩
  | 69 => ⟨S8x2048x2x128, .f32⟩
  | 70 => ⟨S8x2048x2x256, .f32⟩
  | 71 => ⟨S8x2048x512, .f32⟩
  | 72 => ⟨S8x2048x512, .bf16⟩
  | 73 => ⟨S8x2048x2x256, .f32⟩
  | 74 => ⟨S8x2048x2x128, .f32⟩
  | 75 => ⟨S8x2048x2x128, .f32⟩
  | 76 => ⟨S2048x1x128, .f32⟩
  | 77 => ⟨S2048x1x128, .f32⟩
  | 78 => ⟨S1x2048x1x128, .f32⟩
  | 79 => ⟨S8x2048x2x128, .f32⟩
  | 80 => ⟨S8x2048x2x128, .f32⟩
  | 81 => ⟨S1x2048x1x128, .f32⟩
  | 82 => ⟨S8x2048x2x128, .f32⟩
  | 83 => ⟨S8x2048x2x128, .f32⟩
  | 84 => ⟨S8x2048x2x128, .f32⟩
  | 85 => ⟨S1x2048x1x128, .f32⟩
  | 86 => ⟨S8x2048x2x128, .f32⟩
  | 87 => ⟨S8x2048x2x128, .f32⟩
  | 88 => ⟨S1x2048x1x128, .f32⟩
  | 89 => ⟨S8x2048x2x128, .f32⟩
  | 90 => ⟨S8x2048x2x128, .f32⟩
  | 91 => ⟨S8x2048x2x128, .f32⟩
  | 92 => ⟨S8x2048x2x256, .f32⟩
  | 93 => ⟨S8x2048x512, .f32⟩
  | 94 => ⟨S8x2048x512, .bf16⟩
  | 95 => ⟨S8x2048x512, .bf16⟩
  | 96 => ⟨S8x2048x512, .bf16⟩
  | 97 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_8 : Ref sig .tc := ⟨.hbm, 102, rfl⟩
abbrev main_v80 : Ref sig .tc := ⟨.hbm, 103, rfl⟩
abbrev main_v81 : Ref sig .tc := ⟨.hbm, 104, rfl⟩
abbrev main_cst_9 : Ref sig .tc := ⟨.hbm, 105, rfl⟩
abbrev main_v82 : Ref sig .tc := ⟨.hbm, 106, rfl⟩
abbrev main_v83 : Ref sig .tc := ⟨.hbm, 107, rfl⟩
abbrev main_cst_10 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_11 : Ref sig .tc := ⟨.hbm, 141, rfl⟩
abbrev main_v116 : Ref sig .tc := ⟨.hbm, 142, rfl⟩
abbrev main_v117 : Ref sig .tc := ⟨.hbm, 143, rfl⟩
abbrev main_cst_12 : Ref sig .tc := ⟨.hbm, 144, rfl⟩
abbrev main_v118 : Ref sig .tc := ⟨.hbm, 145, rfl⟩
abbrev main_v119 : Ref sig .tc := ⟨.hbm, 146, rfl⟩
abbrev main_cst_13 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩

abbrev nD : Nat := 1
abbrev τ : Topo := Topo.v7x

variable {F : FTy → Type} [FloatOps F]
-- ==== Proof.PreRun.lean ====
module

public import proofs.«01_k».proof.Proof.Gen.Kernel3Ideal.Frame.Runs

/-! One run of the projection kernel's body, over the extended reals, and the pieces that it stores. -/
@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 10000000 in
noncomputable def kernelRun0_A (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) :
    Σ' (L17 : List (View.Piece (Elt F) S1x1024x1024 .bf16)), Σ' (L18 : List (View.Piece (Elt F) S1x1024x1024 .bf16)), Σ' (L19 : List (View.Piece (Elt F) S1x1024x512 .bf16)), Σ' (L20 : List (View.Piece (Elt F) S1x1024x512 .bf16)), Σ' (L21 : List (View.Piece (Elt F) S1x1024x512 .bf16)), Σ' (L22 : List (View.Piece (Elt F) S1x1024x512 .bf16)), Σ' (L23 : List (View.Piece (Elt F) S1x1024x512 .bf16)), Σ' (LT0 : List (View.Piece (Elt F) S1024x1024 .bf16)), Σ' (LT1 : List (View.Piece (Elt F) S1024x256 .bf16)), Σ' (LT2 : List (View.Piece (Elt F) S1024x256 .bf16)), { LT3 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LT0) ∗ (∃ f, arg27.view.loc (c : Thread nD τ) ↦[arg27.view.set]{fullShare} arg27.view.writes (Elt F) f LT1) ∗ (∃ f, arg28.view.loc (c : Thread nD τ) ↦[arg28.view.set]{fullShare} arg28.view.writes (Elt F) f LT2) ∗ (∃ f, arg29.view.loc (c : Thread nD τ) ↦[arg29.view.set]{fullShare} arg29.view.writes (Elt F) f LT3)) -∗ K ⟨⟩))
          ⊢ wp frame (wpE (defs₀ (F := F)) Variants.none c none) E (cc0_pre i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, fun E K => ?run⟩
  case run =>
    simp only [cc0_pre_eq_skeleton]; unfold cc0_pre_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexists _; iexact HS0
    isplitl [HS1]; · iexists _; iexact HS1
    isplitl [HS2]; · iexists _; iexact HS2
    iexists _; iexact HS3

end Cert.Kernel3Ideal.Gen

end
-- ==== Proof.PreFrame.lean ====
module

public import proofs.«01_k».proof.Proof.PreRun
public import Idealize.ShloMosaic.Lib.Claim

/-! The projection kernel over the extended reals runs, leaves its arguments alone, and ends with every counter at zero. -/
@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_17 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) (y : S1x1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).1 S1x1024x128.size (by sl_kernel_rfl) y

def out0_A_17 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) : Vec F S1x1024x1024 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).1)

theorem cover0_A_18 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) (y : S1x1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.1 S1x1024x128.size (by sl_kernel_rfl) y

def out0_A_18 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) : Vec F S1x1024x1024 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.1)

theorem cover0_A_19 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.1 S1x1024x512.size (by sl_kernel_rfl) y

def out0_A_19 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) : Vec F S1x1024x512 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.1)

theorem cover0_A_20 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.1 S1x1024x128.size (by sl_kernel_rfl) y

def out0_A_20 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) : Vec F S1x1024x512 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.1)

theorem cover0_A_21 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.1 S1x1024x128.size (by sl_kernel_rfl) y

def out0_A_21 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) : Vec F S1x1024x512 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.1)

theorem cover0_A_22 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.2.1 S1x1024x512.size (by sl_kernel_rfl) y

def out0_A_22 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) : Vec F S1x1024x512 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.2.1)

theorem cover0_A_23 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.2.2.1 S1x1024x512.size (by sl_kernel_rfl) y

def out0_A_23 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)
    (x0 : Vec F S1x1024x1024 .f32) (x1 : Vec F S1x1x1024 .f32) (x2 : Vec F S1x768x1024 .bf16) (x3 : Vec F S1x1024x1024 .bf16) (x4 : Vec F S1x1024x1024 .bf16) (x5 : Vec F S1x1x256 .f32) (x6 : Vec F S1x256x1024 .bf16) (x7 : Vec F S1x1x256 .f32) (x8 : Vec F S1x256x1536 .bf16) (x9 : Vec F S1x1x256 .f32) (x10 : Vec F S1x1x256 .f32) (x11 : Vec F S1024x128 .f32) (x12 : Vec F S1024x128 .f32) (x13 : Vec F S1024x128 .f32) (x14 : Vec F S1024x128 .f32) (x15 : Vec F S1024x128 .f32) (x16 : Vec F S1024x128 .f32) : Vec F S1x1024x512 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16).2.2.2.2.2.2.1)

def outsAt0 (c : Dev nD) (t : Fin cfg0.N) : Vec F S1x1024x1024 .bf16 × Vec F S1x1024x1024 .bf16 × Vec F S1x1024x512 .bf16 × Vec F S1x1024x512 .bf16 × Vec F S1x1024x512 .bf16 × Vec F S1x1024x512 .bf16 × Vec F S1x1024x512 .bf16 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2.1
    | ⟨22, _⟩ => (outsAt0 m c t).2.2.2.2.2.1
    | ⟨23, _⟩ => (outsAt0 m c t).2.2.2.2.2.2
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2.1 := by dsimp only [dats]
theorem after0_22 (c : Dev nD) (t : Fin cfg0.N) : (dats m 0 c).after 22 t = (outsAt0 m c t).2.2.2.2.2.1 := by dsimp only [dats]
theorem after0_23 (c : Dev nD) (t : Fin cfg0.N) : (dats m 0 c).after 23 t = (outsAt0 m c t).2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_17 out0_A_18 out0_A_19 out0_A_20 out0_A_21 out0_A_22 out0_A_23; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel3Ideal.Gen

end
-- ==== Proof.PreLaunch.lean ====
module

public import proofs.«01_k».proof.Proof.PreFrame
public import Idealize.ShloMosaic.Lib.Pipeline.Value

/-! What the projection kernel leaves in its seven arrays, block by block. -/
@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem flushed17 (c : Dev nD) (t : Fin cfg0.N) :
    (dats m 0 c).flushed 17 t = (cfg0.win 17).cut (grid0.coords t) ((outsAt0 m c t).1) := by
  show (cfg0.win 17).cut (grid0.coords t) ((dats m 0 c).after 17 t) = _
  rw [after0_17]

theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem entry17 (c : Dev nD) (i : S8x2048x1024.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

theorem flushed18 (c : Dev nD) (t : Fin cfg0.N) :
    (dats m 0 c).flushed 18 t = (cfg0.win 18).cut (grid0.coords t) ((outsAt0 m c t).2.1) := by
  show (cfg0.win 18).cut (grid0.coords t) ((dats m 0 c).after 18 t) = _
  rw [after0_18]

theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed18, outsAt0]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem entry18 (c : Dev nD) (i : S8x2048x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem flushed19 (c : Dev nD) (t : Fin cfg0.N) :
    (dats m 0 c).flushed 19 t = (cfg0.win 19).cut (grid0.coords t) ((outsAt0 m c t).2.2.1) := by
  show (cfg0.win 19).cut (grid0.coords t) ((dats m 0 c).after 19 t) = _
  rw [after0_19]

theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed19, outsAt0]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

theorem entry19 (c : Dev nD) (i : S8x2048x512.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

theorem flushed20 (c : Dev nD) (t : Fin cfg0.N) :
    (dats m 0 c).flushed 20 t = (cfg0.win 20).cut (grid0.coords t) ((outsAt0 m c t).2.2.2.1) := by
  show (cfg0.win 20).cut (grid0.coords t) ((dats m 0 c).after 20 t) = _
  rw [after0_20]

theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed20, outsAt0]

theorem idx_inj20 : ∀ t t' : Fin cfg0.N, win0_20.index t = win0_20.index t' → t = t' :=
  (by decide +kernel : ∀ t t' : Fin grid0.N, win0_20.index t = win0_20.index t' → t = t')

theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

theorem entry20 (c : Dev nD) (i : S8x2048x512.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

theorem flushed21 (c : Dev nD) (t : Fin cfg0.N) :
    (dats m 0 c).flushed 21 t = (cfg0.win 21).cut (grid0.coords t) ((outsAt0 m c t).2.2.2.2.1) := by
  show (cfg0.win 21).cut (grid0.coords t) ((dats m 0 c).after 21 t) = _
  rw [after0_21]

theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed21, outsAt0]

theorem idx_inj21 : ∀ t t' : Fin cfg0.N, win0_21.index t = win0_21.index t' → t = t' :=
  (by decide +kernel : ∀ t t' : Fin grid0.N, win0_21.index t = win0_21.index t' → t = t')

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

theorem entry21 (c : Dev nD) (i : S8x2048x512.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

theorem flushed22 (c : Dev nD) (t : Fin cfg0.N) :
    (dats m 0 c).flushed 22 t = (cfg0.win 22).cut (grid0.coords t) ((outsAt0 m c t).2.2.2.2.2.1) := by
  show (cfg0.win 22).cut (grid0.coords t) ((dats m 0 c).after 22 t) = _
  rw [after0_22]

theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed22, outsAt0]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

theorem entry22 (c : Dev nD) (i : S8x2048x512.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

theorem flushed23 (c : Dev nD) (t : Fin cfg0.N) :
    (dats m 0 c).flushed 23 t = (cfg0.win 23).cut (grid0.coords t) ((outsAt0 m c t).2.2.2.2.2.2) := by
  show (cfg0.win 23).cut (grid0.coords t) ((dats m 0 c).after 23 t) = _
  rw [after0_23]

theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed23, outsAt0]

theorem idx_inj23 : ∀ t t' : Fin cfg0.N, win0_23.index t = win0_23.index t' → t = t' :=
  (by decide +kernel : ∀ t t' : Fin grid0.N, win0_23.index t = win0_23.index t' → t = t')

theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

theorem entry23 (c : Dev nD) (i : S8x2048x512.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

theorem post17 (r : PUnit × MemSt nD τ sig (Elt F)) (h : Pipeline.FramePost cfgs (dats m) 0 (V m) r) (c : Dev nD) :
    r.2.mem ((c : Thread nD τ).loc main_v0_0) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v0_1) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v0_2) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v0_3) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v0_4) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v0_5) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v0_6) = (dats m 0 c).arrAt 23 cfg0.N :=
  (h c).1 23

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 10).trans (((dats m 0 c).arrAt_in 10 rfl _).trans ((A_eq m c 10).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 8).trans (((dats m 0 c).arrAt_in 8 rfl _).trans ((A_eq m c 8).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 11).trans (((dats m 0 c).arrAt_in 11 rfl _).trans ((A_eq m c 11).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 12).trans (((dats m 0 c).arrAt_in 12 rfl _).trans ((A_eq m c 12).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 13).trans (((dats m 0 c).arrAt_in 13 rfl _).trans ((A_eq m c 13).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 14).trans (((dats m 0 c).arrAt_in 14 rfl _).trans ((A_eq m c 14).trans (V_main_arg10 m c)))

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 15).trans (((dats m 0 c).arrAt_in 15 rfl _).trans ((A_eq m c 15).trans (V_main_arg11 m c)))

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 16).trans (((dats m 0 c).arrAt_in 16 rfl _).trans ((A_eq m c 16).trans (V_main_arg12 m c)))

theorem run_blocks : θ_run defs (onTc (τ := τ) (main (F := F))) ⟨m, fun _ => 0, ρ⟩ fun r => ∀ c : Dev nD,
      r.2.mem ((c : Thread nD τ).loc main_v0_0) = (dats m 0 c).arrAt 17 cfg0.N
      ∧ r.2.mem ((c : Thread nD τ).loc main_v0_1) = (dats m 0 c).arrAt 18 cfg0.N
      ∧ r.2.mem ((c : Thread nD τ).loc main_v0_2) = (dats m 0 c).arrAt 19 cfg0.N
      ∧ r.2.mem ((c : Thread nD τ).loc main_v0_3) = (dats m 0 c).arrAt 20 cfg0.N
      ∧ r.2.mem ((c : Thread nD τ).loc main_v0_4) = (dats m 0 c).arrAt 21 cfg0.N
      ∧ r.2.mem ((c : Thread nD τ).loc main_v0_5) = (dats m 0 c).arrAt 22 cfg0.N
      ∧ r.2.mem ((c : Thread nD τ).loc main_v0_6) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post17 m r h c,
      post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.Kernel3Ideal.Value

end
-- ==== Proof.Blocks.lean ====
module
public import proofs.«01_k».proof.Proof.Gen.KernelIdeal.Value
public import Idealize.ShloMosaic.Lib.Pointwise
public import Idealize.ShloMosaic.Lib.Pipeline.ValueKit
/-! Parts of the staged blocks: what a load of rows `o …` and lanes `l …` of a block yields. -/
@[expose] public section
set_option maxRecDepth 16384
noncomputable section
namespace Cert.KernelIdeal.AttnRet
open Cert.KernelIdeal Cert.KernelIdeal.Gen Idealize.ShloMosaic Idealize.ShloMosaic.TcCoe Idealize.SL.Sem

/-- The part of a block that begins at row `o` and lane `l`. -/
def part3 {α : Type} {n1 n2 m1 m2 : ℕ} [NeZero n1] [NeZero n2] (o l : ℕ)
    (x : (⟨3, ![1, n1, n2]⟩ : Shape).Idx → α) : (⟨3, ![1, m1, m2]⟩ : Shape).Idx → α :=
  fun i => x (ix3 0 (Fin.ofNat n1 (o + (i 1).val)) (Fin.ofNat n2 (l + (i 2).val)))

theorem part3_at {α : Type} {n1 n2 m1 m2 : ℕ} [NeZero n1] [NeZero n2] (o l : ℕ)
    (x : (⟨3, ![1, n1, n2]⟩ : Shape).Idx → α) (z : Fin 1) (a : Fin m1) (b : Fin m2) :
    (part3 o l x : (⟨3, ![1, m1, m2]⟩ : Shape).Idx → α) (ix3 z a b)
      = x (ix3 0 (Fin.ofNat n1 (o + a.val)) (Fin.ofNat n2 (l + b.val))) := rfl

theorem rd3 {e : EltTy} {n1 n2 m1 m2 : ℕ} [NeZero n1] [NeZero n2] (o l : ℕ)
    (a : Memref sig .tc .vmem ⟨3, ![1, n1, n2]⟩ e) (ha : a.IsWhole) (x : Vec Ideal ⟨3, ![1, n1, n2]⟩ e)
    (h : ∀ k : Fin 3, (![0, o, l] : Fin 3 → ℕ) k + (![1, m1, m2] : Fin 3 → ℕ) k ≤ (![1, n1, n2] : Fin 3 → ℕ) k) :
    View.readAt (Elt Ideal) a.view (Rect.unit (s := ⟨3, ![1, n1, n2]⟩) ![0, o, l] ![1, m1, m2] h).toLoadRect (ha.unread x)
      = part3 o l x := by
  rw [View.readAt_eq_ld, Memref.IsWhole.read_unread]
  funext i
  refine View.ld_unit_apply_of (S := ⟨3, ![1, n1, n2]⟩) x ![0, o, l] ![1, m1, m2] h i
    (ix3 0 (Fin.ofNat n1 (o + (i 1).val)) (Fin.ofNat n2 (l + (i 2).val))) fun k => ?_
  have h1 : o + m1 ≤ n1 := h 1
  have h2 : l + m2 ≤ n2 := h 2
  have e0 : (i 0).val < 1 := (i 0).isLt
  have e1 : (i 1).val < m1 := (i 1).isLt
  have e2 : (i 2).val < m2 := (i 2).isLt
  match k with
  | 0 => show (0 : ℕ) = 0 + (i 0).val; omega
  | 1 => show (o + (i 1).val) % n1 = o + (i 1).val; exact Nat.mod_eq_of_lt (by omega)
  | 2 => show (l + (i 2).val) % n2 = l + (i 2).val; exact Nat.mod_eq_of_lt (by omega)

/-- The row of log decays of head `e` of the pair, as the kernel loads it. -/
def lgRow (e : Fin 2) (x : Vec Ideal S2x8x128 .f32) : Vec Ideal S1x128 .f32 := fun i => x (ix3 e 0 (i 1))

theorem lgRow_at (e : Fin 2) (x : Vec Ideal S2x8x128 .f32) (z : Fin 1) (d : Fin 128) :
    lgRow e x (ix2 z d) = x (ix3 e 0 d) := rfl

theorem squeeze_at (X : FVec Ideal S1x8x128 .f32) (hc : S1x8x128.ShapeCasts S8x128) (d : Fin 128) :
    shapeCast S8x128 X hc (ix2 0 d) = X (ix3 0 0 d) := by
  pointwise

theorem rdlg (e : Fin 2) (o : ℕ) (ho : o = e.val) (a : Memref sig .tc .vmem S2x8x128 .f32) (ha : a.IsWhole)
    (x : Vec Ideal S2x8x128 .f32)
    (h : ∀ k : Fin 3, (![o, 0, 0] : Fin 3 → ℕ) k + S1x8x128.size k ≤ S2x8x128.size k)
    (hr : ∀ k, (Rect.unit (s := S2x8x128) ![o, 0, 0] S1x8x128.size h).stride k = 1)
    (hq : (Rect.unit (s := S2x8x128) ![o, 0, 0] S1x8x128.size h).shape.Squeezes S8x128)
    (hc : (Rect.unit (s := S2x8x128) ![o, 0, 0] S1x8x128.size h).shape.ShapeCasts S8x128)
    (h' : ∀ k : Fin 2, (![0, 0] : Fin 2 → ℕ) k + S1x128.size k ≤ S8x128.size k) :
    View.readAt (Elt Ideal) ((a.slice (Rect.unit (s := S2x8x128) ![o, 0, 0] S1x8x128.size h) hr).squeeze S8x128 hq).view
      (Rect.unit (s := S8x128) ![0, 0] S1x128.size h').toLoadRect (ha.unread x) = lgRow e x := by
  rw [View.readAt_eq_ld, Memref.read_squeeze_slice _ _ _ _ hc, View.readAt_eq_ld, Memref.IsWhole.read_unread]
  funext i
  refine (View.ld_unit_apply_of (S := S8x128) _ ![0, 0] S1x128.size h' i (ix2 0 (i 1)) fun k => ?_).trans ?_
  · have e0 : (i 0).val < 1 := (i 0).isLt
    match k with
    | 0 => show (0 : ℕ) = 0 + (i 0).val; omega
    | 1 => show (i 1).val = 0 + (i 1).val; omega
  · refine (squeeze_at _ hc (i 1)).trans ?_
    refine View.ld_unit_apply_of (S := S2x8x128) x ![o, 0, 0] S1x8x128.size h (ix3 (0 : Fin 1) (0 : Fin 8) (i 1)) (ix3 e 0 (i 1)) fun k => ?_
    match k with
    | 0 => show e.val = o + 0; omega
    | 1 => rfl
    | 2 => show (i 1).val = 0 + (i 1).val; omega

/-- The values of both heads of the pair transposed, the meta keys' first: what the scratch buffer holds. -/
def vtAll (v : Vec Ideal S1x2048x256 .bf16) (vm : Vec Ideal S1x128x256 .bf16) : Vec Ideal S256x2176 .bf16 := fun i =>
  if (i 1).val < 128 then vm (ix3 0 (Fin.ofNat 128 (i 1).val) (i 0)) else v (ix3 0 (Fin.ofNat 2048 ((i 1).val - 128)) (i 0))

/-- The part of the scratch buffer that begins at row `o` and column `l`. -/
def part2 {m2 : ℕ} (o l : ℕ) (x : Vec Ideal S256x2176 .bf16) : Vec Ideal ⟨2, ![128, m2]⟩ .bf16 :=
  fun i => x (ix2 (Fin.ofNat 256 (o + (i 0).val)) (Fin.ofNat 2176 (l + (i 1).val)))

open Cert.KernelIdeal.Gen.kernelRun0_A

theorem mem_unit2 (o l n m : ℕ) (y : S256x2176.Idx)
    (h : ∀ k : Fin 2, (![o, l] : Fin 2 → ℕ) k + (![n, m] : Fin 2 → ℕ) k ≤ S256x2176.size k)
    (h0 : o ≤ (y 0).val) (h0' : (y 0).val < o + n) (h1 : l ≤ (y 1).val) (h1' : (y 1).val < l + m) :
    y ∈ (Rect.unit (s := S256x2176) ![o, l] ![n, m] h).set := by
  refine (LoadRect.mem_set (Rect.unit (s := S256x2176) ![o, l] ![n, m] h).toLoadRect).mpr fun a => ?_
  match a with
  | 0 => exact ⟨(y 0).val - o, show _ < n by omega, show (y 0).val = o + 1 * ((y 0).val - o) by omega⟩
  | 1 => exact ⟨(y 1).val - l, show _ < m by omega, show (y 1).val = l + 1 * ((y 1).val - l) by omega⟩

section
variable (c : Dev nD) (arg4 : Memref sig .tc .vmem S1x2048x256 .bf16) (harg4 : arg4.IsWhole)
    (arg6 : Memref sig .tc .vmem S1x128x256 .bf16) (harg6 : arg6.IsWhole) (x2 : Vec Ideal S1x2048x256 .bf16) (x4 : Vec Ideal S1x128x256 .bf16)

/-- The four stores into the scratch buffer cover it. -/
theorem cover_vt (y : S256x2176.Idx) : ∃ p ∈ sl.HS0_4 (F := Ideal) c arg4 harg4 arg6 harg6 x2 x4, y ∈ p.1.set := by
  unfold sl.HS0_4
  have b0 : (y 0).val < 256 := (y 0).isLt
  have b1 : (y 1).val < 2176 := (y 1).isLt
  by_cases h0 : (y 0).val < 128 <;> by_cases h1 : (y 1).val < 128
  · exact ⟨_, .tail _ (.tail _ (.tail _ (.head _))), mem_unit2 0 0 128 128 y (by decide) (by omega) (by omega) (by omega) (by omega)⟩
  · exact ⟨_, .tail _ (.tail _ (.head _)), mem_unit2 0 128 128 2048 y (by decide) (by omega) (by omega) (by omega) (by omega)⟩
  · exact ⟨_, .tail _ (.head _), mem_unit2 128 0 128 128 y (by decide) (by omega) (by omega) (by omega) (by omega)⟩
  · exact ⟨_, .head _, mem_unit2 128 128 128 2048 y (by decide) (by omega) (by omega) (by omega) (by omega)⟩

theorem vm_at (l : ℕ) (p : Fin 128) (j : Fin 128) :
    k0_pay2 (F := Ideal) (part3 0 l x4) (ix2 p j) = x4 (ix3 0 (Fin.ofNat 128 (0 + j.val)) (Fin.ofNat 256 (l + p.val))) := by
  pointwise [k0_pay2]
  rw [part3_at, Nat.zero_add]

theorem v_at (l : ℕ) (p : Fin 128) (j : Fin 2048) :
    k0_pay3 (F := Ideal) (part3 0 l x2) (ix2 p j) = x2 (ix3 0 (Fin.ofNat 2048 (0 + j.val)) (Fin.ofNat 256 (l + p.val))) := by
  pointwise [k0_pay3]
  rw [part3_at, Nat.zero_add]

theorem vtAll_low (y : S256x2176.Idx) (l : ℕ) (p j : Fin 128) (h0 : (y 0).val = l + p.val) (h1 : (y 1).val = j.val) (hl : l ≤ 128) :
    x4 (ix3 0 (Fin.ofNat 128 (0 + j.val)) (Fin.ofNat 256 (l + p.val))) = vtAll x2 x4 y := by
  have hp := p.isLt
  have hj := j.isLt
  unfold vtAll
  rw [if_pos (by omega)]
  congr 1
  congr 1
  · rw [h1, Nat.zero_add]
  · exact Fin.ext (by rw [Fin.val_ofNat, h0]; exact Nat.mod_eq_of_lt (by omega))

theorem vtAll_high (y : S256x2176.Idx) (l : ℕ) (p : Fin 128) (j : Fin 2048) (h0 : (y 0).val = l + p.val) (h1 : (y 1).val = 128 + j.val)
    (hl : l ≤ 128) : x2 (ix3 0 (Fin.ofNat 2048 (0 + j.val)) (Fin.ofNat 256 (l + p.val))) = vtAll x2 x4 y := by
  have hp := p.isLt
  have hj := j.isLt
  unfold vtAll
  rw [if_neg (by omega)]
  congr 1
  congr 1
  · rw [h1, Nat.zero_add, Nat.add_sub_cancel_left]
  · exact Fin.ext (by rw [Fin.val_ofNat, h0]; exact Nat.mod_eq_of_lt (by omega))

theorem canon_vt : View.canon (sl.HS0_4 (F := Ideal) c arg4 harg4 arg6 harg6 x2 x4) = vtAll x2 x4 := by
  have hc := cover_vt c arg4 harg4 arg6 harg6 x2 x4
  unfold sl.HS0_4 at hc ⊢
  funext y
  canon_tiles x h using hc y
  · rw [show sl.v23 (F := Ideal) c arg4 harg4 x2 = k0_pay3 (part3 0 128 x2) from
      Eq.trans (b := k0_pay3 _) rfl (by rw [rd3]), eq_ix2 x]
    exact (v_at x2 128 (x 0) (x 1)).trans (vtAll_high x2 x4 y 128 (x 0) (x 1) h0 h1 (by omega))
  · rw [show sl.v17 (F := Ideal) c arg6 harg6 x4 = k0_pay2 (part3 0 128 x4) from
      Eq.trans (b := k0_pay2 _) rfl (by rw [rd3]), eq_ix2 x]
    exact (vm_at x4 128 (x 0) (x 1)).trans (vtAll_low x2 x4 y 128 (x 0) (x 1) h0 h1 (by omega))
  · rw [show sl.v11 (F := Ideal) c arg4 harg4 x2 = k0_pay3 (part3 0 0 x2) from
      Eq.trans (b := k0_pay3 _) rfl (by rw [rd3]), eq_ix2 x]
    exact (v_at x2 0 (x 0) (x 1)).trans (vtAll_high x2 x4 y 0 (x 0) (x 1) (by omega) h1 (by omega))
  · rw [show sl.v5 (F := Ideal) c arg6 harg6 x4 = k0_pay2 (part3 0 0 x4) from
      Eq.trans (b := k0_pay2 _) rfl (by rw [rd3]), eq_ix2 x]
    exact (vm_at x4 0 (x 0) (x 1)).trans (vtAll_low x2 x4 y 0 (x 0) (x 1) (by omega) h1 (by omega))

/-- A load of the scratch buffer reads its part of the transposed values. -/
theorem rdvt {m2 : ℕ} (o l : ℕ) (arg25 : Memref sig .tc .vmem S256x2176 .bf16)
    (h : ∀ k : Fin 2, (![o, l] : Fin 2 → ℕ) k + (![128, m2] : Fin 2 → ℕ) k ≤ S256x2176.size k) :
    arg25.view.readCov (sl.HS0_4 (F := Ideal) c arg4 harg4 arg6 harg6 x2 x4)
      (Rect.unit (s := S256x2176) ![o, l] ![128, m2] h).toLoadRect = part2 o l (vtAll x2 x4) := by
  rw [View.readCov_eq_canon_ld _ _ _ (cover_vt c arg4 harg4 arg6 harg6 x2 x4), canon_vt]
  funext i
  refine View.ld_unit_apply_of (S := S256x2176) _ ![o, l] ![128, m2] h i
    (ix2 (Fin.ofNat 256 (o + (i 0).val)) (Fin.ofNat 2176 (l + (i 1).val))) fun k => ?_
  have h0 : o + 128 ≤ 256 := h 0
  have h1 : l + m2 ≤ 2176 := h 1
  have e0 : (i 0).val < 128 := (i 0).isLt
  have e1 : (i 1).val < m2 := (i 1).isLt
  match k with
  | 0 => show (o + (i 0).val) % 256 = o + (i 0).val; exact Nat.mod_eq_of_lt (by omega)
  | 1 => show (l + (i 1).val) % 2176 = l + (i 1).val; exact Nat.mod_eq_of_lt (by omega)
end
end Cert.KernelIdeal.AttnRet
-- ==== Proof.AttSteps.lean ====
module
public import proofs.«01_k».proof.Proof.Blocks
/-! The attention of the kernel, step by step, over four tiles of 512 queries. -/
@[expose] public section
set_option maxRecDepth 16384
noncomputable section
namespace Cert.KernelIdeal.AttnRet
open Cert.KernelIdeal Cert.KernelIdeal.Gen Cert.KernelIdeal.Gen.kernelRun0_A Idealize.ShloMosaic Idealize.ShloMosaic.TcCoe Idealize.SL.Sem

/-- The weighted values over the sum of the weights, each query's in a column (384 rows of keys for every query, 256 more for the second half). -/
def attAcc0 (t : FVec Ideal S256x256 .f32) (s : FVec Ideal S384x512 .f32) (u : FVec Ideal S128x384 .bf16) (w : FVec Ideal S128x256 .bf16) :
    FVec Ideal S128x512 .f32 :=
  have v98 : FVec Ideal S512 .f32 := multiReduction .maximumf [0] S512 s 0xFF800000#32 reduces_S384x512_S512 (.inl rfl) rfl
  have v99 : FVec Ideal S1x512 .f32 := shapeCast S1x512 v98 shapeCasts_S512_S1x512
  have v100 : FVec Ideal S1x256 .f32 := extractStridedSlice S1x256 ![0, 256] v99 slices_S1x512_o0_256_S1x256
  have v101 : FVec Ideal S256 .f32 := multiReduction .maximumf [0] S256 t 0xFF800000#32 reduces_S256x256_S256 (.inl rfl) rfl
  have v102 : FVec Ideal S1x256 .f32 := shapeCast S1x256 v101 shapeCasts_S256_S1x256
  have v103 : FVec Ideal S1x256 .f32 := maximumf v100 v102
  have v104 : FVec Ideal S1x256 .f32 := extractStridedSlice S1x256 ![0, 0] v99 slices_S1x512_o0_0_S1x256
  have v105 : FVec Ideal S1x512 .f32 := concatenate S1x512 1 [⟨S1x256, v104⟩, ⟨S1x256, v103⟩] concatenates_S1x256_S1x256_S1x512_d1
  have v106 : FVec Ideal S384x512 .f32 := broadcastTo S384x512 v105 broadcasts_S1x512_S384x512
  have v107 : FVec Ideal S384x512 .f32 := subf s v106
  have v108 : FVec Ideal S384x512 .f32 := exp2 v107
  have v109 : FVec Ideal S256x256 .f32 := broadcastTo S256x256 v103 broadcasts_S1x256_S256x256
  have v110 : FVec Ideal S256x256 .f32 := subf t v109
  have v111 : FVec Ideal S256x256 .f32 := exp2 v110
  have v112 : FVec Ideal S512 .f32 := multiReduction .add [0] S512 v108 0x00000000#32 reduces_S384x512_S512 (.inl rfl) rfl
  have v113 : FVec Ideal S1x512 .f32 := shapeCast S1x512 v112 shapeCasts_S512_S1x512
  have v114 : FVec Ideal S1x256 .f32 := extractStridedSlice S1x256 ![0, 0] v113 slices_S1x512_o0_0_S1x256
  have v115 : FVec Ideal S1x256 .f32 := extractStridedSlice S1x256 ![0, 256] v113 slices_S1x512_o0_256_S1x256
  have v116 : FVec Ideal S256 .f32 := multiReduction .add [0] S256 v111 0x00000000#32 reduces_S256x256_S256 (.inl rfl) rfl
  have v117 : FVec Ideal S1x256 .f32 := shapeCast S1x256 v116 shapeCasts_S256_S1x256
  have v118 : FVec Ideal S1x256 .f32 := addf v115 v117
  have v119 : FVec Ideal S1x512 .f32 := concatenate S1x512 1 [⟨S1x256, v114⟩, ⟨S1x256, v118⟩] concatenates_S1x256_S1x256_S1x512_d1
  have v121 : FVec Ideal S384x512 .bf16 := truncf .bf16 v108 bitsLt_bf16_f32
  have cst_74 : FVec Ideal S128x512 .f32 := constant S128x512 .f32 0x00000000#32
  have v122 : FVec Ideal S128x512 .f32 := matmul dot_S128x384_S384x512_S128x512_1_0_0_1_n_n none u v121 cst_74
  have v124 : FVec Ideal S256x256 .bf16 := truncf .bf16 v111 bitsLt_bf16_f32
  have cst_76 : FVec Ideal S128x256 .f32 := constant S128x256 .f32 0x00000000#32
  have v125 : FVec Ideal S128x256 .f32 := matmul dot_S128x256_S256x256_S128x256_1_0_0_1_n_n none w v124 cst_76
  have v126 : FVec Ideal S128x256 .f32 := extractStridedSlice S128x256 ![0, 0] v122 slices_S128x512_o0_0_S128x256
  have v127 : FVec Ideal S128x256 .f32 := extractStridedSlice S128x256 ![0, 256] v122 slices_S128x512_o0_256_S128x256
  have v128 : FVec Ideal S128x256 .f32 := addf v127 v125
  have v129 : FVec Ideal S128x512 .f32 := concatenate S128x512 1 [⟨S128x256, v126⟩, ⟨S128x256, v128⟩] concatenates_S128x256_S128x256_S128x512_d1
  have cst_77 : Ideal .f32 := Scalar.ofBits .f32 0x3F800000#32
  have v130 : FVec Ideal S1x512 .f32 := broadcast S1x512 cst_77
  have v131 : FVec Ideal S1x512 .f32 := divf v130 v119
  have v132 : FVec Ideal S128x512 .f32 := broadcastTo S128x512 v131 broadcasts_S1x512_S128x512
  have v133 : FVec Ideal S128x512 .f32 := mulf v129 v132
  v133

/-- The weighted values over the sum of the weights, each query's in a column (896 rows of keys for every query, 256 more for the second half). -/
def attAcc1 (t : FVec Ideal S256x256 .f32) (s : FVec Ideal S896x512 .f32) (u : FVec Ideal S128x896 .bf16) (w : FVec Ideal S128x256 .bf16) :
    FVec Ideal S128x512 .f32 :=
  have v98 : FVec Ideal S512 .f32 := multiReduction .maximumf [0] S512 s 0xFF800000#32 reduces_S896x512_S512 (.inl rfl) rfl
  have v99 : FVec Ideal S1x512 .f32 := shapeCast S1x512 v98 shapeCasts_S512_S1x512
  have v100 : FVec Ideal S1x256 .f32 := extractStridedSlice S1x256 ![0, 256] v99 slices_S1x512_o0_256_S1x256
  have v101 : FVec Ideal S256 .f32 := multiReduction .maximumf [0] S256 t 0xFF800000#32 reduces_S256x256_S256 (.inl rfl) rfl
  have v102 : FVec Ideal S1x256 .f32 := shapeCast S1x256 v101 shapeCasts_S256_S1x256
  have v103 : FVec Ideal S1x256 .f32 := maximumf v100 v102
  have v104 : FVec Ideal S1x256 .f32 := extractStridedSlice S1x256 ![0, 0] v99 slices_S1x512_o0_0_S1x256
  have v105 : FVec Ideal S1x512 .f32 := concatenate S1x512 1 [⟨S1x256, v104⟩, ⟨S1x256, v103⟩] concatenates_S1x256_S1x256_S1x512_d1
  have v106 : FVec Ideal S896x512 .f32 := broadcastTo S896x512 v105 broadcasts_S1x512_S896x512
  have v107 : FVec Ideal S896x512 .f32 := subf s v106
  have v108 : FVec Ideal S896x512 .f32 := exp2 v107
  have v109 : FVec Ideal S256x256 .f32 := broadcastTo S256x256 v103 broadcasts_S1x256_S256x256
  have v110 : FVec Ideal S256x256 .f32 := subf t v109
  have v111 : FVec Ideal S256x256 .f32 := exp2 v110
  have v112 : FVec Ideal S512 .f32 := multiReduction .add [0] S512 v108 0x00000000#32 reduces_S896x512_S512 (.inl rfl) rfl
  have v113 : FVec Ideal S1x512 .f32 := shapeCast S1x512 v112 shapeCasts_S512_S1x512
  have v114 : FVec Ideal S1x256 .f32 := extractStridedSlice S1x256 ![0, 0] v113 slices_S1x512_o0_0_S1x256
  have v115 : FVec Ideal S1x256 .f32 := extractStridedSlice S1x256 ![0, 256] v113 slices_S1x512_o0_256_S1x256
  have v116 : FVec Ideal S256 .f32 := multiReduction .add [0] S256 v111 0x00000000#32 reduces_S256x256_S256 (.inl rfl) rfl
  have v117 : FVec Ideal S1x256 .f32 := shapeCast S1x256 v116 shapeCasts_S256_S1x256
  have v118 : FVec Ideal S1x256 .f32 := addf v115 v117
  have v119 : FVec Ideal S1x512 .f32 := concatenate S1x512 1 [⟨S1x256, v114⟩, ⟨S1x256, v118⟩] concatenates_S1x256_S1x256_S1x512_d1
  have v121 : FVec Ideal S896x512 .bf16 := truncf .bf16 v108 bitsLt_bf16_f32
  have cst_74 : FVec Ideal S128x512 .f32 := constant S128x512 .f32 0x00000000#32
  have v122 : FVec Ideal S128x512 .f32 := matmul dot_S128x896_S896x512_S128x512_1_0_0_1_n_n none u v121 cst_74
  have v124 : FVec Ideal S256x256 .bf16 := truncf .bf16 v111 bitsLt_bf16_f32
  have cst_76 : FVec Ideal S128x256 .f32 := constant S128x256 .f32 0x00000000#32
  have v125 : FVec Ideal S128x256 .f32 := matmul dot_S128x256_S256x256_S128x256_1_0_0_1_n_n none w v124 cst_76
  have v126 : FVec Ideal S128x256 .f32 := extractStridedSlice S128x256 ![0, 0] v122 slices_S128x512_o0_0_S128x256
  have v127 : FVec Ideal S128x256 .f32 := extractStridedSlice S128x256 ![0, 256] v122 slices_S128x512_o0_256_S128x256
  have v128 : FVec Ideal S128x256 .f32 := addf v127 v125
  have v129 : FVec Ideal S128x512 .f32 := concatenate S128x512 1 [⟨S128x256, v126⟩, ⟨S128x256, v128⟩] concatenates_S128x256_S128x256_S128x512_d1
  have cst_77 : Ideal .f32 := Scalar.ofBits .f32 0x3F800000#32
  have v130 : FVec Ideal S1x512 .f32 := broadcast S1x512 cst_77
  have v131 : FVec Ideal S1x512 .f32 := divf v130 v119
  have v132 : FVec Ideal S128x512 .f32 := broadcastTo S128x512 v131 broadcasts_S1x512_S128x512
  have v133 : FVec Ideal S128x512 .f32 := mulf v129 v132
  v133

/-- The weighted values over the sum of the weights, each query's in a column (1408 rows of keys for every query, 256 more for the second half). -/
def attAcc2 (t : FVec Ideal S256x256 .f32) (s : FVec Ideal S1408x512 .f32) (u : FVec Ideal S128x1408 .bf16) (w : FVec Ideal S128x256 .bf16) :
    FVec Ideal S128x512 .f32 :=
  have v98 : FVec Ideal S512 .f32 := multiReduction .maximumf [0] S512 s 0xFF800000#32 reduces_S1408x512_S512 (.inl rfl) rfl
  have v99 : FVec Ideal S1x512 .f32 := shapeCast S1x512 v98 shapeCasts_S512_S1x512
  have v100 : FVec Ideal S1x256 .f32 := extractStridedSlice S1x256 ![0, 256] v99 slices_S1x512_o0_256_S1x256
  have v101 : FVec Ideal S256 .f32 := multiReduction .maximumf [0] S256 t 0xFF800000#32 reduces_S256x256_S256 (.inl rfl) rfl
  have v102 : FVec Ideal S1x256 .f32 := shapeCast S1x256 v101 shapeCasts_S256_S1x256
  have v103 : FVec Ideal S1x256 .f32 := maximumf v100 v102
  have v104 : FVec Ideal S1x256 .f32 := extractStridedSlice S1x256 ![0, 0] v99 slices_S1x512_o0_0_S1x256
  have v105 : FVec Ideal S1x512 .f32 := concatenate S1x512 1 [⟨S1x256, v104⟩, ⟨S1x256, v103⟩] concatenates_S1x256_S1x256_S1x512_d1
  have v106 : FVec Ideal S1408x512 .f32 := broadcastTo S1408x512 v105 broadcasts_S1x512_S1408x512
  have v107 : FVec Ideal S1408x512 .f32 := subf s v106
  have v108 : FVec Ideal S1408x512 .f32 := exp2 v107
  have v109 : FVec Ideal S256x256 .f32 := broadcastTo S256x256 v103 broadcasts_S1x256_S256x256
  have v110 : FVec Ideal S256x256 .f32 := subf t v109
  have v111 : FVec Ideal S256x256 .f32 := exp2 v110
  have v112 : FVec Ideal S512 .f32 := multiReduction .add [0] S512 v108 0x00000000#32 reduces_S1408x512_S512 (.inl rfl) rfl
  have v113 : FVec Ideal S1x512 .f32 := shapeCast S1x512 v112 shapeCasts_S512_S1x512
  have v114 : FVec Ideal S1x256 .f32 := extractStridedSlice S1x256 ![0, 0] v113 slices_S1x512_o0_0_S1x256
  have v115 : FVec Ideal S1x256 .f32 := extractStridedSlice S1x256 ![0, 256] v113 slices_S1x512_o0_256_S1x256
  have v116 : FVec Ideal S256 .f32 := multiReduction .add [0] S256 v111 0x00000000#32 reduces_S256x256_S256 (.inl rfl) rfl
  have v117 : FVec Ideal S1x256 .f32 := shapeCast S1x256 v116 shapeCasts_S256_S1x256
  have v118 : FVec Ideal S1x256 .f32 := addf v115 v117
  have v119 : FVec Ideal S1x512 .f32 := concatenate S1x512 1 [⟨S1x256, v114⟩, ⟨S1x256, v118⟩] concatenates_S1x256_S1x256_S1x512_d1
  have v121 : FVec Ideal S1408x512 .bf16 := truncf .bf16 v108 bitsLt_bf16_f32
  have cst_74 : FVec Ideal S128x512 .f32 := constant S128x512 .f32 0x00000000#32
  have v122 : FVec Ideal S128x512 .f32 := matmul dot_S128x1408_S1408x512_S128x512_1_0_0_1_n_n none u v121 cst_74
  have v124 : FVec Ideal S256x256 .bf16 := truncf .bf16 v111 bitsLt_bf16_f32
  have cst_76 : FVec Ideal S128x256 .f32 := constant S128x256 .f32 0x00000000#32
  have v125 : FVec Ideal S128x256 .f32 := matmul dot_S128x256_S256x256_S128x256_1_0_0_1_n_n none w v124 cst_76
  have v126 : FVec Ideal S128x256 .f32 := extractStridedSlice S128x256 ![0, 0] v122 slices_S128x512_o0_0_S128x256
  have v127 : FVec Ideal S128x256 .f32 := extractStridedSlice S128x256 ![0, 256] v122 slices_S128x512_o0_256_S128x256
  have v128 : FVec Ideal S128x256 .f32 := addf v127 v125
  have v129 : FVec Ideal S128x512 .f32 := concatenate S128x512 1 [⟨S128x256, v126⟩, ⟨S128x256, v128⟩] concatenates_S128x256_S128x256_S128x512_d1
  have cst_77 : Ideal .f32 := Scalar.ofBits .f32 0x3F800000#32
  have v130 : FVec Ideal S1x512 .f32 := broadcast S1x512 cst_77
  have v131 : FVec Ideal S1x512 .f32 := divf v130 v119
  have v132 : FVec Ideal S128x512 .f32 := broadcastTo S128x512 v131 broadcasts_S1x512_S128x512
  have v133 : FVec Ideal S128x512 .f32 := mulf v129 v132
  v133

/-- The weighted values over the sum of the weights, each query's in a column (1920 rows of keys for every query, 256 more for the second half). -/
def attAcc3 (t : FVec Ideal S256x256 .f32) (s : FVec Ideal S1920x512 .f32) (u : FVec Ideal S128x1920 .bf16) (w : FVec Ideal S128x256 .bf16) :
    FVec Ideal S128x512 .f32 :=
  have v98 : FVec Ideal S512 .f32 := multiReduction .maximumf [0] S512 s 0xFF800000#32 reduces_S1920x512_S512 (.inl rfl) rfl
  have v99 : FVec Ideal S1x512 .f32 := shapeCast S1x512 v98 shapeCasts_S512_S1x512
  have v100 : FVec Ideal S1x256 .f32 := extractStridedSlice S1x256 ![0, 256] v99 slices_S1x512_o0_256_S1x256
  have v101 : FVec Ideal S256 .f32 := multiReduction .maximumf [0] S256 t 0xFF800000#32 reduces_S256x256_S256 (.inl rfl) rfl
  have v102 : FVec Ideal S1x256 .f32 := shapeCast S1x256 v101 shapeCasts_S256_S1x256
  have v103 : FVec Ideal S1x256 .f32 := maximumf v100 v102
  have v104 : FVec Ideal S1x256 .f32 := extractStridedSlice S1x256 ![0, 0] v99 slices_S1x512_o0_0_S1x256
  have v105 : FVec Ideal S1x512 .f32 := concatenate S1x512 1 [⟨S1x256, v104⟩, ⟨S1x256, v103⟩] concatenates_S1x256_S1x256_S1x512_d1
  have v106 : FVec Ideal S1920x512 .f32 := broadcastTo S1920x512 v105 broadcasts_S1x512_S1920x512
  have v107 : FVec Ideal S1920x512 .f32 := subf s v106
  have v108 : FVec Ideal S1920x512 .f32 := exp2 v107
  have v109 : FVec Ideal S256x256 .f32 := broadcastTo S256x256 v103 broadcasts_S1x256_S256x256
  have v110 : FVec Ideal S256x256 .f32 := subf t v109
  have v111 : FVec Ideal S256x256 .f32 := exp2 v110
  have v112 : FVec Ideal S512 .f32 := multiReduction .add [0] S512 v108 0x00000000#32 reduces_S1920x512_S512 (.inl rfl) rfl
  have v113 : FVec Ideal S1x512 .f32 := shapeCast S1x512 v112 shapeCasts_S512_S1x512
  have v114 : FVec Ideal S1x256 .f32 := extractStridedSlice S1x256 ![0, 0] v113 slices_S1x512_o0_0_S1x256
  have v115 : FVec Ideal S1x256 .f32 := extractStridedSlice S1x256 ![0, 256] v113 slices_S1x512_o0_256_S1x256
  have v116 : FVec Ideal S256 .f32 := multiReduction .add [0] S256 v111 0x00000000#32 reduces_S256x256_S256 (.inl rfl) rfl
  have v117 : FVec Ideal S1x256 .f32 := shapeCast S1x256 v116 shapeCasts_S256_S1x256
  have v118 : FVec Ideal S1x256 .f32 := addf v115 v117
  have v119 : FVec Ideal S1x512 .f32 := concatenate S1x512 1 [⟨S1x256, v114⟩, ⟨S1x256, v118⟩] concatenates_S1x256_S1x256_S1x512_d1
  have v121 : FVec Ideal S1920x512 .bf16 := truncf .bf16 v108 bitsLt_bf16_f32
  have cst_74 : FVec Ideal S128x512 .f32 := constant S128x512 .f32 0x00000000#32
  have v122 : FVec Ideal S128x512 .f32 := matmul dot_S128x1920_S1920x512_S128x512_1_0_0_1_n_n none u v121 cst_74
  have v124 : FVec Ideal S256x256 .bf16 := truncf .bf16 v111 bitsLt_bf16_f32
  have cst_76 : FVec Ideal S128x256 .f32 := constant S128x256 .f32 0x00000000#32
  have v125 : FVec Ideal S128x256 .f32 := matmul dot_S128x256_S256x256_S128x256_1_0_0_1_n_n none w v124 cst_76
  have v126 : FVec Ideal S128x256 .f32 := extractStridedSlice S128x256 ![0, 0] v122 slices_S128x512_o0_0_S128x256
  have v127 : FVec Ideal S128x256 .f32 := extractStridedSlice S128x256 ![0, 256] v122 slices_S128x512_o0_256_S128x256
  have v128 : FVec Ideal S128x256 .f32 := addf v127 v125
  have v129 : FVec Ideal S128x512 .f32 := concatenate S128x512 1 [⟨S128x256, v126⟩, ⟨S128x256, v128⟩] concatenates_S128x256_S128x256_S128x512_d1
  have cst_77 : Ideal .f32 := Scalar.ofBits .f32 0x3F800000#32
  have v130 : FVec Ideal S1x512 .f32 := broadcast S1x512 cst_77
  have v131 : FVec Ideal S1x512 .f32 := divf v130 v119
  have v132 : FVec Ideal S128x512 .f32 := broadcastTo S128x512 v131 broadcasts_S1x512_S128x512
  have v133 : FVec Ideal S128x512 .f32 := mulf v129 v132
  v133

/-- The root-mean-square norm of each query's column and the gain. -/
def attFin (v133 : FVec Ideal S128x512 .f32) (g : Vec Ideal S1x1x128 .f32) : FVec Ideal S1x512x128 .bf16 :=
  have v134 : FVec Ideal S128x512 .f32 := mulf v133 v133
  have v135 : FVec Ideal S512 .f32 := multiReduction .add [0] S512 v134 0x00000000#32 reduces_S128x512_S512 (.inl rfl) rfl
  have v136 : FVec Ideal S1x512 .f32 := shapeCast S1x512 v135 shapeCasts_S512_S1x512
  have cst_79 : Ideal .f32 := Scalar.ofBits .f32 0x3C000000#32
  have v137 : FVec Ideal S1x512 .f32 := broadcast S1x512 cst_79
  have v138 : FVec Ideal S1x512 .f32 := mulf v136 v137
  have cst_80 : Ideal .f32 := Scalar.ofBits .f32 0x358637BD#32
  have v139 : FVec Ideal S1x512 .f32 := broadcast S1x512 cst_80
  have v140 : FVec Ideal S1x512 .f32 := addf v138 v139
  have v141 : FVec Ideal S1x512 .f32 := rsqrt v140
  have v142 : FVec Ideal S128x512 .f32 := broadcastTo S128x512 v141 broadcasts_S1x512_S128x512
  have v143 : FVec Ideal S128x512 .f32 := mulf v133 v142
  have v144 : FVec Ideal S512x128 .f32 := transpose S512x128 [1, 0] v143 transposes_S128x512_p1_0_S512x128
  k0_pay20 v144 g

/-- The logits of the last 256 keys of a tile, for the second half of its queries. -/
def attTail (q : Vec Ideal S1x512x256 .bf16) (k : Vec Ideal S1x256x256 .bf16) : FVec Ideal S256x256 .f32 :=
  k0_pay10 k0_pay8 q k

/-- The logits of the keys every query of the first tile meets. -/
def attMain0 (q : Vec Ideal S1x512x256 .bf16) (km : Vec Ideal S1x128x256 .bf16) (k : Vec Ideal S1x256x256 .bf16) : FVec Ideal S384x512 .f32 :=
  k0_pay11 k0_pay6 k0_pay7 q km k
/-- The logits of the keys every query of the second tile meets. -/
def attMain1 (q : Vec Ideal S1x512x256 .bf16) (km : Vec Ideal S1x128x256 .bf16) (k : Vec Ideal S1x768x256 .bf16) : FVec Ideal S896x512 .f32 :=
  k0_pay18 k0_pay6 k0_pay7 q km k
/-- The logits of the keys every query of the third tile meets. -/
def attMain2 (q : Vec Ideal S1x512x256 .bf16) (km : Vec Ideal S1x128x256 .bf16) (k : Vec Ideal S1x1280x256 .bf16) : FVec Ideal S1408x512 .f32 :=
  k0_pay83 k0_pay6 k0_pay7 (k0_pay9 q) (shapeCast S128x256 km shapeCasts_S1x128x256_S128x256) k
/-- The logits of the keys every query of the fourth tile meets. -/
def attMain3 (q : Vec Ideal S1x512x256 .bf16) (km : Vec Ideal S1x128x256 .bf16) (k : Vec Ideal S1x1792x256 .bf16) : FVec Ideal S1920x512 .f32 :=
  k0_pay150 (k0_pay144 k0_pay6 q km) (k0_pay146 q k) (k0_pay147 k0_pay7 q k)

/-- What tile 0 stores for the head whose lanes begin at `l` (of the queries and keys) and `l'` (of the values). -/
def attTile0 (l l' : ℕ) (q k : Vec Ideal S1x2048x512 .bf16) (v : Vec Ideal S1x2048x256 .bf16) (km : Vec Ideal S1x128x512 .bf16)
    (vm : Vec Ideal S1x128x256 .bf16) (g : Vec Ideal S1x1x256 .f32) : FVec Ideal S1x512x128 .bf16 :=
  attFin (attAcc0 (attTail (part3 0 l q) (part3 256 l k)) (attMain0 (part3 0 l q) (part3 0 l km) (part3 0 l k))
    (part2 l' 0 (vtAll v vm)) (part2 l' 384 (vtAll v vm))) (part3 0 l' g)

/-- What tile 1 stores for the head whose lanes begin at `l` (of the queries and keys) and `l'` (of the values). -/
def attTile1 (l l' : ℕ) (q k : Vec Ideal S1x2048x512 .bf16) (v : Vec Ideal S1x2048x256 .bf16) (km : Vec Ideal S1x128x512 .bf16)
    (vm : Vec Ideal S1x128x256 .bf16) (g : Vec Ideal S1x1x256 .f32) : FVec Ideal S1x512x128 .bf16 :=
  attFin (attAcc1 (attTail (part3 512 l q) (part3 768 l k)) (attMain1 (part3 512 l q) (part3 0 l km) (part3 0 l k))
    (part2 l' 0 (vtAll v vm)) (part2 l' 896 (vtAll v vm))) (part3 0 l' g)

/-- What tile 2 stores for the head whose lanes begin at `l` (of the queries and keys) and `l'` (of the values). -/
def attTile2 (l l' : ℕ) (q k : Vec Ideal S1x2048x512 .bf16) (v : Vec Ideal S1x2048x256 .bf16) (km : Vec Ideal S1x128x512 .bf16)
    (vm : Vec Ideal S1x128x256 .bf16) (g : Vec Ideal S1x1x256 .f32) : FVec Ideal S1x512x128 .bf16 :=
  attFin (attAcc2 (attTail (part3 1024 l q) (part3 1280 l k)) (attMain2 (part3 1024 l q) (part3 0 l km) (part3 0 l k))
    (part2 l' 0 (vtAll v vm)) (part2 l' 1408 (vtAll v vm))) (part3 0 l' g)

/-- What tile 3 stores for the head whose lanes begin at `l` (of the queries and keys) and `l'` (of the values). -/
def attTile3 (l l' : ℕ) (q k : Vec Ideal S1x2048x512 .bf16) (v : Vec Ideal S1x2048x256 .bf16) (km : Vec Ideal S1x128x512 .bf16)
    (vm : Vec Ideal S1x128x256 .bf16) (g : Vec Ideal S1x1x256 .f32) : FVec Ideal S1x512x128 .bf16 :=
  attFin (attAcc3 (attTail (part3 1536 l q) (part3 1792 l k)) (attMain3 (part3 1536 l q) (part3 0 l km) (part3 0 l k))
    (part2 l' 0 (vtAll v vm)) (part2 l' 1920 (vtAll v vm))) (part3 0 l' g)

section
variable (c : Dev nD) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x128x512 .bf16) (harg5 : arg5.IsWhole) (arg6 : Memref sig .tc .vmem S1x128x256 .bf16) (harg6 : arg6.IsWhole) (arg7 : Memref sig .tc .vmem S1x1x256 .f32) (harg7 : arg7.IsWhole) (arg25 : Memref sig .tc .vmem S256x2176 .bf16) (x0 : Vec Ideal S1x2048x512 .bf16) (x1 : Vec Ideal S1x2048x512 .bf16) (x2 : Vec Ideal S1x2048x256 .bf16) (x3 : Vec Ideal S1x128x512 .bf16) (x4 : Vec Ideal S1x128x256 .bf16) (x5 : Vec Ideal S1x1x256 .f32)

set_option maxRecDepth 100000 in
theorem tile_0_0 : sl.v152 (F := Ideal) c arg2 harg2 arg3 harg3 arg4 harg4 arg5 harg5 arg6 harg6 arg7 harg7 arg25 x0 x1 x2 x3 x4 x5 = attTile0 0 0 x0 x1 x2 x3 x4 x5 := by
  refine Eq.trans (b := attFin (attAcc0 (attTail _ _) (attMain0 _ _ _) _ _) _) rfl ?_
  rw [rd3, rd3, rd3, rd3, show sl.v120 (F := Ideal) c arg4 harg4 arg6 harg6 arg25 x2 x4 = _ from rdvt c arg4 harg4 arg6 harg6 x2 x4 0 0 arg25 _,
    show sl.v123 (F := Ideal) c arg4 harg4 arg6 harg6 arg25 x2 x4 = _ from rdvt c arg4 harg4 arg6 harg6 x2 x4 0 384 arg25 _, rd3]
  rfl

set_option maxRecDepth 100000 in
theorem tile_1_0 : sl.v426 (F := Ideal) c arg2 harg2 arg3 harg3 arg4 harg4 arg5 harg5 arg6 harg6 arg7 harg7 arg25 x0 x1 x2 x3 x4 x5 = attTile0 256 128 x0 x1 x2 x3 x4 x5 := by
  refine Eq.trans (b := attFin (attAcc0 (attTail _ _) (attMain0 _ _ _) _ _) _) rfl ?_
  rw [rd3, rd3, rd3, show sl.r_4 (F := Ideal) c arg3 harg3 x1 = _ from rd3 0 256 arg3 harg3 x1 _, show sl.v394 (F := Ideal) c arg4 harg4 arg6 harg6 arg25 x2 x4 = _ from rdvt c arg4 harg4 arg6 harg6 x2 x4 128 0 arg25 _,
    show sl.v397 (F := Ideal) c arg4 harg4 arg6 harg6 arg25 x2 x4 = _ from rdvt c arg4 harg4 arg6 harg6 x2 x4 128 384 arg25 _, rd3]
  rfl

set_option maxRecDepth 100000 in
theorem tile_0_1 : sl.v690 (F := Ideal) c arg2 harg2 arg3 harg3 arg4 harg4 arg5 harg5 arg6 harg6 arg7 harg7 arg25 x0 x1 x2 x3 x4 x5 = attTile1 0 0 x0 x1 x2 x3 x4 x5 := by
  refine Eq.trans (b := attFin (attAcc1 (attTail _ _) (attMain1 _ _ _) _ _) _) rfl ?_
  rw [rd3, rd3, rd3, rd3, show sl.v658 (F := Ideal) c arg4 harg4 arg6 harg6 arg25 x2 x4 = _ from rdvt c arg4 harg4 arg6 harg6 x2 x4 0 0 arg25 _,
    show sl.v661 (F := Ideal) c arg4 harg4 arg6 harg6 arg25 x2 x4 = _ from rdvt c arg4 harg4 arg6 harg6 x2 x4 0 896 arg25 _, rd3]
  rfl

set_option maxRecDepth 100000 in
theorem tile_1_1 : sl.v958 (F := Ideal) c arg2 harg2 arg3 harg3 arg4 harg4 arg5 harg5 arg6 harg6 arg7 harg7 arg25 x0 x1 x2 x3 x4 x5 = attTile1 256 128 x0 x1 x2 x3 x4 x5 := by
  refine Eq.trans (b := attFin (attAcc1 (attTail _ _) (attMain1 _ _ _) _ _) _) rfl ?_
  rw [rd3, rd3, rd3, rd3, show sl.v926 (F := Ideal) c arg4 harg4 arg6 harg6 arg25 x2 x4 = _ from rdvt c arg4 harg4 arg6 harg6 x2 x4 128 0 arg25 _,
    show sl.v929 (F := Ideal) c arg4 harg4 arg6 harg6 arg25 x2 x4 = _ from rdvt c arg4 harg4 arg6 harg6 x2 x4 128 896 arg25 _, rd3]
  rfl

set_option maxRecDepth 100000 in
theorem tile_0_2 : sl.v1222 (F := Ideal) c arg2 harg2 arg3 harg3 arg4 harg4 arg5 harg5 arg6 harg6 arg7 harg7 arg25 x0 x1 x2 x3 x4 x5 = attTile2 0 0 x0 x1 x2 x3 x4 x5 := by
  refine Eq.trans (b := attFin (attAcc2 (attTail _ _) (attMain2 _ _ _) _ _) _) rfl ?_
  rw [rd3, rd3, rd3, rd3, show sl.v1190 (F := Ideal) c arg4 harg4 arg6 harg6 arg25 x2 x4 = _ from rdvt c arg4 harg4 arg6 harg6 x2 x4 0 0 arg25 _,
    show sl.v1193 (F := Ideal) c arg4 harg4 arg6 harg6 arg25 x2 x4 = _ from rdvt c arg4 harg4 arg6 harg6 x2 x4 0 1408 arg25 _, rd3]
  rfl

set_option maxRecDepth 100000 in
theorem tile_1_2 : sl.v1490 (F := Ideal) c arg2 harg2 arg3 harg3 arg4 harg4 arg5 harg5 arg6 harg6 arg7 harg7 arg25 x0 x1 x2 x3 x4 x5 = attTile2 256 128 x0 x1 x2 x3 x4 x5 := by
  refine Eq.trans (b := attFin (attAcc2 (attTail _ _) (attMain2 _ _ _) _ _) _) rfl ?_
  rw [rd3, rd3, rd3, rd3, show sl.v1458 (F := Ideal) c arg4 harg4 arg6 harg6 arg25 x2 x4 = _ from rdvt c arg4 harg4 arg6 harg6 x2 x4 128 0 arg25 _,
    show sl.v1461 (F := Ideal) c arg4 harg4 arg6 harg6 arg25 x2 x4 = _ from rdvt c arg4 harg4 arg6 harg6 x2 x4 128 1408 arg25 _, rd3]
  rfl

set_option maxRecDepth 100000 in
theorem tile_0_3 : sl.v1731 (F := Ideal) c arg2 harg2 arg3 harg3 arg4 harg4 arg5 harg5 arg6 harg6 arg7 harg7 arg25 x0 x1 x2 x3 x4 x5 = attTile3 0 0 x0 x1 x2 x3 x4 x5 := by
  refine Eq.trans (b := attFin (attAcc3 (attTail _ _) (attMain3 _ _ _) _ _) _) rfl ?_
  rw [rd3, rd3, rd3, rd3, show sl.v1699 (F := Ideal) c arg4 harg4 arg6 harg6 arg25 x2 x4 = _ from rdvt c arg4 harg4 arg6 harg6 x2 x4 0 0 arg25 _,
    show sl.v1702 (F := Ideal) c arg4 harg4 arg6 harg6 arg25 x2 x4 = _ from rdvt c arg4 harg4 arg6 harg6 x2 x4 0 1920 arg25 _, rd3]
  rfl

set_option maxRecDepth 100000 in
theorem tile_1_3 : sl.v1972 (F := Ideal) c arg2 harg2 arg3 harg3 arg4 harg4 arg5 harg5 arg6 harg6 arg7 harg7 arg25 x0 x1 x2 x3 x4 x5 = attTile3 256 128 x0 x1 x2 x3 x4 x5 := by
  refine Eq.trans (b := attFin (attAcc3 (attTail _ _) (attMain3 _ _ _) _ _) _) rfl ?_
  rw [rd3, rd3, rd3, rd3, show sl.v1940 (F := Ideal) c arg4 harg4 arg6 harg6 arg25 x2 x4 = _ from rdvt c arg4 harg4 arg6 harg6 x2 x4 128 0 arg25 _,
    show sl.v1943 (F := Ideal) c arg4 harg4 arg6 harg6 arg25 x2 x4 = _ from rdvt c arg4 harg4 arg6 harg6 x2 x4 128 1920 arg25 _, rd3]
  rfl
end
end Cert.KernelIdeal.AttnRet
-- ==== Proof.Soft.lean ====
module
public import Idealize.ShloMosaic.Lib.Pointwise
/-! The softmax over a set of visible positions, in the two forms the programs compute it. -/
@[expose] public section
noncomputable section
namespace Cert.AttnRetMath
open Idealize.ShloMosaic
open Finset (range)

variable (P : ℕ → Prop) [DecidablePred P] (g : ℕ → ℝ)

/-- The logit of position `j`, to the base 2: that of a hidden position is `-∞`. -/
def logit (j : ℕ) : EReal := if P j then ((g j : ℝ) : EReal) else ⊥

/-- The sum of the weights of the visible positions. -/
def mass : ℝ := ∑ i ∈ range 2176, if P i then (2 : ℝ) ^ g i else 0

/-- The softmax weight of position `j`. -/
def weight (j : ℕ) : ℝ := (if P j then (2 : ℝ) ^ g j else 0) / mass P g

theorem mass_pos (h : ∃ j < 2176, P j) : 0 < mass P g := by
  obtain ⟨j, hj, hP⟩ := h
  refine Finset.sum_pos' (fun i _ => ?_) ⟨j, Finset.mem_range.mpr hj, ?_⟩
  · split
    · positivity
    · exact le_rfl
  · rw [if_pos hP]; positivity

theorem logit_ne_top (j : ℕ) : logit P g j ≠ ⊤ := by
  unfold logit; split
  · exact EReal.coe_ne_top _
  · exact bot_ne_top

/-- The greatest of finitely many values below `⊤`, one of them above `⊥`, is a real number. -/
theorem fold_max_real {ι : Type} (s : Finset ι) (f : ι → EReal) (h : ∀ i ∈ s, f i ≠ ⊤) (h' : ∃ i ∈ s, f i ≠ ⊥) :
    ∃ μ : ℝ, s.fold max ⊥ f = ((μ : ℝ) : EReal) := by
  have ht : s.fold max ⊥ f < ⊤ := (Finset.fold_max_lt _).mpr ⟨bot_lt_top, fun i hi => (h i hi).lt_top⟩
  have hb : ⊥ < s.fold max ⊥ f := by
    obtain ⟨i, hi, hne⟩ := h'
    exact (Finset.lt_fold_max _).mpr (Or.inr ⟨i, hi, bot_lt_iff_ne_bot.mpr hne⟩)
  exact ⟨_, (EReal.coe_toReal ht.ne hb.ne').symm⟩

theorem fold_max_ne_top {ι : Type} (s : Finset ι) (f : ι → EReal) (h : ∀ i ∈ s, f i ≠ ⊤) : s.fold max ⊥ f ≠ ⊤ :=
  ((Finset.fold_max_lt _).mpr ⟨bot_lt_top, fun i hi => (h i hi).lt_top⟩).ne

theorem max_real (μ : ℝ) (x : EReal) (hx : x ≠ ⊤) : ∃ ν : ℝ, max ((μ : ℝ) : EReal) x = ((ν : ℝ) : EReal) := by
  have ht : max ((μ : ℝ) : EReal) x < ⊤ := max_lt (EReal.coe_lt_top _) hx.lt_top
  have hb : ⊥ < max ((μ : ℝ) : EReal) x := lt_max_of_lt_left (EReal.bot_lt_coe _)
  exact ⟨_, (EReal.coe_toReal ht.ne hb.ne').symm⟩

/-- A nonnegative real factor goes into a finite sum of extended reals. -/
theorem sum_mul_coe {ι : Type} (s : Finset ι) (f : ι → EReal) (r : ℝ) (hr : 0 ≤ r) :
    (∑ i ∈ s, f i) * ((r : ℝ) : EReal) = ∑ i ∈ s, f i * ((r : ℝ) : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hr) (EReal.coe_ne_top _) _ _

theorem exp2_logit (μ : ℝ) (j : ℕ) :
    Ideal.exp2 (logit P g j - ((μ : ℝ) : EReal)) = (((if P j then (2 : ℝ) ^ g j else 0) * (2 : ℝ) ^ (-μ) : ℝ) : EReal) := by
  unfold logit
  split
  · rw [← EReal.coe_sub, Ideal.exp2_coe, sub_eq_add_neg]
    congr 1
    exact Real.rpow_add two_pos _ _
  · rw [EReal.bot_sub, Ideal.exp2_bot, zero_mul, EReal.coe_zero]

theorem coe_sum {ι : Type} (s : Finset ι) (f : ι → ℝ) : (((∑ i ∈ s, f i : ℝ)) : EReal) = ∑ i ∈ s, ((f i : ℝ) : EReal) := by
  classical
  induction s using Finset.induction_on with
  | empty => simp
  | insert i s hi ih => rw [Finset.sum_insert hi, Finset.sum_insert hi, EReal.coe_add, ih]

theorem sum_range_visible (N : ℕ) (hN : N ≤ 2176) (h : ∀ j, N ≤ j → ¬ P j) :
    (∑ i ∈ range N, if P i then (2 : ℝ) ^ g i else 0) = mass P g := by
  refine Finset.sum_subset (Finset.range_mono hN) fun j _ hj => ?_
  rw [if_neg (h j (by simpa using hj))]

/-- The weighted sum of the values over the sum of the weights, relative to any real `μ`, is the softmax. -/
theorem soft_base2 (N : ℕ) (hN : N ≤ 2176) (h : ∀ j, N ≤ j → ¬ P j) (hv : ∃ j < 2176, P j) (V : ℕ → EReal) (μ : ℝ) :
    (∑ j ∈ range N, V j * Ideal.exp2 (logit P g j - ((μ : ℝ) : EReal)))
        * Ideal.div 1 (∑ j ∈ range N, Ideal.exp2 (logit P g j - ((μ : ℝ) : EReal)))
      = ∑ j ∈ range 2176, V j * ((weight P g j : ℝ) : EReal) := by
  have hm := mass_pos P g hv
  have hp : (0 : ℝ) < (2 : ℝ) ^ (-μ) := Real.rpow_pos_of_pos two_pos _
  have hden : (∑ j ∈ range N, Ideal.exp2 (logit P g j - ((μ : ℝ) : EReal))) = ((mass P g * (2 : ℝ) ^ (-μ) : ℝ) : EReal) := by
    rw [← sum_range_visible P g N hN h, Finset.sum_mul, coe_sum]
    exact Finset.sum_congr rfl fun j _ => exp2_logit P g μ j
  have hne : mass P g * (2 : ℝ) ^ (-μ) ≠ 0 := (mul_pos hm hp).ne'
  rw [hden, Ideal.div_coe hne, one_mul, sum_mul_coe _ _ _ (by positivity)]
  have hs : ∀ j, V j * Ideal.exp2 (logit P g j - ((μ : ℝ) : EReal)) * ((1 / (mass P g * (2 : ℝ) ^ (-μ)) : ℝ) : EReal)
      = V j * ((weight P g j : ℝ) : EReal) := by
    intro j
    rw [exp2_logit, mul_assoc, ← EReal.coe_mul]
    congr 2
    unfold weight
    field_simp
  rw [Finset.sum_congr rfl fun j _ => hs j]
  refine Finset.sum_subset (Finset.range_mono hN) fun j _ hj => ?_
  rw [weight, if_neg (h j (by simpa using hj)), zero_div, EReal.coe_zero, mul_zero]

theorem exp_logit (μ : ℝ) (j : ℕ) (x : EReal) (hx : x = if P j then ((g j * Real.log 2 : ℝ) : EReal) else ⊥) :
    Ideal.exp (x - ((μ : ℝ) : EReal)) = (((if P j then (2 : ℝ) ^ g j else 0) * Real.exp (-μ) : ℝ) : EReal) := by
  rw [hx]
  split
  · rw [← EReal.coe_sub, Ideal.exp_coe, sub_eq_add_neg, Real.exp_add, Real.rpow_def_of_pos two_pos, mul_comm (g j)]
  · rw [EReal.bot_sub, Ideal.exp_bot, zero_mul, EReal.coe_zero]

/-- The softmax as natural exponentials over their sum, over the positions from 112 on. -/
theorem soft_natural (h : ∀ j, 2176 ≤ j → ¬ P j) (h' : ∀ j < 112, ¬ P j) (hv : ∃ j < 2176, P j) (V : ℕ → EReal) (μ : ℝ)
    (x : ℕ → EReal) (hx : ∀ j < 2064, x j = if P (112 + j) then ((g (112 + j) * Real.log 2 : ℝ) : EReal) else ⊥) :
    (∑ j ∈ range 2064, V (112 + j) * Ideal.div (Ideal.exp (x j - ((μ : ℝ) : EReal))) (∑ i ∈ range 2064, Ideal.exp (x i - ((μ : ℝ) : EReal))))
      = ∑ j ∈ range 2176, V j * ((weight P g j : ℝ) : EReal) := by
  have hm := mass_pos P g hv
  have hp : (0 : ℝ) < Real.exp (-μ) := Real.exp_pos _
  have e : ∀ j ∈ range 2064, Ideal.exp (x j - ((μ : ℝ) : EReal))
      = (((if P (112 + j) then (2 : ℝ) ^ g (112 + j) else 0) * Real.exp (-μ) : ℝ) : EReal) := fun j hj =>
    exp_logit (fun i => P (112 + i)) (fun i => g (112 + i)) μ j (x j) (hx j (Finset.mem_range.mp hj))
  have hden : (∑ i ∈ range 2064, Ideal.exp (x i - ((μ : ℝ) : EReal))) = ((mass P g * Real.exp (-μ) : ℝ) : EReal) := by
    rw [Finset.sum_congr rfl e, ← coe_sum, ← Finset.sum_mul]
    congr 2
    unfold mass
    have z : (∑ i ∈ range 112, if P i then (2 : ℝ) ^ g i else 0) = 0 := Finset.sum_eq_zero fun j hj => by
      rw [if_neg (h' j (Finset.mem_range.mp hj))]
    rw [show (2176 : ℕ) = 112 + 2064 from rfl, Finset.sum_range_add, z, zero_add]
  have hne : mass P g * Real.exp (-μ) ≠ 0 := (mul_pos hm hp).ne'
  have z : (∑ j ∈ range 112, V j * ((weight P g j : ℝ) : EReal)) = 0 := Finset.sum_eq_zero fun j hj => by
    rw [weight, if_neg (h' j (Finset.mem_range.mp hj)), zero_div, EReal.coe_zero, mul_zero]
  rw [show (2176 : ℕ) = 112 + 2064 from rfl, Finset.sum_range_add, z, zero_add]
  refine Finset.sum_congr rfl fun j hj => ?_
  rw [hden, e j hj, Ideal.div_coe hne, ← EReal.coe_mul]
  congr 2
  unfold weight
  field_simp

end Cert.AttnRetMath
-- ==== Proof.AttValue.lean ====
module
public import proofs.«01_k».proof.Proof.AttSteps
public import proofs.«01_k».proof.Proof.Soft
public import Idealize.ShloMosaic.Lib.WordCmp
/-! The attention of the kernel at an index: the softmax of the visible logits, the values weighted by it, the norm and the gain. -/
@[expose] public section
set_option maxRecDepth 16384
noncomputable section
namespace Cert.KernelIdeal.AttnRet
open Cert.KernelIdeal Cert.KernelIdeal.Gen Cert.KernelIdeal.Gen.kernelRun0_A Idealize.ShloMosaic Idealize.ShloMosaic.TcCoe Idealize.SL.Sem
open Cert.AttnRetMath
open Finset (range)

/-- Every entry of an array is a real number. -/
def AllReal {s : Shape} (x : s.Idx → EReal) : Prop := ∀ i, ∃ r : ℝ, x i = ((r : ℝ) : EReal)

/-- Entry `c` of the key at position `j` of the head whose lanes begin at `l`: the meta keys come first. -/
def keyAt (l : ℕ) (k : Vec Ideal S1x2048x512 .bf16) (km : Vec Ideal S1x128x512 .bf16) (j c : ℕ) : EReal :=
  if j < 128 then km (ix3 0 (Fin.ofNat 128 j) (Fin.ofNat 512 (l + c))) else k (ix3 0 (Fin.ofNat 2048 (j - 128)) (Fin.ofNat 512 (l + c)))

/-- The inner product of the key at position `j` and query `n`. -/
def score (l : ℕ) (q k : Vec Ideal S1x2048x512 .bf16) (km : Vec Ideal S1x128x512 .bf16) (n j : ℕ) : EReal :=
  ∑ c : Fin 256, keyAt l k km j c.val * q (ix3 0 (Fin.ofNat 2048 n) (Fin.ofNat 512 (l + c.val)))

/-- The same as a real number. -/
def scoreR (l : ℕ) (q k : Vec Ideal S1x2048x512 .bf16) (km : Vec Ideal S1x128x512 .bf16) (n j : ℕ) : ℝ := (score l q k km n j).toReal

/-- The positions query `n` sees: the last sixteen meta keys and the keys up to its own. -/
def seen (n j : ℕ) : Prop := 112 ≤ j ∧ j ≤ 128 + n

instance (n : ℕ) : DecidablePred (seen n) := fun j => inferInstanceAs (Decidable (112 ≤ j ∧ j ≤ 128 + n))

theorem sum_real {ι : Type} (s : Finset ι) (f : ι → EReal) (h : ∀ i ∈ s, ∃ r : ℝ, f i = ((r : ℝ) : EReal)) :
    ∃ r : ℝ, ∑ i ∈ s, f i = ((r : ℝ) : EReal) := by
  classical
  induction s using Finset.induction_on with
  | empty => exact ⟨0, by simp⟩
  | insert i s hi ih =>
    obtain ⟨a, ha⟩ := h i (Finset.mem_insert_self _ _)
    obtain ⟨b, hb⟩ := ih fun j hj => h j (Finset.mem_insert_of_mem hj)
    exact ⟨a + b, by rw [Finset.sum_insert hi, ha, hb, EReal.coe_add]⟩

theorem mul_real {x y : EReal} (hx : ∃ r : ℝ, x = ((r : ℝ) : EReal)) (hy : ∃ r : ℝ, y = ((r : ℝ) : EReal)) :
    ∃ r : ℝ, x * y = ((r : ℝ) : EReal) := by
  obtain ⟨a, rfl⟩ := hx
  obtain ⟨b, rfl⟩ := hy
  exact ⟨a * b, (EReal.coe_mul _ _).symm⟩

theorem sge_if (a b : ℕ) (ha : a < 2 ^ 31) (hb : b < 2 ^ 31) (u w : EReal) :
    Scalar.select (IntOp.cmpi .sge (BitVec.ofNat 32 a) (BitVec.ofNat 32 b)) u w = if b ≤ a then u else w := by
  rw [WordCmp.cmpi_sge_ofNat ha hb]
  by_cases h : b ≤ a
  · rw [if_pos h]; simp [Scalar.select, h]
  · rw [if_neg h]; simp [Scalar.select, h]

theorem sle_if (a b : ℕ) (ha : a < 2 ^ 31) (hb : b < 2 ^ 31) (u w : EReal) :
    Scalar.select (IntOp.cmpi .sle (BitVec.ofNat 32 a) (BitVec.ofNat 32 b)) u w = if a ≤ b then u else w := by
  rw [WordCmp.cmpi_sle_ofNat ha hb]
  by_cases h : a ≤ b
  · rw [if_pos h]; simp [Scalar.select, h]
  · rw [if_neg h]; simp [Scalar.select, h]

theorem mask_bot : (Named.named (F := Ideal) (φ := .f32) κ "mask" 4048155338#32) = (⊥ : EReal) :=
  IdealRules.named_const.ideal_named_scalar _ _ _ _ rfl

theorem max_init : Ideal.ofBits FTy.f32 4286578688#32 = (⊥ : EReal) := by
  simp [Ideal.ofBits, Ideal.ieee]

section
variable (l : ℕ) (q k : Vec Ideal S1x2048x512 .bf16) (km : Vec Ideal S1x128x512 .bf16)

theorem score_real (hq : AllReal (s := S1x2048x512) q) (hk : AllReal (s := S1x2048x512) k) (hkm : AllReal (s := S1x128x512) km) (n j : ℕ) :
    score l q k km n j = ((scoreR l q k km n j : ℝ) : EReal) := by
  obtain ⟨r, hr⟩ : ∃ r : ℝ, score l q k km n j = ((r : ℝ) : EReal) := by
    unfold score
    refine sum_real _ _ fun c _ => mul_real ?_ (hq _)
    unfold keyAt
    split
    · exact hkm _
    · exact hk _
  rw [scoreR, hr, EReal.toReal_coe]

variable {q k km} (hq : AllReal (s := S1x2048x512) q) (hk : AllReal (s := S1x2048x512) k) (hkm : AllReal (s := S1x128x512) km)
include hq hk hkm

theorem masked_meta (n j : ℕ) (hj : j < 128) (x : EReal) (hx : x = score l q k km n j) :
    Scalar.select (IntOp.cmpi .sge (BitVec.ofNat 32 j) 112#32) x (Named.named (F := Ideal) (φ := .f32) κ "mask" 4048155338#32)
      = logit (seen n) (scoreR l q k km n) j := by
  rw [show (112#32 : BitVec 32) = BitVec.ofNat 32 112 from rfl, sge_if _ _ (by omega) (by omega), mask_bot, hx, score_real l q k km hq hk hkm, logit]
  have e : seen n j ↔ 112 ≤ j := ⟨fun h => h.1, fun h => ⟨h, by omega⟩⟩
  simp only [e]

theorem masked_key (n i a b : ℕ) (ha : a < 2 ^ 31) (hb : b < 2 ^ 31) (hab : a ≤ b ↔ i ≤ n) (j : ℕ) (hj : j = 128 + i) (x : EReal)
    (hx : x = score l q k km n (128 + i)) :
    Scalar.select (IntOp.cmpi .sle (BitVec.ofNat 32 a) (BitVec.ofNat 32 b)) x (Named.named (F := Ideal) (φ := .f32) κ "mask" 4048155338#32)
      = logit (seen n) (scoreR l q k km n) j := by
  subst hj
  rw [sle_if _ _ ha hb, mask_bot, hx, score_real l q k km hq hk hkm, logit]
  have e : seen n (128 + i) ↔ a ≤ b := ⟨fun h => hab.mpr (by have := h.2; omega), fun h => ⟨by omega, by have := hab.mp h; omega⟩⟩
  simp only [e]

theorem plain_key (n i : ℕ) (hi : i ≤ n) (j : ℕ) (hj : j = 128 + i) (x : EReal) (hx : x = score l q k km n (128 + i)) :
    x = logit (seen n) (scoreR l q k km n) j := by
  subst hj
  rw [hx, score_real l q k km hq hk hkm, logit, if_pos ⟨by omega, by omega⟩]
omit hq hk hkm

theorem meta_sum (n o i : ℕ) (hi : i < 128) (y : Fin 512) (hn : n = o + y.val) :
    (∑ c : Fin 256, (part3 0 l km : Vec Ideal S1x128x256 .bf16) (ix3 0 ⟨i, hi⟩ c) * (part3 o l q : Vec Ideal S1x512x256 .bf16) (ix3 0 y c))
      = score l q k km n i := by
  subst hn
  refine Finset.sum_congr rfl fun c _ => ?_
  rw [keyAt, if_pos hi, part3_at, part3_at, Nat.zero_add]

theorem key_sum {m : ℕ} (n o o' i j : ℕ) (hi : i < m) (y : Fin 512) (hn : n = o + y.val) (hj : j = 128 + (o' + i)) :
    (∑ c : Fin 256, (part3 o' l k : Vec Ideal ⟨3, ![1, m, 256]⟩ .bf16) (ix3 0 ⟨i, hi⟩ c) * (part3 o l q : Vec Ideal S1x512x256 .bf16) (ix3 0 y c))
      = score l q k km n j := by
  subst hn hj
  refine Finset.sum_congr rfl fun c _ => ?_
  rw [keyAt, if_neg (by omega), part3_at, part3_at, Nat.add_sub_cancel_left]

include hq hk hkm

theorem tail_at (o : ℕ) (ho : o + 512 ≤ 2048) (x y : Fin 256) :
    attTail (part3 o l q) (part3 (o + 256) l k) (ix2 x y) = logit (seen (o + (256 + y.val))) (scoreR l q k km (o + (256 + y.val))) (384 + o + x.val) := by
  have hx := x.isLt
  have hy := y.isLt
  pointwise [attTail, k0_pay10, k0_pay9, k0_pay8]
  refine masked_key l hq hk hkm _ (o + 256 + x.val) _ _ (by omega) (by omega) (by omega) _ (by omega) _ ?_
  exact key_sum l _ _ _ _ _ x.isLt ⟨256 + y.val, by omega⟩ rfl rfl

theorem main0_at (x : Fin 384) (y : Fin 512) :
    attMain0 (part3 0 l q) (part3 0 l km) (part3 0 l k) (ix2 x y)
      = logit (seen (0 + y.val)) (scoreR l q k km (0 + y.val)) x.val := by
  have hx := x.isLt
  have hy := y.isLt
  pointwise [attMain0, k0_pay11, k0_pay9, k0_pay6, k0_pay7]
  split
  · rename_i h
    exact masked_meta l hq hk hkm _ _ h _ (meta_sum l _ _ _ h y (by omega))
  · rename_i h
    refine masked_key l hq hk hkm _ (x.val - 128) _ _ (by omega) (by omega) (by omega) _ (by omega) _ ?_
    exact key_sum l _ _ _ _ _ (by omega) y (by omega) (by omega)

theorem main1_at (x : Fin 896) (y : Fin 512) :
    attMain1 (part3 512 l q) (part3 0 l km) (part3 0 l k) (ix2 x y)
      = logit (seen (512 + y.val)) (scoreR l q k km (512 + y.val)) x.val := by
  have hx := x.isLt
  have hy := y.isLt
  pointwise [attMain1, k0_pay18, k0_pay16, k0_pay9, k0_pay6, k0_pay7]
  split
  · rename_i h
    exact masked_meta l hq hk hkm _ _ h _ (meta_sum l _ _ _ h y (by omega))
  · rename_i h
    split
    · rename_i h'
      refine plain_key l hq hk hkm _ (x.val - 128) (by omega) _ (by omega) _ ?_
      exact key_sum l _ _ _ _ _ (by omega) y (by omega) (by omega)
    · rename_i h'
      refine masked_key l hq hk hkm _ (x.val - 128) _ _ (by omega) (by omega) (by omega) _ (by omega) _ ?_
      exact key_sum l _ _ _ _ _ (by omega) y (by omega) (by omega)

theorem main2_at (x : Fin 1408) (y : Fin 512) :
    attMain2 (part3 1024 l q) (part3 0 l km) (part3 0 l k) (ix2 x y)
      = logit (seen (1024 + y.val)) (scoreR l q k km (1024 + y.val)) x.val := by
  have hx := x.isLt
  have hy := y.isLt
  pointwise [attMain2, k0_pay83, k0_pay9, k0_pay6, k0_pay7]
  split
  · rename_i h
    exact masked_meta l hq hk hkm _ _ h _ (meta_sum l _ _ _ h y (by omega))
  · rename_i h
    split
    · rename_i h'
      refine plain_key l hq hk hkm _ (x.val - 128) (by omega) _ (by omega) _ ?_
      exact key_sum l _ _ _ _ _ (by omega) y (by omega) (by omega)
    · rename_i h'
      refine masked_key l hq hk hkm _ (x.val - 128) _ _ (by omega) (by omega) (by omega) _ (by omega) _ ?_
      exact key_sum l _ _ _ _ _ (by omega) y (by omega) (by omega)

theorem main3_at (x : Fin 1920) (y : Fin 512) :
    attMain3 (part3 1536 l q) (part3 0 l km) (part3 0 l k) (ix2 x y)
      = logit (seen (1536 + y.val)) (scoreR l q k km (1536 + y.val)) x.val := by
  have hx := x.isLt
  have hy := y.isLt
  pointwise [attMain3, k0_pay150, k0_pay144, k0_pay146, k0_pay147, k0_pay145, k0_pay143, k0_pay6, k0_pay7]
  split
  · rename_i h
    exact masked_meta l hq hk hkm _ _ h _ (meta_sum l _ _ _ h y (by omega))
  · rename_i h
    split
    · rename_i h'
      refine plain_key l hq hk hkm _ (x.val - 128) (by omega) _ (by omega) _ ?_
      exact key_sum l _ _ _ _ _ (by omega) y (by omega) (by omega)
    · rename_i h'
      refine masked_key l hq hk hkm _ (x.val - 128) _ _ (by omega) (by omega) (by omega) _ (by omega) _ ?_
      exact key_sum l _ _ _ _ _ (by omega) y (by omega) (by omega)
end

theorem acc0_lo (P : ℕ → Prop) [DecidablePred P] (g : ℕ → ℝ) (V : ℕ → EReal) (hv : ∃ j < 384, P j) (hN : ∀ j, 384 ≤ j → ¬ P j)
    (t : FVec Ideal S256x256 .f32) (s : FVec Ideal S384x512 .f32) (u : FVec Ideal S128x384 .bf16) (w : FVec Ideal S128x256 .bf16)
    (d : Fin 128) (r : Fin 256) (hr : r.val < 512) (hs : ∀ x, s (ix2 x ⟨r.val, hr⟩) = logit P g x.val) (hu : ∀ x, u (ix2 d x) = V x.val) :
    attAcc0 t s u w (ix2 d ⟨r.val, hr⟩) = ∑ j ∈ range 2176, V j * ((weight P g j : ℝ) : EReal) := by
  pointwise [attAcc0]
  simp only [hs, hu, max_init]
  obtain ⟨j, hj, hP⟩ := hv
  obtain ⟨μ, hμ⟩ := fold_max_real (Finset.univ : Finset (Fin 384)) (fun x => logit P g x.val) (fun x _ => logit_ne_top P g _)
    ⟨⟨j, by omega⟩, Finset.mem_univ _, by rw [logit, if_pos hP]; exact EReal.coe_ne_bot _⟩
  simp only [hμ]
  refine Eq.trans ?_ (soft_base2 P g 384 (by omega) hN ⟨j, by omega, hP⟩ V μ)
  rw [← Fin.sum_univ_eq_sum_range (fun j => V j * Ideal.exp2 (logit P g j - ((μ : ℝ) : EReal))),
    ← Fin.sum_univ_eq_sum_range (fun j => Ideal.exp2 (logit P g j - ((μ : ℝ) : EReal)))]
  rfl

theorem acc0_hi (P : ℕ → Prop) [DecidablePred P] (g : ℕ → ℝ) (V : ℕ → EReal) (hv : ∃ j < 384, P j) (hN : ∀ j, 384 + 256 ≤ j → ¬ P j)
    (t : FVec Ideal S256x256 .f32) (s : FVec Ideal S384x512 .f32) (u : FVec Ideal S128x384 .bf16) (w : FVec Ideal S128x256 .bf16)
    (d : Fin 128) (r : Fin 256) (hr : 256 + r.val < 512) (hs : ∀ x, s (ix2 x ⟨256 + r.val, hr⟩) = logit P g x.val) (hu : ∀ x, u (ix2 d x) = V x.val)
    (ht : ∀ x, t (ix2 x r) = logit P g (384 + x.val)) (hw : ∀ x, w (ix2 d x) = V (384 + x.val)) :
    attAcc0 t s u w (ix2 d ⟨256 + r.val, hr⟩) = ∑ j ∈ range 2176, V j * ((weight P g j : ℝ) : EReal) := by
  pointwise [attAcc0]
  simp only [hs, hu, ht, hw, max_init]
  obtain ⟨j, hj, hP⟩ := hv
  obtain ⟨μ', hμ'⟩ := fold_max_real (Finset.univ : Finset (Fin 384)) (fun x => logit P g x.val) (fun x _ => logit_ne_top P g _)
    ⟨⟨j, by omega⟩, Finset.mem_univ _, by rw [logit, if_pos hP]; exact EReal.coe_ne_bot _⟩
  obtain ⟨μ, hμ⟩ := max_real μ' _ (fold_max_ne_top (Finset.univ : Finset (Fin 256)) (fun x => logit P g (384 + x.val)) fun x _ => logit_ne_top P g _)
  simp only [hμ', hμ]
  refine Eq.trans ?_ (soft_base2 P g (384 + 256) (by omega) hN ⟨j, by omega, hP⟩ V μ)
  rw [Finset.sum_range_add, Finset.sum_range_add, ← Fin.sum_univ_eq_sum_range (fun j => V j * Ideal.exp2 (logit P g j - ((μ : ℝ) : EReal))),
    ← Fin.sum_univ_eq_sum_range (fun j => Ideal.exp2 (logit P g j - ((μ : ℝ) : EReal))),
    ← Fin.sum_univ_eq_sum_range (fun j => V (384 + j) * Ideal.exp2 (logit P g (384 + j) - ((μ : ℝ) : EReal))),
    ← Fin.sum_univ_eq_sum_range (fun j => Ideal.exp2 (logit P g (384 + j) - ((μ : ℝ) : EReal)))]
  rfl

theorem acc1_lo (P : ℕ → Prop) [DecidablePred P] (g : ℕ → ℝ) (V : ℕ → EReal) (hv : ∃ j < 384, P j) (hN : ∀ j, 896 ≤ j → ¬ P j)
    (t : FVec Ideal S256x256 .f32) (s : FVec Ideal S896x512 .f32) (u : FVec Ideal S128x896 .bf16) (w : FVec Ideal S128x256 .bf16)
    (d : Fin 128) (r : Fin 256) (hr : r.val < 512) (hs : ∀ x, s (ix2 x ⟨r.val, hr⟩) = logit P g x.val) (hu : ∀ x, u (ix2 d x) = V x.val) :
    attAcc1 t s u w (ix2 d ⟨r.val, hr⟩) = ∑ j ∈ range 2176, V j * ((weight P g j : ℝ) : EReal) := by
  pointwise [attAcc1]
  simp only [hs, hu, max_init]
  obtain ⟨j, hj, hP⟩ := hv
  obtain ⟨μ, hμ⟩ := fold_max_real (Finset.univ : Finset (Fin 896)) (fun x => logit P g x.val) (fun x _ => logit_ne_top P g _)
    ⟨⟨j, by omega⟩, Finset.mem_univ _, by rw [logit, if_pos hP]; exact EReal.coe_ne_bot _⟩
  simp only [hμ]
  refine Eq.trans ?_ (soft_base2 P g 896 (by omega) hN ⟨j, by omega, hP⟩ V μ)
  rw [← Fin.sum_univ_eq_sum_range (fun j => V j * Ideal.exp2 (logit P g j - ((μ : ℝ) : EReal))),
    ← Fin.sum_univ_eq_sum_range (fun j => Ideal.exp2 (logit P g j - ((μ : ℝ) : EReal)))]
  rfl

theorem acc1_hi (P : ℕ → Prop) [DecidablePred P] (g : ℕ → ℝ) (V : ℕ → EReal) (hv : ∃ j < 384, P j) (hN : ∀ j, 896 + 256 ≤ j → ¬ P j)
    (t : FVec Ideal S256x256 .f32) (s : FVec Ideal S896x512 .f32) (u : FVec Ideal S128x896 .bf16) (w : FVec Ideal S128x256 .bf16)
    (d : Fin 128) (r : Fin 256) (hr : 256 + r.val < 512) (hs : ∀ x, s (ix2 x ⟨256 + r.val, hr⟩) = logit P g x.val) (hu : ∀ x, u (ix2 d x) = V x.val)
    (ht : ∀ x, t (ix2 x r) = logit P g (896 + x.val)) (hw : ∀ x, w (ix2 d x) = V (896 + x.val)) :
    attAcc1 t s u w (ix2 d ⟨256 + r.val, hr⟩) = ∑ j ∈ range 2176, V j * ((weight P g j : ℝ) : EReal) := by
  pointwise [attAcc1]
  simp only [hs, hu, ht, hw, max_init]
  obtain ⟨j, hj, hP⟩ := hv
  obtain ⟨μ', hμ'⟩ := fold_max_real (Finset.univ : Finset (Fin 896)) (fun x => logit P g x.val) (fun x _ => logit_ne_top P g _)
    ⟨⟨j, by omega⟩, Finset.mem_univ _, by rw [logit, if_pos hP]; exact EReal.coe_ne_bot _⟩
  obtain ⟨μ, hμ⟩ := max_real μ' _ (fold_max_ne_top (Finset.univ : Finset (Fin 256)) (fun x => logit P g (896 + x.val)) fun x _ => logit_ne_top P g _)
  simp only [hμ', hμ]
  refine Eq.trans ?_ (soft_base2 P g (896 + 256) (by omega) hN ⟨j, by omega, hP⟩ V μ)
  rw [Finset.sum_range_add, Finset.sum_range_add, ← Fin.sum_univ_eq_sum_range (fun j => V j * Ideal.exp2 (logit P g j - ((μ : ℝ) : EReal))),
    ← Fin.sum_univ_eq_sum_range (fun j => Ideal.exp2 (logit P g j - ((μ : ℝ) : EReal))),
    ← Fin.sum_univ_eq_sum_range (fun j => V (896 + j) * Ideal.exp2 (logit P g (896 + j) - ((μ : ℝ) : EReal))),
    ← Fin.sum_univ_eq_sum_range (fun j => Ideal.exp2 (logit P g (896 + j) - ((μ : ℝ) : EReal)))]
  rfl

theorem acc2_lo (P : ℕ → Prop) [DecidablePred P] (g : ℕ → ℝ) (V : ℕ → EReal) (hv : ∃ j < 384, P j) (hN : ∀ j, 1408 ≤ j → ¬ P j)
    (t : FVec Ideal S256x256 .f32) (s : FVec Ideal S1408x512 .f32) (u : FVec Ideal S128x1408 .bf16) (w : FVec Ideal S128x256 .bf16)
    (d : Fin 128) (r : Fin 256) (hr : r.val < 512) (hs : ∀ x, s (ix2 x ⟨r.val, hr⟩) = logit P g x.val) (hu : ∀ x, u (ix2 d x) = V x.val) :
    attAcc2 t s u w (ix2 d ⟨r.val, hr⟩) = ∑ j ∈ range 2176, V j * ((weight P g j : ℝ) : EReal) := by
  pointwise [attAcc2]
  simp only [hs, hu, max_init]
  obtain ⟨j, hj, hP⟩ := hv
  obtain ⟨μ, hμ⟩ := fold_max_real (Finset.univ : Finset (Fin 1408)) (fun x => logit P g x.val) (fun x _ => logit_ne_top P g _)
    ⟨⟨j, by omega⟩, Finset.mem_univ _, by rw [logit, if_pos hP]; exact EReal.coe_ne_bot _⟩
  simp only [hμ]
  refine Eq.trans ?_ (soft_base2 P g 1408 (by omega) hN ⟨j, by omega, hP⟩ V μ)
  rw [← Fin.sum_univ_eq_sum_range (fun j => V j * Ideal.exp2 (logit P g j - ((μ : ℝ) : EReal))),
    ← Fin.sum_univ_eq_sum_range (fun j => Ideal.exp2 (logit P g j - ((μ : ℝ) : EReal)))]
  rfl

theorem acc2_hi (P : ℕ → Prop) [DecidablePred P] (g : ℕ → ℝ) (V : ℕ → EReal) (hv : ∃ j < 384, P j) (hN : ∀ j, 1408 + 256 ≤ j → ¬ P j)
    (t : FVec Ideal S256x256 .f32) (s : FVec Ideal S1408x512 .f32) (u : FVec Ideal S128x1408 .bf16) (w : FVec Ideal S128x256 .bf16)
    (d : Fin 128) (r : Fin 256) (hr : 256 + r.val < 512) (hs : ∀ x, s (ix2 x ⟨256 + r.val, hr⟩) = logit P g x.val) (hu : ∀ x, u (ix2 d x) = V x.val)
    (ht : ∀ x, t (ix2 x r) = logit P g (1408 + x.val)) (hw : ∀ x, w (ix2 d x) = V (1408 + x.val)) :
    attAcc2 t s u w (ix2 d ⟨256 + r.val, hr⟩) = ∑ j ∈ range 2176, V j * ((weight P g j : ℝ) : EReal) := by
  pointwise [attAcc2]
  simp only [hs, hu, ht, hw, max_init]
  obtain ⟨j, hj, hP⟩ := hv
  obtain ⟨μ', hμ'⟩ := fold_max_real (Finset.univ : Finset (Fin 1408)) (fun x => logit P g x.val) (fun x _ => logit_ne_top P g _)
    ⟨⟨j, by omega⟩, Finset.mem_univ _, by rw [logit, if_pos hP]; exact EReal.coe_ne_bot _⟩
  obtain ⟨μ, hμ⟩ := max_real μ' _ (fold_max_ne_top (Finset.univ : Finset (Fin 256)) (fun x => logit P g (1408 + x.val)) fun x _ => logit_ne_top P g _)
  simp only [hμ', hμ]
  refine Eq.trans ?_ (soft_base2 P g (1408 + 256) (by omega) hN ⟨j, by omega, hP⟩ V μ)
  rw [Finset.sum_range_add, Finset.sum_range_add, ← Fin.sum_univ_eq_sum_range (fun j => V j * Ideal.exp2 (logit P g j - ((μ : ℝ) : EReal))),
    ← Fin.sum_univ_eq_sum_range (fun j => Ideal.exp2 (logit P g j - ((μ : ℝ) : EReal))),
    ← Fin.sum_univ_eq_sum_range (fun j => V (1408 + j) * Ideal.exp2 (logit P g (1408 + j) - ((μ : ℝ) : EReal))),
    ← Fin.sum_univ_eq_sum_range (fun j => Ideal.exp2 (logit P g (1408 + j) - ((μ : ℝ) : EReal)))]
  rfl

theorem acc3_lo (P : ℕ → Prop) [DecidablePred P] (g : ℕ → ℝ) (V : ℕ → EReal) (hv : ∃ j < 384, P j) (hN : ∀ j, 1920 ≤ j → ¬ P j)
    (t : FVec Ideal S256x256 .f32) (s : FVec Ideal S1920x512 .f32) (u : FVec Ideal S128x1920 .bf16) (w : FVec Ideal S128x256 .bf16)
    (d : Fin 128) (r : Fin 256) (hr : r.val < 512) (hs : ∀ x, s (ix2 x ⟨r.val, hr⟩) = logit P g x.val) (hu : ∀ x, u (ix2 d x) = V x.val) :
    attAcc3 t s u w (ix2 d ⟨r.val, hr⟩) = ∑ j ∈ range 2176, V j * ((weight P g j : ℝ) : EReal) := by
  pointwise [attAcc3]
  simp only [hs, hu, max_init]
  obtain ⟨j, hj, hP⟩ := hv
  obtain ⟨μ, hμ⟩ := fold_max_real (Finset.univ : Finset (Fin 1920)) (fun x => logit P g x.val) (fun x _ => logit_ne_top P g _)
    ⟨⟨j, by omega⟩, Finset.mem_univ _, by rw [logit, if_pos hP]; exact EReal.coe_ne_bot _⟩
  simp only [hμ]
  refine Eq.trans ?_ (soft_base2 P g 1920 (by omega) hN ⟨j, by omega, hP⟩ V μ)
  rw [← Fin.sum_univ_eq_sum_range (fun j => V j * Ideal.exp2 (logit P g j - ((μ : ℝ) : EReal))),
    ← Fin.sum_univ_eq_sum_range (fun j => Ideal.exp2 (logit P g j - ((μ : ℝ) : EReal)))]
  rfl

theorem acc3_hi (P : ℕ → Prop) [DecidablePred P] (g : ℕ → ℝ) (V : ℕ → EReal) (hv : ∃ j < 384, P j) (hN : ∀ j, 1920 + 256 ≤ j → ¬ P j)
    (t : FVec Ideal S256x256 .f32) (s : FVec Ideal S1920x512 .f32) (u : FVec Ideal S128x1920 .bf16) (w : FVec Ideal S128x256 .bf16)
    (d : Fin 128) (r : Fin 256) (hr : 256 + r.val < 512) (hs : ∀ x, s (ix2 x ⟨256 + r.val, hr⟩) = logit P g x.val) (hu : ∀ x, u (ix2 d x) = V x.val)
    (ht : ∀ x, t (ix2 x r) = logit P g (1920 + x.val)) (hw : ∀ x, w (ix2 d x) = V (1920 + x.val)) :
    attAcc3 t s u w (ix2 d ⟨256 + r.val, hr⟩) = ∑ j ∈ range 2176, V j * ((weight P g j : ℝ) : EReal) := by
  pointwise [attAcc3]
  simp only [hs, hu, ht, hw, max_init]
  obtain ⟨j, hj, hP⟩ := hv
  obtain ⟨μ', hμ'⟩ := fold_max_real (Finset.univ : Finset (Fin 1920)) (fun x => logit P g x.val) (fun x _ => logit_ne_top P g _)
    ⟨⟨j, by omega⟩, Finset.mem_univ _, by rw [logit, if_pos hP]; exact EReal.coe_ne_bot _⟩
  obtain ⟨μ, hμ⟩ := max_real μ' _ (fold_max_ne_top (Finset.univ : Finset (Fin 256)) (fun x => logit P g (1920 + x.val)) fun x _ => logit_ne_top P g _)
  simp only [hμ', hμ]
  refine Eq.trans ?_ (soft_base2 P g (1920 + 256) (by omega) hN ⟨j, by omega, hP⟩ V μ)
  rw [Finset.sum_range_add, Finset.sum_range_add, ← Fin.sum_univ_eq_sum_range (fun j => V j * Ideal.exp2 (logit P g j - ((μ : ℝ) : EReal))),
    ← Fin.sum_univ_eq_sum_range (fun j => Ideal.exp2 (logit P g j - ((μ : ℝ) : EReal))),
    ← Fin.sum_univ_eq_sum_range (fun j => V (1920 + j) * Ideal.exp2 (logit P g (1920 + j) - ((μ : ℝ) : EReal))),
    ← Fin.sum_univ_eq_sum_range (fun j => Ideal.exp2 (logit P g (1920 + j) - ((μ : ℝ) : EReal)))]
  rfl

/-- Entry `d` of the value at position `j`. -/
def valAt (l' : ℕ) (v : Vec Ideal S1x2048x256 .bf16) (vm : Vec Ideal S1x128x256 .bf16) (d j : ℕ) : EReal :=
  vtAll v vm (ix2 (Fin.ofNat 256 (l' + d)) (Fin.ofNat 2176 j))

/-- Entry `d` of the attention of query `n`. -/
def attO (l l' : ℕ) (q k : Vec Ideal S1x2048x512 .bf16) (v : Vec Ideal S1x2048x256 .bf16) (km : Vec Ideal S1x128x512 .bf16)
    (vm : Vec Ideal S1x128x256 .bf16) (n d : ℕ) : EReal :=
  ∑ j ∈ range 2176, valAt l' v vm d j * ((weight (seen n) (scoreR l q k km n) j : ℝ) : EReal)

/-- The root-mean-square norm of a row of 128, at entry `d`, before the gain. -/
def rmsRow (o : ℕ → EReal) (d : ℕ) : EReal :=
  o d * Ideal.rsqrt ((∑ x : Fin 128, o x.val * o x.val) * Ideal.ofBits .f32 1006632960#32 + Ideal.ofBits .f32 897988541#32)

theorem fin_at (o : FVec Ideal S128x512 .f32) (g : Vec Ideal S1x1x128 .f32) (r : Fin 512) (d : Fin 128) (O : ℕ → EReal)
    (hO : ∀ x : Fin 128, o (ix2 x r) = O x.val) :
    attFin o g (ix3 0 r d) = rmsRow O d.val * g (ix3 0 0 d) := by
  pointwise [attFin, k0_pay20]
  simp only [hO]
  rfl

section
variable (l l' : ℕ) {q k : Vec Ideal S1x2048x512 .bf16} (v : Vec Ideal S1x2048x256 .bf16) {km : Vec Ideal S1x128x512 .bf16}
    (vm : Vec Ideal S1x128x256 .bf16) (g : Vec Ideal S1x1x256 .f32)
    (hq : AllReal (s := S1x2048x512) q) (hk : AllReal (s := S1x2048x512) k) (hkm : AllReal (s := S1x128x512) km)
include hq hk hkm

theorem tile0_at (y : Fin 512) (d : Fin 128) :
    attTile0 l l' q k v km vm g (ix3 0 y d)
      = rmsRow (attO l l' q k v km vm (0 + y.val)) d.val * g (ix3 0 0 (Fin.ofNat 256 (l' + d.val))) := by
  have hy := y.isLt
  rw [attTile0, fin_at _ _ y d (attO l l' q k v km vm (0 + y.val)), part3_at]
  · rfl
  intro e
  by_cases h : y.val < 256
  · exact acc0_lo (seen (0 + y.val)) _ (valAt l' v vm e.val) ⟨112, by omega, by unfold seen; omega⟩ (fun j hj hs => by have := hs.2; omega) _ _ _ _ e
      ⟨y.val, h⟩ hy (fun x => main0_at l hq hk hkm x y) (fun x => by unfold valAt part2; rw [Nat.zero_add]; rfl)
  · obtain ⟨z, hz, hyz⟩ : ∃ z : ℕ, ∃ hz : z < 256, y = ⟨256 + z, (Nat.add_lt_add_left hz 256 : 256 + z < 256 + 256)⟩ := ⟨y.val - 256, by omega, Fin.ext (show y.val = 256 + (y.val - 256) by omega)⟩
    subst hyz
    exact acc0_hi (seen (0 + (256 + z))) _ (valAt l' v vm e.val) ⟨112, by omega, by unfold seen; omega⟩ (fun j hj hs => by have := hs.2; omega) _ _ _ _ e
      ⟨z, hz⟩ (by show 256 + z < 512; omega) (fun x => main0_at l hq hk hkm x ⟨256 + z, by omega⟩) (fun x => by unfold valAt part2; rw [Nat.zero_add]; rfl)
      (fun x => tail_at l hq hk hkm 0 (by omega) x ⟨z, hz⟩) (fun x => rfl)

theorem tile1_at (y : Fin 512) (d : Fin 128) :
    attTile1 l l' q k v km vm g (ix3 0 y d)
      = rmsRow (attO l l' q k v km vm (512 + y.val)) d.val * g (ix3 0 0 (Fin.ofNat 256 (l' + d.val))) := by
  have hy := y.isLt
  rw [attTile1, fin_at _ _ y d (attO l l' q k v km vm (512 + y.val)), part3_at]
  · rfl
  intro e
  by_cases h : y.val < 256
  · exact acc1_lo (seen (512 + y.val)) _ (valAt l' v vm e.val) ⟨112, by omega, by unfold seen; omega⟩ (fun j hj hs => by have := hs.2; omega) _ _ _ _ e
      ⟨y.val, h⟩ hy (fun x => main1_at l hq hk hkm x y) (fun x => by unfold valAt part2; rw [Nat.zero_add]; rfl)
  · obtain ⟨z, hz, hyz⟩ : ∃ z : ℕ, ∃ hz : z < 256, y = ⟨256 + z, (Nat.add_lt_add_left hz 256 : 256 + z < 256 + 256)⟩ := ⟨y.val - 256, by omega, Fin.ext (show y.val = 256 + (y.val - 256) by omega)⟩
    subst hyz
    exact acc1_hi (seen (512 + (256 + z))) _ (valAt l' v vm e.val) ⟨112, by omega, by unfold seen; omega⟩ (fun j hj hs => by have := hs.2; omega) _ _ _ _ e
      ⟨z, hz⟩ (by show 256 + z < 512; omega) (fun x => main1_at l hq hk hkm x ⟨256 + z, by omega⟩) (fun x => by unfold valAt part2; rw [Nat.zero_add]; rfl)
      (fun x => tail_at l hq hk hkm 512 (by omega) x ⟨z, hz⟩) (fun x => rfl)

theorem tile2_at (y : Fin 512) (d : Fin 128) :
    attTile2 l l' q k v km vm g (ix3 0 y d)
      = rmsRow (attO l l' q k v km vm (1024 + y.val)) d.val * g (ix3 0 0 (Fin.ofNat 256 (l' + d.val))) := by
  have hy := y.isLt
  rw [attTile2, fin_at _ _ y d (attO l l' q k v km vm (1024 + y.val)), part3_at]
  · rfl
  intro e
  by_cases h : y.val < 256
  · exact acc2_lo (seen (1024 + y.val)) _ (valAt l' v vm e.val) ⟨112, by omega, by unfold seen; omega⟩ (fun j hj hs => by have := hs.2; omega) _ _ _ _ e
      ⟨y.val, h⟩ hy (fun x => main2_at l hq hk hkm x y) (fun x => by unfold valAt part2; rw [Nat.zero_add]; rfl)
  · obtain ⟨z, hz, hyz⟩ : ∃ z : ℕ, ∃ hz : z < 256, y = ⟨256 + z, (Nat.add_lt_add_left hz 256 : 256 + z < 256 + 256)⟩ := ⟨y.val - 256, by omega, Fin.ext (show y.val = 256 + (y.val - 256) by omega)⟩
    subst hyz
    exact acc2_hi (seen (1024 + (256 + z))) _ (valAt l' v vm e.val) ⟨112, by omega, by unfold seen; omega⟩ (fun j hj hs => by have := hs.2; omega) _ _ _ _ e
      ⟨z, hz⟩ (by show 256 + z < 512; omega) (fun x => main2_at l hq hk hkm x ⟨256 + z, by omega⟩) (fun x => by unfold valAt part2; rw [Nat.zero_add]; rfl)
      (fun x => tail_at l hq hk hkm 1024 (by omega) x ⟨z, hz⟩) (fun x => rfl)

theorem tile3_at (y : Fin 512) (d : Fin 128) :
    attTile3 l l' q k v km vm g (ix3 0 y d)
      = rmsRow (attO l l' q k v km vm (1536 + y.val)) d.val * g (ix3 0 0 (Fin.ofNat 256 (l' + d.val))) := by
  have hy := y.isLt
  rw [attTile3, fin_at _ _ y d (attO l l' q k v km vm (1536 + y.val)), part3_at]
  · rfl
  intro e
  by_cases h : y.val < 256
  · exact acc3_lo (seen (1536 + y.val)) _ (valAt l' v vm e.val) ⟨112, by omega, by unfold seen; omega⟩ (fun j hj hs => by have := hs.2; omega) _ _ _ _ e
      ⟨y.val, h⟩ hy (fun x => main3_at l hq hk hkm x y) (fun x => by unfold valAt part2; rw [Nat.zero_add]; rfl)
  · obtain ⟨z, hz, hyz⟩ : ∃ z : ℕ, ∃ hz : z < 256, y = ⟨256 + z, (Nat.add_lt_add_left hz 256 : 256 + z < 256 + 256)⟩ := ⟨y.val - 256, by omega, Fin.ext (show y.val = 256 + (y.val - 256) by omega)⟩
    subst hyz
    exact acc3_hi (seen (1536 + (256 + z))) _ (valAt l' v vm e.val) ⟨112, by omega, by unfold seen; omega⟩ (fun j hj hs => by have := hs.2; omega) _ _ _ _ e
      ⟨z, hz⟩ (by show 256 + z < 512; omega) (fun x => main3_at l hq hk hkm x ⟨256 + z, by omega⟩) (fun x => by unfold valAt part2; rw [Nat.zero_add]; rfl)
      (fun x => tail_at l hq hk hkm 1536 (by omega) x ⟨z, hz⟩) (fun x => rfl)
end
end Cert.KernelIdeal.AttnRet
-- ==== Proof.RetSteps.lean ====
module
public import proofs.«01_k».proof.Proof.Blocks
/-! The retention of the kernel, step by step: the state after each chunk and what each chunk stores. -/
@[expose] public section
set_option maxRecDepth 16384
noncomputable section
namespace Cert.KernelIdeal.AttnRet
open Cert.KernelIdeal Cert.KernelIdeal.Gen Cert.KernelIdeal.Gen.kernelRun0_A Idealize.ShloMosaic Idealize.ShloMosaic.TcCoe Idealize.SL.Sem

/-- The lanes of the pair that belong to its first head. -/
noncomputable def lanes0 : IVec S1x256 1 := k0_pay38
/-- The lanes of the pair that belong to its second head. -/
noncomputable def lanes1 : IVec S1x256 1 := cmpi .sge sl.v261 sl.v262

/-- What a chunk's queries collect: from the keys of their own chunk, and from the state before it. -/
def retMix (lg : Vec Ideal S1x128 .f32) (M : IVec S1x256 1) (S : FVec Ideal S128x256 .f32)
    (q k : Vec Ideal S1x256x256 .bf16) (v : Vec Ideal S1x256x128 .bf16) : FVec Ideal S256x128 .f32 :=
  k0_pay40 (k0_pay22 lg) (k0_pay24 lg) S (k0_pay35 q) (k0_pay36 k) (k0_pay37 v) M k0_pay39

/-- The state after a chunk from the state before it. -/
def retNext (lg : Vec Ideal S1x128 .f32) (S : FVec Ideal S128x256 .f32)
    (k : Vec Ideal S1x256x256 .bf16) (v : Vec Ideal S1x256x128 .bf16) : FVec Ideal S128x256 .f32 :=
  k0_pay41 (k0_pay21 lg) k0_pay23 (k0_pay25 lg) S k v

/-- The state after the meta keys. -/
def retInit (lg : Vec Ideal S1x128 .f32) (k : Vec Ideal S1x128x256 .bf16) (v : Vec Ideal S1x128x128 .bf16) :
    FVec Ideal S128x256 .f32 :=
  k0_pay27 (k0_pay21 lg) k0_pay23 (k0_pay26 k) v

/-- Group norm, gain, bias and the gate. -/
def retEmit (o : FVec Ideal S256x128 .f32) (g : Vec Ideal S1x256x128 .bf16) (ng nb : Vec Ideal S1x1x128 .f32) :
    FVec Ideal S1x256x128 .bf16 :=
  k0_pay67 (k0_pay62 g) (k0_pay63 ng) (k0_pay64 nb) (k0_pay65 o) (k0_pay66 o)

/-- The state before chunk `n`, of the head whose values begin at lane `l`. -/
def retState (l : ℕ) (lg : Vec Ideal S1x128 .f32) (k : Vec Ideal S1x2048x256 .bf16) (v : Vec Ideal S1x2048x256 .bf16)
    (km vm : Vec Ideal S1x128x256 .bf16) : ℕ → FVec Ideal S128x256 .f32
  | 0 => retInit lg (part3 0 0 km) (part3 0 l vm)
  | n + 1 => retNext lg (retState l lg k v km vm n) (part3 (256 * n) 0 k) (part3 (256 * n) l v)

/-- What chunk `n` stores for the head whose values begin at lane `l`. -/
def retChunk (l : ℕ) (M : IVec S1x256 1) (lg : Vec Ideal S1x128 .f32) (q k v g : Vec Ideal S1x2048x256 .bf16)
    (km vm : Vec Ideal S1x128x256 .bf16) (ng nb : Vec Ideal S1x1x256 .f32) (n : ℕ) : FVec Ideal S1x256x128 .bf16 :=
  retEmit (retMix lg M (retState l lg k v km vm n) (part3 (256 * n) 0 q) (part3 (256 * n) 0 k) (part3 (256 * n) l v))
    (part3 (256 * n) l g) (part3 0 l ng) (part3 0 l nb)

section
variable (c : Dev nD) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .bf16) (harg14 : arg14.IsWhole) (arg15 : Memref sig .tc .vmem S1x128x256 .bf16) (harg15 : arg15.IsWhole) (arg16 : Memref sig .tc .vmem S1x128x256 .bf16) (harg16 : arg16.IsWhole) (arg17 : Memref sig .tc .vmem S2x8x128 .f32) (harg17 : arg17.IsWhole) (arg18 : Memref sig .tc .vmem S1x1x256 .f32) (harg18 : arg18.IsWhole) (arg19 : Memref sig .tc .vmem S1x1x256 .f32) (harg19 : arg19.IsWhole) (x9 : Vec Ideal S1x2048x256 .bf16) (x10 : Vec Ideal S1x2048x256 .bf16) (x11 : Vec Ideal S1x2048x256 .bf16) (x12 : Vec Ideal S1x2048x256 .bf16) (x13 : Vec Ideal S1x128x256 .bf16) (x14 : Vec Ideal S1x128x256 .bf16) (x15 : Vec Ideal S2x8x128 .f32) (x16 : Vec Ideal S1x1x256 .f32) (x17 : Vec Ideal S1x1x256 .f32)

theorem lg_0 : sl.v155 (F := Ideal) c arg17 harg17 x15 = lgRow 0 x15 := by
  unfold sl.v155
  exact rdlg 0 0 rfl arg17 harg17 x15 _ _ _ (by decide) _

theorem state_0_0 : sl.v195 (F := Ideal) c arg15 harg15 arg16 harg16 arg17 harg17 x13 x14 x15 = retState 0 (lgRow 0 x15) x10 x11 x13 x14 0 := by
  refine Eq.trans (b := retInit (sl.v155 (F := Ideal) c arg17 harg17 x15) _ _) rfl ?_
  rw [rd3, rd3, lg_0]
  rfl

theorem chunk_0_0 : sl.v519 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 0 := by
  refine Eq.trans (b := retEmit (retMix (sl.v155 (F := Ideal) c arg17 harg17 x15) lanes0 (sl.v195 (F := Ideal) c arg15 harg15 arg16 harg16 arg17 harg17 x13 x14 x15) _ _ _) _ _ _) rfl ?_
  rw [rd3, rd3, rd3, rd3, rd3, rd3, lg_0, state_0_0]
  rfl

theorem state_0_1 : sl.v291 (F := Ideal) c arg12 harg12 arg13 harg13 arg15 harg15 arg16 harg16 arg17 harg17 x10 x11 x13 x14 x15 = retState 0 (lgRow 0 x15) x10 x11 x13 x14 1 := by
  refine Eq.trans (b := retNext (sl.v155 (F := Ideal) c arg17 harg17 x15) (sl.v195 (F := Ideal) c arg15 harg15 arg16 harg16 arg17 harg17 x13 x14 x15) _ _) rfl ?_
  rw [rd3, rd3, lg_0, state_0_0]
  rfl

theorem chunk_0_1 : sl.v783 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 1 := by
  refine Eq.trans (b := retEmit (retMix (sl.v155 (F := Ideal) c arg17 harg17 x15) lanes0 (sl.v291 (F := Ideal) c arg12 harg12 arg13 harg13 arg15 harg15 arg16 harg16 arg17 harg17 x10 x11 x13 x14 x15) _ _ _) _ _ _) rfl ?_
  rw [rd3, rd3, rd3, rd3, rd3, rd3, lg_0, state_0_1]
  rfl

theorem state_0_2 : sl.v479 (F := Ideal) c arg12 harg12 arg13 harg13 arg15 harg15 arg16 harg16 arg17 harg17 x10 x11 x13 x14 x15 = retState 0 (lgRow 0 x15) x10 x11 x13 x14 2 := by
  refine Eq.trans (b := retNext (sl.v155 (F := Ideal) c arg17 harg17 x15) (sl.v291 (F := Ideal) c arg12 harg12 arg13 harg13 arg15 harg15 arg16 harg16 arg17 harg17 x10 x11 x13 x14 x15) _ _) rfl ?_
  rw [rd3, rd3, lg_0, state_0_1]
  rfl

theorem chunk_0_2 : sl.v1051 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 2 := by
  refine Eq.trans (b := retEmit (retMix (sl.v155 (F := Ideal) c arg17 harg17 x15) lanes0 (sl.v479 (F := Ideal) c arg12 harg12 arg13 harg13 arg15 harg15 arg16 harg16 arg17 harg17 x10 x11 x13 x14 x15) _ _ _) _ _ _) rfl ?_
  rw [rd3, rd3, rd3, rd3, rd3, rd3, lg_0, state_0_2]
  rfl

theorem state_0_3 : sl.v743 (F := Ideal) c arg12 harg12 arg13 harg13 arg15 harg15 arg16 harg16 arg17 harg17 x10 x11 x13 x14 x15 = retState 0 (lgRow 0 x15) x10 x11 x13 x14 3 := by
  refine Eq.trans (b := retNext (sl.v155 (F := Ideal) c arg17 harg17 x15) (sl.v479 (F := Ideal) c arg12 harg12 arg13 harg13 arg15 harg15 arg16 harg16 arg17 harg17 x10 x11 x13 x14 x15) _ _) rfl ?_
  rw [rd3, rd3, lg_0, state_0_2]
  rfl

theorem chunk_0_3 : sl.v1315 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 3 := by
  refine Eq.trans (b := retEmit (retMix (sl.v155 (F := Ideal) c arg17 harg17 x15) lanes0 (sl.v743 (F := Ideal) c arg12 harg12 arg13 harg13 arg15 harg15 arg16 harg16 arg17 harg17 x10 x11 x13 x14 x15) _ _ _) _ _ _) rfl ?_
  rw [rd3, rd3, rd3, rd3, rd3, rd3, lg_0, state_0_3]
  rfl

theorem state_0_4 : sl.v1011 (F := Ideal) c arg12 harg12 arg13 harg13 arg15 harg15 arg16 harg16 arg17 harg17 x10 x11 x13 x14 x15 = retState 0 (lgRow 0 x15) x10 x11 x13 x14 4 := by
  refine Eq.trans (b := retNext (sl.v155 (F := Ideal) c arg17 harg17 x15) (sl.v743 (F := Ideal) c arg12 harg12 arg13 harg13 arg15 harg15 arg16 harg16 arg17 harg17 x10 x11 x13 x14 x15) _ _) rfl ?_
  rw [rd3, rd3, lg_0, state_0_3]
  rfl

theorem chunk_0_4 : sl.v1583 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 4 := by
  refine Eq.trans (b := retEmit (retMix (sl.v155 (F := Ideal) c arg17 harg17 x15) lanes0 (sl.v1011 (F := Ideal) c arg12 harg12 arg13 harg13 arg15 harg15 arg16 harg16 arg17 harg17 x10 x11 x13 x14 x15) _ _ _) _ _ _) rfl ?_
  rw [rd3, rd3, rd3, rd3, rd3, rd3, lg_0, state_0_4]
  rfl

theorem state_0_5 : sl.v1275 (F := Ideal) c arg12 harg12 arg13 harg13 arg15 harg15 arg16 harg16 arg17 harg17 x10 x11 x13 x14 x15 = retState 0 (lgRow 0 x15) x10 x11 x13 x14 5 := by
  refine Eq.trans (b := retNext (sl.v155 (F := Ideal) c arg17 harg17 x15) (sl.v1011 (F := Ideal) c arg12 harg12 arg13 harg13 arg15 harg15 arg16 harg16 arg17 harg17 x10 x11 x13 x14 x15) _ _) rfl ?_
  rw [rd3, rd3, lg_0, state_0_4]
  rfl

theorem chunk_0_5 : sl.v1824 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 5 := by
  refine Eq.trans (b := retEmit (retMix (sl.v155 (F := Ideal) c arg17 harg17 x15) lanes0 (sl.v1275 (F := Ideal) c arg12 harg12 arg13 harg13 arg15 harg15 arg16 harg16 arg17 harg17 x10 x11 x13 x14 x15) _ _ _) _ _ _) rfl ?_
  rw [rd3, rd3, rd3, rd3, rd3, rd3, lg_0, state_0_5]
  rfl

theorem state_0_6 : sl.v1543 (F := Ideal) c arg12 harg12 arg13 harg13 arg15 harg15 arg16 harg16 arg17 harg17 x10 x11 x13 x14 x15 = retState 0 (lgRow 0 x15) x10 x11 x13 x14 6 := by
  refine Eq.trans (b := retNext (sl.v155 (F := Ideal) c arg17 harg17 x15) (sl.v1275 (F := Ideal) c arg12 harg12 arg13 harg13 arg15 harg15 arg16 harg16 arg17 harg17 x10 x11 x13 x14 x15) _ _) rfl ?_
  rw [rd3, rd3, lg_0, state_0_5]
  rfl

theorem chunk_0_6 : sl.v2049 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 6 := by
  refine Eq.trans (b := retEmit (retMix (sl.v155 (F := Ideal) c arg17 harg17 x15) lanes0 (sl.v1543 (F := Ideal) c arg12 harg12 arg13 harg13 arg15 harg15 arg16 harg16 arg17 harg17 x10 x11 x13 x14 x15) _ _ _) _ _ _) rfl ?_
  rw [rd3, rd3, rd3, rd3, rd3, rd3, lg_0, state_0_6]
  rfl

theorem state_0_7 : sl.v1784 (F := Ideal) c arg12 harg12 arg13 harg13 arg15 harg15 arg16 harg16 arg17 harg17 x10 x11 x13 x14 x15 = retState 0 (lgRow 0 x15) x10 x11 x13 x14 7 := by
  refine Eq.trans (b := retNext (sl.v155 (F := Ideal) c arg17 harg17 x15) (sl.v1543 (F := Ideal) c arg12 harg12 arg13 harg13 arg15 harg15 arg16 harg16 arg17 harg17 x10 x11 x13 x14 x15) _ _) rfl ?_
  rw [rd3, rd3, lg_0, state_0_6]
  rfl

theorem chunk_0_7 : sl.v2166 (F := Ideal) c arg11 harg11 arg12 harg12 arg13 harg13 arg14 harg14 arg15 harg15 arg16 harg16 arg17 harg17 arg18 harg18 arg19 harg19 x9 x10 x11 x12 x13 x14 x15 x16 x17 = retChunk 0 lanes0 (lgRow 0 x15) x9 x10 x11 x12 x13 x14 x16 x17 7 := by
  refine Eq.trans (b := retEmit (retMix (sl.v155 (F := Ideal) c arg17 harg17 x15) lanes0 (sl.v1784 (F := Ideal) c arg12 harg12 arg13 harg13 arg15 harg15 arg16 harg16 arg17 harg17 x10 x11 x13 x14 x15) _ _ _) _ _ _) rfl ?_
  rw [rd3, rd3, rd3, rd3, rd3, rd3, lg_0, state_0_7]
  rfl

theorem lg_1 : sl.v198 (F := Ideal) c arg17 harg17 x15 = lgRow 1 x15 := by
  unfold sl.v198
  exact rdlg 1 1 rfl arg17 harg17 x15 _ _ _ (by decide) _

theorem state_1_0 : sl.v238 (F := Ideal) c arg15 harg15 arg16 harg16 arg17 harg17 x13 x14 x15 = retState 128 (lgRow 1 x15) x10 x11 x13 x14 0 := by
  refine Eq.trans (b := retInit (sl.v198 (F := Ideal) c arg17 harg17 x15) _ _) rfl ?_
  rw [rd3, rd3, lg_1]
  rfl

theorem chunk_1_0 : sl.v612 (F := Ideal) c arg11 harg11 arg12 harg12 arg13 harg13 arg14 harg14 arg15 harg15 arg16 harg16 arg17 harg17 arg18 harg18 arg19 harg19 x9 x10 x11 x12 x13 x14 x15 x16 x17 = retChunk 128 lanes1 (lgRow 1 x15) x9 x10 x11 x12 x13 x14 x16 x17 0 := by
  refine Eq.trans (b := retEmit (retMix (sl.v198 (F := Ideal) c arg17 harg17 x15) lanes1 (sl.v238 (F := Ideal) c arg15 harg15 arg16 harg16 arg17 harg17 x13 x14 x15) _ _ _) _ _ _) rfl ?_
  rw [rd3, rd3, rd3, rd3, rd3, rd3, lg_1, state_1_0]
  rfl

theorem state_1_1 : sl.v344 (F := Ideal) c arg12 harg12 arg13 harg13 arg15 harg15 arg16 harg16 arg17 harg17 x10 x11 x13 x14 x15 = retState 128 (lgRow 1 x15) x10 x11 x13 x14 1 := by
  refine Eq.trans (b := retNext (sl.v198 (F := Ideal) c arg17 harg17 x15) (sl.v238 (F := Ideal) c arg15 harg15 arg16 harg16 arg17 harg17 x13 x14 x15) _ _) rfl ?_
  rw [rd3, rd3, lg_1, state_1_0]
  rfl

theorem chunk_1_1 : k0_pay112 (sl.v838 (F := Ideal) c arg14 harg14 x12) (sl.v576 (F := Ideal) c arg18 harg18 x16) (sl.v578 (F := Ideal) c arg19 harg19 x17) (sl.v848 (F := Ideal) c arg11 harg11 arg12 harg12 arg13 harg13 arg15 harg15 arg16 harg16 arg17 harg17 x9 x10 x11 x13 x14 x15) (sl.v853 (F := Ideal) c arg11 harg11 arg12 harg12 arg13 harg13 arg15 harg15 arg16 harg16 arg17 harg17 x9 x10 x11 x13 x14 x15) = retChunk 128 lanes1 (lgRow 1 x15) x9 x10 x11 x12 x13 x14 x16 x17 1 := by
  refine Eq.trans (b := retEmit (retMix (sl.v198 (F := Ideal) c arg17 harg17 x15) lanes1 (sl.v344 (F := Ideal) c arg12 harg12 arg13 harg13 arg15 harg15 arg16 harg16 arg17 harg17 x10 x11 x13 x14 x15) _ _ _) _ _ _) rfl ?_
  rw [rd3, rd3, rd3, rd3, rd3, rd3, lg_1, state_1_1]
  rfl

theorem state_1_2 : sl.v572 (F := Ideal) c arg12 harg12 arg13 harg13 arg15 harg15 arg16 harg16 arg17 harg17 x10 x11 x13 x14 x15 = retState 128 (lgRow 1 x15) x10 x11 x13 x14 2 := by
  refine Eq.trans (b := retNext (sl.v198 (F := Ideal) c arg17 harg17 x15) (sl.v344 (F := Ideal) c arg12 harg12 arg13 harg13 arg15 harg15 arg16 harg16 arg17 harg17 x10 x11 x13 x14 x15) _ _) rfl ?_
  rw [rd3, rd3, lg_1, state_1_1]
  rfl

theorem chunk_1_2 : k0_pay142 (sl.v1106 (F := Ideal) c arg14 harg14 x12) (sl.v1128 (F := Ideal) c arg11 harg11 arg12 harg12 arg13 harg13 arg15 harg15 arg16 harg16 arg17 harg17 arg18 harg18 x9 x10 x11 x13 x14 x15 x16) (sl.v597 (F := Ideal) c arg19 harg19 x17) = retChunk 128 lanes1 (lgRow 1 x15) x9 x10 x11 x12 x13 x14 x16 x17 2 := by
  refine Eq.trans (b := retEmit (retMix (sl.v198 (F := Ideal) c arg17 harg17 x15) lanes1 (sl.v572 (F := Ideal) c arg12 harg12 arg13 harg13 arg15 harg15 arg16 harg16 arg17 harg17 x10 x11 x13 x14 x15) _ _ _) _ _ _) rfl ?_
  rw [rd3, rd3, rd3, rd3, rd3, rd3, lg_1, state_1_2]
  rfl

theorem state_1_3 : sl.v836 (F := Ideal) c arg12 harg12 arg13 harg13 arg15 harg15 arg16 harg16 arg17 harg17 x10 x11 x13 x14 x15 = retState 128 (lgRow 1 x15) x10 x11 x13 x14 3 := by
  refine Eq.trans (b := retNext (sl.v198 (F := Ideal) c arg17 harg17 x15) (sl.v572 (F := Ideal) c arg12 harg12 arg13 harg13 arg15 harg15 arg16 harg16 arg17 harg17 x10 x11 x13 x14 x15) _ _) rfl ?_
  rw [rd3, rd3, lg_1, state_1_2]
  rfl

theorem chunk_1_3 : k0_pay175 (sl.v1405 (F := Ideal) c arg11 harg11 arg12 harg12 arg13 harg13 arg14 harg14 arg15 harg15 arg16 harg16 arg17 harg17 arg18 harg18 arg19 harg19 x9 x10 x11 x12 x13 x14 x15 x16 x17) = retChunk 128 lanes1 (lgRow 1 x15) x9 x10 x11 x12 x13 x14 x16 x17 3 := by
  refine Eq.trans (b := retEmit (retMix (sl.v198 (F := Ideal) c arg17 harg17 x15) lanes1 (sl.v836 (F := Ideal) c arg12 harg12 arg13 harg13 arg15 harg15 arg16 harg16 arg17 harg17 x10 x11 x13 x14 x15) _ _ _) _ _ _) rfl ?_
  rw [rd3, rd3, rd3, rd3, rd3, rd3, lg_1, state_1_3]
  rfl

theorem state_1_4 : sl.v1104 (F := Ideal) c arg12 harg12 arg13 harg13 arg15 harg15 arg16 harg16 arg17 harg17 x10 x11 x13 x14 x15 = retState 128 (lgRow 1 x15) x10 x11 x13 x14 4 := by
  refine Eq.trans (b := retNext (sl.v198 (F := Ideal) c arg17 harg17 x15) (sl.v836 (F := Ideal) c arg12 harg12 arg13 harg13 arg15 harg15 arg16 harg16 arg17 harg17 x10 x11 x13 x14 x15) _ _) rfl ?_
  rw [rd3, rd3, lg_1, state_1_3]
  rfl

theorem chunk_1_4 : sl.v1676 (F := Ideal) c arg11 harg11 arg12 harg12 arg13 harg13 arg14 harg14 arg15 harg15 arg16 harg16 arg17 harg17 arg18 harg18 arg19 harg19 x9 x10 x11 x12 x13 x14 x15 x16 x17 = retChunk 128 lanes1 (lgRow 1 x15) x9 x10 x11 x12 x13 x14 x16 x17 4 := by
  refine Eq.trans (b := retEmit (retMix (sl.v198 (F := Ideal) c arg17 harg17 x15) lanes1 (sl.v1104 (F := Ideal) c arg12 harg12 arg13 harg13 arg15 harg15 arg16 harg16 arg17 harg17 x10 x11 x13 x14 x15) _ _ _) _ _ _) rfl ?_
  rw [rd3, rd3, rd3, rd3, rd3, rd3, lg_1, state_1_4]
  rfl

theorem state_1_5 : sl.v1368 (F := Ideal) c arg12 harg12 arg13 harg13 arg15 harg15 arg16 harg16 arg17 harg17 x10 x11 x13 x14 x15 = retState 128 (lgRow 1 x15) x10 x11 x13 x14 5 := by
  refine Eq.trans (b := retNext (sl.v198 (F := Ideal) c arg17 harg17 x15) (sl.v1104 (F := Ideal) c arg12 harg12 arg13 harg13 arg15 harg15 arg16 harg16 arg17 harg17 x10 x11 x13 x14 x15) _ _) rfl ?_
  rw [rd3, rd3, lg_1, state_1_4]
  rfl

theorem chunk_1_5 : sl.v1917 (F := Ideal) c arg11 harg11 arg12 harg12 arg13 harg13 arg14 harg14 arg15 harg15 arg16 harg16 arg17 harg17 arg18 harg18 arg19 harg19 x9 x10 x11 x12 x13 x14 x15 x16 x17 = retChunk 128 lanes1 (lgRow 1 x15) x9 x10 x11 x12 x13 x14 x16 x17 5 := by
  refine Eq.trans (b := retEmit (retMix (sl.v198 (F := Ideal) c arg17 harg17 x15) lanes1 (sl.v1368 (F := Ideal) c arg12 harg12 arg13 harg13 arg15 harg15 arg16 harg16 arg17 harg17 x10 x11 x13 x14 x15) _ _ _) _ _ _) rfl ?_
  rw [rd3, rd3, rd3, rd3, rd3, rd3, lg_1, state_1_5]
  rfl

theorem state_1_6 : sl.v1636 (F := Ideal) c arg12 harg12 arg13 harg13 arg15 harg15 arg16 harg16 arg17 harg17 x10 x11 x13 x14 x15 = retState 128 (lgRow 1 x15) x10 x11 x13 x14 6 := by
  refine Eq.trans (b := retNext (sl.v198 (F := Ideal) c arg17 harg17 x15) (sl.v1368 (F := Ideal) c arg12 harg12 arg13 harg13 arg15 harg15 arg16 harg16 arg17 harg17 x10 x11 x13 x14 x15) _ _) rfl ?_
  rw [rd3, rd3, lg_1, state_1_5]
  rfl

theorem chunk_1_6 : sl.v2126 (F := Ideal) c arg11 harg11 arg12 harg12 arg13 harg13 arg14 harg14 arg15 harg15 arg16 harg16 arg17 harg17 arg18 harg18 arg19 harg19 x9 x10 x11 x12 x13 x14 x15 x16 x17 = retChunk 128 lanes1 (lgRow 1 x15) x9 x10 x11 x12 x13 x14 x16 x17 6 := by
  refine Eq.trans (b := retEmit (retMix (sl.v198 (F := Ideal) c arg17 harg17 x15) lanes1 (sl.v1636 (F := Ideal) c arg12 harg12 arg13 harg13 arg15 harg15 arg16 harg16 arg17 harg17 x10 x11 x13 x14 x15) _ _ _) _ _ _) rfl ?_
  rw [rd3, rd3, rd3, rd3, rd3, rd3, lg_1, state_1_6]
  rfl

theorem state_1_7 : sl.v1877 (F := Ideal) c arg12 harg12 arg13 harg13 arg15 harg15 arg16 harg16 arg17 harg17 x10 x11 x13 x14 x15 = retState 128 (lgRow 1 x15) x10 x11 x13 x14 7 := by
  refine Eq.trans (b := retNext (sl.v198 (F := Ideal) c arg17 harg17 x15) (sl.v1636 (F := Ideal) c arg12 harg12 arg13 harg13 arg15 harg15 arg16 harg16 arg17 harg17 x10 x11 x13 x14 x15) _ _) rfl ?_
  rw [rd3, rd3, lg_1, state_1_6]
  rfl

theorem chunk_1_7 : k0_pay1 (sl.r_36 (F := Ideal) c arg11 harg11 arg12 harg12 arg13 harg13 arg14 harg14 arg15 harg15 arg16 harg16 arg17 harg17 arg18 harg18 arg19 harg19 x9 x10 x11 x12 x13 x14 x15 x16 x17) = retChunk 128 lanes1 (lgRow 1 x15) x9 x10 x11 x12 x13 x14 x16 x17 7 := by
  refine Eq.trans (b := retEmit (retMix (sl.v198 (F := Ideal) c arg17 harg17 x15) lanes1 (sl.v1877 (F := Ideal) c arg12 harg12 arg13 harg13 arg15 harg15 arg16 harg16 arg17 harg17 x10 x11 x13 x14 x15) _ _ _) _ _ _) rfl ?_
  rw [rd3, rd3, rd3, rd3, rd3, rd3, lg_1, state_1_7]
  rfl
end
end Cert.KernelIdeal.AttnRet
-- ==== Proof.RetValue.lean ====
module
public import proofs.«01_k».proof.Proof.RetSteps
public import proofs.«01_k».proof.Proof.AttValue
public import Idealize.ShloMosaic.Lib.WordArith
/-! The retention of the kernel at an index: the state by induction over the chunks, then every query against every earlier key. -/
@[expose] public section
set_option maxRecDepth 16384
noncomputable section
namespace Cert.KernelIdeal.AttnRet
open Cert.KernelIdeal Cert.KernelIdeal.Gen Cert.KernelIdeal.Gen.kernelRun0_A Idealize.ShloMosaic Idealize.ShloMosaic.TcCoe Idealize.SL.Sem
open Cert.AttnRetMath
open Finset (range)

/-- How far a key `t` positions back is decayed; a later key counts nothing. -/
def dec (γ t : ℝ) : ℝ := if 0 ≤ t then Real.exp (t * γ) else 0

theorem lit_127 : Ideal.ofBits FTy.f32 1123942400#32 = ((127 : ℝ) : EReal) := by
  simp [Ideal.ofBits, Ideal.ieee, -EReal.coe_mul]; norm_num
theorem lit_255 : Ideal.ofBits FTy.f32 1132396544#32 = ((255 : ℝ) : EReal) := by
  simp [Ideal.ofBits, Ideal.ieee, -EReal.coe_mul]; norm_num
theorem lit_256 : Ideal.ofBits FTy.f32 1132462080#32 = ((256 : ℝ) : EReal) := by
  simp [Ideal.ofBits, Ideal.ieee, -EReal.coe_mul]; norm_num

theorem float_nat (n : ℕ) (h : n < 2 ^ 31) : (FloatOps.sitofp (F := Ideal) FTy.f32 (BitVec.ofNat 32 n)) = ((n : ℝ) : EReal) := by
  show (((BitVec.ofNat 32 n).toInt : ℝ) : EReal) = _
  rw [WordCmp.toInt_ofNat_of_lt (by omega)]
  norm_cast

theorem float_diff (a b : ℕ) (ha : a < 2 ^ 31) (hb : b < 2 ^ 31) :
    (FloatOps.sitofp (F := Ideal) FTy.f32 (IntOp.subi (BitVec.ofNat 32 a) (BitVec.ofNat 32 b))) = (((a : ℝ) - (b : ℝ) : ℝ) : EReal) := by
  show (((IntOp.subi (BitVec.ofNat 32 a) (BitVec.ofNat 32 b)).toInt : ℝ) : EReal) = _
  have ea : (BitVec.ofNat 32 a).toInt = (a : ℤ) := WordCmp.toInt_ofNat_of_lt (by omega)
  have eb : (BitVec.ofNat 32 b).toInt = (b : ℤ) := WordCmp.toInt_ofNat_of_lt (by omega)
  rw [WordArith.toInt_subi_of_nonneg _ _ (by omega) (by omega), ea, eb]
  norm_cast

/-- The decay as the programs compute it: of a difference `t`, nothing where it is negative. -/
theorem dec_eq (γ t : ℝ) : (if (0 : EReal) ≤ ((t : ℝ) : EReal) then Ideal.exp (max ((t : ℝ) : EReal) 0 * ((γ : ℝ) : EReal)) else 0)
    = ((dec γ t : ℝ) : EReal) := by
  unfold dec
  by_cases h : 0 ≤ t
  · rw [if_pos (EReal.coe_nonneg.mpr h), if_pos h, max_eq_left (EReal.coe_nonneg.mpr h), ← EReal.coe_mul, Ideal.exp_coe]
  · rw [if_neg (fun h' => h (EReal.coe_nonneg.mp h')), if_neg h, EReal.coe_zero]

section
variable {lg : Vec Ideal S1x128 .f32} {γ : ℝ} (hlg : ∀ d : Fin 128, lg (ix2 0 d) = ((γ : ℝ) : EReal))
include hlg

theorem decay_at (r x : Fin 256) : k0_pay22 lg (ix2 r x) = ((dec γ ((r.val : ℝ) - (x.val : ℝ)) : ℝ) : EReal) := by
  have hr := r.isLt
  have hx := x.isLt
  pointwise [k0_pay22, k0_pay21]
  simp only [hlg, dite_eq_ite, ite_self]
  rw [float_diff _ _ (by omega) (by omega), dec_eq]

theorem since_at (r : Fin 256) (d : Fin 128) : k0_pay24 lg (ix2 r d) = ((Real.exp (((r.val : ℝ) + 1) * γ) : ℝ) : EReal) := by
  have hr := r.isLt
  pointwise [k0_pay24, k0_pay23, k0_pay21]
  rw [float_nat _ (by omega), hlg, ← EReal.coe_one, ← EReal.coe_add, ← EReal.coe_mul, Ideal.exp_coe]

theorem init_at (k : Vec Ideal S1x128x256 .bf16) (v : Vec Ideal S1x128x128 .bf16) (K : ℕ → ℝ) (V : ℕ → ℝ) (d : Fin 128) (c : Fin 256)
    (hk : ∀ x : Fin 128, k (ix3 0 x c) = ((K x.val : ℝ) : EReal)) (hv : ∀ x : Fin 128, v (ix3 0 x d) = ((V x.val : ℝ) : EReal)) :
    retInit lg k v (ix2 d c) = ((∑ m ∈ range 128, V m * Real.exp ((127 - (m : ℝ)) * γ) * K m : ℝ) : EReal) := by
  pointwise [retInit, k0_pay27, k0_pay26, k0_pay23, k0_pay21]
  rw [← Fin.sum_univ_eq_sum_range (fun m => V m * Real.exp ((127 - (m : ℝ)) * γ) * K m), coe_sum]
  refine Finset.sum_congr rfl fun x _ => ?_
  have hx := x.isLt
  rw [hk, hv, lit_127, float_nat _ (by omega), hlg, ← EReal.coe_sub, ← EReal.coe_mul, Ideal.exp_coe, ← EReal.coe_mul, ← EReal.coe_mul]

theorem next_at (S : FVec Ideal S128x256 .f32) (k : Vec Ideal S1x256x256 .bf16) (v : Vec Ideal S1x256x128 .bf16) (σ : ℝ) (K : ℕ → ℝ) (V : ℕ → ℝ)
    (d : Fin 128) (c : Fin 256) (hS : S (ix2 d c) = ((σ : ℝ) : EReal))
    (hk : ∀ x : Fin 256, k (ix3 0 x c) = ((K x.val : ℝ) : EReal)) (hv : ∀ x : Fin 256, v (ix3 0 x d) = ((V x.val : ℝ) : EReal)) :
    retNext lg S k v (ix2 d c)
      = ((σ * Real.exp (256 * γ) + ∑ m ∈ range 256, V m * Real.exp ((255 - (m : ℝ)) * γ) * K m : ℝ) : EReal) := by
  pointwise [retNext, k0_pay41, k0_pay25, k0_pay23, k0_pay21]
  simp only [hlg, dite_eq_ite, ite_self]
  rw [hS, lit_256, ← EReal.coe_mul, Ideal.exp_coe, ← EReal.coe_mul, EReal.coe_add,
    ← Fin.sum_univ_eq_sum_range (fun m => V m * Real.exp ((255 - (m : ℝ)) * γ) * K m), coe_sum]
  refine congrArg _ (Finset.sum_congr rfl fun x _ => ?_)
  have hx := x.isLt
  rw [hk, hv, lit_255, float_nat _ (by omega), ← EReal.coe_sub, ← EReal.coe_mul, Ideal.exp_coe, ← EReal.coe_mul, ← EReal.coe_mul]

theorem mix_at (M : IVec S1x256 1) (S : FVec Ideal S128x256 .f32) (q k : Vec Ideal S1x256x256 .bf16) (v : Vec Ideal S1x256x128 .bf16)
    (P : Fin 256 → Prop) [DecidablePred P] (hM : ∀ c, M (ix2 0 c) = if P c then 1#1 else 0#1)
    (σ Q : Fin 256 → ℝ) (K : ℕ → Fin 256 → ℝ) (V : ℕ → ℝ) (r : Fin 256) (d : Fin 128)
    (hS : ∀ c, S (ix2 d c) = ((σ c : ℝ) : EReal)) (hq : ∀ c, q (ix3 0 r c) = ((Q c : ℝ) : EReal))
    (hk : ∀ (x : Fin 256) c, k (ix3 0 x c) = ((K x.val c : ℝ) : EReal)) (hv : ∀ x : Fin 256, v (ix3 0 x d) = ((V x.val : ℝ) : EReal)) :
    retMix lg M S q k v (ix2 r d)
      = ((∑ m ∈ range 256, (∑ c : Fin 256, if P c then Q c * K m c else 0) * dec γ ((r.val : ℝ) - (m : ℝ)) * V m
          + (∑ c : Fin 256, if P c then Q c * σ c else 0) * Real.exp (((r.val : ℝ) + 1) * γ) : ℝ) : EReal) := by
  have hsel : ∀ (c : Fin 256) (a b : ℝ), Scalar.select (M (ix2 0 c)) (((a : ℝ) : EReal) * ((b : ℝ) : EReal)) 0
      = (((if P c then a * b else 0 : ℝ)) : EReal) := by
    intro c a b
    rw [hM]
    by_cases h : P c
    · rw [if_pos h, if_pos h, EReal.coe_mul]; rfl
    · rw [if_neg h, if_neg h, EReal.coe_zero]; rfl
  pointwise [retMix, k0_pay40, k0_pay39, k0_pay35, k0_pay36, k0_pay37]
  simp only [hq, hk, hv, hS, hsel, decay_at hlg, since_at hlg]
  rw [EReal.coe_add, EReal.coe_mul, ← Fin.sum_univ_eq_sum_range
    (fun m => (∑ c : Fin 256, if P c then Q c * K m c else 0) * dec γ ((r.val : ℝ) - (m : ℝ)) * V m)]
  simp only [coe_sum, EReal.coe_mul]
end

/-- Entry `c` of the pair's key at position `m`: the meta keys come first. -/
def retK (k : Vec Ideal S1x2048x256 .bf16) (km : Vec Ideal S1x128x256 .bf16) (m : ℕ) (c : Fin 256) : EReal :=
  if m < 128 then km (ix3 0 (Fin.ofNat 128 m) c) else k (ix3 0 (Fin.ofNat 2048 (m - 128)) c)

section
variable (l : ℕ) {lg : Vec Ideal S1x128 .f32} {γ : ℝ} (hlg : ∀ d : Fin 128, lg (ix2 0 d) = ((γ : ℝ) : EReal))
  {q k v : Vec Ideal S1x2048x256 .bf16} {km vm : Vec Ideal S1x128x256 .bf16}
  (hq : AllReal (s := S1x2048x256) q) (hk : AllReal (s := S1x2048x256) k) (hv : AllReal (s := S1x2048x256) v)
  (hkm : AllReal (s := S1x128x256) km) (hvm : AllReal (s := S1x128x256) vm)

theorem to_real {x : EReal} (h : ∃ r : ℝ, x = ((r : ℝ) : EReal)) : x = ((x.toReal : ℝ) : EReal) := by
  obtain ⟨r, rfl⟩ := h
  rw [EReal.toReal_coe]

theorem retK_real (hk : AllReal (s := S1x2048x256) k) (hkm : AllReal (s := S1x128x256) km) (m : ℕ) (c : Fin 256) :
    ∃ r : ℝ, retK k km m c = ((r : ℝ) : EReal) := by
  unfold retK
  split
  · exact hkm _
  · exact hk _

theorem meta_part (l x a : ℕ) (h : x < 128) (hx : x < 128) (c : Fin a) :
    (part3 0 l km : Vec Ideal ⟨3, ![1, 128, a]⟩ .bf16) (ix3 0 ⟨x, hx⟩ c) = retK k km x (Fin.ofNat 256 (l + c.val)) := by
  rw [retK, if_pos h, part3_at, Nat.zero_add]

theorem chunk_part (l n x a : ℕ) (hx : x < 256) (c : Fin a) (m : ℕ) (hm : m = 128 + 256 * n + x) :
    (part3 (256 * n) l k : Vec Ideal ⟨3, ![1, 256, a]⟩ .bf16) (ix3 0 ⟨x, hx⟩ c) = retK k km m (Fin.ofNat 256 (l + c.val)) := by
  subst hm
  rw [retK, if_neg (by omega), part3_at, show 128 + 256 * n + x - 128 = 256 * n + x by omega]

theorem lane_zero (c : Fin 256) : Fin.ofNat 256 (0 + c.val) = c := Fin.ext (by rw [Fin.val_ofNat, Nat.zero_add]; exact Nat.mod_eq_of_lt c.isLt)

include hlg hk hv hkm hvm

/-- The state before chunk `n` holds every earlier key and value, decayed to the position before the chunk. -/
theorem state_at (n : ℕ) (d : Fin 128) (c : Fin 256) :
    retState l lg k v km vm n (ix2 d c)
      = ((∑ m ∈ range (128 + 256 * n), (retK v vm m (Fin.ofNat 256 (l + d.val))).toReal
          * Real.exp ((127 + 256 * (n : ℝ) - (m : ℝ)) * γ) * (retK k km m c).toReal : ℝ) : EReal) := by
  induction n with
  | zero =>
    rw [retState, init_at hlg _ _ (fun m => (retK k km m c).toReal) (fun m => (retK v vm m (Fin.ofNat 256 (l + d.val))).toReal) d c]
    · simp only [Nat.cast_zero, mul_zero, add_zero]
    · intro x
      rw [← to_real (retK_real hk hkm _ _), ← lane_zero c]
      simpa only [lane_zero] using meta_part 0 x.val 256 x.isLt x.isLt c
    · intro x
      rw [← to_real (retK_real hv hvm _ _)]
      exact meta_part l x.val 128 x.isLt x.isLt d
  | succ n ih =>
    rw [retState, next_at hlg _ _ _ _ (fun x => (retK k km (128 + 256 * n + x) c).toReal)
      (fun x => (retK v vm (128 + 256 * n + x) (Fin.ofNat 256 (l + d.val))).toReal) d c ih]
    · congr 1
      rw [show 128 + 256 * (n + 1) = (128 + 256 * n) + 256 by ring, Finset.sum_range_add _ (128 + 256 * n) 256, Finset.sum_mul]
      congr 1
      · refine Finset.sum_congr rfl fun m _ => ?_
        rw [show (127 + 256 * ((n + 1 : ℕ) : ℝ) - (m : ℝ)) * γ = (127 + 256 * (n : ℝ) - (m : ℝ)) * γ + 256 * γ by push_cast; ring, Real.exp_add]
        ring
      · refine Finset.sum_congr rfl fun m _ => ?_
        rw [show (127 + 256 * ((n + 1 : ℕ) : ℝ) - ((128 + 256 * n + m : ℕ) : ℝ)) = 255 - (m : ℝ) by push_cast; ring]
    · intro x
      rw [← to_real (retK_real hk hkm _ _)]
      have e := chunk_part (k := k) (km := km) 0 n x.val 256 x.isLt c _ rfl
      rwa [lane_zero] at e
    · intro x
      rw [← to_real (retK_real hv hvm _ _)]
      exact chunk_part l n x.val 128 x.isLt d _ rfl

include hq
/-- What query `r` of chunk `n` collects: every key, decayed by its distance, against the query's lanes of the head. -/
theorem all_at (M : IVec S1x256 1) (P : Fin 256 → Prop) [DecidablePred P] (hM : ∀ c, M (ix2 0 c) = if P c then 1#1 else 0#1)
    (n : ℕ) (hn : n < 8) (r : Fin 256) (d : Fin 128) :
    retMix lg M (retState l lg k v km vm n) (part3 (256 * n) 0 q) (part3 (256 * n) 0 k) (part3 (256 * n) l v) (ix2 r d)
      = ((∑ m ∈ range 2176, (∑ c : Fin 256, if P c then (q (ix3 0 (Fin.ofNat 2048 (256 * n + r.val)) c)).toReal * (retK k km m c).toReal else 0)
          * dec γ (128 + 256 * (n : ℝ) + (r.val : ℝ) - (m : ℝ)) * (retK v vm m (Fin.ofNat 256 (l + d.val))).toReal : ℝ) : EReal) := by
  rw [mix_at hlg M _ _ _ _ P hM (fun c => ∑ m ∈ range (128 + 256 * n), (retK v vm m (Fin.ofNat 256 (l + d.val))).toReal
          * Real.exp ((127 + 256 * (n : ℝ) - (m : ℝ)) * γ) * (retK k km m c).toReal)
    (fun c => (q (ix3 0 (Fin.ofNat 2048 (256 * n + r.val)) c)).toReal) (fun x c => (retK k km (128 + 256 * n + x) c).toReal)
    (fun x => (retK v vm (128 + 256 * n + x) (Fin.ofNat 256 (l + d.val))).toReal) r d]
  · congr 1
    have hr := r.isLt
    have hr' : ((r.val : ℕ) : ℝ) < 256 := by exact_mod_cast hr
    obtain ⟨z, hz⟩ : ∃ z, 2176 = (128 + 256 * n) + 256 + z := ⟨2176 - ((128 + 256 * n) + 256), by omega⟩
    rw [hz, Finset.sum_range_add _ (128 + 256 * n + 256) z, Finset.sum_range_add _ (128 + 256 * n) 256]
    have e0 : ∀ m : ℕ, m < z → dec γ (128 + 256 * (n : ℝ) + (r.val : ℝ) - ((128 + 256 * n + 256 + m : ℕ) : ℝ)) = 0 := by
      intro m _
      rw [dec, if_neg]
      push_cast
      have : (0 : ℝ) ≤ (m : ℝ) := Nat.cast_nonneg m
      linarith
    rw [Finset.sum_eq_zero (s := range z) fun m hm => by rw [e0 m (Finset.mem_range.mp hm), mul_zero, zero_mul], add_zero]
    refine (add_comm _ _).trans ?_
    congr 1
    · simp only [Finset.mul_sum]
      have : ∀ c : Fin 256, (if P c then ∑ m ∈ range (128 + 256 * n), (q (ix3 0 (Fin.ofNat 2048 (256 * n + r.val)) c)).toReal *
            ((retK v vm m (Fin.ofNat 256 (l + d.val))).toReal * Real.exp ((127 + 256 * (n : ℝ) - (m : ℝ)) * γ) * (retK k km m c).toReal) else 0)
          = ∑ m ∈ range (128 + 256 * n), (if P c then (q (ix3 0 (Fin.ofNat 2048 (256 * n + r.val)) c)).toReal * (retK k km m c).toReal else 0)
              * ((retK v vm m (Fin.ofNat 256 (l + d.val))).toReal * Real.exp ((127 + 256 * (n : ℝ) - (m : ℝ)) * γ)) := by
        intro c
        by_cases h : P c
        · simp only [if_pos h]
          exact Finset.sum_congr rfl fun m _ => by ring
        · simp only [if_neg h, zero_mul, Finset.sum_const_zero]
      simp only [this]
      rw [Finset.sum_comm, Finset.sum_mul]
      refine Finset.sum_congr rfl fun m hm => ?_
      have hm' : ((m : ℕ) : ℝ) + 1 ≤ 128 + 256 * (n : ℝ) := by exact_mod_cast Finset.mem_range.mp hm
      have hr0 : (0 : ℝ) ≤ (r.val : ℝ) := Nat.cast_nonneg _
      rw [← Finset.sum_mul, dec, if_pos (by linarith),
        show (128 + 256 * (n : ℝ) + (r.val : ℝ) - (m : ℝ)) * γ = (127 + 256 * (n : ℝ) - (m : ℝ)) * γ + ((r.val : ℝ) + 1) * γ by ring, Real.exp_add]
      ring
    · refine Finset.sum_congr rfl fun m _ => ?_
      rw [show (128 + 256 * (n : ℝ) + (r.val : ℝ) - ((128 + 256 * n + m : ℕ) : ℝ)) = (r.val : ℝ) - (m : ℝ) by push_cast; ring]
  · exact fun c => state_at l hlg hk hv hkm hvm n d c
  · intro c
    rw [← to_real (hq _), part3_at]
    exact congrArg q (congrArg (ix3 _ _) (lane_zero c))
  · intro x c
    rw [← to_real (retK_real hk hkm _ _)]
    have e := chunk_part (k := k) (km := km) 0 n x.val 256 x.isLt c _ rfl
    rwa [lane_zero] at e
  · intro x
    rw [← to_real (retK_real hv hvm _ _)]
    exact chunk_part l n x.val 128 x.isLt d _ rfl
end

/-- Group norm of a row of 128 at entry `d`, the gain, the bias and the gate. -/
def gateRow (o : ℕ → EReal) (g ng nb : EReal) (d : ℕ) : EReal :=
  g * Ideal.div 1 (1 + Ideal.exp (0 - g)) *
    ((o d - Ideal.div (∑ x : Fin 128, o x.val) (Ideal.ofBits FTy.f32 1124073472#32)) *
      Ideal.rsqrt (Ideal.div (∑ x : Fin 128,
          (o x.val - Ideal.div (∑ x : Fin 128, o x.val) (Ideal.ofBits FTy.f32 1124073472#32)) *
            (o x.val - Ideal.div (∑ x : Fin 128, o x.val) (Ideal.ofBits FTy.f32 1124073472#32)))
        (Ideal.ofBits FTy.f32 1124073472#32) + Ideal.ofBits FTy.f32 897988541#32) * ng + nb)

theorem emit_at (o : FVec Ideal S256x128 .f32) (g : Vec Ideal S1x256x128 .bf16) (ng nb : Vec Ideal S1x1x128 .f32) (r : Fin 256) (d : Fin 128)
    (O : ℕ → EReal) (hO : ∀ x : Fin 128, o (ix2 r x) = O x.val) :
    retEmit o g ng nb (ix3 0 r d) = gateRow O (g (ix3 0 r d)) (ng (ix3 0 0 d)) (nb (ix3 0 0 d)) d.val := by
  pointwise [retEmit, k0_pay67, k0_pay62, k0_pay63, k0_pay64, k0_pay65, k0_pay66]
  simp only [hO]
  rfl

/-- The lanes of head `e` of the pair. -/
def lane (e : Fin 2) (c : Fin 256) : Prop := (c.val % 128) / 64 = e.val

instance (e : Fin 2) : DecidablePred (lane e) := fun c => inferInstanceAs (Decidable ((c.val % 128) / 64 = e.val))

theorem lanes0_at : ∀ c : Fin 256, lanes0 (ix2 0 c) = if lane 0 c then 1#1 else 0#1 := by decide +kernel
theorem lanes1_at : ∀ c : Fin 256, lanes1 (ix2 0 c) = if lane 1 c then 1#1 else 0#1 := by decide +kernel

/-- The sum over a head's lanes of the pair, as a sum over the 128 lanes of the head. -/
theorem lane_sum (e : Fin 2) (f : ℕ → ℝ) :
    (∑ c : Fin 256, if lane e c then f c.val else 0) = ∑ x : Fin 128, f (x.val / 64 * 128 + e.val * 64 + x.val % 64) := by
  have he := e.isLt
  show (∑ c : Fin 256, if c.val % 128 / 64 = e.val then f c.val else 0) = _
  rw [Fin.sum_univ_eq_sum_range (fun c => if c % 128 / 64 = e.val then f c else 0) 256,
    Fin.sum_univ_eq_sum_range (fun x => f (x / 64 * 128 + e.val * 64 + x % 64)) 128,
    show 256 = 64 + 64 + 64 + 64 from rfl, show 128 = 64 + 64 from rfl, Finset.sum_range_add, Finset.sum_range_add, Finset.sum_range_add,
    Finset.sum_range_add]
  have h : ∀ o : ℕ, o = 0 ∨ o = 64 → (∑ x ∈ range 64, f ((o + x) / 64 * 128 + e.val * 64 + (o + x) % 64))
      = ∑ x ∈ range 64, f (2 * o + e.val * 64 + x) := by
    intro o ho
    refine Finset.sum_congr rfl fun x hx => ?_
    have := Finset.mem_range.mp hx
    congr 1
    rcases ho with rfl | rfl <;> omega
  have t : ∀ o : ℕ, (o % 128 / 64 = e.val) → o % 64 = 0 → (∑ x ∈ range 64, if (o + x) % 128 / 64 = e.val then f (o + x) else 0)
      = ∑ x ∈ range 64, f (o + x) := by
    intro o ho ho'
    refine Finset.sum_congr rfl fun x hx => ?_
    have := Finset.mem_range.mp hx
    rw [if_pos (by omega)]
  have u : ∀ o : ℕ, (o % 128 / 64 ≠ e.val) → o % 64 = 0 → (∑ x ∈ range 64, if (o + x) % 128 / 64 = e.val then f (o + x) else 0) = 0 := by
    intro o ho ho'
    refine Finset.sum_eq_zero fun x hx => ?_
    have := Finset.mem_range.mp hx
    rw [if_neg (by omega)]
  have h0 := h 0 (Or.inl rfl)
  have h1 := h 64 (Or.inr rfl)
  simp only [Nat.zero_add, Nat.mul_zero] at h0
  rw [h0, h1]
  rcases (show e.val = 0 ∨ e.val = 1 by omega) with h | h
  · have a := t 0 (by omega) (by omega)
    have b := u 64 (by omega) (by omega)
    have c := t (64 + 64) (by omega) (by omega)
    have d := u (64 + 64 + 64) (by omega) (by omega)
    simp only [Nat.zero_add] at a
    rw [a, b, c, d, h]
    simp
  · have a := u 0 (by omega) (by omega)
    have b := t 64 (by omega) (by omega)
    have c := u (64 + 64) (by omega) (by omega)
    have d := t (64 + 64 + 64) (by omega) (by omega)
    simp only [Nat.zero_add] at a
    rw [a, b, c, d, h]
    simp
end Cert.KernelIdeal.AttnRet
-- ==== Proof.BlockValue.lean ====
module
public import proofs.«01_k».proof.Proof.AttValue
public import proofs.«01_k».proof.Proof.RetValue
public import proofs.«01_k».proof.Proof.Gen.KernelIdeal.Value
public import Idealize.ShloMosaic.Lib.Pipeline.ValueKit
/-! The five blocks one grid step writes, as functions of the blocks it reads: the stores of the attention and of the retention tile their blocks. -/
@[expose] public section
set_option maxRecDepth 16384
noncomputable section
namespace Cert.KernelIdeal.AttnRet
open Cert.KernelIdeal Cert.KernelIdeal.Gen Cert.KernelIdeal.Gen.kernelRun0_A Idealize.ShloMosaic Idealize.ShloMosaic.TcCoe Idealize.SL.Sem
open Cert.AttnRetMath
open Finset (range)

/-- The attention block: row `y 1`, lane `y 2` of the two heads side by side. -/
noncomputable def attBlock (q k : Vec Ideal S1x2048x512 .bf16) (v : Vec Ideal S1x2048x256 .bf16) (km : Vec Ideal S1x128x512 .bf16)
    (vm : Vec Ideal S1x128x256 .bf16) (g : Vec Ideal S1x1x256 .f32) : Vec Ideal S1x2048x256 .bf16 := fun y =>
  rmsRow (attO (256 * ((y 2).val / 128)) (128 * ((y 2).val / 128)) q k v km vm (y 1).val) ((y 2).val % 128) * g (ix3 0 0 (Fin.ofNat 256 (y 2).val))

/-- Entry `d` of the retention of query `n` in head `e` of the pair: every earlier key, decayed by its distance. -/
noncomputable def retO (e : ℕ) (γ : ℝ) (q k v : Vec Ideal S1x2048x256 .bf16) (km vm : Vec Ideal S1x128x256 .bf16) (n d : ℕ) : EReal :=
  ((∑ m ∈ range 2176, (∑ x : Fin 128, (q (ix3 0 (Fin.ofNat 2048 n) (Fin.ofNat 256 (x.val / 64 * 128 + e * 64 + x.val % 64)))).toReal
        * (retK k km m (Fin.ofNat 256 (x.val / 64 * 128 + e * 64 + x.val % 64))).toReal)
      * dec γ (128 + (n : ℝ) - (m : ℝ)) * (retK v vm m (Fin.ofNat 256 (128 * e + d))).toReal : ℝ) : EReal)

/-- The retention block: row `y 1`, lane `y 2` of the two heads side by side, normed, gained and gated. -/
noncomputable def retBlock (γ : ℕ → ℝ) (q k v g : Vec Ideal S1x2048x256 .bf16) (km vm : Vec Ideal S1x128x256 .bf16)
    (ng nb : Vec Ideal S1x1x256 .f32) : Vec Ideal S1x2048x256 .bf16 := fun y =>
  gateRow (retO ((y 2).val / 128) (γ ((y 2).val / 128)) q k v km vm (y 1).val) (g (ix3 0 (Fin.ofNat 2048 (y 1).val) (Fin.ofNat 256 (y 2).val)))
    (ng (ix3 0 0 (Fin.ofNat 256 (y 2).val))) (nb (ix3 0 0 (Fin.ofNat 256 (y 2).val))) ((y 2).val % 128)

theorem as_ix3 {n m : ℕ} (x : (⟨3, ![1, n, m]⟩ : Shape).Idx) : ∃ (r : Fin n) (d : Fin m), x = ix3 0 r d :=
  ⟨x 1, x 2, (eq_ix3 x).trans (congrArg (fun z => ix3 z (x 1) (x 2)) (Subsingleton.elim (α := Fin 1) _ _))⟩

section
variable {q k v g : Vec Ideal S1x2048x256 .bf16} {km vm : Vec Ideal S1x128x256 .bf16} (ng nb : Vec Ideal S1x1x256 .f32)
  (hq : AllReal (s := S1x2048x256) q) (hk : AllReal (s := S1x2048x256) k) (hv : AllReal (s := S1x2048x256) v)
  (hkm : AllReal (s := S1x128x256) km) (hvm : AllReal (s := S1x128x256) vm) {lg : Vec Ideal S2x8x128 .f32} (γ : ℕ → ℝ)
include hq hk hv hkm hvm

theorem chunk_at (e : Fin 2) (hlg : ∀ d : Fin 128, lg (ix3 e 0 d) = ((γ e.val : ℝ) : EReal)) (M : IVec S1x256 1)
    (hM : ∀ c : Fin 256, M (ix2 0 c) = if lane e c then 1#1 else 0#1) (n : ℕ) (hn : n < 8) (r : Fin 256) (d : Fin 128) (l : ℕ) (hl : l = 128 * e.val) :
    retChunk l M (lgRow e lg) q k v g km vm ng nb n (ix3 0 r d)
      = gateRow (retO e.val (γ e.val) q k v km vm (256 * n + r.val)) (g (ix3 0 (Fin.ofNat 2048 (256 * n + r.val)) (Fin.ofNat 256 (128 * e.val + d.val))))
          (ng (ix3 0 0 (Fin.ofNat 256 (128 * e.val + d.val)))) (nb (ix3 0 0 (Fin.ofNat 256 (128 * e.val + d.val)))) d.val := by
  subst hl
  have hlg' : ∀ d : Fin 128, lgRow e lg (ix2 0 d) = ((γ e.val : ℝ) : EReal) := fun d => by
    rw [← hlg d, lgRow_at]
  rw [retChunk, emit_at _ _ _ _ r d (retO e.val (γ e.val) q k v km vm (256 * n + r.val)), part3_at, part3_at, part3_at]
  · rfl
  intro x
  rw [all_at (128 * e.val) hlg' hq hk hv hkm hvm M (lane e) hM n hn r x, retO]
  congr 1
  refine Finset.sum_congr rfl fun m _ => ?_
  congr 1
  congr 1
  · rw [← lane_sum e fun c => (q (ix3 0 (Fin.ofNat 2048 (256 * n + r.val)) (Fin.ofNat 256 c))).toReal * (retK k km m (Fin.ofNat 256 c)).toReal]
    refine Finset.sum_congr rfl fun c _ => ?_
    rw [show Fin.ofNat 256 c.val = c from Fin.ext (Nat.mod_eq_of_lt c.isLt)]
  · congr 1; push_cast; ring

theorem chunk_in (e : Fin 2) (hlg : ∀ d : Fin 128, lg (ix3 e 0 d) = ((γ e.val : ℝ) : EReal)) (M : IVec S1x256 1)
    (hM : ∀ c : Fin 256, M (ix2 0 c) = if lane e c then 1#1 else 0#1) (n : ℕ) (hn : n < 8) (l : ℕ) (hl : l = 128 * e.val)
    (x : S1x256x128.Idx) (y : S1x2048x256.Idx) (h1 : (y 1).val = 256 * n + (x 1).val) (h2 : (y 2).val = 128 * e.val + (x 2).val) :
    retChunk l M (lgRow e lg) q k v g km vm ng nb n x = retBlock γ q k v g km vm ng nb y := by
  obtain ⟨r, d, rfl⟩ := as_ix3 x
  have hx : d.val < 128 := d.isLt
  replace h1 : (y 1).val = 256 * n + r.val := h1
  replace h2 : (y 2).val = 128 * e.val + d.val := h2
  refine (chunk_at ng nb hq hk hv hkm hvm γ e hlg M hM n hn r d l hl).trans ?_
  rw [retBlock, h1, h2, show (128 * e.val + d.val) / 128 = e.val by omega, show (128 * e.val + d.val) % 128 = d.val by omega]

end

theorem tile_in (q k : Vec Ideal S1x2048x512 .bf16) (v : Vec Ideal S1x2048x256 .bf16) (km : Vec Ideal S1x128x512 .bf16)
    (vm : Vec Ideal S1x128x256 .bf16) (g : Vec Ideal S1x1x256 .f32) (e b : ℕ) (T : FVec Ideal S1x512x128 .bf16) (l l' : ℕ) (hl : l = 256 * e) (hl' : l' = 128 * e)
    (hT : ∀ (y : Fin 512) (d : Fin 128), T (ix3 0 y d) = rmsRow (attO l l' q k v km vm (b + y.val)) d.val * g (ix3 0 0 (Fin.ofNat 256 (l' + d.val))))
    (x : S1x512x128.Idx) (y : S1x2048x256.Idx) (h1 : (y 1).val = b + (x 1).val) (h2 : (y 2).val = l' + (x 2).val) :
    T x = attBlock q k v km vm g y := by
  obtain ⟨r, d, rfl⟩ := as_ix3 x
  have hx : d.val < 128 := d.isLt
  subst hl; subst hl'
  replace h1 : (y 1).val = b + r.val := h1
  replace h2 : (y 2).val = 128 * e + d.val := h2
  refine (hT r d).trans ?_
  rw [attBlock, h1, h2, show (128 * e + d.val) / 128 = e by omega, show (128 * e + d.val) % 128 = d.val by omega]

section
variable (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x256 .bf16) (harg4 : arg4.IsWhole) (arg5 : Memref sig .tc .vmem S1x128x512 .bf16) (harg5 : arg5.IsWhole) (arg6 : Memref sig .tc .vmem S1x128x256 .bf16) (harg6 : arg6.IsWhole) (arg7 : Memref sig .tc .vmem S1x1x256 .f32) (harg7 : arg7.IsWhole) (arg8 : Memref sig .tc .vmem S1x64x1024 .f32) (harg8 : arg8.IsWhole) (arg9 : Memref sig .tc .vmem S1x64x5632 .f32) (harg9 : arg9.IsWhole) (arg10 : Memref sig .tc .vmem S1x176x1024 .f32) (harg10 : arg10.IsWhole) (arg11 : Memref sig .tc .vmem S1x2048x256 .bf16) (harg11 : arg11.IsWhole) (arg12 : Memref sig .tc .vmem S1x2048x256 .bf16) (harg12 : arg12.IsWhole) (arg13 : Memref sig .tc .vmem S1x2048x256 .bf16) (harg13 : arg13.IsWhole) (arg14 : Memref sig .tc .vmem S1x2048x256 .bf16) (harg14 : arg14.IsWhole) (arg15 : Memref sig .tc .vmem S1x128x256 .bf16) (harg15 : arg15.IsWhole) (arg16 : Memref sig .tc .vmem S1x128x256 .bf16) (harg16 : arg16.IsWhole) (arg17 : Memref sig .tc .vmem S2x8x128 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S1x2048x256 .bf16) (harg20 : arg20.IsWhole) (arg21 : Memref sig .tc .vmem S64x1024 .bf16) (harg21 : arg21.IsWhole) (arg22 : Memref sig .tc .vmem S64x5632 .bf16) (harg22 : arg22.IsWhole) (arg23 : Memref sig .tc .vmem S176x1024 .bf16) (harg23 : arg23.IsWhole) (arg24 : Memref sig .tc .vmem S1x2048x256 .bf16) (harg24 : arg24.IsWhole) (arg25 : Memref sig .tc .vmem S256x2176 .bf16) (harg25 : arg25.IsWhole) (x0 : Vec Ideal S1x2048x512 .bf16) (x1 : Vec Ideal S1x2048x512 .bf16) (x2 : Vec Ideal S1x2048x256 .bf16) (x3 : Vec Ideal S1x128x512 .bf16) (x4 : Vec Ideal S1x128x256 .bf16) (x5 : Vec Ideal S1x1x256 .f32) (x6 : Vec Ideal S1x64x1024 .f32) (x7 : Vec Ideal S1x64x5632 .f32) (x8 : Vec Ideal S1x176x1024 .f32) (x9 : Vec Ideal S1x2048x256 .bf16) (x10 : Vec Ideal S1x2048x256 .bf16) (x11 : Vec Ideal S1x2048x256 .bf16) (x12 : Vec Ideal S1x2048x256 .bf16) (x13 : Vec Ideal S1x128x256 .bf16) (x14 : Vec Ideal S1x128x256 .bf16) (x15 : Vec Ideal S2x8x128 .f32) (x16 : Vec Ideal S1x1x256 .f32) (x17 : Vec Ideal S1x1x256 .f32)

set_option maxRecDepth 100000 in
theorem pieces18 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17).1 = ([⟨Rect.unit ![0, 1536, 128] S1x512x128.size (by decide), attTile3 256 128 x0 x1 x2 x3 x4 x5⟩,
    ⟨Rect.unit ![0, 1536, 0] S1x512x128.size (by decide), attTile3 0 0 x0 x1 x2 x3 x4 x5⟩,
    ⟨Rect.unit ![0, 1024, 128] S1x512x128.size (by decide), attTile2 256 128 x0 x1 x2 x3 x4 x5⟩,
    ⟨Rect.unit ![0, 1024, 0] S1x512x128.size (by decide), attTile2 0 0 x0 x1 x2 x3 x4 x5⟩,
    ⟨Rect.unit ![0, 512, 128] S1x512x128.size (by decide), attTile1 256 128 x0 x1 x2 x3 x4 x5⟩,
    ⟨Rect.unit ![0, 512, 0] S1x512x128.size (by decide), attTile1 0 0 x0 x1 x2 x3 x4 x5⟩,
    ⟨Rect.unit ![0, 0, 128] S1x512x128.size (by decide), attTile0 256 128 x0 x1 x2 x3 x4 x5⟩,
    ⟨Rect.unit ![0, 0, 0] S1x512x128.size (by decide), attTile0 0 0 x0 x1 x2 x3 x4 x5⟩] : List (View.Piece (Elt Ideal) S1x2048x256 .bf16)) := by
  refine Eq.trans (b := ([⟨Rect.unit ![0, 1536, 128] S1x512x128.size (by decide), sl.v1972 (F := Ideal) c arg2 harg2 arg3 harg3 arg4 harg4 arg5 harg5 arg6 harg6 arg7 harg7 arg25 x0 x1 x2 x3 x4 x5⟩,
    ⟨Rect.unit ![0, 1536, 0] S1x512x128.size (by decide), sl.v1731 (F := Ideal) c arg2 harg2 arg3 harg3 arg4 harg4 arg5 harg5 arg6 harg6 arg7 harg7 arg25 x0 x1 x2 x3 x4 x5⟩,
    ⟨Rect.unit ![0, 1024, 128] S1x512x128.size (by decide), sl.v1490 (F := Ideal) c arg2 harg2 arg3 harg3 arg4 harg4 arg5 harg5 arg6 harg6 arg7 harg7 arg25 x0 x1 x2 x3 x4 x5⟩,
    ⟨Rect.unit ![0, 1024, 0] S1x512x128.size (by decide), sl.v1222 (F := Ideal) c arg2 harg2 arg3 harg3 arg4 harg4 arg5 harg5 arg6 harg6 arg7 harg7 arg25 x0 x1 x2 x3 x4 x5⟩,
    ⟨Rect.unit ![0, 512, 128] S1x512x128.size (by decide), sl.v958 (F := Ideal) c arg2 harg2 arg3 harg3 arg4 harg4 arg5 harg5 arg6 harg6 arg7 harg7 arg25 x0 x1 x2 x3 x4 x5⟩,
    ⟨Rect.unit ![0, 512, 0] S1x512x128.size (by decide), sl.v690 (F := Ideal) c arg2 harg2 arg3 harg3 arg4 harg4 arg5 harg5 arg6 harg6 arg7 harg7 arg25 x0 x1 x2 x3 x4 x5⟩,
    ⟨Rect.unit ![0, 0, 128] S1x512x128.size (by decide), sl.v426 (F := Ideal) c arg2 harg2 arg3 harg3 arg4 harg4 arg5 harg5 arg6 harg6 arg7 harg7 arg25 x0 x1 x2 x3 x4 x5⟩,
    ⟨Rect.unit ![0, 0, 0] S1x512x128.size (by decide), sl.v152 (F := Ideal) c arg2 harg2 arg3 harg3 arg4 harg4 arg5 harg5 arg6 harg6 arg7 harg7 arg25 x0 x1 x2 x3 x4 x5⟩] : List (View.Piece (Elt Ideal) S1x2048x256 .bf16))) rfl ?_
  rw [tile_1_3, tile_0_3, tile_1_2, tile_0_2, tile_1_1, tile_0_1, tile_1_0, tile_0_0]

set_option maxRecDepth 100000 in
theorem pieces22 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17).2.2.2.2.1 = ([⟨Rect.unit ![0, 1792, 128] S1x256x128.size (by decide), retChunk 128 lanes1 (lgRow 1 x15) x9 x10 x11 x12 x13 x14 x16 x17 7⟩,
    ⟨Rect.unit ![0, 1792, 0] S1x256x128.size (by decide), retChunk 0 lanes0 (lgRow 0 x15) x9 x10 x11 x12 x13 x14 x16 x17 7⟩,
    ⟨Rect.unit ![0, 1536, 128] S1x256x128.size (by decide), retChunk 128 lanes1 (lgRow 1 x15) x9 x10 x11 x12 x13 x14 x16 x17 6⟩,
    ⟨Rect.unit ![0, 1536, 0] S1x256x128.size (by decide), retChunk 0 lanes0 (lgRow 0 x15) x9 x10 x11 x12 x13 x14 x16 x17 6⟩,
    ⟨Rect.unit ![0, 1280, 128] S1x256x128.size (by decide), retChunk 128 lanes1 (lgRow 1 x15) x9 x10 x11 x12 x13 x14 x16 x17 5⟩,
    ⟨Rect.unit ![0, 1280, 0] S1x256x128.size (by decide), retChunk 0 lanes0 (lgRow 0 x15) x9 x10 x11 x12 x13 x14 x16 x17 5⟩,
    ⟨Rect.unit ![0, 1024, 128] S1x256x128.size (by decide), retChunk 128 lanes1 (lgRow 1 x15) x9 x10 x11 x12 x13 x14 x16 x17 4⟩,
    ⟨Rect.unit ![0, 1024, 0] S1x256x128.size (by decide), retChunk 0 lanes0 (lgRow 0 x15) x9 x10 x11 x12 x13 x14 x16 x17 4⟩,
    ⟨Rect.unit ![0, 768, 128] S1x256x128.size (by decide), retChunk 128 lanes1 (lgRow 1 x15) x9 x10 x11 x12 x13 x14 x16 x17 3⟩,
    ⟨Rect.unit ![0, 768, 0] S1x256x128.size (by decide), retChunk 0 lanes0 (lgRow 0 x15) x9 x10 x11 x12 x13 x14 x16 x17 3⟩,
    ⟨Rect.unit ![0, 512, 128] S1x256x128.size (by decide), retChunk 128 lanes1 (lgRow 1 x15) x9 x10 x11 x12 x13 x14 x16 x17 2⟩,
    ⟨Rect.unit ![0, 512, 0] S1x256x128.size (by decide), retChunk 0 lanes0 (lgRow 0 x15) x9 x10 x11 x12 x13 x14 x16 x17 2⟩,
    ⟨Rect.unit ![0, 256, 128] S1x256x128.size (by decide), retChunk 128 lanes1 (lgRow 1 x15) x9 x10 x11 x12 x13 x14 x16 x17 1⟩,
    ⟨Rect.unit ![0, 256, 0] S1x256x128.size (by decide), retChunk 0 lanes0 (lgRow 0 x15) x9 x10 x11 x12 x13 x14 x16 x17 1⟩,
    ⟨Rect.unit ![0, 0, 128] S1x256x128.size (by decide), retChunk 128 lanes1 (lgRow 1 x15) x9 x10 x11 x12 x13 x14 x16 x17 0⟩,
    ⟨Rect.unit ![0, 0, 0] S1x256x128.size (by decide), retChunk 0 lanes0 (lgRow 0 x15) x9 x10 x11 x12 x13 x14 x16 x17 0⟩] : List (View.Piece (Elt Ideal) S1x2048x256 .bf16)) := by
  refine Eq.trans (b := ([⟨Rect.unit ![0, 1792, 128] S1x256x128.size (by decide), k0_pay1 (sl.r_36 (F := Ideal) c arg11 harg11 arg12 harg12 arg13 harg13 arg14 harg14 arg15 harg15 arg16 harg16 arg17 harg17 arg18 harg18 arg19 harg19 x9 x10 x11 x12 x13 x14 x15 x16 x17)⟩,
    ⟨Rect.unit ![0, 1792, 0] S1x256x128.size (by decide), sl.v2166 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 1536, 128] S1x256x128.size (by decide), sl.v2126 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 1536, 0] S1x256x128.size (by decide), sl.v2049 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 1280, 128] S1x256x128.size (by decide), sl.v1917 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 1280, 0] S1x256x128.size (by decide), sl.v1824 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 1024, 128] S1x256x128.size (by decide), sl.v1676 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 1024, 0] S1x256x128.size (by decide), sl.v1583 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 768, 128] S1x256x128.size (by decide), k0_pay175 (sl.v1405 (F := Ideal) c arg11 harg11 arg12 harg12 arg13 harg13 arg14 harg14 arg15 harg15 arg16 harg16 arg17 harg17 arg18 harg18 arg19 harg19 x9 x10 x11 x12 x13 x14 x15 x16 x17)⟩,
    ⟨Rect.unit ![0, 768, 0] S1x256x128.size (by decide), sl.v1315 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 512, 128] S1x256x128.size (by decide), k0_pay142 (sl.v1106 (F := Ideal) c arg14 harg14 x12) (sl.v1128 (F := Ideal) c arg11 harg11 arg12 harg12 arg13 harg13 arg15 harg15 arg16 harg16 arg17 harg17 arg18 harg18 x9 x10 x11 x13 x14 x15 x16) (sl.v597 (F := Ideal) c arg19 harg19 x17)⟩,
    ⟨Rect.unit ![0, 512, 0] S1x256x128.size (by decide), sl.v1051 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 256, 128] S1x256x128.size (by decide), k0_pay112 (sl.v838 (F := Ideal) c arg14 harg14 x12) (sl.v576 (F := Ideal) c arg18 harg18 x16) (sl.v578 (F := Ideal) c arg19 harg19 x17) (sl.v848 (F := Ideal) c arg11 harg11 arg12 harg12 arg13 harg13 arg15 harg15 arg16 harg16 arg17 harg17 x9 x10 x11 x13 x14 x15) (sl.v853 (F := Ideal) c arg11 harg11 arg12 harg12 arg13 harg13 arg15 harg15 arg16 harg16 arg17 harg17 x9 x10 x11 x13 x14 x15)⟩,
    ⟨Rect.unit ![0, 256, 0] S1x256x128.size (by decide), sl.v783 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 0, 128] S1x256x128.size (by decide), sl.v612 (F := Ideal) c arg11 harg11 arg12 harg12 arg13 harg13 arg14 harg14 arg15 harg15 arg16 harg16 arg17 harg17 arg18 harg18 arg19 harg19 x9 x10 x11 x12 x13 x14 x15 x16 x17⟩,
    ⟨Rect.unit ![0, 0, 0] S1x256x128.size (by decide), sl.v519 (F := Ideal) c arg11 harg11 arg12 harg12 arg13 harg13 arg14 harg14 arg15 harg15 arg16 harg16 arg17 harg17 arg18 harg18 arg19 harg19 x9 x10 x11 x12 x13 x14 x15 x16 x17⟩] : List (View.Piece (Elt Ideal) S1x2048x256 .bf16))) rfl ?_
  rw [chunk_1_7, chunk_0_7, chunk_1_6, chunk_0_6, chunk_1_5, chunk_0_5, chunk_1_4, chunk_0_4, chunk_1_3, chunk_0_3, chunk_1_2, chunk_0_2, chunk_1_1, chunk_0_1, chunk_1_0, chunk_0_0]

theorem block18 (hq : AllReal (s := S1x2048x512) x0) (hk : AllReal (s := S1x2048x512) x1) (hkm : AllReal (s := S1x128x512) x3) (y : S1x2048x256.Idx) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 y = attBlock x0 x1 x2 x3 x4 x5 y := by
  unfold out0_A_18
  rw [View.read_writes_junk_eq_canon]
  refine View.canon_apply_of_pieces (attBlock x0 x1 x2 x3 x4 x5) _ ?_ y (cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 y)
  rw [pieces18]
  simp only [List.forall_mem_cons]
  refine ⟨fun x => tile_in x0 x1 x2 x3 x4 x5 1 1536 _ 256 128 rfl rfl (tile3_at 256 128 x2 x4 x5 hq hk hkm) x _ (by simp [Rect.emb_apply]) (by simp [Rect.emb_apply]), fun x => tile_in x0 x1 x2 x3 x4 x5 0 1536 _ 0 0 rfl rfl (tile3_at 0 0 x2 x4 x5 hq hk hkm) x _ (by simp [Rect.emb_apply]) (by simp [Rect.emb_apply]), fun x => tile_in x0 x1 x2 x3 x4 x5 1 1024 _ 256 128 rfl rfl (tile2_at 256 128 x2 x4 x5 hq hk hkm) x _ (by simp [Rect.emb_apply]) (by simp [Rect.emb_apply]), fun x => tile_in x0 x1 x2 x3 x4 x5 0 1024 _ 0 0 rfl rfl (tile2_at 0 0 x2 x4 x5 hq hk hkm) x _ (by simp [Rect.emb_apply]) (by simp [Rect.emb_apply]), fun x => tile_in x0 x1 x2 x3 x4 x5 1 512 _ 256 128 rfl rfl (tile1_at 256 128 x2 x4 x5 hq hk hkm) x _ (by simp [Rect.emb_apply]) (by simp [Rect.emb_apply]), fun x => tile_in x0 x1 x2 x3 x4 x5 0 512 _ 0 0 rfl rfl (tile1_at 0 0 x2 x4 x5 hq hk hkm) x _ (by simp [Rect.emb_apply]) (by simp [Rect.emb_apply]), fun x => tile_in x0 x1 x2 x3 x4 x5 1 0 _ 256 128 rfl rfl (tile0_at 256 128 x2 x4 x5 hq hk hkm) x _ (by simp [Rect.emb_apply]) (by simp [Rect.emb_apply]), fun x => tile_in x0 x1 x2 x3 x4 x5 0 0 _ 0 0 rfl rfl (tile0_at 0 0 x2 x4 x5 hq hk hkm) x _ (by simp [Rect.emb_apply]) (by simp [Rect.emb_apply]), by simp⟩

theorem block22 (hq : AllReal (s := S1x2048x256) x9) (hk : AllReal (s := S1x2048x256) x10) (hv : AllReal (s := S1x2048x256) x11)
    (hkm : AllReal (s := S1x128x256) x13) (hvm : AllReal (s := S1x128x256) x14) (γ : ℕ → ℝ) (hlg : ∀ (e : Fin 2) (d : Fin 128), x15 (ix3 e 0 d) = ((γ e.val : ℝ) : EReal)) (y : S1x2048x256.Idx) :
    out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 y = retBlock γ x9 x10 x11 x12 x13 x14 x16 x17 y := by
  unfold out0_A_22
  rw [View.read_writes_junk_eq_canon]
  refine View.canon_apply_of_pieces (retBlock γ x9 x10 x11 x12 x13 x14 x16 x17) _ ?_ y (cover0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 y)
  rw [pieces22]
  simp only [List.forall_mem_cons]
  refine ⟨fun x => chunk_in x16 x17 hq hk hv hkm hvm γ 1 (hlg 1) lanes1 lanes1_at 7 (by omega) 128 rfl x _ (by simp [Rect.emb_apply]) (by simp [Rect.emb_apply]), fun x => chunk_in x16 x17 hq hk hv hkm hvm γ 0 (hlg 0) lanes0 lanes0_at 7 (by omega) 0 rfl x _ (by simp [Rect.emb_apply]) (by simp [Rect.emb_apply]), fun x => chunk_in x16 x17 hq hk hv hkm hvm γ 1 (hlg 1) lanes1 lanes1_at 6 (by omega) 128 rfl x _ (by simp [Rect.emb_apply]) (by simp [Rect.emb_apply]), fun x => chunk_in x16 x17 hq hk hv hkm hvm γ 0 (hlg 0) lanes0 lanes0_at 6 (by omega) 0 rfl x _ (by simp [Rect.emb_apply]) (by simp [Rect.emb_apply]), fun x => chunk_in x16 x17 hq hk hv hkm hvm γ 1 (hlg 1) lanes1 lanes1_at 5 (by omega) 128 rfl x _ (by simp [Rect.emb_apply]) (by simp [Rect.emb_apply]), fun x => chunk_in x16 x17 hq hk hv hkm hvm γ 0 (hlg 0) lanes0 lanes0_at 5 (by omega) 0 rfl x _ (by simp [Rect.emb_apply]) (by simp [Rect.emb_apply]), fun x => chunk_in x16 x17 hq hk hv hkm hvm γ 1 (hlg 1) lanes1 lanes1_at 4 (by omega) 128 rfl x _ (by simp [Rect.emb_apply]) (by simp [Rect.emb_apply]), fun x => chunk_in x16 x17 hq hk hv hkm hvm γ 0 (hlg 0) lanes0 lanes0_at 4 (by omega) 0 rfl x _ (by simp [Rect.emb_apply]) (by simp [Rect.emb_apply]), fun x => chunk_in x16 x17 hq hk hv hkm hvm γ 1 (hlg 1) lanes1 lanes1_at 3 (by omega) 128 rfl x _ (by simp [Rect.emb_apply]) (by simp [Rect.emb_apply]), fun x => chunk_in x16 x17 hq hk hv hkm hvm γ 0 (hlg 0) lanes0 lanes0_at 3 (by omega) 0 rfl x _ (by simp [Rect.emb_apply]) (by simp [Rect.emb_apply]), fun x => chunk_in x16 x17 hq hk hv hkm hvm γ 1 (hlg 1) lanes1 lanes1_at 2 (by omega) 128 rfl x _ (by simp [Rect.emb_apply]) (by simp [Rect.emb_apply]), fun x => chunk_in x16 x17 hq hk hv hkm hvm γ 0 (hlg 0) lanes0 lanes0_at 2 (by omega) 0 rfl x _ (by simp [Rect.emb_apply]) (by simp [Rect.emb_apply]), fun x => chunk_in x16 x17 hq hk hv hkm hvm γ 1 (hlg 1) lanes1 lanes1_at 1 (by omega) 128 rfl x _ (by simp [Rect.emb_apply]) (by simp [Rect.emb_apply]), fun x => chunk_in x16 x17 hq hk hv hkm hvm γ 0 (hlg 0) lanes0 lanes0_at 1 (by omega) 0 rfl x _ (by simp [Rect.emb_apply]) (by simp [Rect.emb_apply]), fun x => chunk_in x16 x17 hq hk hv hkm hvm γ 1 (hlg 1) lanes1 lanes1_at 0 (by omega) 128 rfl x _ (by simp [Rect.emb_apply]) (by simp [Rect.emb_apply]), fun x => chunk_in x16 x17 hq hk hv hkm hvm γ 0 (hlg 0) lanes0 lanes0_at 0 (by omega) 0 rfl x _ (by simp [Rect.emb_apply]) (by simp [Rect.emb_apply]), by simp⟩
end
end Cert.KernelIdeal.AttnRet
-- ==== Proof.Arrays.lean ====
module
public import proofs.«01_k».proof.Proof.BlockValue
/-! The five arrays the launch leaves, as functions of the argument arrays. -/
@[expose] public section
set_option maxRecDepth 16384
noncomputable section
namespace Cert.KernelIdeal.AttnRet
open Cert.KernelIdeal Cert.KernelIdeal.Gen Idealize.ShloMosaic Idealize.ShloMosaic.TcCoe Idealize.SL.Sem
open Idealize.ShloMosaic.Pipeline (Dat)
open Cert.AttnRetMath
open Finset (range)

/-- The lanes from `l` on of matrix `b` of a stack. -/
def cut {α : Type} {B n w m : ℕ} [NeZero B] [NeZero w] (b l : ℕ) (x : (⟨3, ![B, n, w]⟩ : Shape).Idx → α) : (⟨3, ![1, n, m]⟩ : Shape).Idx → α :=
  fun i => x (ix3 (Fin.ofNat B b) (i 1) (Fin.ofNat w (l + (i 2).val)))

theorem cut_at {α : Type} {B n w m : ℕ} [NeZero B] [NeZero w] (b l : ℕ) (x : (⟨3, ![B, n, w]⟩ : Shape).Idx → α) (z : Fin 1) (r : Fin n) (d : Fin m) :
    (cut b l x : (⟨3, ![1, n, m]⟩ : Shape).Idx → α) (ix3 z r d) = x (ix3 (Fin.ofNat B b) r (Fin.ofNat w (l + d.val))) := rfl

/-- The attention's array. -/
def attArr (q k : Vec Ideal S8x2048x1024 .bf16) (v : Vec Ideal S8x2048x512 .bf16) (km : Vec Ideal S1x128x1024 .bf16)
    (vm : Vec Ideal S1x128x512 .bf16) (g : Vec Ideal S2x1x4608 .f32) : Vec Ideal S8x2048x512 .bf16 := fun j =>
  attBlock (cut (j 0).val (512 * ((j 2).val / 256)) q) (cut (j 0).val (512 * ((j 2).val / 256)) k) (cut (j 0).val (256 * ((j 2).val / 256)) v)
    (cut 0 (512 * ((j 2).val / 256)) km) (cut 0 (256 * ((j 2).val / 256)) vm) (cut 0 (2048 + 256 * ((j 2).val / 256)) g)
    (ix3 0 (j 1) (Fin.ofNat 256 (j 2).val))

/-- The retention's array. -/
def retArr (lg : Vec Ideal S4 .f32) (q k v g : Vec Ideal S8x2048x512 .bf16) (km vm : Vec Ideal S1x128x512 .bf16) (gn : Vec Ideal S2x1x4608 .f32) :
    Vec Ideal S8x2048x512 .bf16 := fun j =>
  retBlock (fun e => (lg (ix1 (Fin.ofNat 4 (2 * ((j 2).val / 256) + e)))).toReal)
    (cut (j 0).val (256 * ((j 2).val / 256)) q) (cut (j 0).val (256 * ((j 2).val / 256)) k) (cut (j 0).val (256 * ((j 2).val / 256)) v)
    (cut (j 0).val (256 * ((j 2).val / 256)) g) (cut 0 (256 * ((j 2).val / 256)) km) (cut 0 (256 * ((j 2).val / 256)) vm)
    (cut 0 (2560 + 256 * ((j 2).val / 256)) gn) (cut 0 (3072 + 256 * ((j 2).val / 256)) gn) (ix3 0 (j 1) (Fin.ofNat 256 (j 2).val))

/-- Layer 0 of a stack of two matrices. -/
def layer0 {α : Type} {n w : ℕ} (x : (⟨3, ![2, n, w]⟩ : Shape).Idx → α) : (⟨2, ![n, w]⟩ : Shape).Idx → α := fun j => x (ix3 0 (j 0) (j 1))

theorem idx : ∀ t : Fin cfg0.N, win0_0.index t = ![t.val / 2, 0, t.val % 2] ∧ win0_1.index t = ![t.val / 2, 0, t.val % 2] ∧ win0_2.index t = ![t.val / 2, 0, t.val % 2] ∧ win0_3.index t = ![0, 0, t.val % 2] ∧ win0_4.index t = ![0, 0, t.val % 2] ∧ win0_5.index t = ![0, 0, 8 + t.val % 2] ∧ win0_6.index t = ![0, t.val, 0] ∧ win0_7.index t = ![0, t.val, 0] ∧ win0_8.index t = ![0, t.val, 0] ∧ win0_9.index t = ![t.val / 2, 0, t.val % 2] ∧ win0_10.index t = ![t.val / 2, 0, t.val % 2] ∧ win0_11.index t = ![t.val / 2, 0, t.val % 2] ∧ win0_12.index t = ![t.val / 2, 0, t.val % 2] ∧ win0_13.index t = ![0, 0, t.val % 2] ∧ win0_14.index t = ![0, 0, t.val % 2] ∧ win0_15.index t = ![t.val % 2, 0, 0] ∧ win0_16.index t = ![0, 0, 10 + t.val % 2] ∧ win0_17.index t = ![0, 0, 12 + t.val % 2] ∧ win0_18.index t = ![t.val / 2, 0, t.val % 2] ∧ win0_19.index t = ![t.val, 0] ∧ win0_20.index t = ![t.val, 0] ∧ win0_21.index t = ![t.val, 0] ∧ win0_22.index t = ![t.val / 2, 0, t.val % 2] :=
  (by decide +kernel : ∀ t : Fin grid0.N, _)

section
variable (m : (l : Loc nD τ sig) → Buf (Elt Ideal) l) (c : Dev nD) (t : Fin cfg0.N)

theorem in_0 : (iblk m c 0 t : Vec Ideal S1x2048x512 .bf16) = cut (t.val / 2) (512 * (t.val % 2)) (m ((c : Thread nD τ).loc main_arg0)) := by
  have ht : t.val < 16 := t.isLt
  funext y
  obtain ⟨r, d, rfl⟩ := as_ix3 y
  rw [cut_at]
  blk_ext [iblk, V, idx t, Fin.val_ofNat]

theorem in_1 : (iblk m c 1 t : Vec Ideal S1x2048x512 .bf16) = cut (t.val / 2) (512 * (t.val % 2)) (m ((c : Thread nD τ).loc main_arg1)) := by
  have ht : t.val < 16 := t.isLt
  funext y
  obtain ⟨r, d, rfl⟩ := as_ix3 y
  rw [cut_at]
  blk_ext [iblk, V, idx t, Fin.val_ofNat]

theorem in_2 : (iblk m c 2 t : Vec Ideal S1x2048x256 .bf16) = cut (t.val / 2) (256 * (t.val % 2)) (m ((c : Thread nD τ).loc main_arg2)) := by
  have ht : t.val < 16 := t.isLt
  funext y
  obtain ⟨r, d, rfl⟩ := as_ix3 y
  rw [cut_at]
  blk_ext [iblk, V, idx t, Fin.val_ofNat]

theorem in_9 : (iblk m c 9 t : Vec Ideal S1x2048x256 .bf16) = cut (t.val / 2) (256 * (t.val % 2)) (m ((c : Thread nD τ).loc main_arg9)) := by
  have ht : t.val < 16 := t.isLt
  funext y
  obtain ⟨r, d, rfl⟩ := as_ix3 y
  rw [cut_at]
  blk_ext [iblk, V, idx t, Fin.val_ofNat]

theorem in_10 : (iblk m c 10 t : Vec Ideal S1x2048x256 .bf16) = cut (t.val / 2) (256 * (t.val % 2)) (m ((c : Thread nD τ).loc main_arg10)) := by
  have ht : t.val < 16 := t.isLt
  funext y
  obtain ⟨r, d, rfl⟩ := as_ix3 y
  rw [cut_at]
  blk_ext [iblk, V, idx t, Fin.val_ofNat]

theorem in_11 : (iblk m c 11 t : Vec Ideal S1x2048x256 .bf16) = cut (t.val / 2) (256 * (t.val % 2)) (m ((c : Thread nD τ).loc main_arg11)) := by
  have ht : t.val < 16 := t.isLt
  funext y
  obtain ⟨r, d, rfl⟩ := as_ix3 y
  rw [cut_at]
  blk_ext [iblk, V, idx t, Fin.val_ofNat]

theorem in_12 : (iblk m c 12 t : Vec Ideal S1x2048x256 .bf16) = cut (t.val / 2) (256 * (t.val % 2)) (m ((c : Thread nD τ).loc main_arg12)) := by
  have ht : t.val < 16 := t.isLt
  funext y
  obtain ⟨r, d, rfl⟩ := as_ix3 y
  rw [cut_at]
  blk_ext [iblk, V, idx t, Fin.val_ofNat]

theorem in_3 : (iblk m c 3 t : Vec Ideal S1x128x512 .bf16) = cut 0 (512 * (t.val % 2)) (m ((c : Thread nD τ).loc main_arg3)) := by
  have ht : t.val < 16 := t.isLt
  funext y
  obtain ⟨r, d, rfl⟩ := as_ix3 y
  rw [cut_at]
  blk_ext [iblk, V, idx t, Fin.val_ofNat]

theorem in_4 : (iblk m c 4 t : Vec Ideal S1x128x256 .bf16) = cut 0 (256 * (t.val % 2)) (m ((c : Thread nD τ).loc main_arg4)) := by
  have ht : t.val < 16 := t.isLt
  funext y
  obtain ⟨r, d, rfl⟩ := as_ix3 y
  rw [cut_at]
  blk_ext [iblk, V, idx t, Fin.val_ofNat]

theorem in_13 : (iblk m c 13 t : Vec Ideal S1x128x256 .bf16) = cut 0 (256 * (t.val % 2)) (m ((c : Thread nD τ).loc main_arg13)) := by
  have ht : t.val < 16 := t.isLt
  funext y
  obtain ⟨r, d, rfl⟩ := as_ix3 y
  rw [cut_at]
  blk_ext [iblk, V, idx t, Fin.val_ofNat]

theorem in_14 : (iblk m c 14 t : Vec Ideal S1x128x256 .bf16) = cut 0 (256 * (t.val % 2)) (m ((c : Thread nD τ).loc main_arg14)) := by
  have ht : t.val < 16 := t.isLt
  funext y
  obtain ⟨r, d, rfl⟩ := as_ix3 y
  rw [cut_at]
  blk_ext [iblk, V, idx t, Fin.val_ofNat]

theorem in_5 : (iblk m c 5 t : Vec Ideal S1x1x256 .f32) = cut 0 (2048 + 256 * (t.val % 2)) (m ((c : Thread nD τ).loc main_arg5)) := by
  have ht : t.val < 16 := t.isLt
  funext y
  obtain ⟨r, d, rfl⟩ := as_ix3 y
  rw [cut_at]
  blk_ext [iblk, V, idx t, Fin.val_ofNat]

theorem in_16 : (iblk m c 16 t : Vec Ideal S1x1x256 .f32) = cut 0 (2560 + 256 * (t.val % 2)) (m ((c : Thread nD τ).loc main_arg5)) := by
  have ht : t.val < 16 := t.isLt
  funext y
  obtain ⟨r, d, rfl⟩ := as_ix3 y
  rw [cut_at]
  blk_ext [iblk, V, idx t, Fin.val_ofNat]

theorem in_17 : (iblk m c 17 t : Vec Ideal S1x1x256 .f32) = cut 0 (3072 + 256 * (t.val % 2)) (m ((c : Thread nD τ).loc main_arg5)) := by
  have ht : t.val < 16 := t.isLt
  funext y
  obtain ⟨r, d, rfl⟩ := as_ix3 y
  rw [cut_at]
  blk_ext [iblk, V, idx t, Fin.val_ofNat]

theorem log_read (h : Fin 4) (r : Fin 8) (d : Fin 128) : V m c main_v1 (ix3 h r d) = m ((c : Thread nD τ).loc main_arg15) (ix1 h) := by
  entry_read
  pointwise

theorem in_15 (e : Fin 2) (d : Fin 128) : (iblk m c 15 t : Vec Ideal S2x8x128 .f32) (ix3 e 0 d) = m ((c : Thread nD τ).loc main_arg15) (ix1 (Fin.ofNat 4 (2 * (t.val % 2) + e.val))) := by
  have ht : t.val < 16 := t.isLt
  have he := e.isLt
  rw [← log_read m c (Fin.ofNat 4 (2 * (t.val % 2) + e.val)) 0 d]
  blk_ext [iblk, idx t, Fin.val_ofNat]
end

theorem att_point {q k : Vec Ideal S8x2048x1024 .bf16} {v : Vec Ideal S8x2048x512 .bf16} {km : Vec Ideal S1x128x1024 .bf16}
    {vm : Vec Ideal S1x128x512 .bf16} {g : Vec Ideal S2x1x4608 .f32} (b p : ℕ) (y : S1x2048x256.Idx) (j : S8x2048x512.Idx)
    (h0 : (j 0).val = b) (h1 : (j 1).val = (y 1).val) (h2 : (j 2).val = 256 * p + (y 2).val) :
    attBlock (cut b (512 * p) q) (cut b (512 * p) k) (cut b (256 * p) v) (cut 0 (512 * p) km) (cut 0 (256 * p) vm) (cut 0 (2048 + 256 * p) g) y
      = attArr q k v km vm g j := by
  obtain ⟨r, d, rfl⟩ := as_ix3 y
  have hd : d.val < 256 := d.isLt
  replace h1 : j 1 = r := Fin.ext h1
  replace h2 : (j 2).val = 256 * p + d.val := h2
  rw [attArr, h0, h1, h2, show (256 * p + d.val) / 256 = p by omega,
    show Fin.ofNat 256 (256 * p + d.val) = d from Fin.ext (by rw [Fin.val_ofNat]; omega)]

theorem ret_point {lg : Vec Ideal S4 .f32} {q k v g : Vec Ideal S8x2048x512 .bf16} {km vm : Vec Ideal S1x128x512 .bf16} {gn : Vec Ideal S2x1x4608 .f32}
    (b p : ℕ) (y : S1x2048x256.Idx) (j : S8x2048x512.Idx)
    (h0 : (j 0).val = b) (h1 : (j 1).val = (y 1).val) (h2 : (j 2).val = 256 * p + (y 2).val) :
    retBlock (fun e => (lg (ix1 (Fin.ofNat 4 (2 * p + e)))).toReal) (cut b (256 * p) q) (cut b (256 * p) k) (cut b (256 * p) v) (cut b (256 * p) g)
        (cut 0 (256 * p) km) (cut 0 (256 * p) vm) (cut 0 (2560 + 256 * p) gn) (cut 0 (3072 + 256 * p) gn) y
      = retArr lg q k v g km vm gn j := by
  obtain ⟨r, d, rfl⟩ := as_ix3 y
  have hd : d.val < 256 := d.isLt
  replace h1 : j 1 = r := Fin.ext h1
  replace h2 : (j 2).val = 256 * p + d.val := h2
  rw [retArr, h0, h1, h2, show (256 * p + d.val) / 256 = p by omega,
    show Fin.ofNat 256 (256 * p + d.val) = d from Fin.ext (by rw [Fin.val_ofNat]; omega)]

section
variable (m : (l : Loc nD τ sig) → Buf (Elt Ideal) l) (c : Dev nD)

theorem outs18 (t : Fin cfg0.N) (hq : AllReal (s := S8x2048x1024) (m ((c : Thread nD τ).loc main_arg0))) (hk : AllReal (s := S8x2048x1024) (m ((c : Thread nD τ).loc main_arg1))) (hkm : AllReal (s := S1x128x1024) (m ((c : Thread nD τ).loc main_arg3))) (y : S1x2048x256.Idx) :
    (outsAt0 m c t).1 y = attBlock (cut (t.val / 2) (512 * (t.val % 2)) (m ((c : Thread nD τ).loc main_arg0))) (cut (t.val / 2) (512 * (t.val % 2)) (m ((c : Thread nD τ).loc main_arg1))) (cut (t.val / 2) (256 * (t.val % 2)) (m ((c : Thread nD τ).loc main_arg2)))
      (cut 0 (512 * (t.val % 2)) (m ((c : Thread nD τ).loc main_arg3))) (cut 0 (256 * (t.val % 2)) (m ((c : Thread nD τ).loc main_arg4))) (cut 0 (2048 + 256 * (t.val % 2)) (m ((c : Thread nD τ).loc main_arg5))) y := by
  have g0 : AllReal (s := S1x2048x512) (iblk m c 0 t) := by rw [in_0]; exact fun i => hq _
  have g1 : AllReal (s := S1x2048x512) (iblk m c 1 t) := by rw [in_1]; exact fun i => hk _
  have g3 : AllReal (s := S1x128x512) (iblk m c 3 t) := by rw [in_3]; exact fun i => hkm _
  rw [outsAt0]
  dsimp only
  rw [block18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) g0 g1 g3 y, in_0, in_1, in_2, in_3, in_4, in_5]

theorem final18 (hq : AllReal (s := S8x2048x1024) (m ((c : Thread nD τ).loc main_arg0))) (hk : AllReal (s := S8x2048x1024) (m ((c : Thread nD τ).loc main_arg1))) (hkm : AllReal (s := S1x128x1024) (m ((c : Thread nD τ).loc main_arg3))) :
    (dats m 0 c).arrAt 18 (cfgs 0).N = attArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 18 _ (by decide +kernel) fun t _ y => ?_
  have ht : t.val < 16 := t.isLt
  blk_simp
  rw [after0_18]
  refine (outs18 m c t hq hk hkm y).trans ?_
  refine att_point (t.val / 2) (t.val % 2) y _ ?_ ?_ ?_ <;> blk_simp [idx t] <;> idx_bounds y <;> omega

theorem outs22 (t : Fin cfg0.N) (hq : AllReal (s := S8x2048x512) (m ((c : Thread nD τ).loc main_arg9))) (hk : AllReal (s := S8x2048x512) (m ((c : Thread nD τ).loc main_arg10))) (hv : AllReal (s := S8x2048x512) (m ((c : Thread nD τ).loc main_arg11)))
    (hkm : AllReal (s := S1x128x512) (m ((c : Thread nD τ).loc main_arg13))) (hvm : AllReal (s := S1x128x512) (m ((c : Thread nD τ).loc main_arg14))) (hlg : AllReal (s := S4) (m ((c : Thread nD τ).loc main_arg15))) (y : S1x2048x256.Idx) :
    (outsAt0 m c t).2.2.2.2 y = retBlock (fun e => ((m ((c : Thread nD τ).loc main_arg15)) (ix1 (Fin.ofNat 4 (2 * (t.val % 2) + e)))).toReal)
      (cut (t.val / 2) (256 * (t.val % 2)) (m ((c : Thread nD τ).loc main_arg9))) (cut (t.val / 2) (256 * (t.val % 2)) (m ((c : Thread nD τ).loc main_arg10))) (cut (t.val / 2) (256 * (t.val % 2)) (m ((c : Thread nD τ).loc main_arg11))) (cut (t.val / 2) (256 * (t.val % 2)) (m ((c : Thread nD τ).loc main_arg12)))
      (cut 0 (256 * (t.val % 2)) (m ((c : Thread nD τ).loc main_arg13))) (cut 0 (256 * (t.val % 2)) (m ((c : Thread nD τ).loc main_arg14))) (cut 0 (2560 + 256 * (t.val % 2)) (m ((c : Thread nD τ).loc main_arg5))) (cut 0 (3072 + 256 * (t.val % 2)) (m ((c : Thread nD τ).loc main_arg5))) y := by
  have g9 : AllReal (s := S1x2048x256) (iblk m c 9 t) := by rw [in_9]; exact fun i => hq _
  have g10 : AllReal (s := S1x2048x256) (iblk m c 10 t) := by rw [in_10]; exact fun i => hk _
  have g11 : AllReal (s := S1x2048x256) (iblk m c 11 t) := by rw [in_11]; exact fun i => hv _
  have g13 : AllReal (s := S1x128x256) (iblk m c 13 t) := by rw [in_13]; exact fun i => hkm _
  have g14 : AllReal (s := S1x128x256) (iblk m c 14 t) := by rw [in_14]; exact fun i => hvm _
  have g15 : ∀ (e : Fin 2) (d : Fin 128), (iblk m c 15 t : Vec Ideal S2x8x128 .f32) (ix3 e 0 d)
      = (((fun e : ℕ => ((m ((c : Thread nD τ).loc main_arg15)) (ix1 (Fin.ofNat 4 (2 * (t.val % 2) + e)))).toReal) e.val : ℝ) : EReal) := fun e d => by
    rw [in_15]; exact to_real (hlg _)
  rw [outsAt0]
  dsimp only
  rw [block22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) g9 g10 g11 g13 g14 (fun e => ((m ((c : Thread nD τ).loc main_arg15)) (ix1 (Fin.ofNat 4 (2 * (t.val % 2) + e)))).toReal) g15 y, in_9, in_10, in_11, in_12, in_13, in_14, in_16, in_17]

theorem final22 (hq : AllReal (s := S8x2048x512) (m ((c : Thread nD τ).loc main_arg9))) (hk : AllReal (s := S8x2048x512) (m ((c : Thread nD τ).loc main_arg10))) (hv : AllReal (s := S8x2048x512) (m ((c : Thread nD τ).loc main_arg11)))
    (hkm : AllReal (s := S1x128x512) (m ((c : Thread nD τ).loc main_arg13))) (hvm : AllReal (s := S1x128x512) (m ((c : Thread nD τ).loc main_arg14))) (hlg : AllReal (s := S4) (m ((c : Thread nD τ).loc main_arg15))) :
    (dats m 0 c).arrAt 22 (cfgs 0).N = retArr (m ((c : Thread nD τ).loc main_arg15)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg5)) := by
  refine (dats m 0 c).arrAt_eq_of_covers 22 _ (by decide +kernel) fun t _ y => ?_
  have ht : t.val < 16 := t.isLt
  blk_simp
  rw [after0_22]
  refine (outs22 m c t hq hk hv hkm hvm hlg y).trans ?_
  refine ret_point (t.val / 2) (t.val % 2) y _ ?_ ?_ ?_ <;> blk_simp [idx t] <;> idx_bounds y <;> omega

theorem final19 : (dats m 0 c).arrAt 19 (cfgs 0).N = layer0 (m ((c : Thread nD τ).loc main_arg6)) := by
  refine (dats m 0 c).arrAt_eq_of_covers 19 _ (by decide +kernel) fun t _ y => ?_
  have ht : t.val < 16 := t.isLt
  blk_simp
  rw [after0_19]
  unfold outsAt0
  frame_out
  pointwise [k0_pay51, layer0]
  blk_point [iblk, V, idx t]

theorem final20 : (dats m 0 c).arrAt 20 (cfgs 0).N = layer0 (m ((c : Thread nD τ).loc main_arg7)) := by
  refine (dats m 0 c).arrAt_eq_of_covers 20 _ (by decide +kernel) fun t _ y => ?_
  have ht : t.val < 16 := t.isLt
  blk_simp
  rw [after0_20]
  unfold outsAt0
  frame_out
  pointwise [k0_pay120, layer0]
  blk_point [iblk, V, idx t]

theorem final21 : (dats m 0 c).arrAt 21 (cfgs 0).N = layer0 (m ((c : Thread nD τ).loc main_arg8)) := by
  refine (dats m 0 c).arrAt_eq_of_covers 21 _ (by decide +kernel) fun t _ y => ?_
  have ht : t.val < 16 := t.isLt
  blk_simp
  rw [after0_21]
  unfold outsAt0
  frame_out
  pointwise [k0_pay179, layer0]
  blk_point [iblk, V, idx t]
end
end Cert.KernelIdeal.AttnRet
-- ==== Proof.RefAtt.lean ====
module
public import proofs.«01_k».proof.Proof.Gen.ReferenceIdeal.Read
public import Idealize.ShloMosaic.Lib.Pipeline.ValueKit
/-! The attention of the reference at an index: each stage as a plain expression of the stage before. -/
@[expose] public section
set_option maxRecDepth 16384
noncomputable section
namespace Cert.ReferenceIdeal.AttnRef
open Cert.ReferenceIdeal Cert.ReferenceIdeal.Gen Cert.ReferenceIdeal.Read Idealize.ShloMosaic Idealize.ShloMosaic.TcCoe

theorem fin_lit {n v k : ℕ} [NeZero n] (h : v < n) (e : v = k) : (⟨v, h⟩ : Fin n) = Fin.ofNat n k := by
  subst e; exact Fin.ext (Nat.mod_eq_of_lt h).symm

variable (x0 x1 : Vec Ideal S8x2048x1024 .bf16) (x2 : Vec Ideal S8x2048x512 .bf16) (x3 : Vec Ideal S1x128x1024 .bf16) (x4 : Vec Ideal S1x128x512 .bf16) (x5 : Vec Ideal S2x1x4608 .f32)

theorem key_at (b : Fin 8) (j : Fin 2064) (h : Fin 4) (d : Fin 256) :
    val_main_v6 (F := Ideal) x1 x3 (ix4 b j h d)
      = if j.val < 16 then x3 (ix3 0 (Fin.ofNat 128 (112 + j.val)) (Fin.ofNat 1024 (256 * h.val + d.val)))
        else x1 (ix3 b (Fin.ofNat 2048 (j.val - 16)) (Fin.ofNat 1024 (256 * h.val + d.val))) := by
  have hj := j.isLt
  have hh := h.isLt
  have hd := d.isLt
  pointwise [val_main_v6, val_main_v5, val_main_v4, val_main_v3, val_main_v2]
  by_cases hs : j.val < 16
  · rw [dif_pos hs, if_pos hs]
    exact congrArg x3 (congrArg₂ (ix3 0) (fin_lit _ (by omega)) (fin_lit _ (by omega)))
  · rw [dif_neg hs, if_neg hs]
    exact congrArg x1 (congrArg₂ (ix3 b) (fin_lit _ (by omega)) (fin_lit _ (by omega)))

theorem value_at (b : Fin 8) (j : Fin 2064) (h : Fin 4) (d : Fin 128) :
    val_main_v11 (F := Ideal) x2 x4 (ix4 b j h d)
      = if j.val < 16 then x4 (ix3 0 (Fin.ofNat 128 (112 + j.val)) (Fin.ofNat 512 (128 * h.val + d.val)))
        else x2 (ix3 b (Fin.ofNat 2048 (j.val - 16)) (Fin.ofNat 512 (128 * h.val + d.val))) := by
  have hj := j.isLt
  have hh := h.isLt
  have hd := d.isLt
  pointwise [val_main_v11, val_main_v10, val_main_v9, val_main_v8, val_main_v7]
  by_cases hs : j.val < 16
  · rw [dif_pos hs, if_pos hs]
    exact congrArg x4 (congrArg₂ (ix3 0) (fin_lit _ (by omega)) (fin_lit _ (by omega)))
  · rw [dif_neg hs, if_neg hs]
    exact congrArg x2 (congrArg₂ (ix3 b) (fin_lit _ (by omega)) (fin_lit _ (by omega)))

theorem masked_at (b : Fin 8) (h : Fin 4) (n : Fin 2048) (j : Fin 2064) :
    val_main_v22 (F := Ideal) x0 x1 x3 (ix4 b h n j)
      = Scalar.select (IntOp.cmpi .sge (IntOp.addi (BitVec.ofNat 32 n.val) 16#32) (BitVec.ofNat 32 j.val))
          ((∑ c : Fin 256, x0 (ix3 b n (Fin.ofNat 1024 (256 * h.val + c.val))) * val_main_v6 (F := Ideal) x1 x3 (ix4 b j h c)) * Ideal.log (Ideal.ofBits .f32 1073741824#32))
          (Ideal.ofBits .f32 4286578688#32) := by
  have hh := h.isLt
  pointwise [val_main_v22, val_main_call0_v1, val_main_call0_v0, val_main_call0_v2, val_main_v21, val_main_v20, val_main_v19, val_main_v18, val_main_v17, val_main_v16, val_main_v15, val_main_v14, val_main_v13, val_main_v12, val_main_v1, val_main_v0, val_main_c, val_main_cst, val_main_cst_0]
  refine congrArg (fun z => Scalar.select _ (z * _) _) (Finset.sum_congr rfl fun c _ => ?_)
  have hc := c.isLt
  exact congrArg (· * _) (congrArg x0 (congrArg (ix3 b n) (fin_lit _ (by omega))))

theorem row_max (X : FVec Ideal S8x4x2048x2064 .f32) (i : FVec Ideal S_ .f32) (b : Fin 8) (h : Fin 4) (n : Fin 2048) :
    Host.reduce FloatOps.maximumf X i reducesTo_S8x4x2048x2064_S8x4x2048_d3 h_S_ (ix3 b h n)
      = Finset.fold max (i (Shape.Idx.first h_S_)) (fun x : Fin 2064 => X (ix4 b h n x)) Finset.univ := by
  pointwise

theorem max_at (b : Fin 8) (h : Fin 4) (n : Fin 2048) :
    val_main_v25 (F := Ideal) x0 x1 x3 (ix3 b h n)
      = max (Ideal.ofBits .f32 4286578688#32) (Finset.fold max (Ideal.ofBits .f32 4286578688#32) (fun x : Fin 2064 => val_main_v22 (F := Ideal) x0 x1 x3 (ix4 b h n x)) Finset.univ) := by
  rw [val_main_v25_apply, val_main_v24_apply, val_main_v23, row_max]
  rfl

theorem mixed_at (b : Fin 8) (h : Fin 4) (n : Fin 2048) (d : Fin 128) :
    val_main_v35 (F := Ideal) x0 x1 x2 x3 x4 (ix4 b n h d)
      = ∑ x : Fin 2064, val_main_v11 (F := Ideal) x2 x4 (ix4 b x h d) *
        Ideal.div (Ideal.exp (val_main_v22 (F := Ideal) x0 x1 x3 (ix4 b h n x) - val_main_v25 (F := Ideal) x0 x1 x3 (ix3 b h n)))
          (∑ x : Fin 2064, Ideal.exp (val_main_v22 (F := Ideal) x0 x1 x3 (ix4 b h n x) - val_main_v25 (F := Ideal) x0 x1 x3 (ix3 b h n))) := by
  pointwise [val_main_v35, val_main_v34, val_main_v33, val_main_v32, val_main_v31, val_main_v30, val_main_v29, val_main_v28, val_main_v27, val_main_v26, val_main_cst_3]

theorem normed_at (b : Fin 8) (n : Fin 2048) (L : Fin 512) :
    val_main_v53 (F := Ideal) x0 x1 x2 x3 x4 x5 (ix3 b n L)
      = val_main_v35 (F := Ideal) x0 x1 x2 x3 x4 (ix4 b n (Fin.ofNat 4 (L.val / 128)) (Fin.ofNat 128 (L.val % 128))) *
        Ideal.rsqrt
          (Ideal.div (∑ x : Fin 128, val_main_v35 (F := Ideal) x0 x1 x2 x3 x4 (ix4 b n (Fin.ofNat 4 (L.val / 128)) x) * val_main_v35 (F := Ideal) x0 x1 x2 x3 x4 (ix4 b n (Fin.ofNat 4 (L.val / 128)) x))
              (Ideal.ofBits FTy.f32 1124073472#32) + Ideal.ofBits FTy.f32 897988541#32) *
      x5 (ix3 0 0 (Fin.ofNat 4608 (2048 + L.val))) := by
  have hL := L.isLt
  have e1 : Fin.ofNat 4 (L.val / 128) = ⟨L.val / 128, by omega⟩ := (fin_lit (by omega) rfl).symm
  have e2 : Fin.ofNat 128 (L.val % 128) = ⟨L.val % 128, by omega⟩ := (fin_lit (by omega) rfl).symm
  have e3 : Fin.ofNat 4608 (2048 + L.val) = ⟨2048 + L.val, by omega⟩ := (fin_lit (by omega) rfl).symm
  rw [e1, e2, e3]
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_cst_4, val_main_cst_5, val_main_cst_6]

end Cert.ReferenceIdeal.AttnRef
-- ==== Proof.AttEq.lean ====
module
public import proofs.«01_k».proof.Proof.RefAtt
public import proofs.«01_k».proof.Proof.Arrays
/-! The attention of the reference is the attention array of the kernel. -/
@[expose] public section
set_option maxRecDepth 16384
noncomputable section
namespace Cert.KernelIdeal.AttnRet
open Cert.KernelIdeal Idealize.ShloMosaic Idealize.ShloMosaic.TcCoe
open Cert.AttnRetMath Cert.ReferenceIdeal.AttnRef Cert.ReferenceIdeal.Read
open Finset (range)

theorem log_two : Ideal.log (Ideal.ofBits .f32 1073741824#32) = ((Real.log 2 : ℝ) : EReal) := by
  rw [show Ideal.ofBits .f32 1073741824#32 = ((2 : ℝ) : EReal) from by simp [Ideal.ofBits, Ideal.ieee, -EReal.coe_mul]; norm_num,
    Ideal.log_coe, if_neg (by norm_num)]

theorem lit_128 : Ideal.ofBits FTy.f32 1124073472#32 = ((128 : ℝ) : EReal) := by
  simp [Ideal.ofBits, Ideal.ieee, -EReal.coe_mul]; norm_num

theorem lit_inv128 : Ideal.ofBits FTy.f32 1006632960#32 = ((1 / 128 : ℝ) : EReal) := by
  simp [Ideal.ofBits, Ideal.ieee, -EReal.coe_mul]; norm_num

theorem mean_128 (x : EReal) : Ideal.div x (Ideal.ofBits FTy.f32 1124073472#32) = x * Ideal.ofBits FTy.f32 1006632960#32 := by
  rw [lit_128, lit_inv128, Ideal.div_coe (by norm_num)]

theorem ofNat_congr {n a b : ℕ} [NeZero n] (h : a = b) : Fin.ofNat n a = Fin.ofNat n b := by rw [h]

theorem ofNat_self {n : ℕ} [NeZero n] (i : Fin n) : Fin.ofNat n i.val = i := Fin.ext (Nat.mod_eq_of_lt i.isLt)

/-- The pair a head belongs to has its lanes from here on, and the head is at one of two places in it. -/
theorem cut_lane {α : Type} {B n w m : ℕ} [NeZero B] [NeZero w] [NeZero m] (b : Fin B) (l k K : ℕ) (x : (⟨3, ![B, n, w]⟩ : Shape).Idx → α) (z : Fin 1) (r : Fin n)
    (hk : k < m) (hK : l + k = K) : (cut b.val l x : (⟨3, ![1, n, m]⟩ : Shape).Idx → α) (ix3 z r (Fin.ofNat m k)) = x (ix3 b r (Fin.ofNat w K)) := by
  rw [cut_at, ofNat_self, Fin.val_ofNat, Nat.mod_eq_of_lt hk, hK]

theorem cut_lane0 {α : Type} {n w m : ℕ} [NeZero w] [NeZero m] (l k K : ℕ) (x : (⟨3, ![1, n, w]⟩ : Shape).Idx → α) (z : Fin 1) (r : Fin n)
    (hk : k < m) (hK : l + k = K) : (cut 0 l x : (⟨3, ![1, n, m]⟩ : Shape).Idx → α) (ix3 z r (Fin.ofNat m k)) = x (ix3 0 r (Fin.ofNat w K)) :=
  cut_lane 0 l k K x z r hk hK

section
variable {x0 x1 : Vec Ideal S8x2048x1024 .bf16} (x2 : Vec Ideal S8x2048x512 .bf16) {x3 : Vec Ideal S1x128x1024 .bf16} (x4 : Vec Ideal S1x128x512 .bf16) (x5 : Vec Ideal S2x1x4608 .f32)
  (b : Fin 8) (h : Fin 4) (n : Fin 2048)

theorem ref_key (j : Fin 2064) (d : Fin 256) :
    val_main_v6 (F := Ideal) x1 x3 (ix4 b j h d)
      = keyAt (256 * (h.val % 2)) (cut b.val (512 * (h.val / 2)) x1) (cut 0 (512 * (h.val / 2)) x3) (112 + j.val) d.val := by
  have hh := h.isLt
  have hd := d.isLt
  rw [key_at, keyAt]
  by_cases hs : j.val < 16
  · rw [if_pos hs, if_pos (by omega), cut_lane0 (m := 512) _ _ (256 * h.val + d.val) _ _ _ (by omega) (by omega)]
  · rw [if_neg hs, if_neg (by omega), cut_lane (m := 512) b _ _ (256 * h.val + d.val) _ _ _ (by omega) (by omega), ofNat_congr (show 112 + j.val - 128 = j.val - 16 by omega)]

theorem ref_value (j : Fin 2064) (d : Fin 128) :
    val_main_v11 (F := Ideal) x2 x4 (ix4 b j h d)
      = valAt (128 * (h.val % 2)) (cut b.val (256 * (h.val / 2)) x2) (cut 0 (256 * (h.val / 2)) x4) d.val (112 + j.val) := by
  have hh := h.isLt
  have hd := d.isLt
  have hj := j.isLt
  have e : (Fin.ofNat 2176 (112 + j.val)).val = 112 + j.val := Nat.mod_eq_of_lt (by omega)
  rw [value_at, valAt, vtAll, ix2_1, ix2_0, e]
  by_cases hs : j.val < 16
  · rw [if_pos hs, if_pos (by omega), cut_lane0 (m := 256) _ _ (128 * h.val + d.val) _ _ _ (by omega) (by omega)]
  · rw [if_neg hs, if_neg (by omega), cut_lane (m := 256) b _ _ (128 * h.val + d.val) _ _ _ (by omega) (by omega), ofNat_congr (show 112 + j.val - 128 = j.val - 16 by omega)]

theorem ref_score (j : Fin 2064) :
    (∑ c : Fin 256, x0 (ix3 b n (Fin.ofNat 1024 (256 * h.val + c.val))) * val_main_v6 (F := Ideal) x1 x3 (ix4 b j h c))
      = score (256 * (h.val % 2)) (cut b.val (512 * (h.val / 2)) x0) (cut b.val (512 * (h.val / 2)) x1) (cut 0 (512 * (h.val / 2)) x3) n.val (112 + j.val) := by
  have hh := h.isLt
  unfold score
  refine Finset.sum_congr rfl fun c _ => ?_
  have hc := c.isLt
  rw [ref_key, ofNat_self, cut_lane (m := 512) b _ _ (256 * h.val + c.val) _ _ _ (by omega) (by omega), mul_comm]

variable (hq : AllReal (s := S8x2048x1024) x0) (hk : AllReal (s := S8x2048x1024) x1) (hkm : AllReal (s := S1x128x1024) x3)
include hq hk hkm

theorem ref_logit (j : Fin 2064) :
    val_main_v22 (F := Ideal) x0 x1 x3 (ix4 b h n j)
      = if seen n.val (112 + j.val) then ((scoreR (256 * (h.val % 2)) (cut b.val (512 * (h.val / 2)) x0) (cut b.val (512 * (h.val / 2)) x1) (cut 0 (512 * (h.val / 2)) x3) n.val (112 + j.val) * Real.log 2 : ℝ) : EReal) else ⊥ := by
  have hj := j.isLt
  have hn := n.isLt
  have e : seen n.val (112 + j.val) ↔ j.val ≤ n.val + 16 := ⟨fun h => by have := h.2; omega, fun h => ⟨by omega, by omega⟩⟩
  rw [masked_at, show IntOp.addi (BitVec.ofNat 32 n.val) 16#32 = BitVec.ofNat 32 (n.val + 16) from (BitVec.ofNat_add _ _).symm,
    sge_if _ _ (by omega) (by omega), ref_score, log_two, max_init,
    score_real (256 * (h.val % 2)) (cut b.val (512 * (h.val / 2)) x0) (cut b.val (512 * (h.val / 2)) x1) (cut 0 (512 * (h.val / 2)) x3) (fun i => hq _) (fun i => hk _) (fun i => hkm _), EReal.coe_mul]
  simp only [e]

theorem ref_max : ∃ μ : ℝ, val_main_v25 (F := Ideal) x0 x1 x3 (ix3 b h n) = ((μ : ℝ) : EReal) := by
  rw [max_at, max_init, max_eq_right bot_le]
  refine fold_max_real _ _ (fun j _ => ?_) ⟨0, Finset.mem_univ _, ?_⟩
  · rw [ref_logit b h n hq hk hkm]
    split
    · exact EReal.coe_ne_top _
    · exact bot_ne_top
  · rw [ref_logit b h n hq hk hkm, if_pos ⟨by omega, by show 112 + 0 ≤ _; omega⟩]
    exact EReal.coe_ne_bot _

theorem ref_mixed (d : Fin 128) :
    val_main_v35 (F := Ideal) x0 x1 x2 x3 x4 (ix4 b n h d)
      = attO (256 * (h.val % 2)) (128 * (h.val % 2)) (cut b.val (512 * (h.val / 2)) x0) (cut b.val (512 * (h.val / 2)) x1) (cut b.val (256 * (h.val / 2)) x2)
          (cut 0 (512 * (h.val / 2)) x3) (cut 0 (256 * (h.val / 2)) x4) n.val d.val := by
  have hn := n.isLt
  obtain ⟨μ, hμ⟩ := ref_max b h n hq hk hkm
  rw [mixed_at, hμ]
  set g := scoreR (256 * (h.val % 2)) (cut b.val (512 * (h.val / 2)) x0) (cut b.val (512 * (h.val / 2)) x1) (cut 0 (512 * (h.val / 2)) x3) n.val with hg
  set V := valAt (128 * (h.val % 2)) (cut b.val (256 * (h.val / 2)) x2) (cut 0 (256 * (h.val / 2)) x4) d.val with hV
  set x : ℕ → EReal := fun j => if seen n.val (112 + j) then ((g (112 + j) * Real.log 2 : ℝ) : EReal) else ⊥ with hx
  have ex : ∀ j : Fin 2064, val_main_v22 (F := Ideal) x0 x1 x3 (ix4 b h n j) = x j.val := fun j => ref_logit b h n hq hk hkm j
  have ev : ∀ j : Fin 2064, val_main_v11 (F := Ideal) x2 x4 (ix4 b j h d) = V (112 + j.val) := fun j => ref_value x2 x4 b h j d
  simp only [ex, ev]
  rw [Fin.sum_univ_eq_sum_range (fun j => Ideal.exp (x j - ((μ : ℝ) : EReal))) 2064,
    Fin.sum_univ_eq_sum_range (fun j => V (112 + j) * Ideal.div (Ideal.exp (x j - ((μ : ℝ) : EReal))) (∑ i ∈ range 2064, Ideal.exp (x i - ((μ : ℝ) : EReal)))) 2064]
  exact soft_natural (seen n.val) g (fun j hj hs => by have := hs.2; omega) (fun j hj hs => by have := hs.1; omega) ⟨112, by omega, by omega, by omega⟩ V μ x (fun j _ => rfl)

theorem att_eq : val_main_v53 (F := Ideal) x0 x1 x2 x3 x4 x5 = attArr x0 x1 x2 x3 x4 x5 := by
  funext j
  obtain ⟨b, n, L, rfl⟩ : ∃ (b : Fin 8) (n : Fin 2048) (L : Fin 512), j = ix3 b n L := ⟨j 0, j 1, j 2, eq_ix3 j⟩
  have hL := L.isLt
  rw [normed_at, mean_128]
  simp only [ref_mixed x2 x4 b _ n hq hk hkm]
  show _ = attBlock (cut b.val (512 * (L.val / 256)) x0) (cut b.val (512 * (L.val / 256)) x1) (cut b.val (256 * (L.val / 256)) x2)
    (cut 0 (512 * (L.val / 256)) x3) (cut 0 (256 * (L.val / 256)) x4) (cut 0 (2048 + 256 * (L.val / 256)) x5) (ix3 0 n (Fin.ofNat 256 L.val))
  rw [attBlock, ix3_2, ix3_1, Fin.val_ofNat, Fin.val_ofNat, Fin.val_ofNat, show L.val / 128 % 4 = L.val / 128 by omega, show L.val % 128 % 128 = L.val % 128 by omega,
    show L.val / 128 % 2 = L.val % 256 / 128 by omega, show L.val / 128 / 2 = L.val / 256 by omega, show L.val % 256 % 128 = L.val % 128 by omega]
  congr 1
  have e := cut_lane (m := 256) (0 : Fin 2) (2048 + 256 * (L.val / 256)) (L.val % 256) (2048 + L.val) x5 0 0 (by omega) (by omega)
  exact e.symm
end
end Cert.KernelIdeal.AttnRet
-- ==== Proof.RefRet.lean ====
module
public import proofs.«01_k».proof.Proof.RefAtt
public import Idealize.ShloMosaic.Lib.ValueIdxRank6
/-! The retention of the reference at an index: each stage as a plain expression of the stage before. -/
@[expose] public section
set_option maxRecDepth 16384
noncomputable section
namespace Cert.ReferenceIdeal.AttnRef
open Cert.ReferenceIdeal Cert.ReferenceIdeal.Gen Cert.ReferenceIdeal.Read Idealize.ShloMosaic Idealize.ShloMosaic.TcCoe

variable (x5 : Vec Ideal S2x1x4608 .f32) (x6 : Vec Ideal S2x1024x1024 .f32) (x7 : Vec Ideal S2x1024x5632 .f32) (x8 : Vec Ideal S2x2816x1024 .f32)
  (x9 x10 x11 x12 : Vec Ideal S8x2048x512 .bf16) (x13 x14 : Vec Ideal S1x128x512 .bf16) (x15 : Vec Ideal S4 .f32)

theorem ret_keys_at (b : Fin 8) (m : Fin 2176) (L : Fin 512) :
    val_main_v59 (F := Ideal) x10 x13 (ix3 b m L)
      = if m.val < 128 then x13 (ix3 0 (Fin.ofNat 128 m.val) L) else x10 (ix3 b (Fin.ofNat 2048 (m.val - 128)) L) := by
  have hm := m.isLt
  pointwise [val_main_v59, val_main_v58]
  by_cases hs : m.val < 128
  · rw [dif_pos hs, if_pos hs]
    exact congrArg x13 (congrArg (fun z => ix3 0 z L) (fin_lit _ (by omega)))
  · rw [dif_neg hs, if_neg hs]
    exact congrArg x10 (congrArg (fun z => ix3 b z L) (fin_lit _ (by omega)))

theorem ret_values_at (b : Fin 8) (m : Fin 2176) (L : Fin 512) :
    val_main_v65 (F := Ideal) x11 x14 (ix3 b m L)
      = if m.val < 128 then x14 (ix3 0 (Fin.ofNat 128 m.val) L) else x11 (ix3 b (Fin.ofNat 2048 (m.val - 128)) L) := by
  have hm := m.isLt
  pointwise [val_main_v65, val_main_v64]
  by_cases hs : m.val < 128
  · rw [dif_pos hs, if_pos hs]
    exact congrArg x14 (congrArg (fun z => ix3 0 z L) (fin_lit _ (by omega)))
  · rw [dif_neg hs, if_neg hs]
    exact congrArg x11 (congrArg (fun z => ix3 b z L) (fin_lit _ (by omega)))

/-- Where lane `d` of head `h` lies among the lanes of a row: the two heads of a pair have their halves side by side. -/
theorem query_lane (b : Fin 8) (n : Fin 2048) (h : Fin 4) (d : Fin 128) :
    val_main_v57 (F := Ideal) x9 (ix4 b n h d) = x9 (ix3 b n (Fin.ofNat 512 (256 * (h.val / 2) + (d.val / 64 * 128 + h.val % 2 * 64 + d.val % 64)))) := by
  have hb := b.isLt
  have hn := n.isLt
  have hh := h.isLt
  have hd := d.isLt
  rw [← fin_lit (by omega : 256 * (h.val / 2) + (d.val / 64 * 128 + h.val % 2 * 64 + d.val % 64) < 512) rfl]
  unfold val_main_v57
  rw [shapeCast_apply (val_main_v56 (F := Ideal) x9) shapeCasts_S8x2048x2x2x2x64_S8x2048x4x128 (ix4 b n h d)
    (ValueIdx.ix6 b n ⟨h.val / 2, by omega⟩ ⟨h.val % 2, by omega⟩ ⟨d.val / 64, by omega⟩ ⟨d.val % 64, by omega⟩) (by
      rw [Shape.rowMajor_val_six, Shape.rowMajor_val_four]
      show ((((b.val * 2048 + n.val) * 2 + h.val / 2) * 2 + h.val % 2) * 2 + d.val / 64) * 64 + d.val % 64 = ((b.val * 2048 + n.val) * 4 + h.val) * 128 + d.val
      omega),
    val_main_v56_apply]
  unfold val_main_v55
  rw [shapeCast_apply (val_main_v54 (F := Ideal) x9) shapeCasts_S8x2048x512_S8x2048x2x2x2x64 _
    (ix3 b n ⟨256 * (h.val / 2) + (d.val / 64 * 128 + h.val % 2 * 64 + d.val % 64), by omega⟩) (by
      rw [Shape.rowMajor_val_six, Shape.rowMajor_val_three]
      show (b.val * 2048 + n.val) * 512 + (256 * (h.val / 2) + (d.val / 64 * 128 + h.val % 2 * 64 + d.val % 64)) = ((((b.val * 2048 + n.val) * 2 + h.val / 2) * 2 + d.val / 64) * 2 + h.val % 2) * 64 + d.val % 64
      omega),
    val_main_v54_apply]
  rfl

/-- Where lane `d` of head `h` lies among the lanes of a row: the two heads of a pair have their halves side by side. -/
theorem key_lane (b : Fin 8) (n : Fin 2176) (h : Fin 4) (d : Fin 128) :
    val_main_v63 (F := Ideal) x10 x13 (ix4 b n h d) = val_main_v59 (F := Ideal) x10 x13 (ix3 b n (Fin.ofNat 512 (256 * (h.val / 2) + (d.val / 64 * 128 + h.val % 2 * 64 + d.val % 64)))) := by
  have hb := b.isLt
  have hn := n.isLt
  have hh := h.isLt
  have hd := d.isLt
  rw [← fin_lit (by omega : 256 * (h.val / 2) + (d.val / 64 * 128 + h.val % 2 * 64 + d.val % 64) < 512) rfl]
  unfold val_main_v63
  rw [shapeCast_apply (val_main_v62 (F := Ideal) x10 x13) shapeCasts_S8x2176x2x2x2x64_S8x2176x4x128 (ix4 b n h d)
    (ValueIdx.ix6 b n ⟨h.val / 2, by omega⟩ ⟨h.val % 2, by omega⟩ ⟨d.val / 64, by omega⟩ ⟨d.val % 64, by omega⟩) (by
      rw [Shape.rowMajor_val_six, Shape.rowMajor_val_four]
      show ((((b.val * 2176 + n.val) * 2 + h.val / 2) * 2 + h.val % 2) * 2 + d.val / 64) * 64 + d.val % 64 = ((b.val * 2176 + n.val) * 4 + h.val) * 128 + d.val
      omega),
    val_main_v62_apply]
  unfold val_main_v61
  rw [shapeCast_apply (val_main_v60 (F := Ideal) x10 x13) shapeCasts_S8x2176x512_S8x2176x2x2x2x64 _
    (ix3 b n ⟨256 * (h.val / 2) + (d.val / 64 * 128 + h.val % 2 * 64 + d.val % 64), by omega⟩) (by
      rw [Shape.rowMajor_val_six, Shape.rowMajor_val_three]
      show (b.val * 2176 + n.val) * 512 + (256 * (h.val / 2) + (d.val / 64 * 128 + h.val % 2 * 64 + d.val % 64)) = ((((b.val * 2176 + n.val) * 2 + h.val / 2) * 2 + d.val / 64) * 2 + h.val % 2) * 64 + d.val % 64
      omega),
    val_main_v60_apply]
  rfl

theorem value_lane (b : Fin 8) (m : Fin 2176) (h : Fin 4) (d : Fin 128) :
    val_main_v67 (F := Ideal) x11 x14 (ix4 b m h d) = val_main_v65 (F := Ideal) x11 x14 (ix3 b m (Fin.ofNat 512 (128 * h.val + d.val))) := by
  have hm := m.isLt
  have hh := h.isLt
  have hd := d.isLt
  pointwise [val_main_v67, val_main_v66]
  exact congrArg _ (congrArg (ix3 b m) (fin_lit _ (by omega)))

theorem decay_at (h : Fin 4) (n : Fin 2048) (m : Fin 2176) :
    val_main_v84 (F := Ideal) x15 (ix3 h n m)
      = if (0 : EReal) ≤ FloatOps.sitofp (F := Ideal) FTy.f32 (IntOp.subi (IntOp.addi (BitVec.ofNat 32 n.val) 128#32) (BitVec.ofNat 32 m.val)) then
          Ideal.exp (max (FloatOps.sitofp (F := Ideal) FTy.f32 (IntOp.subi (IntOp.addi (BitVec.ofNat 32 n.val) 128#32) (BitVec.ofNat 32 m.val))) 0 * x15 (ix1 h))
        else 0 := by
  pointwise [val_main_v84, val_main_call1_v1, val_main_call1_v2, val_main_call1_v0, val_main_v83, val_main_v82, val_main_v81, val_main_v80, val_main_v79, val_main_v78, val_main_v77, val_main_v76, val_main_v75, val_main_v74, val_main_v73, val_main_v72, val_main_v71, val_main_v70, val_main_v69, val_main_v68, val_main_c_7, val_main_cst_8, val_main_cst_9, val_main_cst_10]
  refine if_congr Iff.rfl rfl ?_
  show Ideal.ofBits FTy.f32 0#32 = 0
  simp [Ideal.ofBits, Ideal.ieee]

theorem ret_at (b : Fin 8) (n : Fin 2048) (h : Fin 4) (d : Fin 128) :
    val_main_v90 (F := Ideal) x9 x10 x11 x13 x14 x15 (ix4 b n h d)
      = ∑ m : Fin 2176, val_main_v67 (F := Ideal) x11 x14 (ix4 b m h d) *
          ((∑ c : Fin 128, val_main_v57 (F := Ideal) x9 (ix4 b n h c) * val_main_v63 (F := Ideal) x10 x13 (ix4 b m h c)) * val_main_v84 (F := Ideal) x15 (ix3 h n m)) := by
  pointwise [val_main_v90, val_main_v89, val_main_v88, val_main_v87, val_main_v86, val_main_v85]

theorem ret_normed_at (b : Fin 8) (n : Fin 2048) (h : Fin 4) (d : Fin 128) (o : Fin 128 → EReal)
    (ho : ∀ x : Fin 128, val_main_v90 (F := Ideal) x9 x10 x11 x13 x14 x15 (ix4 b n h x) = o x) :
    val_main_v108 (F := Ideal) x9 x10 x11 x13 x14 x15 (ix4 b n h d)
      = (o d - Ideal.div (∑ x : Fin 128, o x) (Ideal.ofBits FTy.f32 1124073472#32)) *
      Ideal.rsqrt (Ideal.div (∑ x : Fin 128,
          (o x - Ideal.div (∑ x : Fin 128, o x) (Ideal.ofBits FTy.f32 1124073472#32)) *
            (o x - Ideal.div (∑ x : Fin 128, o x) (Ideal.ofBits FTy.f32 1124073472#32)))
        (Ideal.ofBits FTy.f32 1124073472#32) + Ideal.ofBits FTy.f32 897988541#32) := by
  pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_cst_11, val_main_cst_12, val_main_cst_13, val_main_cst_14, val_main_cst_15]
  simp only [ho]

theorem gated_at (b : Fin 8) (n : Fin 2048) (L : Fin 512) :
    val_main_v123 (F := Ideal) x5 x9 x10 x11 x12 x13 x14 x15 (ix3 b n L)
      = x12 (ix3 b n L) * Ideal.div 1 (1 + Ideal.exp (0 - x12 (ix3 b n L))) *
          (val_main_v108 (F := Ideal) x9 x10 x11 x13 x14 x15 (ix4 b n (Fin.ofNat 4 (L.val / 128)) (Fin.ofNat 128 (L.val % 128))) *
            x5 (ix3 0 0 (Fin.ofNat 4608 (2560 + L.val))) + x5 (ix3 0 0 (Fin.ofNat 4608 (3072 + L.val)))) := by
  have hL := L.isLt
  have e1 : Fin.ofNat 4 (L.val / 128) = ⟨L.val / 128, by omega⟩ := (fin_lit (by omega) rfl).symm
  have e2 : Fin.ofNat 128 (L.val % 128) = ⟨L.val % 128, by omega⟩ := (fin_lit (by omega) rfl).symm
  have e3 : Fin.ofNat 4608 (2560 + L.val) = ⟨2560 + L.val, by omega⟩ := (fin_lit (by omega) rfl).symm
  have e4 : Fin.ofNat 4608 (3072 + L.val) = ⟨3072 + L.val, by omega⟩ := (fin_lit (by omega) rfl).symm
  rw [e1, e2, e3, e4]
  pointwise [val_main_v123, val_main_v122, val_main_v121, val_main_v120, val_main_v119, val_main_v118, val_main_v117, val_main_v116, val_main_v115, val_main_v114, val_main_v113, val_main_v112, val_main_v111, val_main_v110, val_main_v109, val_main_call2_v0, val_main_call2_v1, val_main_call2_v2, val_main_call2_v3, val_main_call2_v4, val_main_call2_v5, val_main_call2_cst, val_main_call2_cst_0]
  rw [zero_sub]

theorem w_out_at (a : Fin 1024) (c : Fin 1024) : val_main_v126 (F := Ideal) x6 (ix2 a c) = x6 (ix3 0 a c) := by
  pointwise [val_main_v126, val_main_v125, val_main_v124]

theorem w_gate_up_at (a : Fin 1024) (c : Fin 5632) : val_main_v129 (F := Ideal) x7 (ix2 a c) = x7 (ix3 0 a c) := by
  pointwise [val_main_v129, val_main_v128, val_main_v127]

theorem w_down_at (a : Fin 2816) (c : Fin 1024) : val_main_v132 (F := Ideal) x8 (ix2 a c) = x8 (ix3 0 a c) := by
  pointwise [val_main_v132, val_main_v131, val_main_v130]

end Cert.ReferenceIdeal.AttnRef
-- ==== Proof.RetEq.lean ====
module
public import proofs.«01_k».proof.Proof.RefRet
public import proofs.«01_k».proof.Proof.AttEq
/-! The retention of the reference is the retention array of the kernel, and so are the three copied matrices. -/
@[expose] public section
set_option maxRecDepth 16384
noncomputable section
namespace Cert.KernelIdeal.AttnRet
open Cert.KernelIdeal Idealize.ShloMosaic Idealize.ShloMosaic.TcCoe
open Cert.AttnRetMath Cert.ReferenceIdeal.AttnRef Cert.ReferenceIdeal.Read
open Finset (range)

section
variable (x5 : Vec Ideal S2x1x4608 .f32) {x9 x10 x11 : Vec Ideal S8x2048x512 .bf16} (x12 : Vec Ideal S8x2048x512 .bf16) {x13 x14 : Vec Ideal S1x128x512 .bf16} {x15 : Vec Ideal S4 .f32}
  (b : Fin 8) (h : Fin 4) (n : Fin 2048)

theorem ref_query (d : Fin 128) :
    val_main_v57 (F := Ideal) x9 (ix4 b n h d)
      = (cut b.val (256 * (h.val / 2)) x9 : Vec Ideal S1x2048x256 .bf16) (ix3 0 (Fin.ofNat 2048 n.val) (Fin.ofNat 256 (d.val / 64 * 128 + h.val % 2 * 64 + d.val % 64))) := by
  have hh := h.isLt
  have hd := d.isLt
  rw [query_lane, ofNat_self, cut_lane (m := 256) b _ _ (256 * (h.val / 2) + (d.val / 64 * 128 + h.val % 2 * 64 + d.val % 64)) _ _ _ (by omega) rfl]

theorem ref_ret_key (m : Fin 2176) (d : Fin 128) :
    val_main_v63 (F := Ideal) x10 x13 (ix4 b m h d)
      = retK (cut b.val (256 * (h.val / 2)) x10) (cut 0 (256 * (h.val / 2)) x13) m.val (Fin.ofNat 256 (d.val / 64 * 128 + h.val % 2 * 64 + d.val % 64)) := by
  have hh := h.isLt
  have hd := d.isLt
  rw [key_lane, ret_keys_at, retK,
    cut_lane (m := 256) b _ _ (256 * (h.val / 2) + (d.val / 64 * 128 + h.val % 2 * 64 + d.val % 64)) _ _ _ (by omega) rfl,
    cut_lane0 (m := 256) _ _ (256 * (h.val / 2) + (d.val / 64 * 128 + h.val % 2 * 64 + d.val % 64)) _ _ _ (by omega) rfl]

theorem ref_ret_value (m : Fin 2176) (d : Fin 128) :
    val_main_v67 (F := Ideal) x11 x14 (ix4 b m h d)
      = retK (cut b.val (256 * (h.val / 2)) x11) (cut 0 (256 * (h.val / 2)) x14) m.val (Fin.ofNat 256 (128 * (h.val % 2) + d.val)) := by
  have hh := h.isLt
  have hd := d.isLt
  rw [value_lane, ret_values_at, retK,
    cut_lane (m := 256) b _ _ (128 * h.val + d.val) _ _ _ (by omega) (by omega),
    cut_lane0 (m := 256) _ _ (128 * h.val + d.val) _ _ _ (by omega) (by omega)]

theorem ref_decay (hlg : AllReal (s := S4) x15) (m : Fin 2176) :
    val_main_v84 (F := Ideal) x15 (ix3 h n m) = ((dec (x15 (ix1 h)).toReal (128 + (n.val : ℝ) - (m.val : ℝ)) : ℝ) : EReal) := by
  have hn := n.isLt
  have hm := m.isLt
  rw [Cert.ReferenceIdeal.AttnRef.decay_at, show IntOp.addi (BitVec.ofNat 32 n.val) 128#32 = BitVec.ofNat 32 (n.val + 128) from (BitVec.ofNat_add _ _).symm,
    float_diff _ _ (by omega) (by omega), to_real (hlg (ix1 h)), dec_eq, EReal.toReal_coe]
  push_cast
  rw [add_comm (n.val : ℝ) 128]

variable (hq : AllReal (s := S8x2048x512) x9) (hk : AllReal (s := S8x2048x512) x10) (hv : AllReal (s := S8x2048x512) x11)
  (hkm : AllReal (s := S1x128x512) x13) (hvm : AllReal (s := S1x128x512) x14) (hlg : AllReal (s := S4) x15)
include hq hk hv hkm hvm hlg

theorem ref_ret (d : Fin 128) :
    val_main_v90 (F := Ideal) x9 x10 x11 x13 x14 x15 (ix4 b n h d)
      = retO (h.val % 2) (x15 (ix1 h)).toReal (cut b.val (256 * (h.val / 2)) x9) (cut b.val (256 * (h.val / 2)) x10) (cut b.val (256 * (h.val / 2)) x11)
          (cut 0 (256 * (h.val / 2)) x13) (cut 0 (256 * (h.val / 2)) x14) n.val d.val := by
  rw [ret_at, retO]
  simp only [ref_query, ref_ret_key, ref_ret_value, ref_decay h n hlg]
  set q : Vec Ideal S1x2048x256 .bf16 := cut b.val (256 * (h.val / 2)) x9 with eq
  set k : Vec Ideal S1x2048x256 .bf16 := cut b.val (256 * (h.val / 2)) x10 with ek
  set v : Vec Ideal S1x2048x256 .bf16 := cut b.val (256 * (h.val / 2)) x11 with ev
  set km : Vec Ideal S1x128x256 .bf16 := cut 0 (256 * (h.val / 2)) x13 with ekm
  set vm : Vec Ideal S1x128x256 .bf16 := cut 0 (256 * (h.val / 2)) x14 with evm
  have hq' : ∀ i, q i = ((q i).toReal : EReal) := fun i => to_real (hq _)
  have hk' : ∀ m c, retK k km m c = ((retK k km m c).toReal : EReal) := fun m c => to_real (retK_real (fun i => hk _) (fun i => hkm _) m c)
  have hv' : ∀ m c, retK v vm m c = ((retK v vm m c).toReal : EReal) := fun m c => to_real (retK_real (fun i => hv _) (fun i => hvm _) m c)
  rw [← Fin.sum_univ_eq_sum_range (fun m => (∑ x : Fin 128, (q (ix3 0 (Fin.ofNat 2048 n.val) (Fin.ofNat 256 (x.val / 64 * 128 + h.val % 2 * 64 + x.val % 64)))).toReal
        * (retK k km m (Fin.ofNat 256 (x.val / 64 * 128 + h.val % 2 * 64 + x.val % 64))).toReal)
      * dec (x15 (ix1 h)).toReal (128 + (n.val : ℝ) - (m : ℝ)) * (retK v vm m (Fin.ofNat 256 (128 * (h.val % 2) + d.val))).toReal) 2176, coe_sum]
  refine Finset.sum_congr rfl fun m _ => ?_
  rw [EReal.coe_mul, EReal.coe_mul, coe_sum, ← hv', mul_comm]
  refine congrArg (fun z => z * _ * _) (Finset.sum_congr rfl fun c _ => ?_)
  rw [EReal.coe_mul, ← hq', ← hk']

theorem ret_eq : val_main_v123 (F := Ideal) x5 x9 x10 x11 x12 x13 x14 x15 = retArr x15 x9 x10 x11 x12 x13 x14 x5 := by
  funext j
  obtain ⟨b, n, L, rfl⟩ : ∃ (b : Fin 8) (n : Fin 2048) (L : Fin 512), j = ix3 b n L := ⟨j 0, j 1, j 2, eq_ix3 j⟩
  have hL := L.isLt
  rw [gated_at, ret_normed_at x9 x10 x11 x13 x14 x15 b n _ _ _ (fun x => ref_ret b (Fin.ofNat 4 (L.val / 128)) n hq hk hv hkm hvm hlg x)]
  show _ = gateRow (retO (L.val % 256 / 128) (x15 (ix1 (Fin.ofNat 4 (2 * (L.val / 256) + L.val % 256 / 128)))).toReal
      (cut b.val (256 * (L.val / 256)) x9) (cut b.val (256 * (L.val / 256)) x10) (cut b.val (256 * (L.val / 256)) x11)
      (cut 0 (256 * (L.val / 256)) x13) (cut 0 (256 * (L.val / 256)) x14) n.val)
    ((cut b.val (256 * (L.val / 256)) x12 : Vec Ideal S1x2048x256 .bf16) (ix3 0 (Fin.ofNat 2048 n.val) (Fin.ofNat 256 (L.val % 256))))
    ((cut 0 (2560 + 256 * (L.val / 256)) x5 : Vec Ideal S1x1x256 .f32) (ix3 0 0 (Fin.ofNat 256 (L.val % 256))))
    ((cut 0 (3072 + 256 * (L.val / 256)) x5 : Vec Ideal S1x1x256 .f32) (ix3 0 0 (Fin.ofNat 256 (L.val % 256)))) (L.val % 256 % 128)
  have e1 := cut_lane (m := 256) (0 : Fin 2) (2560 + 256 * (L.val / 256)) (L.val % 256) (2560 + L.val) x5 0 0 (by omega) (by omega)
  have e2 := cut_lane (m := 256) (0 : Fin 2) (3072 + 256 * (L.val / 256)) (L.val % 256) (3072 + L.val) x5 0 0 (by omega) (by omega)
  have e3 : (cut b.val (256 * (L.val / 256)) x12 : Vec Ideal S1x2048x256 .bf16) (ix3 0 n (Fin.ofNat 256 (L.val % 256))) = x12 (ix3 b n L) := by
    rw [cut_lane (m := 256) b _ _ L.val _ _ _ (by omega) (by omega), ofNat_self]
  rw [ofNat_self, e3, gateRow,
    show (cut 0 (2560 + 256 * (L.val / 256)) x5 : Vec Ideal S1x1x256 .f32) (ix3 0 0 (Fin.ofNat 256 (L.val % 256))) = _ from e1,
    show (cut 0 (3072 + 256 * (L.val / 256)) x5 : Vec Ideal S1x1x256 .f32) (ix3 0 0 (Fin.ofNat 256 (L.val % 256))) = _ from e2]
  simp only [Fin.val_ofNat]
  rw [show L.val / 128 % 4 = L.val / 128 by omega, show L.val % 128 % 128 = L.val % 128 by omega,
    show L.val / 128 % 2 = L.val % 256 / 128 by omega, show L.val / 128 / 2 = L.val / 256 by omega, show L.val % 256 % 128 = L.val % 128 by omega,
    show 2 * (L.val / 256) + L.val % 256 / 128 = L.val / 128 by omega]
end

theorem w_out_eq (x : Vec Ideal S2x1024x1024 .f32) : val_main_v126 (F := Ideal) x = layer0 x := by
  funext j
  rw [eq_ix2 j]
  exact w_out_at x _ _

theorem w_gate_up_eq (x : Vec Ideal S2x1024x5632 .f32) : val_main_v129 (F := Ideal) x = layer0 x := by
  funext j
  rw [eq_ix2 j]
  exact w_gate_up_at x _ _

theorem w_down_eq (x : Vec Ideal S2x2816x1024 .f32) : val_main_v132 (F := Ideal) x = layer0 x := by
  funext j
  rw [eq_ix2 j]
  exact w_down_at x _ _

end Cert.KernelIdeal.AttnRet
-- ==== Proof.Finite.lean ====
module
public import proofs.«01_k».proof.Defs
public import proofs.«01_k».proof.Proof.AttValue
public import Idealize.ShloMosaic.Lib.ReduceAll
/-! The precondition: every entry of an array whose absolute values all lie below infinity is a real number. -/
@[expose] public section
set_option maxRecDepth 16384
noncomputable section
namespace Cert.Pre_finite
open Idealize.ShloMosaic Cert.KernelIdeal.AttnRet

instance facts : Facts where
  bitsLt_bf16_f32 := by decide
  bcast_S_S8x2048x1024 := by decide
  reducesTo_S8x2048x1024_S_d0_1_2 := by decide
  h_S_ := by decide
  bcast_S_S1x128x1024 := by decide
  reducesTo_S1x128x1024_S_d0_1_2 := by decide
  bcast_S_S8x2048x512 := by decide
  reducesTo_S8x2048x512_S_d0_1_2 := by decide
  bcast_S_S1x128x512 := by decide
  reducesTo_S1x128x512_S_d0_1_2 := by decide
  bcast_S_S4 := by decide
  reducesTo_S4_S_d0 := by decide

theorem lit_inf : Ideal.ofBits FTy.f32 0x7F800000#32 = ⊤ := by
  simp [Ideal.ofBits, Ideal.ieee]

theorem real_of_below {x : EReal} (h : Ideal.cmp .olt (max x (-x)) ⊤ = 1#1) : ∃ r : ℝ, x = ((r : ℝ) : EReal) := by
  induction x using EReal.rec with
  | bot => simp [Ideal.cmp] at h
  | coe r => exact ⟨r, rfl⟩
  | top => simp [Ideal.cmp] at h

instance : Subsingleton S_.Idx := ⟨fun a b => funext fun i => i.elim0⟩

theorem all_real {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32))) (constantI S_ 1 1#1) hr hu ix0 = 1#1) :
    AllReal (s := s) x := fun i => by
  have h := Host.reduce_andi_all _ _ hr hu ix0 e i
  change Ideal.cmp .olt (max (x i) (-(x i))) (Ideal.ofBits FTy.f32 0x7F800000#32) = 1#1 at h
  rw [lit_inf] at h
  exact real_of_below h

theorem finite_real {a0 a1 : FVec Ideal S8x2048x1024 .bf16} {a2 : FVec Ideal S8x2048x512 .bf16} {a3 : FVec Ideal S1x128x1024 .bf16} {a4 : FVec Ideal S1x128x512 .bf16}
    {a5 : FVec Ideal S2x1x4608 .f32} {a6 : FVec Ideal S2x1024x1024 .f32} {a7 : FVec Ideal S2x1024x5632 .f32} {a8 : FVec Ideal S2x2816x1024 .f32}
    {a9 a10 a11 a12 : FVec Ideal S8x2048x512 .bf16} {a13 a14 : FVec Ideal S1x128x512 .bf16} {a15 : FVec Ideal S4 .f32}
    (h : fn (F := Ideal) a0 a1 a2 a3 a4 a5 a6 a7 a8 a9 a10 a11 a12 a13 a14 a15 = fun _ => 1#1) :
    AllReal (s := S8x2048x1024) a0 ∧ AllReal (s := S8x2048x1024) a1 ∧ AllReal (s := S1x128x1024) a3 ∧ AllReal (s := S8x2048x512) a9 ∧ AllReal (s := S8x2048x512) a10
      ∧ AllReal (s := S8x2048x512) a11 ∧ AllReal (s := S1x128x512) a13 ∧ AllReal (s := S1x128x512) a14 ∧ AllReal (s := S4) a15 := by
  have h := congrFun h ix0
  dsimp only [fn, fn_part1, fn_part2] at h
  obtain ⟨h, h15⟩ := IntOp.andi_eq_one.1 h
  obtain ⟨h, h14⟩ := IntOp.andi_eq_one.1 h
  obtain ⟨h, h13⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h3⟩ := IntOp.andi_eq_one.1 h
  obtain ⟨h0, h1⟩ := IntOp.andi_eq_one.1 h
  exact ⟨all_real _ _ _ _ h0, all_real _ _ _ _ h1, all_real _ _ _ _ h3, all_real _ _ _ _ h9, all_real _ _ _ _ h10, all_real _ _ _ _ h11, all_real _ _ _ _ h13, all_real _ _ _ _ h14, all_real _ _ _ _ h15⟩

end Cert.Pre_finite
-- ==== Proof.FfnBlock.lean ====
module
public import proofs.«01_k».proof.Proof.Gen.Kernel2Ideal.Value
public import Idealize.ShloMosaic.Lib.Pointwise
public import Idealize.ShloMosaic.Lib.Pipeline.ValueKit
/-! The output projection and the feed-forward part: what one grid step of the kernel computes from its blocks. -/
@[expose] public section
set_option maxRecDepth 16384
noncomputable section
namespace Cert.Kernel2Ideal.Ffn
open Cert.Kernel2Ideal Cert.Kernel2Ideal.Gen Cert.Kernel2Ideal.Gen.kernelRun0_A Idealize.ShloMosaic Idealize.ShloMosaic.TcCoe Idealize.SL.Sem

/-! ## One row -/

/-- The residual stream after the output projection: the row, and both groups' rows times their halves of the matrix. -/
def resid (h : Fin 1024 → EReal) (a b : Fin 512 → EReal) (w : S1024x1024.Idx → EReal) : Fin 1024 → EReal := fun e =>
  h e + ∑ i : Fin 512, a i * w (ix2 (Fin.ofNat 1024 i.val) e) + ∑ i : Fin 512, b i * w (ix2 (Fin.ofNat 1024 (512 + i.val)) e)

/-- A row over the root of its mean square, times the gains. -/
def normed (x g : Fin 1024 → EReal) : Fin 1024 → EReal := fun e =>
  x e * Ideal.rsqrt ((∑ i : Fin 1024, x i * x i) * Ideal.ofBits .f32 0x3A800000#32 + Ideal.ofBits .f32 0x358637BD#32) * g e

/-- Entry `f` of a row times the joined gate and up matrices. -/
def proj (n : Fin 1024 → EReal) (w : S1024x5632.Idx → EReal) (f : ℕ) : EReal := ∑ e : Fin 1024, n e * w (ix2 e (Fin.ofNat 5632 f))

/-- The gated unit `f` of a row. -/
def unitAt (n : Fin 1024 → EReal) (w : S1024x5632.Idx → EReal) (f : ℕ) : EReal :=
  proj n w f * Ideal.div 1 (1 + Ideal.exp (0 - proj n w f)) * proj n w (2816 + f)

/-- The row that the layer leaves, from the row after the output projection. -/
def outRow (x g : Fin 1024 → EReal) (w : S1024x5632.Idx → EReal) (d : S2816x1024.Idx → EReal) : Fin 1024 → EReal := fun e =>
  x e + ∑ f : Fin 2816, unitAt (normed x g) w f.val * d (ix2 f e)

/-! ## Loads -/

/-- The part of a matrix that begins at row `o` and lane `l`. -/
def part {α : Type} {n1 n2 m1 m2 : ℕ} [NeZero n1] [NeZero n2] (o l : ℕ)
    (x : (⟨2, ![n1, n2]⟩ : Shape).Idx → α) : (⟨2, ![m1, m2]⟩ : Shape).Idx → α :=
  fun i => x (ix2 (Fin.ofNat n1 (o + (i 0).val)) (Fin.ofNat n2 (l + (i 1).val)))

theorem part_at {α : Type} {n1 n2 m1 m2 : ℕ} [NeZero n1] [NeZero n2] (o l : ℕ)
    (x : (⟨2, ![n1, n2]⟩ : Shape).Idx → α) (a : Fin m1) (b : Fin m2) :
    (part o l x : (⟨2, ![m1, m2]⟩ : Shape).Idx → α) (ix2 a b) = x (ix2 (Fin.ofNat n1 (o + a.val)) (Fin.ofNat n2 (l + b.val))) := rfl

theorem load_part {e : EltTy} {n1 n2 m1 m2 : ℕ} [NeZero n1] [NeZero n2] (o l : ℕ)
    (a : Memref sig .tc .vmem ⟨2, ![n1, n2]⟩ e) (ha : a.IsWhole) (x : Vec Ideal ⟨2, ![n1, n2]⟩ e)
    (h : ∀ k : Fin 2, (![o, l] : Fin 2 → ℕ) k + (![m1, m2] : Fin 2 → ℕ) k ≤ (![n1, n2] : Fin 2 → ℕ) k) :
    View.readAt (Elt Ideal) a.view (Rect.unit (s := ⟨2, ![n1, n2]⟩) ![o, l] ![m1, m2] h).toLoadRect (ha.unread x) = part o l x := by
  rw [View.readAt_eq_ld, Memref.IsWhole.read_unread]
  funext i
  refine View.ld_unit_apply_of (S := ⟨2, ![n1, n2]⟩) x ![o, l] ![m1, m2] h i
    (ix2 (Fin.ofNat n1 (o + (i 0).val)) (Fin.ofNat n2 (l + (i 1).val))) fun k => ?_
  have h0 : o + m1 ≤ n1 := h 0
  have h1 : l + m2 ≤ n2 := h 1
  have e0 : (i 0).val < m1 := (i 0).isLt
  have e1 : (i 1).val < m2 := (i 1).isLt
  match k with
  | 0 => show (o + (i 0).val) % n1 = o + (i 0).val; exact Nat.mod_eq_of_lt (by omega)
  | 1 => show (l + (i 1).val) % n2 = l + (i 1).val; exact Nat.mod_eq_of_lt (by omega)

theorem load_block {e : EltTy} {n1 n2 : ℕ}
    (a : Memref sig .tc .vmem ⟨3, ![1, n1, n2]⟩ e) (ha : a.IsWhole) (x : Vec Ideal ⟨3, ![1, n1, n2]⟩ e)
    (h : ∀ k : Fin 3, (![0, 0, 0] : Fin 3 → ℕ) k + (![1, n1, n2] : Fin 3 → ℕ) k ≤ (![1, n1, n2] : Fin 3 → ℕ) k) :
    View.readAt (Elt Ideal) a.view (Rect.unit (s := ⟨3, ![1, n1, n2]⟩) ![0, 0, 0] ![1, n1, n2] h).toLoadRect (ha.unread x) = x := by
  rw [View.readAt_eq_ld, Memref.IsWhole.read_unread]
  funext i
  refine View.ld_unit_apply_of (S := ⟨3, ![1, n1, n2]⟩) x ![0, 0, 0] ![1, n1, n2] h i i fun k => ?_
  match k with
  | 0 => exact (Nat.zero_add _).symm
  | 1 => exact (Nat.zero_add _).symm
  | 2 => exact (Nat.zero_add _).symm

theorem load_whole {e : EltTy} {n1 n2 : ℕ}
    (a : Memref sig .tc .vmem ⟨2, ![n1, n2]⟩ e) (ha : a.IsWhole) (x : Vec Ideal ⟨2, ![n1, n2]⟩ e)
    (h : ∀ k : Fin 2, (![0, 0] : Fin 2 → ℕ) k + (![n1, n2] : Fin 2 → ℕ) k ≤ (![n1, n2] : Fin 2 → ℕ) k) :
    View.readAt (Elt Ideal) a.view (Rect.unit (s := ⟨2, ![n1, n2]⟩) ![0, 0] ![n1, n2] h).toLoadRect (ha.unread x) = x := by
  rw [View.readAt_eq_ld, Memref.IsWhole.read_unread]
  funext i
  refine View.ld_unit_apply_of (S := ⟨2, ![n1, n2]⟩) x ![0, 0] ![n1, n2] h i i fun k => ?_
  match k with
  | 0 => exact (Nat.zero_add _).symm
  | 1 => exact (Nat.zero_add _).symm

theorem mem_rect (o l m1 m2 : ℕ) {n1 n2 : ℕ} (y : (⟨2, ![n1, n2]⟩ : Shape).Idx)
    (h : ∀ k : Fin 2, (![o, l] : Fin 2 → ℕ) k + (![m1, m2] : Fin 2 → ℕ) k ≤ (![n1, n2] : Fin 2 → ℕ) k)
    (a0 : o ≤ (y 0).val) (b0 : (y 0).val < o + m1) (a1 : l ≤ (y 1).val) (b1 : (y 1).val < l + m2) :
    y ∈ (Rect.unit (s := ⟨2, ![n1, n2]⟩) ![o, l] ![m1, m2] h).set := by
  rw [Rect.mem_set_unit]
  intro k
  match k with
  | 0 => exact ⟨a0, b0⟩
  | 1 => exact ⟨a1, b1⟩

section
variable (x0 : Vec Ideal S1x1024x1024 .f32) (x1 : Vec Ideal S1x1024x512 .bf16) (x2 : Vec Ideal S1x1024x512 .bf16) (x3 : Vec Ideal S1024x1024 .bf16) (x4 : Vec Ideal S1x1x1024 .f32) (x5 : Vec Ideal S1024x5632 .bf16) (x6 : Vec Ideal S2816x1024 .bf16)

/-! ## The steps, from the blocks -/

/-- The residual stream of a block. -/
def hid : FVec Ideal S1024x1024 .f32 := k0_pay3 x0 x1 (part 0 0 x3) x2 (part 512 0 x3)

/-- The normed rows of a block. -/
def nrm : FVec Ideal S1024x1024 .bf16 := k0_pay4 x0 x1 (part 0 0 x3) x2 (part 512 0 x3) x4

/-- Row `r` of a block after the output projection. -/
def rowOf (r : Fin 1024) : Fin 1024 → EReal :=
  resid (fun e => x0 (ix3 0 r e)) (fun i => x1 (ix3 0 r i)) (fun i => x2 (ix3 0 r i)) x3

/-- The gains of a block. -/
def gains : Fin 1024 → EReal := fun e => x4 (ix3 0 0 e)

theorem hid_at (r e : Fin 1024) : hid x0 x1 x2 x3 (ix2 r e) = rowOf x0 x1 x2 x3 r e := by
  pointwise [hid, k0_pay3]
  simp only [part_at, Nat.zero_add, rowOf, resid, Fin.ofNat_val_eq_self]

theorem nrm_at (r e : Fin 1024) : nrm x0 x1 x2 x3 x4 (ix2 r e) = normed (rowOf x0 x1 x2 x3 r) (gains x4) e := by
  show k0_pay4 x0 x1 (part 0 0 x3) x2 (part 512 0 x3) x4 (ix2 r e) = _
  pointwise [k0_pay4]
  have hh := fun e => hid_at x0 x1 x2 x3 r e
  unfold hid at hh
  simp only [hh, normed, gains]

/-- The gated units of a block. -/
def units : FVec Ideal S1024x2816 .bf16 := fun y => unitAt (normed (rowOf x0 x1 x2 x3 (y 0)) (gains x4)) x5 (y 1).val

theorem tile_at (lo : ℕ) (r : Fin 1024) (f : Fin 256) :
    k0_pay8 (nrm x0 x1 x2 x3 x4) (part 0 lo x5) (part 0 (2816 + lo) x5) (ix2 r f) = unitAt (normed (rowOf x0 x1 x2 x3 r) (gains x4)) x5 (lo + f.val) := by
  pointwise [k0_pay8]
  simp only [nrm_at, part_at, Nat.zero_add, unitAt, proj, Fin.ofNat_val_eq_self, Nat.add_assoc]

theorem tile_in (lo : ℕ) (x : S1024x256.Idx) (y : S1024x2816.Idx) (h0 : (y 0).val = (x 0).val) (h1 : (y 1).val = lo + (x 1).val) :
    k0_pay8 (nrm x0 x1 x2 x3 x4) (part 0 lo x5) (part 0 (2816 + lo) x5) x = units x0 x1 x2 x3 x4 x5 y := by
  rw [eq_ix2 x, units, h1, show y 0 = x 0 from Fin.ext h0]
  exact tile_at x0 x1 x2 x3 x4 x5 lo (x 0) (x 1)

theorem out_at (r e : Fin 1024) :
    k0_pay2 (hid x0 x1 x2 x3) (units x0 x1 x2 x3 x4 x5) x6 (ix3 0 r e) = outRow (rowOf x0 x1 x2 x3 r) (gains x4) x5 x6 e := by
  pointwise [k0_pay2]
  simp only [hid_at]
  rfl

/-! ## The stores -/
variable (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x512 .bf16) (harg4 : arg4.IsWhole) (arg5 : Memref sig .tc .vmem S1024x1024 .bf16) (harg5 : arg5.IsWhole) (arg6 : Memref sig .tc .vmem S1x1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S1x1024x1024 .f32) (harg9 : arg9.IsWhole) (arg10 : Memref sig .tc .vmem S1024x2816 .bf16) (harg10 : arg10.IsWhole)

theorem hid_eq : sl.r (F := Ideal) c arg2 harg2 arg3 harg3 arg4 harg4 arg5 harg5 x0 x1 x2 x3 = hid x0 x1 x2 x3 := by
  refine Eq.trans (b := k0_pay3 _ _ _ _ _) rfl ?_
  rw [load_block, load_block, load_part, load_block, load_part]
  rfl

theorem nrm_eq : sl.r_1 (F := Ideal) c arg2 harg2 arg3 harg3 arg4 harg4 arg5 harg5 arg6 harg6 x0 x1 x2 x3 x4 = nrm x0 x1 x2 x3 x4 := by
  refine Eq.trans (b := k0_pay4 _ _ _ _ _ _) rfl ?_
  rw [load_block, load_block, load_part, load_block, load_part, load_block]
  rfl

theorem tile_0 : k0_pay7 (sl.r_2 (F := Ideal) c arg2 harg2 arg3 harg3 arg4 harg4 arg5 harg5 arg6 harg6 arg7 harg7 x0 x1 x2 x3 x4 x5) (sl.r_3 (F := Ideal) c arg2 harg2 arg3 harg3 arg4 harg4 arg5 harg5 arg6 harg6 arg7 harg7 x0 x1 x2 x3 x4 x5) = k0_pay8 (nrm x0 x1 x2 x3 x4) (part 0 0 x5) (part 0 (2816 + 0) x5) := by
  refine Eq.trans (b := k0_pay8 (sl.r_1 (F := Ideal) c arg2 harg2 arg3 harg3 arg4 harg4 arg5 harg5 arg6 harg6 x0 x1 x2 x3 x4) _ _) rfl ?_
  rw [nrm_eq, load_part, load_part]

theorem tile_2 : k0_pay12 (sl.r_4 (F := Ideal) c arg2 harg2 arg3 harg3 arg4 harg4 arg5 harg5 arg6 harg6 arg7 harg7 x0 x1 x2 x3 x4 x5) (sl.r_5 (F := Ideal) c arg2 harg2 arg3 harg3 arg4 harg4 arg5 harg5 arg6 harg6 arg7 harg7 x0 x1 x2 x3 x4 x5) k0_pay11 = k0_pay8 (nrm x0 x1 x2 x3 x4) (part 0 512 x5) (part 0 (2816 + 512) x5) := by
  refine Eq.trans (b := k0_pay8 (sl.r_1 (F := Ideal) c arg2 harg2 arg3 harg3 arg4 harg4 arg5 harg5 arg6 harg6 x0 x1 x2 x3 x4) _ _) rfl ?_
  rw [nrm_eq, load_part, load_part]

theorem tile_4 : k0_pay17 (sl.r_6 (F := Ideal) c arg2 harg2 arg3 harg3 arg4 harg4 arg5 harg5 arg6 harg6 arg7 harg7 x0 x1 x2 x3 x4 x5) (sl.r_7 (F := Ideal) c arg2 harg2 arg3 harg3 arg4 harg4 arg5 harg5 arg6 harg6 arg7 harg7 x0 x1 x2 x3 x4 x5) (sl.r_8 (F := Ideal) c arg2 harg2 arg3 harg3 arg4 harg4 arg5 harg5 arg6 harg6 arg7 harg7 x0 x1 x2 x3 x4 x5) = k0_pay8 (nrm x0 x1 x2 x3 x4) (part 0 1024 x5) (part 0 (2816 + 1024) x5) := by
  refine Eq.trans (b := k0_pay8 (sl.r_1 (F := Ideal) c arg2 harg2 arg3 harg3 arg4 harg4 arg5 harg5 arg6 harg6 x0 x1 x2 x3 x4) _ _) rfl ?_
  rw [nrm_eq, load_part, load_part]

theorem tile_6 : k0_pay23 (sl.r_9 (F := Ideal) c arg2 harg2 arg3 harg3 arg4 harg4 arg5 harg5 arg6 harg6 arg7 harg7 x0 x1 x2 x3 x4 x5) (sl.r_10 (F := Ideal) c arg2 harg2 arg3 harg3 arg4 harg4 arg5 harg5 arg6 harg6 arg7 harg7 x0 x1 x2 x3 x4 x5) (sl.r_11 (F := Ideal) c arg2 harg2 arg3 harg3 arg4 harg4 arg5 harg5 arg6 harg6 arg7 harg7 x0 x1 x2 x3 x4 x5) k0_pay22 = k0_pay8 (nrm x0 x1 x2 x3 x4) (part 0 1536 x5) (part 0 (2816 + 1536) x5) := by
  refine Eq.trans (b := k0_pay8 (sl.r_1 (F := Ideal) c arg2 harg2 arg3 harg3 arg4 harg4 arg5 harg5 arg6 harg6 x0 x1 x2 x3 x4) _ _) rfl ?_
  rw [nrm_eq, load_part, load_part]

theorem tile_8 : k0_pay28 (sl.r_12 (F := Ideal) c arg2 harg2 arg3 harg3 arg4 harg4 arg5 harg5 arg6 harg6 arg7 harg7 x0 x1 x2 x3 x4 x5) (sl.r_13 (F := Ideal) c arg2 harg2 arg3 harg3 arg4 harg4 arg5 harg5 arg6 harg6 arg7 harg7 x0 x1 x2 x3 x4 x5) (sl.r_14 (F := Ideal) c arg2 harg2 arg3 harg3 arg4 harg4 arg5 harg5 arg6 harg6 arg7 harg7 x0 x1 x2 x3 x4 x5) sl.cst_98 = k0_pay8 (nrm x0 x1 x2 x3 x4) (part 0 2048 x5) (part 0 (2816 + 2048) x5) := by
  refine Eq.trans (b := k0_pay8 (sl.r_1 (F := Ideal) c arg2 harg2 arg3 harg3 arg4 harg4 arg5 harg5 arg6 harg6 x0 x1 x2 x3 x4) _ _) rfl ?_
  rw [nrm_eq, load_part, load_part]

theorem tile_10 : k0_pay1 (sl.r_15 (F := Ideal) c arg2 harg2 arg3 harg3 arg4 harg4 arg5 harg5 arg6 harg6 arg7 harg7 x0 x1 x2 x3 x4 x5) (sl.r_16 (F := Ideal) c arg2 harg2 arg3 harg3 arg4 harg4 arg5 harg5 arg6 harg6 arg7 harg7 x0 x1 x2 x3 x4 x5) (sl.r_17 (F := Ideal) c arg2 harg2 arg3 harg3 arg4 harg4 arg5 harg5 arg6 harg6 arg7 harg7 x0 x1 x2 x3 x4 x5) = k0_pay8 (nrm x0 x1 x2 x3 x4) (part 0 2560 x5) (part 0 (2816 + 2560) x5) := by
  refine Eq.trans (b := k0_pay8 (sl.r_1 (F := Ideal) c arg2 harg2 arg3 harg3 arg4 harg4 arg5 harg5 arg6 harg6 x0 x1 x2 x3 x4) _ _) rfl ?_
  rw [nrm_eq, load_part, load_part]

/-- The eleven stores into the scratch buffer cover it. -/
theorem cover_units (y : S1024x2816.Idx) : ∃ p ∈ sl.HS0_11 (F := Ideal) c arg2 harg2 arg3 harg3 arg4 harg4 arg5 harg5 arg6 harg6 arg7 harg7 x0 x1 x2 x3 x4 x5, y ∈ p.1.set := by
  unfold sl.HS0_11
  have b0 : (y 0).val < 1024 := (y 0).isLt
  have b1 : (y 1).val < 2816 := (y 1).isLt
  obtain h | h | h | h | h | h | h | h | h | h | h : (y 1).val / 256 = 0 ∨ (y 1).val / 256 = 1 ∨ (y 1).val / 256 = 2 ∨ (y 1).val / 256 = 3 ∨ (y 1).val / 256 = 4 ∨ (y 1).val / 256 = 5 ∨ (y 1).val / 256 = 6 ∨ (y 1).val / 256 = 7 ∨ (y 1).val / 256 = 8 ∨ (y 1).val / 256 = 9 ∨ (y 1).val / 256 = 10 := by omega
  · exact ⟨_, .tail _ (.tail _ (.tail _ (.tail _ (.tail _ (.tail _ (.tail _ (.tail _ (.tail _ (.tail _ (.head _)))))))))), mem_rect 0 0 1024 256 y (by decide) (by omega) (by omega) (by omega) (by omega)⟩
  · exact ⟨_, .tail _ (.tail _ (.tail _ (.tail _ (.tail _ (.tail _ (.tail _ (.tail _ (.tail _ (.head _))))))))), mem_rect 0 256 1024 256 y (by decide) (by omega) (by omega) (by omega) (by omega)⟩
  · exact ⟨_, .tail _ (.tail _ (.tail _ (.tail _ (.tail _ (.tail _ (.tail _ (.tail _ (.head _)))))))), mem_rect 0 512 1024 256 y (by decide) (by omega) (by omega) (by omega) (by omega)⟩
  · exact ⟨_, .tail _ (.tail _ (.tail _ (.tail _ (.tail _ (.tail _ (.tail _ (.head _))))))), mem_rect 0 768 1024 256 y (by decide) (by omega) (by omega) (by omega) (by omega)⟩
  · exact ⟨_, .tail _ (.tail _ (.tail _ (.tail _ (.tail _ (.tail _ (.head _)))))), mem_rect 0 1024 1024 256 y (by decide) (by omega) (by omega) (by omega) (by omega)⟩
  · exact ⟨_, .tail _ (.tail _ (.tail _ (.tail _ (.tail _ (.head _))))), mem_rect 0 1280 1024 256 y (by decide) (by omega) (by omega) (by omega) (by omega)⟩
  · exact ⟨_, .tail _ (.tail _ (.tail _ (.tail _ (.head _)))), mem_rect 0 1536 1024 256 y (by decide) (by omega) (by omega) (by omega) (by omega)⟩
  · exact ⟨_, .tail _ (.tail _ (.tail _ (.head _))), mem_rect 0 1792 1024 256 y (by decide) (by omega) (by omega) (by omega) (by omega)⟩
  · exact ⟨_, .tail _ (.tail _ (.head _)), mem_rect 0 2048 1024 256 y (by decide) (by omega) (by omega) (by omega) (by omega)⟩
  · exact ⟨_, .tail _ (.head _), mem_rect 0 2304 1024 256 y (by decide) (by omega) (by omega) (by omega) (by omega)⟩
  · exact ⟨_, .head _, mem_rect 0 2560 1024 256 y (by decide) (by omega) (by omega) (by omega) (by omega)⟩

/-- The scratch buffer after its stores holds the gated units. -/
theorem canon_units : View.canon (sl.HS0_11 (F := Ideal) c arg2 harg2 arg3 harg3 arg4 harg4 arg5 harg5 arg6 harg6 arg7 harg7 x0 x1 x2 x3 x4 x5) = units x0 x1 x2 x3 x4 x5 := by
  have hc := cover_units x0 x1 x2 x3 x4 x5 c arg2 harg2 arg3 harg3 arg4 harg4 arg5 harg5 arg6 harg6 arg7 harg7
  unfold sl.HS0_11 at hc ⊢
  funext y
  canon_tiles x h using hc y
  · exact (congrFun (tile_10 x0 x1 x2 x3 x4 x5 c arg2 harg2 arg3 harg3 arg4 harg4 arg5 harg5 arg6 harg6 arg7 harg7) x).trans (tile_in x0 x1 x2 x3 x4 x5 2560 x y (by omega) (by omega))
  · rw [nrm_eq, load_part, load_part]
    exact tile_in x0 x1 x2 x3 x4 x5 2304 x y (by omega) (by omega)
  · exact (congrFun (tile_8 x0 x1 x2 x3 x4 x5 c arg2 harg2 arg3 harg3 arg4 harg4 arg5 harg5 arg6 harg6 arg7 harg7) x).trans (tile_in x0 x1 x2 x3 x4 x5 2048 x y (by omega) (by omega))
  · rw [nrm_eq, load_part, load_part]
    exact tile_in x0 x1 x2 x3 x4 x5 1792 x y (by omega) (by omega)
  · exact (congrFun (tile_6 x0 x1 x2 x3 x4 x5 c arg2 harg2 arg3 harg3 arg4 harg4 arg5 harg5 arg6 harg6 arg7 harg7) x).trans (tile_in x0 x1 x2 x3 x4 x5 1536 x y (by omega) (by omega))
  · rw [nrm_eq, load_part, load_part]
    exact tile_in x0 x1 x2 x3 x4 x5 1280 x y (by omega) (by omega)
  · exact (congrFun (tile_4 x0 x1 x2 x3 x4 x5 c arg2 harg2 arg3 harg3 arg4 harg4 arg5 harg5 arg6 harg6 arg7 harg7) x).trans (tile_in x0 x1 x2 x3 x4 x5 1024 x y (by omega) (by omega))
  · rw [nrm_eq, load_part, load_part]
    exact tile_in x0 x1 x2 x3 x4 x5 768 x y (by omega) (by omega)
  · exact (congrFun (tile_2 x0 x1 x2 x3 x4 x5 c arg2 harg2 arg3 harg3 arg4 harg4 arg5 harg5 arg6 harg6 arg7 harg7) x).trans (tile_in x0 x1 x2 x3 x4 x5 512 x y (by omega) (by omega))
  · rw [nrm_eq, load_part, load_part]
    exact tile_in x0 x1 x2 x3 x4 x5 256 x y (by omega) (by omega)
  · exact (congrFun (tile_0 x0 x1 x2 x3 x4 x5 c arg2 harg2 arg3 harg3 arg4 harg4 arg5 harg5 arg6 harg6 arg7 harg7) x).trans (tile_in x0 x1 x2 x3 x4 x5 0 x y (by omega) (by omega))

/-- The load of the scratch buffer reads the gated units. -/
theorem load_units : sl.v214 (F := Ideal) c arg2 harg2 arg3 harg3 arg4 harg4 arg5 harg5 arg6 harg6 arg7 harg7 arg10 x0 x1 x2 x3 x4 x5 = units x0 x1 x2 x3 x4 x5 := by
  show arg10.view.readCov (sl.HS0_11 (F := Ideal) c arg2 harg2 arg3 harg3 arg4 harg4 arg5 harg5 arg6 harg6 arg7 harg7 x0 x1 x2 x3 x4 x5) (Rect.unit (s := S1024x2816) ![0, 0] ![1024, 2816] (by decide)).toLoadRect = _
  rw [View.readCov_eq_canon_ld _ _ _ (cover_units x0 x1 x2 x3 x4 x5 c arg2 harg2 arg3 harg3 arg4 harg4 arg5 harg5 arg6 harg6 arg7 harg7), canon_units]
  funext i
  refine View.ld_unit_apply_of (S := S1024x2816) _ ![0, 0] ![1024, 2816] _ i i fun k => ?_
  match k with
  | 0 => exact (Nat.zero_add _).symm
  | 1 => exact (Nat.zero_add _).symm

/-- The value that a grid step stores. -/
theorem store_eq (h : ∀ k : Fin 2, (![0, 0] : Fin 2 → ℕ) k + (![2816, 1024] : Fin 2 → ℕ) k ≤ (![2816, 1024] : Fin 2 → ℕ) k) :
    k0_pay2 (sl.r (F := Ideal) c arg2 harg2 arg3 harg3 arg4 harg4 arg5 harg5 x0 x1 x2 x3) (sl.v214 (F := Ideal) c arg2 harg2 arg3 harg3 arg4 harg4 arg5 harg5 arg6 harg6 arg7 harg7 arg10 x0 x1 x2 x3 x4 x5)
      (show Vec Ideal S2816x1024 .bf16 from View.readAt (Elt Ideal) arg8.view (Rect.unit (s := S2816x1024) ![0, 0] ![2816, 1024] h).toLoadRect (harg8.unread x6))
      = k0_pay2 (hid x0 x1 x2 x3) (units x0 x1 x2 x3 x4 x5) x6 := by
  rw [hid_eq, load_units]
  exact congrArg (k0_pay2 (hid x0 x1 x2 x3) (units x0 x1 x2 x3 x4 x5)) (load_whole arg8 harg8 x6 h)

/-- What a grid step leaves in the block of the result. -/
theorem block7 (r e : Fin 1024) : out0_A_7 (F := Ideal) c i arg2 harg2 arg3 harg3 arg4 harg4 arg5 harg5 arg6 harg6 arg7 harg7 arg8 harg8 arg9 harg9 arg10 harg10 x0 x1 x2 x3 x4 x5 x6 (ix3 0 r e) = outRow (rowOf x0 x1 x2 x3 r) (gains x4) x5 x6 e := by
  unfold out0_A_7
  rw [View.read_writes_junk_eq_canon]
  refine (View.canon_apply_of_pieces (k0_pay2 (hid x0 x1 x2 x3) (units x0 x1 x2 x3 x4 x5) x6) _ ?_ (ix3 0 r e) (cover0_A_7 (F := Ideal) c i arg2 harg2 arg3 harg3 arg4 harg4 arg5 harg5 arg6 harg6 arg7 harg7 arg8 harg8 arg9 harg9 arg10 harg10 x0 x1 x2 x3 x4 x5 x6 _)).trans (out_at x0 x1 x2 x3 x4 x5 x6 r e)
  refine List.forall_mem_singleton.mpr fun x => ?_
  refine (congrFun (store_eq x0 x1 x2 x3 x4 x5 x6 c arg2 harg2 arg3 harg3 arg4 harg4 arg5 harg5 arg6 harg6 arg7 harg7 arg8 harg8 arg10 _) x).trans ?_
  refine congrArg (k0_pay2 (hid x0 x1 x2 x3) (units x0 x1 x2 x3 x4 x5) x6) (funext fun k => Fin.ext ?_)
  simp [Rect.emb_apply]
  match k with
  | 0 => rfl
  | 1 => rfl
  | 2 => rfl

end
end Cert.Kernel2Ideal.Ffn
-- ==== Proof.FfnArrays.lean ====
module
public import proofs.«01_k».proof.Proof.FfnBlock
/-! The array the second kernel leaves, as a function of its argument arrays. -/
@[expose] public section
set_option maxRecDepth 16384
noncomputable section
namespace Cert.Kernel2Ideal.Ffn
open Cert.Kernel2Ideal Cert.Kernel2Ideal.Gen Idealize.ShloMosaic Idealize.ShloMosaic.TcCoe Idealize.SL.Sem
open Idealize.ShloMosaic.Pipeline (Dat)

theorem as_ix3 {n1 n2 : ℕ} (y : (⟨3, ![1, n1, n2]⟩ : Shape).Idx) : ∃ (r : Fin n1) (d : Fin n2), y = ix3 0 r d :=
  ⟨y 1, y 2, funext fun k => match k with
    | 0 => Subsingleton.elim (α := Fin 1) _ _
    | 1 => rfl
    | 2 => rfl⟩

/-- The layer's array: each row from its rows of the arguments. -/
def layerArr (h : Vec Ideal S8x2048x1024 .f32) (a b : Vec Ideal S8x2048x512 .bf16) (wo : Vec Ideal S1024x1024 .bf16) (g : Vec Ideal S2x1x4608 .f32)
    (wu : Vec Ideal S1024x5632 .bf16) (wd : Vec Ideal S2816x1024 .bf16) : Vec Ideal S8x2048x1024 .f32 := fun j =>
  outRow (resid (fun e => h (ix3 (j 0) (j 1) e)) (fun i => a (ix3 (j 0) (j 1) i)) (fun i => b (ix3 (j 0) (j 1) i)) wo)
    (fun e => g (ix3 1 0 (Fin.ofNat 4608 (1024 + e.val)))) wu wd (j 2)

/-- The block of 1024 rows that begins at row `o` of matrix `b` of a stack. -/
def rows {α : Type} {w : ℕ} (b o : ℕ) (x : (⟨3, ![8, 2048, w]⟩ : Shape).Idx → α) : (⟨3, ![1, 1024, w]⟩ : Shape).Idx → α :=
  fun i => x (ix3 (Fin.ofNat 8 b) (Fin.ofNat 2048 (o + (i 1).val)) (i 2))

theorem rows_at {α : Type} {w : ℕ} (b o : ℕ) (x : (⟨3, ![8, 2048, w]⟩ : Shape).Idx → α) (z : Fin 1) (r : Fin 1024) (d : Fin w) :
    (rows b o x) (ix3 z r d) = x (ix3 (Fin.ofNat 8 b) (Fin.ofNat 2048 (o + r.val)) d) := rfl

theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![0, 0] ∧ win0_4.index t = ![1, 0, 1] ∧ win0_5.index t = ![0, 0] ∧ win0_6.index t = ![0, 0] ∧ win0_7.index t = ![t.val / 2, t.val % 2, 0] :=
  (by decide +kernel : ∀ t : Fin grid0.N, _)

section
variable (m : (l : Loc nD τ sig) → Buf (Elt Ideal) l) (c : Dev nD) (t : Fin cfg0.N)

theorem in_0 : (iblk m c 0 t : Vec Ideal S1x1024x1024 .f32) = rows (t.val / 2) (1024 * (t.val % 2)) (m ((c : Thread nD τ).loc main_arg0)) := by
  have ht : t.val < 16 := t.isLt
  funext y
  obtain ⟨r, d, rfl⟩ := as_ix3 y
  rw [rows_at]
  blk_ext [iblk, V, idx t, Fin.val_ofNat]

theorem in_1 : (iblk m c 1 t : Vec Ideal S1x1024x512 .bf16) = rows (t.val / 2) (1024 * (t.val % 2)) (m ((c : Thread nD τ).loc main_arg1)) := by
  have ht : t.val < 16 := t.isLt
  funext y
  obtain ⟨r, d, rfl⟩ := as_ix3 y
  rw [rows_at]
  blk_ext [iblk, V, idx t, Fin.val_ofNat]

theorem in_2 : (iblk m c 2 t : Vec Ideal S1x1024x512 .bf16) = rows (t.val / 2) (1024 * (t.val % 2)) (m ((c : Thread nD τ).loc main_arg2)) := by
  have ht : t.val < 16 := t.isLt
  funext y
  obtain ⟨r, d, rfl⟩ := as_ix3 y
  rw [rows_at]
  blk_ext [iblk, V, idx t, Fin.val_ofNat]

theorem in_3 : (iblk m c 3 t : Vec Ideal S1024x1024 .bf16) = m ((c : Thread nD τ).loc main_arg3) := by
  funext y
  rw [eq_ix2 y]
  blk_ext [iblk, V, idx t, Fin.val_ofNat]

theorem in_5 : (iblk m c 5 t : Vec Ideal S1024x5632 .bf16) = m ((c : Thread nD τ).loc main_arg5) := by
  funext y
  rw [eq_ix2 y]
  blk_ext [iblk, V, idx t, Fin.val_ofNat]

theorem in_6 : (iblk m c 6 t : Vec Ideal S2816x1024 .bf16) = m ((c : Thread nD τ).loc main_arg6) := by
  funext y
  rw [eq_ix2 y]
  blk_ext [iblk, V, idx t, Fin.val_ofNat]

theorem in_4 (e : Fin 1024) : (X0_4 m c t : Vec Ideal S1x1x1024 .f32) (ix3 0 0 e) = m ((c : Thread nD τ).loc main_arg4) (ix3 1 0 (Fin.ofNat 4608 (1024 + e.val))) := by
  unfold X0_4 Pipeline.Window.fill
  rw [dif_pos (moved0_4 t _)]
  blk_ext [iblk, V, idx t, Fin.val_ofNat]

theorem out_block (y : S1x1024x1024.Idx) (j : S8x2048x1024.Idx) (h0 : (j 0).val = t.val / 2) (h1 : (j 1).val = 1024 * (t.val % 2) + (y 1).val) (h2 : (j 2).val = (y 2).val) :
    outsAt0 m c t y = layerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  rw [outsAt0]
  refine (block7 _ _ _ _ _ _ _ c _ _ _ _ _ _ _ _ _ _ _ _ _ _ _ _ _ _ _ r d).trans ?_
  rw [in_0, in_1, in_2, in_3, in_5, in_6, show gains (X0_4 m c t) = fun e => m ((c : Thread nD τ).loc main_arg4) (ix3 1 0 (Fin.ofNat 4608 (1024 + e.val))) from funext (in_4 m c t)]
  simp only [rowOf, rows_at, layerArr, e0, e1, e2]

theorem final7 : (dats m 0 c).arrAt 7 (cfgs 0).N
    = layerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  have ht : t.val < 16 := t.isLt
  blk_simp
  rw [after0_7]
  refine out_block m c t y _ ?_ ?_ ?_ <;> blk_simp [idx t] <;> idx_bounds y <;> omega

end
end Cert.Kernel2Ideal.Ffn
-- ==== Proof.FfnEq.lean ====
module
public import proofs.«01_k».proof.Proof.Gen.Reference2Ideal.Read
public import proofs.«01_k».proof.Proof.FfnArrays
/-! The output projection and the feed-forward part of the reference give the kernel's array. -/
@[expose] public section
set_option maxRecDepth 16384
noncomputable section
namespace Cert.Reference2Ideal.FfnRef
open Cert.Reference2Ideal Cert.Reference2Ideal.Gen Cert.Reference2Ideal.Read Idealize.ShloMosaic Idealize.ShloMosaic.TcCoe
open Cert.Kernel2Ideal.Ffn (resid normed proj unitAt outRow layerArr)

theorem lit_1024 : Ideal.ofBits FTy.f32 0x44800000#32 = ((1024 : ℝ) : EReal) := by
  simp [Ideal.ofBits, Ideal.ieee, -EReal.coe_mul]; norm_num

theorem lit_inv1024 : Ideal.ofBits FTy.f32 0x3A800000#32 = ((1 / 1024 : ℝ) : EReal) := by
  simp [Ideal.ofBits, Ideal.ieee, -EReal.coe_mul]; norm_num

/-- Division by 1024 is multiplication by its inverse, at the infinities too. -/
theorem mean_1024 (x : EReal) : Ideal.div x (Ideal.ofBits FTy.f32 0x44800000#32) = x * Ideal.ofBits FTy.f32 0x3A800000#32 := by
  rw [lit_1024, lit_inv1024, Ideal.div_coe (by norm_num)]

theorem fin_lit {n v k : ℕ} [NeZero n] (h : v < n) (e : v = k) : (⟨v, h⟩ : Fin n) = Fin.ofNat n k := by
  subst e; exact Fin.ext (Nat.mod_eq_of_lt h).symm

variable (x0 : Vec Ideal S8x2048x1024 .f32) (x1 x2 : Vec Ideal S8x2048x512 .bf16) (x3 : Vec Ideal S1024x1024 .bf16) (x4 : Vec Ideal S2x1x4608 .f32) (x5 : Vec Ideal S1024x5632 .bf16) (x6 : Vec Ideal S2816x1024 .bf16)

/-- A row after the output projection. -/
def rowR (b : Fin 8) (n : Fin 2048) : Fin 1024 → EReal := resid (fun e => x0 (ix3 b n e)) (fun i => x1 (ix3 b n i)) (fun i => x2 (ix3 b n i)) x3

/-- The gains of the feed-forward part. -/
def gainR : Fin 1024 → EReal := fun e => x4 (ix3 1 0 (Fin.ofNat 4608 (1024 + e.val)))

theorem joined_at (b : Fin 8) (n : Fin 2048) (k : Fin 1024) :
    val_main_v0 (F := Ideal) x1 x2 (ix3 b n k) = if k.val < 512 then x1 (ix3 b n (Fin.ofNat 512 k.val)) else x2 (ix3 b n (Fin.ofNat 512 (k.val - 512))) := by
  have hk := k.isLt
  pointwise [val_main_v0]
  by_cases hs : k.val < 512
  · rw [dif_pos hs, if_pos hs]
    exact congrArg (fun i => x1 (ix3 b n i)) (fin_lit _ rfl)
  · rw [dif_neg hs, if_neg hs]
    exact congrArg (fun i => x2 (ix3 b n i)) (fin_lit _ rfl)

theorem resid_at (b : Fin 8) (n : Fin 2048) (e : Fin 1024) : val_main_v4 (F := Ideal) x0 x1 x2 x3 (ix3 b n e) = rowR x0 x1 x2 x3 b n e := by
  have h : val_main_v4 (F := Ideal) x0 x1 x2 x3 (ix3 b n e) = x0 (ix3 b n e) + ∑ k : Fin 1024, val_main_v0 (F := Ideal) x1 x2 (ix3 b n k) * x3 (ix2 k e) := by
    pointwise [val_main_v4, val_main_v3, val_main_v2, val_main_v1]
  rw [h, rowR, resid, add_assoc]
  congr 1
  refine (Fin.sum_univ_add (a := 512) (b := 512) fun k : Fin 1024 => val_main_v0 (F := Ideal) x1 x2 (ix3 b n k) * x3 (ix2 k e)).trans ?_
  congr 1
  · refine Finset.sum_congr rfl fun i _ => ?_
    have hi := i.isLt
    rw [joined_at, if_pos (show (Fin.castAdd 512 i).val < 512 from hi), show Fin.ofNat 512 (Fin.castAdd 512 i).val = i from Fin.ext (Nat.mod_eq_of_lt hi),
      show (Fin.castAdd 512 i : Fin 1024) = Fin.ofNat 1024 i.val from Fin.ext (Nat.mod_eq_of_lt (by omega)).symm]
  · refine Finset.sum_congr rfl fun i _ => ?_
    have hi := i.isLt
    rw [joined_at, if_neg (show ¬ ((Fin.natAdd 512 i).val < 512) by rw [Fin.val_natAdd]; omega), show Fin.ofNat 512 ((Fin.natAdd 512 i).val - 512) = i from
        Fin.ext (by rw [Fin.val_ofNat, Fin.val_natAdd, Nat.add_sub_cancel_left]; exact Nat.mod_eq_of_lt hi),
      show (Fin.natAdd 512 i : Fin 1024) = Fin.ofNat 1024 (512 + i.val) from Fin.ext (Nat.mod_eq_of_lt (by omega)).symm]

theorem normed_at (b : Fin 8) (n : Fin 2048) (e : Fin 1024) :
    val_main_v19 (F := Ideal) x0 x1 x2 x3 x4 (ix3 b n e) = normed (rowR x0 x1 x2 x3 b n) (gainR x4) e := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [resid_at, mean_1024, normed, gainR]
  exact congrArg (fun i => _ * x4 (ix3 1 0 i)) (fin_lit _ rfl)

theorem proj_at (b : Fin 8) (n : Fin 2048) (f : Fin 5632) :
    val_main_v21 (F := Ideal) x0 x1 x2 x3 x4 x5 (ix3 b n f) = proj (normed (rowR x0 x1 x2 x3 b n) (gainR x4)) x5 f.val := by
  pointwise [val_main_v21, val_main_v20]
  simp only [normed_at, proj]
  simp only [Fin.ofNat_val_eq_self]

theorem unit_at (b : Fin 8) (n : Fin 2048) (f : Fin 2816) :
    val_main_v25 (F := Ideal) x0 x1 x2 x3 x4 x5 (ix3 b n f) = unitAt (normed (rowR x0 x1 x2 x3 b n) (gainR x4)) x5 f.val := by
  pointwise [val_main_v25, val_main_v24, val_main_v23, val_main_v22, val_main_call0_v0, val_main_call0_v1, val_main_call0_v2, val_main_call0_v3, val_main_call0_v4, val_main_call0_v5, val_main_call0_cst, val_main_call0_cst_0]
  simp only [proj_at, unitAt]
  simp only [zero_sub]

theorem out_at (b : Fin 8) (n : Fin 2048) (e : Fin 1024) :
    val_main_v28 (F := Ideal) x0 x1 x2 x3 x4 x5 x6 (ix3 b n e) = outRow (rowR x0 x1 x2 x3 b n) (gainR x4) x5 x6 e := by
  pointwise [val_main_v28, val_main_v27, val_main_v26]
  simp only [resid_at, unit_at, outRow]

/-- The reference's array is the kernel's. -/
theorem layer_eq : val_main_v28 (F := Ideal) x0 x1 x2 x3 x4 x5 x6 = layerArr x0 x1 x2 x3 x4 x5 x6 := by
  funext j
  rw [eq_ix3 j]
  exact out_at x0 x1 x2 x3 x4 x5 x6 (j 0) (j 1) (j 2)

end Cert.Reference2Ideal.FfnRef
-- ==== Proof.PreRows.lean ====
module
public import proofs.«01_k».proof.Proof.PreLaunch
public import Idealize.ShloMosaic.Lib.Pointwise
public import Idealize.ShloMosaic.Lib.Pipeline.ValueKit
/-! The projections before attention and retention: the rows, and what one grid step computes from its blocks. -/
@[expose] public section
set_option maxRecDepth 16384
noncomputable section
namespace Cert.Kernel3Ideal.Pre
open Cert.Kernel3Ideal Cert.Kernel3Ideal.Gen Cert.Kernel3Ideal.Gen.kernelRun0_A Idealize.ShloMosaic Idealize.ShloMosaic.TcCoe Idealize.SL.Sem

/-! ## One row -/

/-- A row over the root of its mean square, times the gains. -/
def normed {n : ℕ} (k : EReal) (x g : Fin n → EReal) : Fin n → EReal := fun e =>
  x e * Ideal.rsqrt ((∑ i : Fin n, x i * x i) * k + Ideal.ofBits .f32 0x358637BD#32) * g e

/-- The row after its normalization. -/
def start (h g : Fin 1024 → EReal) : Fin 1024 → EReal := normed (Ideal.ofBits .f32 0x3A800000#32) h g

/-- Row `f` of a matrix times a vector. -/
def dotRow {n : ℕ} [NeZero n] (x : Fin 1024 → EReal) (w : Fin n → Fin 1024 → EReal) (f : ℕ) : EReal := ∑ e : Fin 1024, x e * w (Fin.ofNat n f) e

/-- A vector times column `f` of a matrix. -/
def dotCol {n : ℕ} [NeZero n] (x : Fin 256 → EReal) (w : Fin 256 → Fin n → EReal) (f : ℕ) : EReal := ∑ d : Fin 256, x d * w d (Fin.ofNat n f)

/-- The normed latent vector whose rows of the matrix begin at `o`. -/
def latent (x : Fin 1024 → EReal) (w : Fin 768 → Fin 1024 → EReal) (o : ℕ) (g : Fin 256 → EReal) : Fin 256 → EReal :=
  normed (Ideal.ofBits .f32 0x3B800000#32) (fun d => dotRow x w (o + d.val)) g

/-- Lane `l` of a head's first half. -/
def lo (l : Fin 128) : Fin 256 := ⟨l.val, by omega⟩

/-- Lane `l` of a head's second half. -/
def hi (l : Fin 128) : Fin 256 := ⟨128 + l.val, by omega⟩

/-- The factor that norms a head. -/
def scale (z : Fin 256 → EReal) : EReal :=
  Ideal.rsqrt ((∑ l : Fin 128, (z (lo l) * z (lo l) + z (hi l) * z (hi l))) * ((1 / 192 : ℝ) : EReal) + Ideal.ofBits .f32 0x358637BD#32)

/-- A head, normed and rotated: the first half. -/
def turnLo (z g : Fin 256 → EReal) (c s : Fin 128 → EReal) (l : Fin 128) : EReal :=
  (z (lo l) * g (lo l) * c l - z (hi l) * g (hi l) * s l) * scale z

/-- A head, normed and rotated: the second half. -/
def turnHi (z g : Fin 256 → EReal) (c s : Fin 128 → EReal) (l : Fin 128) : EReal :=
  (z (hi l) * g (hi l) * c l + z (lo l) * g (lo l) * s l) * scale z

/-- Column `j` of the heads, normed and rotated; head `k` is `z k`. -/
def turned (z : ℕ → Fin 256 → EReal) (g : Fin 256 → EReal) (c s : Fin 128 → EReal) (j : ℕ) : EReal :=
  if j % 256 < 128 then turnLo (z (j / 256)) g c s (Fin.ofNat 128 j) else turnHi (z (j / 256)) g c s (Fin.ofNat 128 j)

/-- Column `j` of a pair of heads, rotated. -/
def swung (z : ℕ → EReal) (c s : Fin 128 → EReal) (j : ℕ) : EReal :=
  if j % 256 < 128 then z (256 * (j / 256) + j % 128) * c (Fin.ofNat 128 j) - z (256 * (j / 256) + 128 + j % 128) * s (Fin.ofNat 128 j)
  else z (256 * (j / 256) + 128 + j % 128) * c (Fin.ofNat 128 j) + z (256 * (j / 256) + j % 128) * s (Fin.ofNat 128 j)

/-- Head `k` of the queries. -/
def headQ (x : Fin 256 → EReal) (w : Fin 256 → Fin 1024 → EReal) (k : ℕ) : Fin 256 → EReal := fun d => dotCol x w (256 * k + d.val)

/-- Head `k` of the keys. -/
def headK (x : Fin 256 → EReal) (w : Fin 256 → Fin 1536 → EReal) (p : Fin 256 → EReal) (k : ℕ) : Fin 256 → EReal := fun d => dotCol x w (256 * k + d.val) + p d

/-! ## Loads -/

/-- The part of a block that begins at row `o` and lane `l`. -/
def part {α : Type} {n1 n2 m1 m2 : ℕ} [NeZero n1] [NeZero n2] (o l : ℕ)
    (x : (⟨3, ![1, n1, n2]⟩ : Shape).Idx → α) : (⟨3, ![1, m1, m2]⟩ : Shape).Idx → α :=
  fun i => x (ix3 0 (Fin.ofNat n1 (o + (i 1).val)) (Fin.ofNat n2 (l + (i 2).val)))

theorem part_at {α : Type} {n1 n2 m1 m2 : ℕ} [NeZero n1] [NeZero n2] (o l : ℕ)
    (x : (⟨3, ![1, n1, n2]⟩ : Shape).Idx → α) (z : Fin 1) (a : Fin m1) (b : Fin m2) :
    (part o l x : (⟨3, ![1, m1, m2]⟩ : Shape).Idx → α) (ix3 z a b) = x (ix3 0 (Fin.ofNat n1 (o + a.val)) (Fin.ofNat n2 (l + b.val))) := rfl

theorem load_part {e : EltTy} {n1 n2 m1 m2 : ℕ} [NeZero n1] [NeZero n2] (o l : ℕ)
    (a : Memref sig .tc .vmem ⟨3, ![1, n1, n2]⟩ e) (ha : a.IsWhole) (x : Vec Ideal ⟨3, ![1, n1, n2]⟩ e)
    (h : ∀ k : Fin 3, (![0, o, l] : Fin 3 → ℕ) k + (![1, m1, m2] : Fin 3 → ℕ) k ≤ (![1, n1, n2] : Fin 3 → ℕ) k) :
    View.readAt (Elt Ideal) a.view (Rect.unit (s := ⟨3, ![1, n1, n2]⟩) ![0, o, l] ![1, m1, m2] h).toLoadRect (ha.unread x) = part o l x := by
  rw [View.readAt_eq_ld, Memref.IsWhole.read_unread]
  funext i
  refine View.ld_unit_apply_of (S := ⟨3, ![1, n1, n2]⟩) x ![0, o, l] ![1, m1, m2] h i
    (ix3 0 (Fin.ofNat n1 (o + (i 1).val)) (Fin.ofNat n2 (l + (i 2).val))) fun k => ?_
  have h0 : o + m1 ≤ n1 := h 1
  have h1 : l + m2 ≤ n2 := h 2
  have e : (i 0).val < 1 := (i 0).isLt
  have e0 : (i 1).val < m1 := (i 1).isLt
  have e1 : (i 2).val < m2 := (i 2).isLt
  match k with
  | 0 => show 0 = 0 + (i 0).val; omega
  | 1 => show (o + (i 1).val) % n1 = o + (i 1).val; exact Nat.mod_eq_of_lt (by omega)
  | 2 => show (l + (i 2).val) % n2 = l + (i 2).val; exact Nat.mod_eq_of_lt (by omega)

theorem load_block {e : EltTy} {n1 n2 : ℕ}
    (a : Memref sig .tc .vmem ⟨3, ![1, n1, n2]⟩ e) (ha : a.IsWhole) (x : Vec Ideal ⟨3, ![1, n1, n2]⟩ e)
    (h : ∀ k : Fin 3, (![0, 0, 0] : Fin 3 → ℕ) k + (![1, n1, n2] : Fin 3 → ℕ) k ≤ (![1, n1, n2] : Fin 3 → ℕ) k) :
    View.readAt (Elt Ideal) a.view (Rect.unit (s := ⟨3, ![1, n1, n2]⟩) ![0, 0, 0] ![1, n1, n2] h).toLoadRect (ha.unread x) = x := by
  rw [View.readAt_eq_ld, Memref.IsWhole.read_unread]
  funext i
  refine View.ld_unit_apply_of (S := ⟨3, ![1, n1, n2]⟩) x ![0, 0, 0] ![1, n1, n2] h i i fun k => ?_
  match k with
  | 0 => exact (Nat.zero_add _).symm
  | 1 => exact (Nat.zero_add _).symm
  | 2 => exact (Nat.zero_add _).symm

theorem load_whole {e : EltTy} {n1 n2 : ℕ}
    (a : Memref sig .tc .vmem ⟨2, ![n1, n2]⟩ e) (ha : a.IsWhole) (x : Vec Ideal ⟨2, ![n1, n2]⟩ e)
    (h : ∀ k : Fin 2, (![0, 0] : Fin 2 → ℕ) k + (![n1, n2] : Fin 2 → ℕ) k ≤ (![n1, n2] : Fin 2 → ℕ) k) :
    View.readAt (Elt Ideal) a.view (Rect.unit (s := ⟨2, ![n1, n2]⟩) ![0, 0] ![n1, n2] h).toLoadRect (ha.unread x) = x := by
  rw [View.readAt_eq_ld, Memref.IsWhole.read_unread]
  funext i
  refine View.ld_unit_apply_of (S := ⟨2, ![n1, n2]⟩) x ![0, 0] ![n1, n2] h i i fun k => ?_
  match k with
  | 0 => exact (Nat.zero_add _).symm
  | 1 => exact (Nat.zero_add _).symm

/-- A whole store into a scratch buffer, read back whole. -/
theorem load_scratch {e : EltTy} {n1 n2 : ℕ} (a : Memref sig .tc .vmem ⟨2, ![n1, n2]⟩ e) (x : Vec Ideal ⟨2, ![n1, n2]⟩ e)
    (h h' : ∀ k : Fin 2, (![0, 0] : Fin 2 → ℕ) k + (![n1, n2] : Fin 2 → ℕ) k ≤ (![n1, n2] : Fin 2 → ℕ) k) :
    a.view.readCov (Val := Elt Ideal) [⟨Rect.unit (s := ⟨2, ![n1, n2]⟩) ![0, 0] ![n1, n2] h, x⟩] (Rect.unit (s := ⟨2, ![n1, n2]⟩) ![0, 0] ![n1, n2] h').toLoadRect = x := by
  have cov : ∀ y : (⟨2, ![n1, n2]⟩ : Shape).Idx, ∃ p ∈ ([⟨Rect.unit (s := ⟨2, ![n1, n2]⟩) ![0, 0] ![n1, n2] h, x⟩] : List (View.Piece (Elt Ideal) ⟨2, ![n1, n2]⟩ e)), y ∈ p.1.set := fun y => by
    refine ⟨_, .head _, ?_⟩
    rw [Rect.mem_set_unit]
    intro k
    match k with
    | 0 => exact ⟨Nat.zero_le _, (Nat.zero_add _).symm ▸ (y 0).isLt⟩
    | 1 => exact ⟨Nat.zero_le _, (Nat.zero_add _).symm ▸ (y 1).isLt⟩
  rw [View.readCov_eq_canon_ld _ _ _ cov]
  have hx : View.canon (Val := Elt Ideal) [⟨Rect.unit (s := ⟨2, ![n1, n2]⟩) ![0, 0] ![n1, n2] h, x⟩] = x := by
    funext y
    refine View.canon_apply_of_pieces x _ (List.forall_mem_singleton.mpr fun i => ?_) y (cov y)
    refine congrArg x (funext fun k => Fin.ext ?_)
    simp [Rect.emb_apply]
    match k with
    | 0 => rfl
    | 1 => rfl
  rw [hx]
  funext i
  refine View.ld_unit_apply_of (S := ⟨2, ![n1, n2]⟩) x ![0, 0] ![n1, n2] h' i i fun k => ?_
  match k with
  | 0 => exact (Nat.zero_add _).symm
  | 1 => exact (Nat.zero_add _).symm

/-! ## The steps -/

theorem inv192 : (Named.named κ "inv192" 0x3BAAAAAB#32 : Ideal .f32) = ((1 / 192 : ℝ) : EReal) := rfl

theorem start_at (x : Vec Ideal S1x1024x1024 .f32) (g : Vec Ideal S1x1x1024 .f32) (r e : Fin 1024) :
    k0_pay9 x g (ix2 r e) = start (fun e => x (ix3 0 r e)) (fun e => g (ix3 0 0 e)) e := by
  pointwise [k0_pay9]
  rfl

theorem latent_at (x : Vec Ideal S1024x1024 .bf16) (w : Vec Ideal S1x256x1024 .bf16) (g : Vec Ideal S1x1x256 .f32) (r : Fin 1024) (d : Fin 256) :
    k0_pay10 x w g (ix2 r d) = normed (Ideal.ofBits .f32 0x3B800000#32) (fun d => ∑ e : Fin 1024, x (ix2 r e) * w (ix3 0 d e)) (fun d => g (ix3 0 0 d)) d := by
  pointwise [k0_pay10]
  rfl

theorem latent_split (x : Vec Ideal S1024x1024 .bf16) (w : Vec Ideal S1x256x1024 .bf16) (g : Vec Ideal S1x1x256 .f32) :
    k0_pay13 (k0_pay11 x w) (k0_pay12 g) = k0_pay10 x w g := rfl

theorem shared_at (x : Vec Ideal S1024x1024 .bf16) (w : Vec Ideal S1x256x1024 .bf16) (r : Fin 1024) (d : Fin 256) :
    k0_pay14 x w (ix2 r d) = ∑ e : Fin 1024, x (ix2 r e) * w (ix3 0 d e) := by
  pointwise [k0_pay14]

theorem plain_at (x : Vec Ideal S1024x1024 .bf16) (w : Vec Ideal S1x512x1024 .bf16) (r : Fin 1024) (f : Fin 512) :
    k0_pay15 x w (ix3 0 r f) = ∑ e : Fin 1024, x (ix2 r e) * w (ix3 0 f e) := by
  pointwise [k0_pay15]

theorem wide_at (x : Vec Ideal S1024x1024 .bf16) (w : Vec Ideal S1x512x1024 .bf16) (r : Fin 1024) (f : Fin 512) :
    k0_pay94 x w (ix2 r f) = ∑ e : Fin 1024, x (ix2 r e) * w (ix3 0 f e) := by
  pointwise [k0_pay94]

theorem up_at (x : Vec Ideal S1024x256 .bf16) (w : Vec Ideal S1x256x512 .bf16) (r : Fin 1024) (f : Fin 512) :
    k0_pay16 x w (ix2 r f) = ∑ d : Fin 256, x (ix2 r d) * w (ix3 0 d f) := by
  pointwise [k0_pay16]

theorem value_at (x : Vec Ideal S1024x256 .bf16) (w : Vec Ideal S1x256x512 .bf16) (r : Fin 1024) (f : Fin 512) :
    k0_pay95 x w (ix3 0 r f) = ∑ d : Fin 256, x (ix2 r d) * w (ix3 0 d f) := by
  pointwise [k0_pay95]

/-- The two heads of a product of 512 columns. -/
def half0 (x : Vec Ideal S1024x256 .bf16) (w : Vec Ideal S1x256x512 .bf16) : FVec Ideal S1024x256 .f32 :=
  extractStridedSlice S1024x256 ![0, 0] (k0_pay16 x w) slices_S1024x512_o0_0_S1024x256

/-- The second of them. -/
def half1 (x : Vec Ideal S1024x256 .bf16) (w : Vec Ideal S1x256x512 .bf16) : FVec Ideal S1024x256 .f32 :=
  extractStridedSlice S1024x256 ![0, 256] (k0_pay16 x w) slices_S1024x512_o0_256_S1024x256

theorem half0_at (x : Vec Ideal S1024x256 .bf16) (w : Vec Ideal S1x256x512 .bf16) (r : Fin 1024) (d : Fin 256) :
    half0 x w (ix2 r d) = ∑ k : Fin 256, x (ix2 r k) * w (ix3 0 k (Fin.ofNat 512 d.val)) := by
  have hd := d.isLt
  pointwise [half0]
  rw [up_at]
  refine Finset.sum_congr rfl fun k _ => ?_
  refine congrArg (fun j => x (ix2 r k) * w (ix3 0 k j)) (Fin.ext ?_)
  rw [Fin.val_ofNat]
  simp
  try omega

theorem half1_at (x : Vec Ideal S1024x256 .bf16) (w : Vec Ideal S1x256x512 .bf16) (r : Fin 1024) (d : Fin 256) :
    half1 x w (ix2 r d) = ∑ k : Fin 256, x (ix2 r k) * w (ix3 0 k (Fin.ofNat 512 (256 + d.val))) := by
  have hd := d.isLt
  pointwise [half1]
  rw [up_at]
  refine Finset.sum_congr rfl fun k _ => ?_
  refine congrArg (fun j => x (ix2 r k) * w (ix3 0 k j)) (Fin.ext ?_)
  rw [Fin.val_ofNat]
  simp
  try omega

/-- The first half of a head's tile. -/
def tileLo (g : Vec Ideal S1x1x128 .f32) (g' : Vec Ideal S1x1x128 .f32) (z : FVec Ideal S1024x256 .f32) (c s : Vec Ideal S1024x128 .f32) : FVec Ideal S1x1024x128 .bf16 :=
  k0_pay33 (k0_pay5 g) (k0_pay6 g') z (extractStridedSlice S1024x128 ![0, 0] z slices_S1024x256_o0_0_S1024x128) c s

/-- The second half of a head's tile. -/
def tileHi (g : Vec Ideal S1x1x128 .f32) (g' : Vec Ideal S1x1x128 .f32) (z : FVec Ideal S1024x256 .f32) (c s : Vec Ideal S1024x128 .f32) : FVec Ideal S1x1024x128 .bf16 :=
  k0_pay34 (k0_pay5 g) (k0_pay6 g') z (extractStridedSlice S1024x128 ![0, 0] z slices_S1024x256_o0_0_S1024x128) c s

theorem gain_lo (x : Vec Ideal S1x1x256 .f32) (l : Fin 128) : (part 0 0 x : Vec Ideal S1x1x128 .f32) (ix3 0 0 l) = x (ix3 0 0 (lo l)) := by
  rw [part_at, show Fin.ofNat 256 (0 + l.val) = lo l from Fin.ext (by rw [Fin.val_ofNat]; show (0 + l.val) % 256 = l.val; omega)]
  rfl

theorem gain_hi (x : Vec Ideal S1x1x256 .f32) (l : Fin 128) : (part 0 128 x : Vec Ideal S1x1x128 .f32) (ix3 0 0 l) = x (ix3 0 0 (hi l)) := by
  rw [part_at, show Fin.ofNat 256 (128 + l.val) = hi l from Fin.ext (by rw [Fin.val_ofNat]; show (128 + l.val) % 256 = 128 + l.val; omega)]
  rfl

theorem tileLo_at (x : Vec Ideal S1x1x256 .f32) (z : FVec Ideal S1024x256 .f32) (c s : Vec Ideal S1024x128 .f32) (r : Fin 1024) (l : Fin 128) :
    tileLo (part 0 0 x) (part 0 128 x) z c s (ix3 0 r l) = turnLo (fun d => z (ix2 r d)) (fun d => x (ix3 0 0 d)) (fun l => c (ix2 r l)) (fun l => s (ix2 r l)) l := by
  pointwise [tileLo, k0_pay33, k0_pay32, k0_pay31, k0_pay30, k0_pay29, k0_pay5, k0_pay6]
  rw [gain_lo, gain_hi, inv192]
  rfl

theorem tileHi_at (x : Vec Ideal S1x1x256 .f32) (z : FVec Ideal S1024x256 .f32) (c s : Vec Ideal S1024x128 .f32) (r : Fin 1024) (l : Fin 128) :
    tileHi (part 0 0 x) (part 0 128 x) z c s (ix3 0 r l) = turnHi (fun d => z (ix2 r d)) (fun d => x (ix3 0 0 d)) (fun l => c (ix2 r l)) (fun l => s (ix2 r l)) l := by
  pointwise [tileHi, k0_pay34, k0_pay32, k0_pay31, k0_pay30, k0_pay29, k0_pay5, k0_pay6]
  rw [gain_lo, gain_hi, inv192]
  rfl

theorem pair_0 (z : FVec Ideal S1024x512 .f32) (c s : Vec Ideal S1024x128 .f32) (r : Fin 1024) (l : Fin 128) :
    k0_pay102 z c s (ix3 0 r l) = z (ix2 r ⟨l.val, by omega⟩) * c (ix2 r l) - z (ix2 r ⟨128 + l.val, by omega⟩) * s (ix2 r l) := by
  pointwise [k0_pay102, k0_pay100, k0_pay101]

theorem pair_1 (z : FVec Ideal S1024x512 .f32) (c s : Vec Ideal S1024x128 .f32) (r : Fin 1024) (l : Fin 128) :
    k0_pay103 z c s (ix3 0 r l) = z (ix2 r ⟨128 + l.val, by omega⟩) * c (ix2 r l) + z (ix2 r ⟨l.val, by omega⟩) * s (ix2 r l) := by
  pointwise [k0_pay103, k0_pay100, k0_pay101]

theorem pair_2 (z : FVec Ideal S1024x512 .f32) (c s : Vec Ideal S1024x128 .f32) (r : Fin 1024) (l : Fin 128) :
    k0_pay3 z c s (ix3 0 r l) = z (ix2 r ⟨256 + l.val, by omega⟩) * c (ix2 r l) - z (ix2 r ⟨384 + l.val, by omega⟩) * s (ix2 r l) := by
  pointwise [k0_pay3, k0_pay1, k0_pay2]

theorem pair_3 (z : FVec Ideal S1024x512 .f32) (c s : Vec Ideal S1024x128 .f32) (r : Fin 1024) (l : Fin 128) :
    k0_pay4 z c s (ix3 0 r l) = z (ix2 r ⟨384 + l.val, by omega⟩) * c (ix2 r l) + z (ix2 r ⟨256 + l.val, by omega⟩) * s (ix2 r l) := by
  pointwise [k0_pay4, k0_pay1, k0_pay2]

/-! ## The steps together -/

theorem sub_lane {n : ℕ} [NeZero n] (o a : ℕ) (h : a < 512) : Fin.ofNat n (o + (Fin.ofNat 512 a).val) = Fin.ofNat n (o + a) := by
  rw [Fin.val_ofNat, Nat.mod_eq_of_lt h]

theorem whole_row {n : ℕ} [NeZero n] (a : Fin n) : Fin.ofNat n (0 + a.val) = a := by
  rw [Nat.zero_add, Fin.ofNat_val_eq_self]

theorem tileLo_in (g : Vec Ideal S1x1x256 .f32) (z : FVec Ideal S1024x256 .f32) (c s : Vec Ideal S1024x128 .f32) (zf : Fin 1024 → ℕ → Fin 256 → EReal) (k : ℕ)
    (hz : ∀ r d, z (ix2 r d) = zf r k d) (x : S1x1024x128.Idx) (r : Fin 1024) (j : ℕ) (h1 : r.val = (x 1).val) (h2 : j = 256 * k + (x 2).val) :
    tileLo (part 0 0 g) (part 0 128 g) z c s x = turned (zf r) (fun d => g (ix3 0 0 d)) (fun l => c (ix2 r l)) (fun l => s (ix2 r l)) j := by
  obtain ⟨r', l, rfl⟩ : ∃ (r : Fin 1024) (l : Fin 128), x = ix3 0 r l := ⟨x 1, x 2, funext fun k => match k with
    | 0 => Subsingleton.elim (α := Fin 1) _ _
    | 1 => rfl
    | 2 => rfl⟩
  have hr : r = r' := Fin.ext h1
  have hl := l.isLt
  have h2' : j = 256 * k + l.val := h2
  subst hr
  rw [tileLo_at, turned, if_pos (by omega), show j / 256 = k by omega, show Fin.ofNat 128 j = l from Fin.ext (by rw [Fin.val_ofNat]; omega),
    show (fun d => z (ix2 r d)) = zf r k from funext (hz r)]

theorem tileHi_in (g : Vec Ideal S1x1x256 .f32) (z : FVec Ideal S1024x256 .f32) (c s : Vec Ideal S1024x128 .f32) (zf : Fin 1024 → ℕ → Fin 256 → EReal) (k : ℕ)
    (hz : ∀ r d, z (ix2 r d) = zf r k d) (x : S1x1024x128.Idx) (r : Fin 1024) (j : ℕ) (h1 : r.val = (x 1).val) (h2 : j = 256 * k + 128 + (x 2).val) :
    tileHi (part 0 0 g) (part 0 128 g) z c s x = turned (zf r) (fun d => g (ix3 0 0 d)) (fun l => c (ix2 r l)) (fun l => s (ix2 r l)) j := by
  obtain ⟨r', l, rfl⟩ : ∃ (r : Fin 1024) (l : Fin 128), x = ix3 0 r l := ⟨x 1, x 2, funext fun k => match k with
    | 0 => Subsingleton.elim (α := Fin 1) _ _
    | 1 => rfl
    | 2 => rfl⟩
  have hr : r = r' := Fin.ext h1
  have hl := l.isLt
  have h2' : j = 256 * k + 128 + l.val := h2
  subst hr
  rw [tileHi_at, turned, if_neg (by omega), show j / 256 = k by omega, show Fin.ofNat 128 j = l from Fin.ext (by rw [Fin.val_ofNat]; omega),
    show (fun d => z (ix2 r d)) = zf r k from funext (hz r)]

theorem pair_0_in (z : FVec Ideal S1024x512 .f32) (c s : Vec Ideal S1024x128 .f32) (zf : Fin 1024 → ℕ → EReal)
    (hz : ∀ r f, z (ix2 r f) = zf r f.val) (x : S1x1024x128.Idx) (r : Fin 1024) (j : ℕ) (h1 : r.val = (x 1).val) (h2 : j = 0 + (x 2).val) :
    k0_pay102 z c s x = swung (zf r) (fun l => c (ix2 r l)) (fun l => s (ix2 r l)) j := by
  obtain ⟨r', l, rfl⟩ : ∃ (r : Fin 1024) (l : Fin 128), x = ix3 0 r l := ⟨x 1, x 2, funext fun k => match k with
    | 0 => Subsingleton.elim (α := Fin 1) _ _
    | 1 => rfl
    | 2 => rfl⟩
  have hr : r = r' := Fin.ext h1
  have hl := l.isLt
  have h2' : j = 0 + l.val := h2
  subst hr
  rw [pair_0, hz, hz, swung, if_pos (by omega), show 256 * (j / 256) = 0 by omega, show j % 128 = l.val by omega, show Fin.ofNat 128 j = l from Fin.ext (by rw [Fin.val_ofNat]; omega)]
  try simp only [Nat.zero_add]

theorem pair_1_in (z : FVec Ideal S1024x512 .f32) (c s : Vec Ideal S1024x128 .f32) (zf : Fin 1024 → ℕ → EReal)
    (hz : ∀ r f, z (ix2 r f) = zf r f.val) (x : S1x1024x128.Idx) (r : Fin 1024) (j : ℕ) (h1 : r.val = (x 1).val) (h2 : j = 128 + (x 2).val) :
    k0_pay103 z c s x = swung (zf r) (fun l => c (ix2 r l)) (fun l => s (ix2 r l)) j := by
  obtain ⟨r', l, rfl⟩ : ∃ (r : Fin 1024) (l : Fin 128), x = ix3 0 r l := ⟨x 1, x 2, funext fun k => match k with
    | 0 => Subsingleton.elim (α := Fin 1) _ _
    | 1 => rfl
    | 2 => rfl⟩
  have hr : r = r' := Fin.ext h1
  have hl := l.isLt
  have h2' : j = 128 + l.val := h2
  subst hr
  rw [pair_1, hz, hz, swung, if_neg (by omega), show 256 * (j / 256) = 0 by omega, show j % 128 = l.val by omega, show Fin.ofNat 128 j = l from Fin.ext (by rw [Fin.val_ofNat]; omega)]
  try simp only [Nat.zero_add]

theorem pair_2_in (z : FVec Ideal S1024x512 .f32) (c s : Vec Ideal S1024x128 .f32) (zf : Fin 1024 → ℕ → EReal)
    (hz : ∀ r f, z (ix2 r f) = zf r f.val) (x : S1x1024x128.Idx) (r : Fin 1024) (j : ℕ) (h1 : r.val = (x 1).val) (h2 : j = 256 + (x 2).val) :
    k0_pay3 z c s x = swung (zf r) (fun l => c (ix2 r l)) (fun l => s (ix2 r l)) j := by
  obtain ⟨r', l, rfl⟩ : ∃ (r : Fin 1024) (l : Fin 128), x = ix3 0 r l := ⟨x 1, x 2, funext fun k => match k with
    | 0 => Subsingleton.elim (α := Fin 1) _ _
    | 1 => rfl
    | 2 => rfl⟩
  have hr : r = r' := Fin.ext h1
  have hl := l.isLt
  have h2' : j = 256 + l.val := h2
  subst hr
  rw [pair_2, hz, hz, swung, if_pos (by omega), show 256 * (j / 256) = 256 by omega, show j % 128 = l.val by omega, show Fin.ofNat 128 j = l from Fin.ext (by rw [Fin.val_ofNat]; omega)]
  try simp only [Nat.zero_add]

theorem pair_3_in (z : FVec Ideal S1024x512 .f32) (c s : Vec Ideal S1024x128 .f32) (zf : Fin 1024 → ℕ → EReal)
    (hz : ∀ r f, z (ix2 r f) = zf r f.val) (x : S1x1024x128.Idx) (r : Fin 1024) (j : ℕ) (h1 : r.val = (x 1).val) (h2 : j = 384 + (x 2).val) :
    k0_pay4 z c s x = swung (zf r) (fun l => c (ix2 r l)) (fun l => s (ix2 r l)) j := by
  obtain ⟨r', l, rfl⟩ : ∃ (r : Fin 1024) (l : Fin 128), x = ix3 0 r l := ⟨x 1, x 2, funext fun k => match k with
    | 0 => Subsingleton.elim (α := Fin 1) _ _
    | 1 => rfl
    | 2 => rfl⟩
  have hr : r = r' := Fin.ext h1
  have hl := l.isLt
  have h2' : j = 384 + l.val := h2
  subst hr
  rw [pair_3, hz, hz, swung, if_neg (by omega), show 256 * (j / 256) = 256 by omega, show j % 128 = l.val by omega, show Fin.ofNat 128 j = l from Fin.ext (by rw [Fin.val_ofNat]; omega)]
  try simp only [Nat.zero_add]

section
variable (x0 : Vec Ideal S1x1024x1024 .f32) (x1 : Vec Ideal S1x1x1024 .f32) (x2 : Vec Ideal S1x768x1024 .bf16)

/-- Row `r` of a block after its normalization. -/
def rowX (r : Fin 1024) : Fin 1024 → EReal := start (fun e => x0 (ix3 0 r e)) (fun e => x1 (ix3 0 0 e))

/-- The latent vectors of a block. -/
def lat (o : ℕ) (g : Vec Ideal S1x1x256 .f32) : FVec Ideal S1024x256 .bf16 := k0_pay10 (k0_pay9 x0 x1) (part o 0 x2) g

/-- The part of the keys that the heads share. -/
def shared : FVec Ideal S1024x256 .f32 := k0_pay14 (k0_pay9 x0 x1) (part 512 0 x2)

theorem lat_at (o : ℕ) (g : Vec Ideal S1x1x256 .f32) (r : Fin 1024) (d : Fin 256) :
    lat x0 x1 x2 o g (ix2 r d) = latent (rowX x0 x1 r) (fun a e => x2 (ix3 0 a e)) o (fun d => g (ix3 0 0 d)) d := by
  rw [lat, latent_at]
  simp only [start_at, part_at, whole_row]
  rfl

theorem sharedKey_at (r : Fin 1024) (d : Fin 256) :
    shared x0 x1 x2 (ix2 r d) = dotRow (rowX x0 x1 r) (fun a e => x2 (ix3 0 a e)) (512 + d.val) := by
  rw [shared, shared_at]
  simp only [start_at, part_at, whole_row]
  rfl

theorem rows512_at (x3 : Vec Ideal S1x1024x1024 .bf16) (o : ℕ) (r : Fin 1024) (f : Fin 512) :
    k0_pay94 (k0_pay9 x0 x1) (part o 0 x3) (ix2 r f) = dotRow (rowX x0 x1 r) (fun a e => x3 (ix3 0 a e)) (o + f.val) := by
  rw [wide_at]
  simp only [start_at, part_at, whole_row]
  rfl

theorem plain512_at (x3 : Vec Ideal S1x1024x1024 .bf16) (o : ℕ) (r : Fin 1024) (f : Fin 512) :
    k0_pay15 (k0_pay9 x0 x1) (part o 0 x3) (ix3 0 r f) = dotRow (rowX x0 x1 r) (fun a e => x3 (ix3 0 a e)) (o + f.val) := by
  rw [plain_at]
  simp only [start_at, part_at, whole_row]
  rfl

theorem value512_at (x8 : Vec Ideal S1x256x1536 .bf16) (o : ℕ) (g : Vec Ideal S1x1x256 .f32) (r : Fin 1024) (f : Fin 512) :
    k0_pay95 (lat x0 x1 x2 o g) (part 0 1024 x8) (ix3 0 r f)
      = dotCol (latent (rowX x0 x1 r) (fun a e => x2 (ix3 0 a e)) o (fun d => g (ix3 0 0 d))) (fun a e => x8 (ix3 0 a e)) (1024 + f.val) := by
  rw [value_at]
  simp only [lat_at, part_at, whole_row]
  rfl

theorem head_lo {n : ℕ} [NeZero n] (w : Vec Ideal ⟨3, ![1, 256, n]⟩ .bf16) (y : ℕ) (k : ℕ) (hk : 256 * k = y) (o : ℕ) (g : Vec Ideal S1x1x256 .f32) (r : Fin 1024) (d : Fin 256) :
    half0 (lat x0 x1 x2 o g) (part 0 y w) (ix2 r d)
      = dotCol (latent (rowX x0 x1 r) (fun a e => x2 (ix3 0 a e)) o (fun d => g (ix3 0 0 d))) (fun a e => w (ix3 0 a e)) (256 * k + d.val) := by
  have hd := d.isLt
  subst hk
  rw [half0_at]
  simp only [lat_at, part_at, whole_row, sub_lane (256 * k) d.val (by omega)]
  rfl

theorem head_hi {n : ℕ} [NeZero n] (w : Vec Ideal ⟨3, ![1, 256, n]⟩ .bf16) (y : ℕ) (k : ℕ) (hk : 256 * k = y + 256) (o : ℕ) (g : Vec Ideal S1x1x256 .f32) (r : Fin 1024) (d : Fin 256) :
    half1 (lat x0 x1 x2 o g) (part 0 y w) (ix2 r d)
      = dotCol (latent (rowX x0 x1 r) (fun a e => x2 (ix3 0 a e)) o (fun d => g (ix3 0 0 d))) (fun a e => w (ix3 0 a e)) (256 * k + d.val) := by
  have hd := d.isLt
  rw [half1_at]
  simp only [lat_at, part_at, whole_row, sub_lane y (256 + d.val) (by omega), hk, Nat.add_assoc]
  rfl

end

end Cert.Kernel3Ideal.Pre
-- ==== Proof.PreBlock.lean ====
module
public import proofs.«01_k».proof.Proof.PreRows
/-! The projections before attention and retention: the blocks that one grid step leaves. -/
@[expose] public section
set_option maxRecDepth 16384
noncomputable section
namespace Cert.Kernel3Ideal.Pre
open Cert.Kernel3Ideal Cert.Kernel3Ideal.Gen Cert.Kernel3Ideal.Gen.kernelRun0_A Idealize.ShloMosaic Idealize.ShloMosaic.TcCoe Idealize.SL.Sem

section
variable (x0 : Vec Ideal S1x1024x1024 .f32) (x1 : Vec Ideal S1x1x1024 .f32) (x2 : Vec Ideal S1x768x1024 .bf16) (x3 : Vec Ideal S1x1024x1024 .bf16) (x4 : Vec Ideal S1x1024x1024 .bf16) (x5 : Vec Ideal S1x1x256 .f32) (x6 : Vec Ideal S1x256x1024 .bf16) (x7 : Vec Ideal S1x1x256 .f32) (x8 : Vec Ideal S1x256x1536 .bf16) (x9 : Vec Ideal S1x1x256 .f32) (x10 : Vec Ideal S1x1x256 .f32) (x11 : Vec Ideal S1024x128 .f32) (x12 : Vec Ideal S1024x128 .f32) (x13 : Vec Ideal S1024x128 .f32) (x14 : Vec Ideal S1024x128 .f32) (x15 : Vec Ideal S1024x128 .f32) (x16 : Vec Ideal S1024x128 .f32)

/-! ## The blocks -/

/-- The block of queries. -/
def blkQ : FVec Ideal S1x1024x1024 .bf16 := fun y =>
  turned (headQ (latent (rowX x0 x1 (y 1)) (fun a e => x2 (ix3 0 a e)) 0 (fun d => x5 (ix3 0 0 d))) (fun a e => x6 (ix3 0 a e))) (fun d => x9 (ix3 0 0 d))
    (fun l => x11 (ix2 (y 1) l)) (fun l => x12 (ix2 (y 1) l)) (y 2).val

/-- The block of keys. -/
def blkK : FVec Ideal S1x1024x1024 .bf16 := fun y =>
  turned (headK (latent (rowX x0 x1 (y 1)) (fun a e => x2 (ix3 0 a e)) 256 (fun d => x7 (ix3 0 0 d))) (fun a e => x8 (ix3 0 a e))
      (fun d => dotRow (rowX x0 x1 (y 1)) (fun a e => x2 (ix3 0 a e)) (512 + d.val))) (fun d => x10 (ix3 0 0 d))
    (fun l => x11 (ix2 (y 1) l)) (fun l => x12 (ix2 (y 1) l)) (y 2).val

/-- The block of the retention's queries. -/
def blkRQ : FVec Ideal S1x1024x512 .bf16 := fun y =>
  swung (fun f => dotRow (rowX x0 x1 (y 1)) (fun a e => x3 (ix3 0 a e)) (0 + f)) (fun l => x13 (ix2 (y 1) l)) (fun l => x14 (ix2 (y 1) l)) (y 2).val

/-- The block of the retention's keys. -/
def blkRK : FVec Ideal S1x1024x512 .bf16 := fun y =>
  swung (fun f => dotRow (rowX x0 x1 (y 1)) (fun a e => x3 (ix3 0 a e)) (512 + f)) (fun l => x15 (ix2 (y 1) l)) (fun l => x16 (ix2 (y 1) l)) (y 2).val

/-! ## The stores -/
variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x768x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x256 .f32) (harg7 : arg7.IsWhole) (arg8 : Memref sig .tc .vmem S1x256x1024 .bf16) (harg8 : arg8.IsWhole) (arg9 : Memref sig .tc .vmem S1x1x256 .f32) (harg9 : arg9.IsWhole) (arg10 : Memref sig .tc .vmem S1x256x1536 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x512 .bf16) (harg24 : arg24.IsWhole) (arg25 : Memref sig .tc .vmem S1x1024x512 .bf16) (harg25 : arg25.IsWhole) (arg26 : Memref sig .tc .vmem S1024x1024 .bf16) (harg26 : arg26.IsWhole) (arg27 : Memref sig .tc .vmem S1024x256 .bf16) (harg27 : arg27.IsWhole) (arg28 : Memref sig .tc .vmem S1024x256 .bf16) (harg28 : arg28.IsWhole) (arg29 : Memref sig .tc .vmem S1024x256 .f32) (harg29 : arg29.IsWhole)

theorem v28_eq : sl.v28 (F := Ideal) c arg2 harg2 arg3 harg3 arg26 x0 x1 = k0_pay9 x0 x1 := by
  refine (load_scratch arg26 _ _ _).trans ?_
  rw [load_block, load_block]

theorem v87_eq : sl.v87 (F := Ideal) c arg2 harg2 arg3 harg3 arg4 harg4 arg7 harg7 arg26 arg27 x0 x1 x2 x5 = lat x0 x1 x2 0 x5 := by
  refine (load_scratch arg27 _ _ _).trans ?_
  rw [v28_eq, load_part, load_block]
  rfl

theorem v91_eq : sl.v91 (F := Ideal) c arg2 harg2 arg3 harg3 arg4 harg4 arg9 harg9 arg26 arg28 x0 x1 x2 x7 = lat x0 x1 x2 256 x7 := by
  refine (load_scratch arg28 _ _ _).trans ?_
  refine Eq.trans (b := k0_pay13 (k0_pay11 (sl.v28 (F := Ideal) c arg2 harg2 arg3 harg3 arg26 x0 x1) (View.readAt (Elt Ideal) arg4.view (Rect.unit (s := S1x768x1024) ![0, 256, 0] ![1, 256, 1024] (by decide)).toLoadRect (harg4.unread x2))) (k0_pay12 (View.readAt (Elt Ideal) arg9.view (Rect.unit (s := S1x1x256) ![0, 0, 0] ![1, 1, 256] (by decide)).toLoadRect (harg9.unread x7)))) rfl ?_
  rw [latent_split, v28_eq, load_part, load_block]
  rfl

theorem v133_eq : sl.v133 (F := Ideal) c arg2 harg2 arg3 harg3 arg4 harg4 arg26 arg29 x0 x1 x2 = shared x0 x1 x2 := by
  refine (load_scratch arg29 _ _ _).trans ?_
  rw [v28_eq, load_part]
  rfl

theorem q_7 : k0_pay82 (sl.r (F := Ideal) c arg11 harg11 x9) (sl.r_1 (F := Ideal) c arg11 harg11 x9) (sl.r_17 (F := Ideal) c arg2 harg2 arg3 harg3 arg4 harg4 arg7 harg7 arg8 harg8 arg26 arg27 x0 x1 x2 x5 x6) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileHi (part 0 0 x9) (part 0 128 x9) (half1 (lat x0 x1 x2 0 x5) (part 0 512 x6)) x11 x12 := by
  refine Eq.trans (b := tileHi (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half1 (sl.v87 (F := Ideal) c arg2 harg2 arg3 harg3 arg4 harg4 arg7 harg7 arg26 arg27 x0 x1 x2 x5) (View.readAt (Elt Ideal) arg8.view (Rect.unit (s := S1x256x1024) ![0, 0, 512] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_7_in (x : S1x1024x128.Idx) (y : S1x1024x1024.Idx) (h1 : (y 1).val = (x 1).val) (h2 : (y 2).val = 896 + (x 2).val) :
    tileHi (part 0 0 x9) (part 0 128 x9) (half1 (lat x0 x1 x2 0 x5) (part 0 512 x6)) x11 x12 x = blkQ x0 x1 x2 x5 x6 x9 x11 x12 y :=
  tileHi_in x9 _ x11 x12 (fun r => headQ (latent (rowX x0 x1 r) (fun a e => x2 (ix3 0 a e)) 0 (fun d => x5 (ix3 0 0 d))) (fun a e => x6 (ix3 0 a e))) 3 (fun r d => head_hi x0 x1 x2 x6 512 3 rfl 0 x5 r d) x (y 1) (y 2).val h1 h2

theorem q_6 : k0_pay81 (sl.r (F := Ideal) c arg11 harg11 x9) (sl.r_1 (F := Ideal) c arg11 harg11 x9) (sl.r_17 (F := Ideal) c arg2 harg2 arg3 harg3 arg4 harg4 arg7 harg7 arg8 harg8 arg26 arg27 x0 x1 x2 x5 x6) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileLo (part 0 0 x9) (part 0 128 x9) (half1 (lat x0 x1 x2 0 x5) (part 0 512 x6)) x11 x12 := by
  refine Eq.trans (b := tileLo (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half1 (sl.v87 (F := Ideal) c arg2 harg2 arg3 harg3 arg4 harg4 arg7 harg7 arg26 arg27 x0 x1 x2 x5) (View.readAt (Elt Ideal) arg8.view (Rect.unit (s := S1x256x1024) ![0, 0, 512] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_6_in (x : S1x1024x128.Idx) (y : S1x1024x1024.Idx) (h1 : (y 1).val = (x 1).val) (h2 : (y 2).val = 768 + (x 2).val) :
    tileLo (part 0 0 x9) (part 0 128 x9) (half1 (lat x0 x1 x2 0 x5) (part 0 512 x6)) x11 x12 x = blkQ x0 x1 x2 x5 x6 x9 x11 x12 y :=
  tileLo_in x9 _ x11 x12 (fun r => headQ (latent (rowX x0 x1 r) (fun a e => x2 (ix3 0 a e)) 0 (fun d => x5 (ix3 0 0 d))) (fun a e => x6 (ix3 0 a e))) 3 (fun r d => head_hi x0 x1 x2 x6 512 3 rfl 0 x5 r d) x (y 1) (y 2).val h1 h2

theorem q_5 : k0_pay65 (sl.r_19 (F := Ideal) c arg2 harg2 arg3 harg3 arg4 harg4 arg7 harg7 arg8 harg8 arg11 harg11 arg13 harg13 arg14 harg14 arg26 arg27 x0 x1 x2 x5 x6 x9 x11 x12) = tileHi (part 0 0 x9) (part 0 128 x9) (half0 (lat x0 x1 x2 0 x5) (part 0 512 x6)) x11 x12 := by
  refine Eq.trans (b := tileHi (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half0 (sl.v87 (F := Ideal) c arg2 harg2 arg3 harg3 arg4 harg4 arg7 harg7 arg26 arg27 x0 x1 x2 x5) (View.readAt (Elt Ideal) arg8.view (Rect.unit (s := S1x256x1024) ![0, 0, 512] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_5_in (x : S1x1024x128.Idx) (y : S1x1024x1024.Idx) (h1 : (y 1).val = (x 1).val) (h2 : (y 2).val = 640 + (x 2).val) :
    tileHi (part 0 0 x9) (part 0 128 x9) (half0 (lat x0 x1 x2 0 x5) (part 0 512 x6)) x11 x12 x = blkQ x0 x1 x2 x5 x6 x9 x11 x12 y :=
  tileHi_in x9 _ x11 x12 (fun r => headQ (latent (rowX x0 x1 r) (fun a e => x2 (ix3 0 a e)) 0 (fun d => x5 (ix3 0 0 d))) (fun a e => x6 (ix3 0 a e))) 2 (fun r d => head_lo x0 x1 x2 x6 512 2 rfl 0 x5 r d) x (y 1) (y 2).val h1 h2

theorem q_4 : sl.r_20 (F := Ideal) c arg2 harg2 arg3 harg3 arg4 harg4 arg7 harg7 arg8 harg8 arg11 harg11 arg13 harg13 arg14 harg14 arg26 arg27 x0 x1 x2 x5 x6 x9 x11 x12 = tileLo (part 0 0 x9) (part 0 128 x9) (half0 (lat x0 x1 x2 0 x5) (part 0 512 x6)) x11 x12 := by
  refine Eq.trans (b := tileLo (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half0 (sl.v87 (F := Ideal) c arg2 harg2 arg3 harg3 arg4 harg4 arg7 harg7 arg26 arg27 x0 x1 x2 x5) (View.readAt (Elt Ideal) arg8.view (Rect.unit (s := S1x256x1024) ![0, 0, 512] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_4_in (x : S1x1024x128.Idx) (y : S1x1024x1024.Idx) (h1 : (y 1).val = (x 1).val) (h2 : (y 2).val = 512 + (x 2).val) :
    tileLo (part 0 0 x9) (part 0 128 x9) (half0 (lat x0 x1 x2 0 x5) (part 0 512 x6)) x11 x12 x = blkQ x0 x1 x2 x5 x6 x9 x11 x12 y :=
  tileLo_in x9 _ x11 x12 (fun r => headQ (latent (rowX x0 x1 r) (fun a e => x2 (ix3 0 a e)) 0 (fun d => x5 (ix3 0 0 d))) (fun a e => x6 (ix3 0 a e))) 2 (fun r d => head_lo x0 x1 x2 x6 512 2 rfl 0 x5 r d) x (y 1) (y 2).val h1 h2

theorem q_3 : k0_pay43 (sl.r (F := Ideal) c arg11 harg11 x9) (sl.r_1 (F := Ideal) c arg11 harg11 x9) (sl.r_11 (F := Ideal) c arg2 harg2 arg3 harg3 arg4 harg4 arg7 harg7 arg8 harg8 arg26 arg27 x0 x1 x2 x5 x6) (sl.r_12 (F := Ideal) c arg2 harg2 arg3 harg3 arg4 harg4 arg7 harg7 arg8 harg8 arg26 arg27 x0 x1 x2 x5 x6) (sl.r_13 (F := Ideal) c arg2 harg2 arg3 harg3 arg4 harg4 arg7 harg7 arg8 harg8 arg26 arg27 x0 x1 x2 x5 x6) sl.cst_104 (F := Ideal) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileHi (part 0 0 x9) (part 0 128 x9) (half1 (lat x0 x1 x2 0 x5) (part 0 0 x6)) x11 x12 := by
  refine Eq.trans (b := tileHi (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half1 (sl.v87 (F := Ideal) c arg2 harg2 arg3 harg3 arg4 harg4 arg7 harg7 arg26 arg27 x0 x1 x2 x5) (View.readAt (Elt Ideal) arg8.view (Rect.unit (s := S1x256x1024) ![0, 0, 0] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_3_in (x : S1x1024x128.Idx) (y : S1x1024x1024.Idx) (h1 : (y 1).val = (x 1).val) (h2 : (y 2).val = 384 + (x 2).val) :
    tileHi (part 0 0 x9) (part 0 128 x9) (half1 (lat x0 x1 x2 0 x5) (part 0 0 x6)) x11 x12 x = blkQ x0 x1 x2 x5 x6 x9 x11 x12 y :=
  tileHi_in x9 _ x11 x12 (fun r => headQ (latent (rowX x0 x1 r) (fun a e => x2 (ix3 0 a e)) 0 (fun d => x5 (ix3 0 0 d))) (fun a e => x6 (ix3 0 a e))) 1 (fun r d => head_hi x0 x1 x2 x6 0 1 rfl 0 x5 r d) x (y 1) (y 2).val h1 h2

theorem q_2 : k0_pay42 (sl.r (F := Ideal) c arg11 harg11 x9) (sl.r_1 (F := Ideal) c arg11 harg11 x9) (sl.r_11 (F := Ideal) c arg2 harg2 arg3 harg3 arg4 harg4 arg7 harg7 arg8 harg8 arg26 arg27 x0 x1 x2 x5 x6) (sl.r_12 (F := Ideal) c arg2 harg2 arg3 harg3 arg4 harg4 arg7 harg7 arg8 harg8 arg26 arg27 x0 x1 x2 x5 x6) (sl.r_13 (F := Ideal) c arg2 harg2 arg3 harg3 arg4 harg4 arg7 harg7 arg8 harg8 arg26 arg27 x0 x1 x2 x5 x6) sl.cst_104 (F := Ideal) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileLo (part 0 0 x9) (part 0 128 x9) (half1 (lat x0 x1 x2 0 x5) (part 0 0 x6)) x11 x12 := by
  refine Eq.trans (b := tileLo (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half1 (sl.v87 (F := Ideal) c arg2 harg2 arg3 harg3 arg4 harg4 arg7 harg7 arg26 arg27 x0 x1 x2 x5) (View.readAt (Elt Ideal) arg8.view (Rect.unit (s := S1x256x1024) ![0, 0, 0] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_2_in (x : S1x1024x128.Idx) (y : S1x1024x1024.Idx) (h1 : (y 1).val = (x 1).val) (h2 : (y 2).val = 256 + (x 2).val) :
    tileLo (part 0 0 x9) (part 0 128 x9) (half1 (lat x0 x1 x2 0 x5) (part 0 0 x6)) x11 x12 x = blkQ x0 x1 x2 x5 x6 x9 x11 x12 y :=
  tileLo_in x9 _ x11 x12 (fun r => headQ (latent (rowX x0 x1 r) (fun a e => x2 (ix3 0 a e)) 0 (fun d => x5 (ix3 0 0 d))) (fun a e => x6 (ix3 0 a e))) 1 (fun r d => head_hi x0 x1 x2 x6 0 1 rfl 0 x5 r d) x (y 1) (y 2).val h1 h2

theorem q_1 : k0_pay26 (sl.r (F := Ideal) c arg11 harg11 x9) (sl.r_1 (F := Ideal) c arg11 harg11 x9) (sl.r_6 (F := Ideal) c arg2 harg2 arg3 harg3 arg4 harg4 arg7 harg7 arg8 harg8 arg26 arg27 x0 x1 x2 x5 x6) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileHi (part 0 0 x9) (part 0 128 x9) (half0 (lat x0 x1 x2 0 x5) (part 0 0 x6)) x11 x12 := by
  refine Eq.trans (b := tileHi (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half0 (sl.v87 (F := Ideal) c arg2 harg2 arg3 harg3 arg4 harg4 arg7 harg7 arg26 arg27 x0 x1 x2 x5) (View.readAt (Elt Ideal) arg8.view (Rect.unit (s := S1x256x1024) ![0, 0, 0] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_1_in (x : S1x1024x128.Idx) (y : S1x1024x1024.Idx) (h1 : (y 1).val = (x 1).val) (h2 : (y 2).val = 128 + (x 2).val) :
    tileHi (part 0 0 x9) (part 0 128 x9) (half0 (lat x0 x1 x2 0 x5) (part 0 0 x6)) x11 x12 x = blkQ x0 x1 x2 x5 x6 x9 x11 x12 y :=
  tileHi_in x9 _ x11 x12 (fun r => headQ (latent (rowX x0 x1 r) (fun a e => x2 (ix3 0 a e)) 0 (fun d => x5 (ix3 0 0 d))) (fun a e => x6 (ix3 0 a e))) 0 (fun r d => head_lo x0 x1 x2 x6 0 0 rfl 0 x5 r d) x (y 1) (y 2).val h1 h2

theorem q_0 : k0_pay25 (sl.r (F := Ideal) c arg11 harg11 x9) (sl.r_1 (F := Ideal) c arg11 harg11 x9) (sl.r_6 (F := Ideal) c arg2 harg2 arg3 harg3 arg4 harg4 arg7 harg7 arg8 harg8 arg26 arg27 x0 x1 x2 x5 x6) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileLo (part 0 0 x9) (part 0 128 x9) (half0 (lat x0 x1 x2 0 x5) (part 0 0 x6)) x11 x12 := by
  refine Eq.trans (b := tileLo (View.readAt (Elt Ideal) arg11.view (Rect.unit (s := S1x1x256) ![0, 0, 0] ![1, 1, 128] (by decide)).toLoadRect (harg11.unread x9)) (View.readAt (Elt Ideal) arg11.view (Rect.unit (s := S1x1x256) ![0, 0, 128] ![1, 1, 128] (by decide)).toLoadRect (harg11.unread x9)) (half0 (sl.v87 (F := Ideal) c arg2 harg2 arg3 harg3 arg4 harg4 arg7 harg7 arg26 arg27 x0 x1 x2 x5) (View.readAt (Elt Ideal) arg8.view (Rect.unit (s := S1x256x1024) ![0, 0, 0] ![1, 256, 512] (by decide)).toLoadRect (harg8.unread x6))) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v87_eq, load_part, load_part, load_part, load_whole, load_whole]

theorem q_0_in (x : S1x1024x128.Idx) (y : S1x1024x1024.Idx) (h1 : (y 1).val = (x 1).val) (h2 : (y 2).val = 0 + (x 2).val) :
    tileLo (part 0 0 x9) (part 0 128 x9) (half0 (lat x0 x1 x2 0 x5) (part 0 0 x6)) x11 x12 x = blkQ x0 x1 x2 x5 x6 x9 x11 x12 y :=
  tileLo_in x9 _ x11 x12 (fun r => headQ (latent (rowX x0 x1 r) (fun a e => x2 (ix3 0 a e)) 0 (fun d => x5 (ix3 0 0 d))) (fun a e => x6 (ix3 0 a e))) 0 (fun r d => head_lo x0 x1 x2 x6 0 0 rfl 0 x5 r d) x (y 1) (y 2).val h1 h2

theorem k_7 : k0_pay91 (sl.r_2 (F := Ideal) c arg12 harg12 x10) (sl.r_3 (F := Ideal) c arg12 harg12 x10) (sl.r_22 (F := Ideal) c arg2 harg2 arg3 harg3 arg4 harg4 arg9 harg9 arg10 harg10 arg26 arg28 x0 x1 x2 x7 x8) (sl.v133 (F := Ideal) c arg2 harg2 arg3 harg3 arg4 harg4 arg26 arg29 x0 x1 x2) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileHi (part 0 0 x10) (part 0 128 x10) (addf (half1 (lat x0 x1 x2 256 x7) (part 0 512 x8)) (shared x0 x1 x2)) x11 x12 := by
  refine Eq.trans (b := tileHi (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half1 (sl.v91 (F := Ideal) c arg2 harg2 arg3 harg3 arg4 harg4 arg9 harg9 arg26 arg28 x0 x1 x2 x7) (View.readAt (Elt Ideal) arg10.view (Rect.unit (s := S1x256x1536) ![0, 0, 512] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_7_in (x : S1x1024x128.Idx) (y : S1x1024x1024.Idx) (h1 : (y 1).val = (x 1).val) (h2 : (y 2).val = 896 + (x 2).val) :
    tileHi (part 0 0 x10) (part 0 128 x10) (addf (half1 (lat x0 x1 x2 256 x7) (part 0 512 x8)) (shared x0 x1 x2)) x11 x12 x = blkK x0 x1 x2 x7 x8 x10 x11 x12 y :=
  tileHi_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 3 (fun r d => congrArg₂ (· + ·) (head_hi x0 x1 x2 x8 512 3 rfl 256 x7 r d) (sharedKey_at x0 x1 x2 r d)) x (y 1) (y 2).val h1 h2

theorem k_6 : k0_pay90 (sl.r_2 (F := Ideal) c arg12 harg12 x10) (sl.r_3 (F := Ideal) c arg12 harg12 x10) (sl.r_22 (F := Ideal) c arg2 harg2 arg3 harg3 arg4 harg4 arg9 harg9 arg10 harg10 arg26 arg28 x0 x1 x2 x7 x8) (sl.v133 (F := Ideal) c arg2 harg2 arg3 harg3 arg4 harg4 arg26 arg29 x0 x1 x2) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileLo (part 0 0 x10) (part 0 128 x10) (addf (half1 (lat x0 x1 x2 256 x7) (part 0 512 x8)) (shared x0 x1 x2)) x11 x12 := by
  refine Eq.trans (b := tileLo (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half1 (sl.v91 (F := Ideal) c arg2 harg2 arg3 harg3 arg4 harg4 arg9 harg9 arg26 arg28 x0 x1 x2 x7) (View.readAt (Elt Ideal) arg10.view (Rect.unit (s := S1x256x1536) ![0, 0, 512] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_6_in (x : S1x1024x128.Idx) (y : S1x1024x1024.Idx) (h1 : (y 1).val = (x 1).val) (h2 : (y 2).val = 768 + (x 2).val) :
    tileLo (part 0 0 x10) (part 0 128 x10) (addf (half1 (lat x0 x1 x2 256 x7) (part 0 512 x8)) (shared x0 x1 x2)) x11 x12 x = blkK x0 x1 x2 x7 x8 x10 x11 x12 y :=
  tileLo_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 3 (fun r d => congrArg₂ (· + ·) (head_hi x0 x1 x2 x8 512 3 rfl 256 x7 r d) (sharedKey_at x0 x1 x2 r d)) x (y 1) (y 2).val h1 h2

theorem k_5 : k0_pay74 (sl.r_21 (F := Ideal) c arg2 harg2 arg3 harg3 arg4 harg4 arg9 harg9 arg10 harg10 arg12 harg12 arg13 harg13 arg14 harg14 arg26 arg28 arg29 x0 x1 x2 x7 x8 x10 x11 x12) = tileHi (part 0 0 x10) (part 0 128 x10) (addf (half0 (lat x0 x1 x2 256 x7) (part 0 512 x8)) (shared x0 x1 x2)) x11 x12 := by
  refine Eq.trans (b := tileHi (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half0 (sl.v91 (F := Ideal) c arg2 harg2 arg3 harg3 arg4 harg4 arg9 harg9 arg26 arg28 x0 x1 x2 x7) (View.readAt (Elt Ideal) arg10.view (Rect.unit (s := S1x256x1536) ![0, 0, 512] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_5_in (x : S1x1024x128.Idx) (y : S1x1024x1024.Idx) (h1 : (y 1).val = (x 1).val) (h2 : (y 2).val = 640 + (x 2).val) :
    tileHi (part 0 0 x10) (part 0 128 x10) (addf (half0 (lat x0 x1 x2 256 x7) (part 0 512 x8)) (shared x0 x1 x2)) x11 x12 x = blkK x0 x1 x2 x7 x8 x10 x11 x12 y :=
  tileHi_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 2 (fun r d => congrArg₂ (· + ·) (head_lo x0 x1 x2 x8 512 2 rfl 256 x7 r d) (sharedKey_at x0 x1 x2 r d)) x (y 1) (y 2).val h1 h2

theorem k_4 : k0_pay73 (sl.r_2 (F := Ideal) c arg12 harg12 x10) (sl.r_3 (F := Ideal) c arg12 harg12 x10) (sl.r_18 (F := Ideal) c arg2 harg2 arg3 harg3 arg4 harg4 arg9 harg9 arg10 harg10 arg26 arg28 x0 x1 x2 x7 x8) (sl.v133 (F := Ideal) c arg2 harg2 arg3 harg3 arg4 harg4 arg26 arg29 x0 x1 x2) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileLo (part 0 0 x10) (part 0 128 x10) (addf (half0 (lat x0 x1 x2 256 x7) (part 0 512 x8)) (shared x0 x1 x2)) x11 x12 := by
  refine Eq.trans (b := tileLo (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half0 (sl.v91 (F := Ideal) c arg2 harg2 arg3 harg3 arg4 harg4 arg9 harg9 arg26 arg28 x0 x1 x2 x7) (View.readAt (Elt Ideal) arg10.view (Rect.unit (s := S1x256x1536) ![0, 0, 512] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_4_in (x : S1x1024x128.Idx) (y : S1x1024x1024.Idx) (h1 : (y 1).val = (x 1).val) (h2 : (y 2).val = 512 + (x 2).val) :
    tileLo (part 0 0 x10) (part 0 128 x10) (addf (half0 (lat x0 x1 x2 256 x7) (part 0 512 x8)) (shared x0 x1 x2)) x11 x12 x = blkK x0 x1 x2 x7 x8 x10 x11 x12 y :=
  tileLo_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 2 (fun r d => congrArg₂ (· + ·) (head_lo x0 x1 x2 x8 512 2 rfl 256 x7 r d) (sharedKey_at x0 x1 x2 r d)) x (y 1) (y 2).val h1 h2

theorem k_3 : k0_pay53 (sl.r_2 (F := Ideal) c arg12 harg12 x10) (sl.r_3 (F := Ideal) c arg12 harg12 x10) (sl.r_14 (F := Ideal) c arg2 harg2 arg3 harg3 arg4 harg4 arg9 harg9 arg10 harg10 arg26 arg28 arg29 x0 x1 x2 x7 x8) (sl.r_15 (F := Ideal) c arg2 harg2 arg3 harg3 arg4 harg4 arg9 harg9 arg10 harg10 arg26 arg28 arg29 x0 x1 x2 x7 x8) (sl.r_16 (F := Ideal) c arg2 harg2 arg3 harg3 arg4 harg4 arg9 harg9 arg10 harg10 arg26 arg28 arg29 x0 x1 x2 x7 x8) k0_pay48 (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileHi (part 0 0 x10) (part 0 128 x10) (addf (half1 (lat x0 x1 x2 256 x7) (part 0 0 x8)) (shared x0 x1 x2)) x11 x12 := by
  refine Eq.trans (b := tileHi (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half1 (sl.v91 (F := Ideal) c arg2 harg2 arg3 harg3 arg4 harg4 arg9 harg9 arg26 arg28 x0 x1 x2 x7) (View.readAt (Elt Ideal) arg10.view (Rect.unit (s := S1x256x1536) ![0, 0, 0] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_3_in (x : S1x1024x128.Idx) (y : S1x1024x1024.Idx) (h1 : (y 1).val = (x 1).val) (h2 : (y 2).val = 384 + (x 2).val) :
    tileHi (part 0 0 x10) (part 0 128 x10) (addf (half1 (lat x0 x1 x2 256 x7) (part 0 0 x8)) (shared x0 x1 x2)) x11 x12 x = blkK x0 x1 x2 x7 x8 x10 x11 x12 y :=
  tileHi_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 1 (fun r d => congrArg₂ (· + ·) (head_hi x0 x1 x2 x8 0 1 rfl 256 x7 r d) (sharedKey_at x0 x1 x2 r d)) x (y 1) (y 2).val h1 h2

theorem k_2 : k0_pay52 (sl.r_2 (F := Ideal) c arg12 harg12 x10) (sl.r_3 (F := Ideal) c arg12 harg12 x10) (sl.r_14 (F := Ideal) c arg2 harg2 arg3 harg3 arg4 harg4 arg9 harg9 arg10 harg10 arg26 arg28 arg29 x0 x1 x2 x7 x8) (sl.r_15 (F := Ideal) c arg2 harg2 arg3 harg3 arg4 harg4 arg9 harg9 arg10 harg10 arg26 arg28 arg29 x0 x1 x2 x7 x8) (sl.r_16 (F := Ideal) c arg2 harg2 arg3 harg3 arg4 harg4 arg9 harg9 arg10 harg10 arg26 arg28 arg29 x0 x1 x2 x7 x8) k0_pay48 (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileLo (part 0 0 x10) (part 0 128 x10) (addf (half1 (lat x0 x1 x2 256 x7) (part 0 0 x8)) (shared x0 x1 x2)) x11 x12 := by
  refine Eq.trans (b := tileLo (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half1 (sl.v91 (F := Ideal) c arg2 harg2 arg3 harg3 arg4 harg4 arg9 harg9 arg26 arg28 x0 x1 x2 x7) (View.readAt (Elt Ideal) arg10.view (Rect.unit (s := S1x256x1536) ![0, 0, 0] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_2_in (x : S1x1024x128.Idx) (y : S1x1024x1024.Idx) (h1 : (y 1).val = (x 1).val) (h2 : (y 2).val = 256 + (x 2).val) :
    tileLo (part 0 0 x10) (part 0 128 x10) (addf (half1 (lat x0 x1 x2 256 x7) (part 0 0 x8)) (shared x0 x1 x2)) x11 x12 x = blkK x0 x1 x2 x7 x8 x10 x11 x12 y :=
  tileLo_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 1 (fun r d => congrArg₂ (· + ·) (head_hi x0 x1 x2 x8 0 1 rfl 256 x7 r d) (sharedKey_at x0 x1 x2 r d)) x (y 1) (y 2).val h1 h2

theorem k_1 : k0_pay34 (sl.r_2 (F := Ideal) c arg12 harg12 x10) (sl.r_3 (F := Ideal) c arg12 harg12 x10) (sl.r_9 (F := Ideal) c arg2 harg2 arg3 harg3 arg4 harg4 arg9 harg9 arg10 harg10 arg26 arg28 arg29 x0 x1 x2 x7 x8) (sl.r_10 (F := Ideal) c arg2 harg2 arg3 harg3 arg4 harg4 arg9 harg9 arg10 harg10 arg26 arg28 arg29 x0 x1 x2 x7 x8) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileHi (part 0 0 x10) (part 0 128 x10) (addf (half0 (lat x0 x1 x2 256 x7) (part 0 0 x8)) (shared x0 x1 x2)) x11 x12 := by
  refine Eq.trans (b := tileHi (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half0 (sl.v91 (F := Ideal) c arg2 harg2 arg3 harg3 arg4 harg4 arg9 harg9 arg26 arg28 x0 x1 x2 x7) (View.readAt (Elt Ideal) arg10.view (Rect.unit (s := S1x256x1536) ![0, 0, 0] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_1_in (x : S1x1024x128.Idx) (y : S1x1024x1024.Idx) (h1 : (y 1).val = (x 1).val) (h2 : (y 2).val = 128 + (x 2).val) :
    tileHi (part 0 0 x10) (part 0 128 x10) (addf (half0 (lat x0 x1 x2 256 x7) (part 0 0 x8)) (shared x0 x1 x2)) x11 x12 x = blkK x0 x1 x2 x7 x8 x10 x11 x12 y :=
  tileHi_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 0 (fun r d => congrArg₂ (· + ·) (head_lo x0 x1 x2 x8 0 0 rfl 256 x7 r d) (sharedKey_at x0 x1 x2 r d)) x (y 1) (y 2).val h1 h2

theorem k_0 : k0_pay33 (sl.r_2 (F := Ideal) c arg12 harg12 x10) (sl.r_3 (F := Ideal) c arg12 harg12 x10) (sl.r_9 (F := Ideal) c arg2 harg2 arg3 harg3 arg4 harg4 arg9 harg9 arg10 harg10 arg26 arg28 arg29 x0 x1 x2 x7 x8) (sl.r_10 (F := Ideal) c arg2 harg2 arg3 harg3 arg4 harg4 arg9 harg9 arg10 harg10 arg26 arg28 arg29 x0 x1 x2 x7 x8) (View.readAt (Elt Ideal) arg13.view (Rect.unit (s := S1024x128) ![0, 0] ![1024, 128] inb_S1024x128_S1024x128_0_0).toLoadRect (harg13.unread x11)) (View.readAt (Elt Ideal) arg14.view (Rect.unit (s := S1024x128) ![0, 0] ![1024, 128] inb_S1024x128_S1024x128_0_0).toLoadRect (harg14.unread x12)) = tileLo (part 0 0 x10) (part 0 128 x10) (addf (half0 (lat x0 x1 x2 256 x7) (part 0 0 x8)) (shared x0 x1 x2)) x11 x12 := by
  refine Eq.trans (b := tileLo (View.readAt (Elt Ideal) arg12.view (Rect.unit (s := S1x1x256) ![0, 0, 0] ![1, 1, 128] (by decide)).toLoadRect (harg12.unread x10)) (View.readAt (Elt Ideal) arg12.view (Rect.unit (s := S1x1x256) ![0, 0, 128] ![1, 1, 128] (by decide)).toLoadRect (harg12.unread x10)) (addf (half0 (sl.v91 (F := Ideal) c arg2 harg2 arg3 harg3 arg4 harg4 arg9 harg9 arg26 arg28 x0 x1 x2 x7) (View.readAt (Elt Ideal) arg10.view (Rect.unit (s := S1x256x1536) ![0, 0, 0] ![1, 256, 512] (by decide)).toLoadRect (harg10.unread x8))) (sl.v133 (F := Ideal) c arg2 harg2 arg3 harg3 arg4 harg4 arg26 arg29 x0 x1 x2)) (View.readAt (Elt Ideal) arg13.view (Rect.unit (s := S1024x128) ![0, 0] ![1024, 128] (by decide)).toLoadRect (harg13.unread x11)) (View.readAt (Elt Ideal) arg14.view (Rect.unit (s := S1024x128) ![0, 0] ![1024, 128] (by decide)).toLoadRect (harg14.unread x12))) rfl ?_
  rw [v91_eq, v133_eq, load_part, load_part, load_part, load_whole, load_whole]

theorem k_0_in (x : S1x1024x128.Idx) (y : S1x1024x1024.Idx) (h1 : (y 1).val = (x 1).val) (h2 : (y 2).val = 0 + (x 2).val) :
    tileLo (part 0 0 x10) (part 0 128 x10) (addf (half0 (lat x0 x1 x2 256 x7) (part 0 0 x8)) (shared x0 x1 x2)) x11 x12 x = blkK x0 x1 x2 x7 x8 x10 x11 x12 y :=
  tileLo_in x10 _ x11 x12 (fun r => headK (latent (rowX x0 x1 r) (fun a e => x2 (ix3 0 a e)) 256 (fun d => x7 (ix3 0 0 d))) (fun a e => x8 (ix3 0 a e)) (fun d => dotRow (rowX x0 x1 r) (fun a e => x2 (ix3 0 a e)) (512 + d.val))) 0 (fun r d => congrArg₂ (· + ·) (head_lo x0 x1 x2 x8 0 0 rfl 256 x7 r d) (sharedKey_at x0 x1 x2 r d)) x (y 1) (y 2).val h1 h2

theorem rq_3 : k0_pay4 (sl.r_25 (F := Ideal) c arg2 harg2 arg3 harg3 arg5 harg5 arg26 x0 x1 x3) (View.readAt (Elt Ideal) arg15.view (Rect.unit (s := S1024x128) ![0, 0] ![1024, 128] inb_S1024x128_S1024x128_0_0).toLoadRect (harg15.unread x13)) (View.readAt (Elt Ideal) arg16.view (Rect.unit (s := S1024x128) ![0, 0] ![1024, 128] inb_S1024x128_S1024x128_0_0).toLoadRect (harg16.unread x14)) = k0_pay4 (k0_pay94 (k0_pay9 x0 x1) (part 0 0 x3)) x13 x14 := by
  refine Eq.trans (b := k0_pay4 (k0_pay94 (sl.v28 (F := Ideal) c arg2 harg2 arg3 harg3 arg26 x0 x1) (View.readAt (Elt Ideal) arg5.view (Rect.unit (s := S1x1024x1024) ![0, 0, 0] ![1, 512, 1024] (by decide)).toLoadRect (harg5.unread x3))) (View.readAt (Elt Ideal) arg15.view (Rect.unit (s := S1024x128) ![0, 0] ![1024, 128] (by decide)).toLoadRect (harg15.unread x13)) (View.readAt (Elt Ideal) arg16.view (Rect.unit (s := S1024x128) ![0, 0] ![1024, 128] (by decide)).toLoadRect (harg16.unread x14))) rfl ?_
  rw [v28_eq, load_part, load_whole, load_whole]

theorem rq_3_in (x : S1x1024x128.Idx) (y : S1x1024x512.Idx) (h1 : (y 1).val = (x 1).val) (h2 : (y 2).val = 384 + (x 2).val) :
    k0_pay4 (k0_pay94 (k0_pay9 x0 x1) (part 0 0 x3)) x13 x14 x = blkRQ x0 x1 x3 x13 x14 y :=
  pair_3_in _ x13 x14 (fun r f => dotRow (rowX x0 x1 r) (fun a e => x3 (ix3 0 a e)) (0 + f)) (rows512_at x0 x1 x3 0) x (y 1) (y 2).val h1 h2

theorem rq_2 : k0_pay3 (sl.r_25 (F := Ideal) c arg2 harg2 arg3 harg3 arg5 harg5 arg26 x0 x1 x3) (View.readAt (Elt Ideal) arg15.view (Rect.unit (s := S1024x128) ![0, 0] ![1024, 128] inb_S1024x128_S1024x128_0_0).toLoadRect (harg15.unread x13)) (View.readAt (Elt Ideal) arg16.view (Rect.unit (s := S1024x128) ![0, 0] ![1024, 128] inb_S1024x128_S1024x128_0_0).toLoadRect (harg16.unread x14)) = k0_pay3 (k0_pay94 (k0_pay9 x0 x1) (part 0 0 x3)) x13 x14 := by
  refine Eq.trans (b := k0_pay3 (k0_pay94 (sl.v28 (F := Ideal) c arg2 harg2 arg3 harg3 arg26 x0 x1) (View.readAt (Elt Ideal) arg5.view (Rect.unit (s := S1x1024x1024) ![0, 0, 0] ![1, 512, 1024] (by decide)).toLoadRect (harg5.unread x3))) (View.readAt (Elt Ideal) arg15.view (Rect.unit (s := S1024x128) ![0, 0] ![1024, 128] (by decide)).toLoadRect (harg15.unread x13)) (View.readAt (Elt Ideal) arg16.view (Rect.unit (s := S1024x128) ![0, 0] ![1024, 128] (by decide)).toLoadRect (harg16.unread x14))) rfl ?_
  rw [v28_eq, load_part, load_whole, load_whole]

theorem rq_2_in (x : S1x1024x128.Idx) (y : S1x1024x512.Idx) (h1 : (y 1).val = (x 1).val) (h2 : (y 2).val = 256 + (x 2).val) :
    k0_pay3 (k0_pay94 (k0_pay9 x0 x1) (part 0 0 x3)) x13 x14 x = blkRQ x0 x1 x3 x13 x14 y :=
  pair_2_in _ x13 x14 (fun r f => dotRow (rowX x0 x1 r) (fun a e => x3 (ix3 0 a e)) (0 + f)) (rows512_at x0 x1 x3 0) x (y 1) (y 2).val h1 h2

theorem rq_1 : k0_pay103 (sl.r_25 (F := Ideal) c arg2 harg2 arg3 harg3 arg5 harg5 arg26 x0 x1 x3) (View.readAt (Elt Ideal) arg15.view (Rect.unit (s := S1024x128) ![0, 0] ![1024, 128] inb_S1024x128_S1024x128_0_0).toLoadRect (harg15.unread x13)) (View.readAt (Elt Ideal) arg16.view (Rect.unit (s := S1024x128) ![0, 0] ![1024, 128] inb_S1024x128_S1024x128_0_0).toLoadRect (harg16.unread x14)) = k0_pay103 (k0_pay94 (k0_pay9 x0 x1) (part 0 0 x3)) x13 x14 := by
  refine Eq.trans (b := k0_pay103 (k0_pay94 (sl.v28 (F := Ideal) c arg2 harg2 arg3 harg3 arg26 x0 x1) (View.readAt (Elt Ideal) arg5.view (Rect.unit (s := S1x1024x1024) ![0, 0, 0] ![1, 512, 1024] (by decide)).toLoadRect (harg5.unread x3))) (View.readAt (Elt Ideal) arg15.view (Rect.unit (s := S1024x128) ![0, 0] ![1024, 128] (by decide)).toLoadRect (harg15.unread x13)) (View.readAt (Elt Ideal) arg16.view (Rect.unit (s := S1024x128) ![0, 0] ![1024, 128] (by decide)).toLoadRect (harg16.unread x14))) rfl ?_
  rw [v28_eq, load_part, load_whole, load_whole]

theorem rq_1_in (x : S1x1024x128.Idx) (y : S1x1024x512.Idx) (h1 : (y 1).val = (x 1).val) (h2 : (y 2).val = 128 + (x 2).val) :
    k0_pay103 (k0_pay94 (k0_pay9 x0 x1) (part 0 0 x3)) x13 x14 x = blkRQ x0 x1 x3 x13 x14 y :=
  pair_1_in _ x13 x14 (fun r f => dotRow (rowX x0 x1 r) (fun a e => x3 (ix3 0 a e)) (0 + f)) (rows512_at x0 x1 x3 0) x (y 1) (y 2).val h1 h2

theorem rq_0 : k0_pay102 (sl.r_25 (F := Ideal) c arg2 harg2 arg3 harg3 arg5 harg5 arg26 x0 x1 x3) (View.readAt (Elt Ideal) arg15.view (Rect.unit (s := S1024x128) ![0, 0] ![1024, 128] inb_S1024x128_S1024x128_0_0).toLoadRect (harg15.unread x13)) (View.readAt (Elt Ideal) arg16.view (Rect.unit (s := S1024x128) ![0, 0] ![1024, 128] inb_S1024x128_S1024x128_0_0).toLoadRect (harg16.unread x14)) = k0_pay102 (k0_pay94 (k0_pay9 x0 x1) (part 0 0 x3)) x13 x14 := by
  refine Eq.trans (b := k0_pay102 (k0_pay94 (sl.v28 (F := Ideal) c arg2 harg2 arg3 harg3 arg26 x0 x1) (View.readAt (Elt Ideal) arg5.view (Rect.unit (s := S1x1024x1024) ![0, 0, 0] ![1, 512, 1024] (by decide)).toLoadRect (harg5.unread x3))) (View.readAt (Elt Ideal) arg15.view (Rect.unit (s := S1024x128) ![0, 0] ![1024, 128] (by decide)).toLoadRect (harg15.unread x13)) (View.readAt (Elt Ideal) arg16.view (Rect.unit (s := S1024x128) ![0, 0] ![1024, 128] (by decide)).toLoadRect (harg16.unread x14))) rfl ?_
  rw [v28_eq, load_part, load_whole, load_whole]

theorem rq_0_in (x : S1x1024x128.Idx) (y : S1x1024x512.Idx) (h1 : (y 1).val = (x 1).val) (h2 : (y 2).val = 0 + (x 2).val) :
    k0_pay102 (k0_pay94 (k0_pay9 x0 x1) (part 0 0 x3)) x13 x14 x = blkRQ x0 x1 x3 x13 x14 y :=
  pair_0_in _ x13 x14 (fun r f => dotRow (rowX x0 x1 r) (fun a e => x3 (ix3 0 a e)) (0 + f)) (rows512_at x0 x1 x3 0) x (y 1) (y 2).val h1 h2

theorem rk_3 : k0_pay107 (sl.r_24 (F := Ideal) c arg2 harg2 arg3 harg3 arg5 harg5 arg26 x0 x1 x3) (View.readAt (Elt Ideal) arg17.view (Rect.unit (s := S1024x128) ![0, 0] ![1024, 128] inb_S1024x128_S1024x128_0_0).toLoadRect (harg17.unread x15)) (View.readAt (Elt Ideal) arg18.view (Rect.unit (s := S1024x128) ![0, 0] ![1024, 128] inb_S1024x128_S1024x128_0_0).toLoadRect (harg18.unread x16)) = k0_pay4 (k0_pay94 (k0_pay9 x0 x1) (part 512 0 x3)) x15 x16 := by
  refine Eq.trans (b := k0_pay4 (k0_pay94 (sl.v28 (F := Ideal) c arg2 harg2 arg3 harg3 arg26 x0 x1) (View.readAt (Elt Ideal) arg5.view (Rect.unit (s := S1x1024x1024) ![0, 512, 0] ![1, 512, 1024] (by decide)).toLoadRect (harg5.unread x3))) (View.readAt (Elt Ideal) arg17.view (Rect.unit (s := S1024x128) ![0, 0] ![1024, 128] (by decide)).toLoadRect (harg17.unread x15)) (View.readAt (Elt Ideal) arg18.view (Rect.unit (s := S1024x128) ![0, 0] ![1024, 128] (by decide)).toLoadRect (harg18.unread x16))) rfl ?_
  rw [v28_eq, load_part, load_whole, load_whole]

theorem rk_3_in (x : S1x1024x128.Idx) (y : S1x1024x512.Idx) (h1 : (y 1).val = (x 1).val) (h2 : (y 2).val = 384 + (x 2).val) :
    k0_pay4 (k0_pay94 (k0_pay9 x0 x1) (part 512 0 x3)) x15 x16 x = blkRK x0 x1 x3 x15 x16 y :=
  pair_3_in _ x15 x16 (fun r f => dotRow (rowX x0 x1 r) (fun a e => x3 (ix3 0 a e)) (512 + f)) (rows512_at x0 x1 x3 512) x (y 1) (y 2).val h1 h2

theorem rk_2 : k0_pay106 (sl.r_24 (F := Ideal) c arg2 harg2 arg3 harg3 arg5 harg5 arg26 x0 x1 x3) (View.readAt (Elt Ideal) arg17.view (Rect.unit (s := S1024x128) ![0, 0] ![1024, 128] inb_S1024x128_S1024x128_0_0).toLoadRect (harg17.unread x15)) (View.readAt (Elt Ideal) arg18.view (Rect.unit (s := S1024x128) ![0, 0] ![1024, 128] inb_S1024x128_S1024x128_0_0).toLoadRect (harg18.unread x16)) = k0_pay3 (k0_pay94 (k0_pay9 x0 x1) (part 512 0 x3)) x15 x16 := by
  refine Eq.trans (b := k0_pay3 (k0_pay94 (sl.v28 (F := Ideal) c arg2 harg2 arg3 harg3 arg26 x0 x1) (View.readAt (Elt Ideal) arg5.view (Rect.unit (s := S1x1024x1024) ![0, 512, 0] ![1, 512, 1024] (by decide)).toLoadRect (harg5.unread x3))) (View.readAt (Elt Ideal) arg17.view (Rect.unit (s := S1024x128) ![0, 0] ![1024, 128] (by decide)).toLoadRect (harg17.unread x15)) (View.readAt (Elt Ideal) arg18.view (Rect.unit (s := S1024x128) ![0, 0] ![1024, 128] (by decide)).toLoadRect (harg18.unread x16))) rfl ?_
  rw [v28_eq, load_part, load_whole, load_whole]

theorem rk_2_in (x : S1x1024x128.Idx) (y : S1x1024x512.Idx) (h1 : (y 1).val = (x 1).val) (h2 : (y 2).val = 256 + (x 2).val) :
    k0_pay3 (k0_pay94 (k0_pay9 x0 x1) (part 512 0 x3)) x15 x16 x = blkRK x0 x1 x3 x15 x16 y :=
  pair_2_in _ x15 x16 (fun r f => dotRow (rowX x0 x1 r) (fun a e => x3 (ix3 0 a e)) (512 + f)) (rows512_at x0 x1 x3 512) x (y 1) (y 2).val h1 h2

theorem rk_1 : k0_pay99 (sl.v28 (F := Ideal) c arg2 harg2 arg3 harg3 arg26 x0 x1) (sl.r_23 (F := Ideal) c arg5 harg5 x3) (View.readAt (Elt Ideal) arg17.view (Rect.unit (s := S1024x128) ![0, 0] ![1024, 128] inb_S1024x128_S1024x128_0_0).toLoadRect (harg17.unread x15)) (View.readAt (Elt Ideal) arg18.view (Rect.unit (s := S1024x128) ![0, 0] ![1024, 128] inb_S1024x128_S1024x128_0_0).toLoadRect (harg18.unread x16)) = k0_pay103 (k0_pay94 (k0_pay9 x0 x1) (part 512 0 x3)) x15 x16 := by
  refine Eq.trans (b := k0_pay103 (k0_pay94 (sl.v28 (F := Ideal) c arg2 harg2 arg3 harg3 arg26 x0 x1) (View.readAt (Elt Ideal) arg5.view (Rect.unit (s := S1x1024x1024) ![0, 512, 0] ![1, 512, 1024] (by decide)).toLoadRect (harg5.unread x3))) (View.readAt (Elt Ideal) arg17.view (Rect.unit (s := S1024x128) ![0, 0] ![1024, 128] (by decide)).toLoadRect (harg17.unread x15)) (View.readAt (Elt Ideal) arg18.view (Rect.unit (s := S1024x128) ![0, 0] ![1024, 128] (by decide)).toLoadRect (harg18.unread x16))) rfl ?_
  rw [v28_eq, load_part, load_whole, load_whole]

theorem rk_1_in (x : S1x1024x128.Idx) (y : S1x1024x512.Idx) (h1 : (y 1).val = (x 1).val) (h2 : (y 2).val = 128 + (x 2).val) :
    k0_pay103 (k0_pay94 (k0_pay9 x0 x1) (part 512 0 x3)) x15 x16 x = blkRK x0 x1 x3 x15 x16 y :=
  pair_1_in _ x15 x16 (fun r f => dotRow (rowX x0 x1 r) (fun a e => x3 (ix3 0 a e)) (512 + f)) (rows512_at x0 x1 x3 512) x (y 1) (y 2).val h1 h2

theorem rk_0 : k0_pay98 (sl.v28 (F := Ideal) c arg2 harg2 arg3 harg3 arg26 x0 x1) (sl.r_23 (F := Ideal) c arg5 harg5 x3) (View.readAt (Elt Ideal) arg17.view (Rect.unit (s := S1024x128) ![0, 0] ![1024, 128] inb_S1024x128_S1024x128_0_0).toLoadRect (harg17.unread x15)) (View.readAt (Elt Ideal) arg18.view (Rect.unit (s := S1024x128) ![0, 0] ![1024, 128] inb_S1024x128_S1024x128_0_0).toLoadRect (harg18.unread x16)) = k0_pay102 (k0_pay94 (k0_pay9 x0 x1) (part 512 0 x3)) x15 x16 := by
  refine Eq.trans (b := k0_pay102 (k0_pay94 (sl.v28 (F := Ideal) c arg2 harg2 arg3 harg3 arg26 x0 x1) (View.readAt (Elt Ideal) arg5.view (Rect.unit (s := S1x1024x1024) ![0, 512, 0] ![1, 512, 1024] (by decide)).toLoadRect (harg5.unread x3))) (View.readAt (Elt Ideal) arg17.view (Rect.unit (s := S1024x128) ![0, 0] ![1024, 128] (by decide)).toLoadRect (harg17.unread x15)) (View.readAt (Elt Ideal) arg18.view (Rect.unit (s := S1024x128) ![0, 0] ![1024, 128] (by decide)).toLoadRect (harg18.unread x16))) rfl ?_
  rw [v28_eq, load_part, load_whole, load_whole]

theorem rk_0_in (x : S1x1024x128.Idx) (y : S1x1024x512.Idx) (h1 : (y 1).val = (x 1).val) (h2 : (y 2).val = 0 + (x 2).val) :
    k0_pay102 (k0_pay94 (k0_pay9 x0 x1) (part 512 0 x3)) x15 x16 x = blkRK x0 x1 x3 x15 x16 y :=
  pair_0_in _ x15 x16 (fun r f => dotRow (rowX x0 x1 r) (fun a e => x3 (ix3 0 a e)) (512 + f)) (rows512_at x0 x1 x3 512) x (y 1) (y 2).val h1 h2

theorem block17 : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 = blkQ x0 x1 x2 x5 x6 x9 x11 x12 := by
  unfold out0_A_17
  rw [View.read_writes_junk_eq_canon]
  have hc := cover0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16
  unfold kernelRun0_A at hc ⊢
  funext y
  canon_tiles x h using hc y
  · exact (congrFun (q_7 x0 x1 x2 x5 x6 x9 x11 x12 c arg2 harg2 arg3 harg3 arg4 harg4 arg7 harg7 arg8 harg8 arg11 harg11 arg13 harg13 arg14 harg14 arg26 arg27) x).trans (q_7_in x0 x1 x2 x5 x6 x9 x11 x12 x y (by omega) (by omega))
  · exact (congrFun (q_6 x0 x1 x2 x5 x6 x9 x11 x12 c arg2 harg2 arg3 harg3 arg4 harg4 arg7 harg7 arg8 harg8 arg11 harg11 arg13 harg13 arg14 harg14 arg26 arg27) x).trans (q_6_in x0 x1 x2 x5 x6 x9 x11 x12 x y (by omega) (by omega))
  · exact (congrFun (q_5 x0 x1 x2 x5 x6 x9 x11 x12 c arg2 harg2 arg3 harg3 arg4 harg4 arg7 harg7 arg8 harg8 arg11 harg11 arg13 harg13 arg14 harg14 arg26 arg27) x).trans (q_5_in x0 x1 x2 x5 x6 x9 x11 x12 x y (by omega) (by omega))
  · exact (congrFun (q_4 x0 x1 x2 x5 x6 x9 x11 x12 c arg2 harg2 arg3 harg3 arg4 harg4 arg7 harg7 arg8 harg8 arg11 harg11 arg13 harg13 arg14 harg14 arg26 arg27) x).trans (q_4_in x0 x1 x2 x5 x6 x9 x11 x12 x y (by omega) (by omega))
  · exact (congrFun (q_3 x0 x1 x2 x5 x6 x9 x11 x12 c arg2 harg2 arg3 harg3 arg4 harg4 arg7 harg7 arg8 harg8 arg11 harg11 arg13 harg13 arg14 harg14 arg26 arg27) x).trans (q_3_in x0 x1 x2 x5 x6 x9 x11 x12 x y (by omega) (by omega))
  · exact (congrFun (q_2 x0 x1 x2 x5 x6 x9 x11 x12 c arg2 harg2 arg3 harg3 arg4 harg4 arg7 harg7 arg8 harg8 arg11 harg11 arg13 harg13 arg14 harg14 arg26 arg27) x).trans (q_2_in x0 x1 x2 x5 x6 x9 x11 x12 x y (by omega) (by omega))
  · exact (congrFun (q_1 x0 x1 x2 x5 x6 x9 x11 x12 c arg2 harg2 arg3 harg3 arg4 harg4 arg7 harg7 arg8 harg8 arg11 harg11 arg13 harg13 arg14 harg14 arg26 arg27) x).trans (q_1_in x0 x1 x2 x5 x6 x9 x11 x12 x y (by omega) (by omega))
  · exact (congrFun (q_0 x0 x1 x2 x5 x6 x9 x11 x12 c arg2 harg2 arg3 harg3 arg4 harg4 arg7 harg7 arg8 harg8 arg11 harg11 arg13 harg13 arg14 harg14 arg26 arg27) x).trans (q_0_in x0 x1 x2 x5 x6 x9 x11 x12 x y (by omega) (by omega))

theorem block18 : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 = blkK x0 x1 x2 x7 x8 x10 x11 x12 := by
  unfold out0_A_18
  rw [View.read_writes_junk_eq_canon]
  have hc := cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16
  unfold kernelRun0_A at hc ⊢
  funext y
  canon_tiles x h using hc y
  · exact (congrFun (k_7 x0 x1 x2 x7 x8 x10 x11 x12 c arg2 harg2 arg3 harg3 arg4 harg4 arg9 harg9 arg10 harg10 arg12 harg12 arg13 harg13 arg14 harg14 arg26 arg28 arg29) x).trans (k_7_in x0 x1 x2 x7 x8 x10 x11 x12 x y (by omega) (by omega))
  · exact (congrFun (k_6 x0 x1 x2 x7 x8 x10 x11 x12 c arg2 harg2 arg3 harg3 arg4 harg4 arg9 harg9 arg10 harg10 arg12 harg12 arg13 harg13 arg14 harg14 arg26 arg28 arg29) x).trans (k_6_in x0 x1 x2 x7 x8 x10 x11 x12 x y (by omega) (by omega))
  · exact (congrFun (k_5 x0 x1 x2 x7 x8 x10 x11 x12 c arg2 harg2 arg3 harg3 arg4 harg4 arg9 harg9 arg10 harg10 arg12 harg12 arg13 harg13 arg14 harg14 arg26 arg28 arg29) x).trans (k_5_in x0 x1 x2 x7 x8 x10 x11 x12 x y (by omega) (by omega))
  · exact (congrFun (k_4 x0 x1 x2 x7 x8 x10 x11 x12 c arg2 harg2 arg3 harg3 arg4 harg4 arg9 harg9 arg10 harg10 arg12 harg12 arg13 harg13 arg14 harg14 arg26 arg28 arg29) x).trans (k_4_in x0 x1 x2 x7 x8 x10 x11 x12 x y (by omega) (by omega))
  · exact (congrFun (k_3 x0 x1 x2 x7 x8 x10 x11 x12 c arg2 harg2 arg3 harg3 arg4 harg4 arg9 harg9 arg10 harg10 arg12 harg12 arg13 harg13 arg14 harg14 arg26 arg28 arg29) x).trans (k_3_in x0 x1 x2 x7 x8 x10 x11 x12 x y (by omega) (by omega))
  · exact (congrFun (k_2 x0 x1 x2 x7 x8 x10 x11 x12 c arg2 harg2 arg3 harg3 arg4 harg4 arg9 harg9 arg10 harg10 arg12 harg12 arg13 harg13 arg14 harg14 arg26 arg28 arg29) x).trans (k_2_in x0 x1 x2 x7 x8 x10 x11 x12 x y (by omega) (by omega))
  · exact (congrFun (k_1 x0 x1 x2 x7 x8 x10 x11 x12 c arg2 harg2 arg3 harg3 arg4 harg4 arg9 harg9 arg10 harg10 arg12 harg12 arg13 harg13 arg14 harg14 arg26 arg28 arg29) x).trans (k_1_in x0 x1 x2 x7 x8 x10 x11 x12 x y (by omega) (by omega))
  · exact (congrFun (k_0 x0 x1 x2 x7 x8 x10 x11 x12 c arg2 harg2 arg3 harg3 arg4 harg4 arg9 harg9 arg10 harg10 arg12 harg12 arg13 harg13 arg14 harg14 arg26 arg28 arg29) x).trans (k_0_in x0 x1 x2 x7 x8 x10 x11 x12 x y (by omega) (by omega))

theorem block20 : out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 = blkRQ x0 x1 x3 x13 x14 := by
  unfold out0_A_20
  rw [View.read_writes_junk_eq_canon]
  have hc := cover0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16
  unfold kernelRun0_A at hc ⊢
  funext y
  canon_tiles x h using hc y
  · exact (congrFun (rq_3 x0 x1 x3 x13 x14 c arg2 harg2 arg3 harg3 arg5 harg5 arg15 harg15 arg16 harg16 arg26) x).trans (rq_3_in x0 x1 x3 x13 x14 x y (by omega) (by omega))
  · exact (congrFun (rq_2 x0 x1 x3 x13 x14 c arg2 harg2 arg3 harg3 arg5 harg5 arg15 harg15 arg16 harg16 arg26) x).trans (rq_2_in x0 x1 x3 x13 x14 x y (by omega) (by omega))
  · exact (congrFun (rq_1 x0 x1 x3 x13 x14 c arg2 harg2 arg3 harg3 arg5 harg5 arg15 harg15 arg16 harg16 arg26) x).trans (rq_1_in x0 x1 x3 x13 x14 x y (by omega) (by omega))
  · exact (congrFun (rq_0 x0 x1 x3 x13 x14 c arg2 harg2 arg3 harg3 arg5 harg5 arg15 harg15 arg16 harg16 arg26) x).trans (rq_0_in x0 x1 x3 x13 x14 x y (by omega) (by omega))

theorem block21 : out0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 = blkRK x0 x1 x3 x15 x16 := by
  unfold out0_A_21
  rw [View.read_writes_junk_eq_canon]
  have hc := cover0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16
  unfold kernelRun0_A at hc ⊢
  funext y
  canon_tiles x h using hc y
  · exact (congrFun (rk_3 x0 x1 x3 x15 x16 c arg2 harg2 arg3 harg3 arg5 harg5 arg17 harg17 arg18 harg18 arg26) x).trans (rk_3_in x0 x1 x3 x15 x16 x y (by omega) (by omega))
  · exact (congrFun (rk_2 x0 x1 x3 x15 x16 c arg2 harg2 arg3 harg3 arg5 harg5 arg17 harg17 arg18 harg18 arg26) x).trans (rk_2_in x0 x1 x3 x15 x16 x y (by omega) (by omega))
  · exact (congrFun (rk_1 x0 x1 x3 x15 x16 c arg2 harg2 arg3 harg3 arg5 harg5 arg17 harg17 arg18 harg18 arg26) x).trans (rk_1_in x0 x1 x3 x15 x16 x y (by omega) (by omega))
  · exact (congrFun (rk_0 x0 x1 x3 x15 x16 c arg2 harg2 arg3 harg3 arg5 harg5 arg17 harg17 arg18 harg18 arg26) x).trans (rk_0_in x0 x1 x3 x15 x16 x y (by omega) (by omega))

theorem v_0 : k0_pay95 (sl.v91 (F := Ideal) c arg2 harg2 arg3 harg3 arg4 harg4 arg9 harg9 arg26 arg28 x0 x1 x2 x7) (View.readAt (Elt Ideal) arg10.view (Rect.unit (s := S1x256x1536) ![0, 0, 1024] ![1, 256, 512] inb_S1x256x1536_S1x256x512_0_0_1024).toLoadRect (harg10.unread x8)) = k0_pay95 (lat x0 x1 x2 256 x7) (part 0 1024 x8) := by
  refine Eq.trans (b := k0_pay95 (sl.v91 (F := Ideal) c arg2 harg2 arg3 harg3 arg4 harg4 arg9 harg9 arg26 arg28 x0 x1 x2 x7) (View.readAt (Elt Ideal) arg10.view (Rect.unit (s := S1x256x1536) ![0, 0, 1024] ![1, 256, 512] (by decide)).toLoadRect (harg10.unread x8))) rfl ?_
  rw [v91_eq, load_part]

theorem block19 (r : Fin 1024) (f : Fin 512) : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 (ix3 0 r f)
    = dotCol (latent (rowX x0 x1 r) (fun a e => x2 (ix3 0 a e)) 256 (fun d => x7 (ix3 0 0 d))) (fun a e => x8 (ix3 0 a e)) (1024 + f.val) := by
  unfold out0_A_19
  rw [View.read_writes_junk_eq_canon]
  refine (View.canon_apply_of_pieces (k0_pay95 (lat x0 x1 x2 256 x7) (part 0 1024 x8)) _ ?_ (ix3 0 r f) (cover0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 _)).trans (value512_at x0 x1 x2 x8 256 x7 r f)
  refine List.forall_mem_singleton.mpr fun x => ?_
  refine (congrFun (v_0 x0 x1 x2 x7 x8 c arg2 harg2 arg3 harg3 arg4 harg4 arg9 harg9 arg10 harg10 arg26 arg28) x).trans ?_
  refine congrArg (k0_pay95 (lat x0 x1 x2 256 x7) (part 0 1024 x8)) (funext fun k => Fin.ext ?_)
  simp [Rect.emb_apply]
  match k with
  | 0 => rfl
  | 1 => rfl
  | 2 => rfl

theorem rv_0 : k0_pay15 (sl.v28 (F := Ideal) c arg2 harg2 arg3 harg3 arg26 x0 x1) (View.readAt (Elt Ideal) arg6.view (Rect.unit (s := S1x1024x1024) ![0, 0, 0] ![1, 512, 1024] inb_S1x1024x1024_S1x512x1024_0_0_0).toLoadRect (harg6.unread x4)) = k0_pay15 (k0_pay9 x0 x1) (part 0 0 x4) := by
  refine Eq.trans (b := k0_pay15 (sl.v28 (F := Ideal) c arg2 harg2 arg3 harg3 arg26 x0 x1) (View.readAt (Elt Ideal) arg6.view (Rect.unit (s := S1x1024x1024) ![0, 0, 0] ![1, 512, 1024] (by decide)).toLoadRect (harg6.unread x4))) rfl ?_
  rw [v28_eq, load_part]

theorem block22 (r : Fin 1024) (f : Fin 512) : out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 (ix3 0 r f)
    = dotRow (rowX x0 x1 r) (fun a e => x4 (ix3 0 a e)) (0 + f.val) := by
  unfold out0_A_22
  rw [View.read_writes_junk_eq_canon]
  refine (View.canon_apply_of_pieces (k0_pay15 (k0_pay9 x0 x1) (part 0 0 x4)) _ ?_ (ix3 0 r f) (cover0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 _)).trans (plain512_at x0 x1 x4 0 r f)
  refine List.forall_mem_singleton.mpr fun x => ?_
  refine (congrFun (rv_0 x0 x1 x4 c arg2 harg2 arg3 harg3 arg6 harg6 arg26) x).trans ?_
  refine congrArg (k0_pay15 (k0_pay9 x0 x1) (part 0 0 x4)) (funext fun k => Fin.ext ?_)
  simp [Rect.emb_apply]
  match k with
  | 0 => rfl
  | 1 => rfl
  | 2 => rfl

theorem rg_0 : k0_pay54 (sl.v28 (F := Ideal) c arg2 harg2 arg3 harg3 arg26 x0 x1) (View.readAt (Elt Ideal) arg6.view (Rect.unit (s := S1x1024x1024) ![0, 512, 0] ![1, 512, 1024] inb_S1x1024x1024_S1x512x1024_0_512_0).toLoadRect (harg6.unread x4)) = k0_pay15 (k0_pay9 x0 x1) (part 512 0 x4) := by
  refine Eq.trans (b := k0_pay15 (sl.v28 (F := Ideal) c arg2 harg2 arg3 harg3 arg26 x0 x1) (View.readAt (Elt Ideal) arg6.view (Rect.unit (s := S1x1024x1024) ![0, 512, 0] ![1, 512, 1024] (by decide)).toLoadRect (harg6.unread x4))) rfl ?_
  rw [v28_eq, load_part]

theorem block23 (r : Fin 1024) (f : Fin 512) : out0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 (ix3 0 r f)
    = dotRow (rowX x0 x1 r) (fun a e => x4 (ix3 0 a e)) (512 + f.val) := by
  unfold out0_A_23
  rw [View.read_writes_junk_eq_canon]
  refine (View.canon_apply_of_pieces (k0_pay15 (k0_pay9 x0 x1) (part 512 0 x4)) _ ?_ (ix3 0 r f) (cover0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 _)).trans (plain512_at x0 x1 x4 512 r f)
  refine List.forall_mem_singleton.mpr fun x => ?_
  refine (congrFun (rg_0 x0 x1 x4 c arg2 harg2 arg3 harg3 arg6 harg6 arg26) x).trans ?_
  refine congrArg (k0_pay15 (k0_pay9 x0 x1) (part 512 0 x4)) (funext fun k => Fin.ext ?_)
  simp [Rect.emb_apply]
  match k with
  | 0 => rfl
  | 1 => rfl
  | 2 => rfl

end
end Cert.Kernel3Ideal.Pre
-- ==== Proof.PreArrays.lean ====
module
public import proofs.«01_k».proof.Proof.PreBlock
/-! The arrays the third kernel leaves, as functions of its argument arrays. -/
@[expose] public section
set_option maxRecDepth 16384
noncomputable section
namespace Cert.Kernel3Ideal.Pre
open Cert.Kernel3Ideal Cert.Kernel3Ideal.Gen Idealize.ShloMosaic Idealize.ShloMosaic.TcCoe Idealize.SL.Sem
open Idealize.ShloMosaic.Pipeline (Dat)

theorem as_ix3 {n1 n2 : ℕ} (y : (⟨3, ![1, n1, n2]⟩ : Shape).Idx) : ∃ (r : Fin n1) (d : Fin n2), y = ix3 0 r d :=
  ⟨y 1, y 2, funext fun k => match k with
    | 0 => Subsingleton.elim (α := Fin 1) _ _
    | 1 => rfl
    | 2 => rfl⟩

theorem as_ix2 {n1 n2 : ℕ} (y : (⟨2, ![n1, n2]⟩ : Shape).Idx) : ∃ (r : Fin n1) (d : Fin n2), y = ix2 r d := ⟨y 0, y 1, eq_ix2 y⟩

/-! ## The arrays -/

/-- The gains that begin at lane `o` of the first layer. -/
def gain {n : ℕ} (g : Vec Ideal S2x1x4608 .f32) (o : ℕ) : Fin n → EReal := fun e => g (ix3 0 0 (Fin.ofNat 4608 (o + e.val)))

/-- The first layer's matrix of a stack. -/
def mat {n k : ℕ} (w : Vec Ideal ⟨3, ![2, n, k]⟩ .bf16) : Fin n → Fin k → EReal := fun a e => w (ix3 0 a e)

/-- A row of the residual stream after its normalization. -/
def rowA (h : Vec Ideal S8x2048x1024 .f32) (g : Vec Ideal S2x1x4608 .f32) (b : Fin 8) (n : Fin 2048) : Fin 1024 → EReal := start (fun e => h (ix3 b n e)) (gain g 0)

/-- The queries' latent vector. -/
def latQ (h : Vec Ideal S8x2048x1024 .f32) (g : Vec Ideal S2x1x4608 .f32) (wh : Vec Ideal S2x768x1024 .bf16) (b : Fin 8) (n : Fin 2048) : Fin 256 → EReal :=
  latent (rowA h g b n) (mat wh) 0 (gain g 3584)

/-- The keys' and values' latent vector. -/
def latK (h : Vec Ideal S8x2048x1024 .f32) (g : Vec Ideal S2x1x4608 .f32) (wh : Vec Ideal S2x768x1024 .bf16) (b : Fin 8) (n : Fin 2048) : Fin 256 → EReal :=
  latent (rowA h g b n) (mat wh) 256 (gain g 3840)

/-- The part of the keys that the heads share. -/
def common (h : Vec Ideal S8x2048x1024 .f32) (g : Vec Ideal S2x1x4608 .f32) (wh : Vec Ideal S2x768x1024 .bf16) (b : Fin 8) (n : Fin 2048) : Fin 256 → EReal :=
  fun d => dotRow (rowA h g b n) (mat wh) (512 + d.val)

/-- Row `n` of a table. -/
def line (x : Vec Ideal S2048x128 .f32) (n : Fin 2048) : Fin 128 → EReal := fun l => x (ix2 n l)

/-- The queries. -/
def arrQ (h : Vec Ideal S8x2048x1024 .f32) (g : Vec Ideal S2x1x4608 .f32) (wh : Vec Ideal S2x768x1024 .bf16) (wq : Vec Ideal S2x256x1024 .bf16)
    (ca sa : Vec Ideal S2048x128 .f32) : Vec Ideal S8x2048x1024 .bf16 := fun j =>
  turned (headQ (latQ h g wh (j 0) (j 1)) (mat wq)) (gain g 4096) (line ca (j 1)) (line sa (j 1)) (j 2).val

/-- The keys. -/
def arrK (h : Vec Ideal S8x2048x1024 .f32) (g : Vec Ideal S2x1x4608 .f32) (wh : Vec Ideal S2x768x1024 .bf16) (wk : Vec Ideal S2x256x1536 .bf16)
    (ca sa : Vec Ideal S2048x128 .f32) : Vec Ideal S8x2048x1024 .bf16 := fun j =>
  turned (headK (latK h g wh (j 0) (j 1)) (mat wk) (common h g wh (j 0) (j 1))) (gain g 4352) (line ca (j 1)) (line sa (j 1)) (j 2).val

/-- The values. -/
def arrV (h : Vec Ideal S8x2048x1024 .f32) (g : Vec Ideal S2x1x4608 .f32) (wh : Vec Ideal S2x768x1024 .bf16) (wk : Vec Ideal S2x256x1536 .bf16) :
    Vec Ideal S8x2048x512 .bf16 := fun j => dotCol (latK h g wh (j 0) (j 1)) (mat wk) (1024 + (j 2).val)

/-- The retention's queries (`o` is 0) or keys (`o` is 512). -/
def arrR (o : ℕ) (h : Vec Ideal S8x2048x1024 .f32) (g : Vec Ideal S2x1x4608 .f32) (w : Vec Ideal S2x1024x1024 .bf16) (c s : Vec Ideal S2048x128 .f32) :
    Vec Ideal S8x2048x512 .bf16 := fun j => swung (fun f => dotRow (rowA h g (j 0) (j 1)) (mat w) (o + f)) (line c (j 1)) (line s (j 1)) (j 2).val

/-- The retention's values (`o` is 0) or gates (`o` is 512). -/
def arrW (o : ℕ) (h : Vec Ideal S8x2048x1024 .f32) (g : Vec Ideal S2x1x4608 .f32) (w : Vec Ideal S2x1024x1024 .bf16) :
    Vec Ideal S8x2048x512 .bf16 := fun j => dotRow (rowA h g (j 0) (j 1)) (mat w) (o + (j 2).val)

/-! ## The blocks of the arguments -/

/-- The block of 1024 rows that begins at row `o` of matrix `b` of a stack. -/
def rows {α : Type} {w : ℕ} (b o : ℕ) (x : (⟨3, ![8, 2048, w]⟩ : Shape).Idx → α) : (⟨3, ![1, 1024, w]⟩ : Shape).Idx → α :=
  fun i => x (ix3 (Fin.ofNat 8 b) (Fin.ofNat 2048 (o + (i 1).val)) (i 2))

theorem rows_at {α : Type} {w : ℕ} (b o : ℕ) (x : (⟨3, ![8, 2048, w]⟩ : Shape).Idx → α) (z : Fin 1) (r : Fin 1024) (d : Fin w) :
    (rows b o x) (ix3 z r d) = x (ix3 (Fin.ofNat 8 b) (Fin.ofNat 2048 (o + r.val)) d) := rfl

/-- The first layer's matrix as a block. -/
def first {α : Type} {n k : ℕ} (x : (⟨3, ![2, n, k]⟩ : Shape).Idx → α) : (⟨3, ![1, n, k]⟩ : Shape).Idx → α := fun i => x (ix3 0 (i 1) (i 2))

theorem first_at {α : Type} {n k : ℕ} (x : (⟨3, ![2, n, k]⟩ : Shape).Idx → α) (z : Fin 1) (a : Fin n) (d : Fin k) : (first x) (ix3 z a d) = x (ix3 0 a d) := rfl

/-- The gains that begin at lane `o`, as a block. -/
def gains {α : Type} {n : ℕ} (o : ℕ) (x : (⟨3, ![2, 1, 4608]⟩ : Shape).Idx → α) : (⟨3, ![1, 1, n]⟩ : Shape).Idx → α := fun i => x (ix3 0 0 (Fin.ofNat 4608 (o + (i 2).val)))

theorem gains_at {α : Type} {n : ℕ} (o : ℕ) (x : (⟨3, ![2, 1, 4608]⟩ : Shape).Idx → α) (z a : Fin 1) (d : Fin n) :
    (gains o x) (ix3 z a d) = x (ix3 0 0 (Fin.ofNat 4608 (o + d.val))) := rfl

/-- The 1024 rows of a table that begin at row `o`. -/
def lines {α : Type} (o : ℕ) (x : (⟨2, ![2048, 128]⟩ : Shape).Idx → α) : (⟨2, ![1024, 128]⟩ : Shape).Idx → α := fun i => x (ix2 (Fin.ofNat 2048 (o + (i 0).val)) (i 1))

theorem lines_at {α : Type} (o : ℕ) (x : (⟨2, ![2048, 128]⟩ : Shape).Idx → α) (r : Fin 1024) (l : Fin 128) :
    (lines o x) (ix2 r l) = x (ix2 (Fin.ofNat 2048 (o + r.val)) l) := rfl

section
variable (h : Vec Ideal S8x2048x1024 .f32) (g : Vec Ideal S2x1x4608 .f32) (w2 : Vec Ideal S2x768x1024 .bf16) (w3 w4 : Vec Ideal S2x1024x1024 .bf16) (w6 : Vec Ideal S2x256x1024 .bf16) (w8 : Vec Ideal S2x256x1536 .bf16) (x11 x12 x13 x14 x15 x16 : Vec Ideal S2048x128 .f32) (b o : ℕ) (r : Fin 1024)

theorem at_17 (d : Fin 1024) : blkQ (rows b o h) (gains 0 g : Vec Ideal S1x1x1024 .f32) (first w2) (gains 3584 g : Vec Ideal S1x1x256 .f32) (first w6) (gains 4096 g : Vec Ideal S1x1x256 .f32) (lines o x11) (lines o x12) (ix3 0 r d)
    = arrQ h g w2 w6 x11 x12 (ix3 (Fin.ofNat 8 b) (Fin.ofNat 2048 (o + r.val)) d) := rfl

theorem at_18 (d : Fin 1024) : blkK (rows b o h) (gains 0 g : Vec Ideal S1x1x1024 .f32) (first w2) (gains 3840 g : Vec Ideal S1x1x256 .f32) (first w8) (gains 4352 g : Vec Ideal S1x1x256 .f32) (lines o x11) (lines o x12) (ix3 0 r d)
    = arrK h g w2 w8 x11 x12 (ix3 (Fin.ofNat 8 b) (Fin.ofNat 2048 (o + r.val)) d) := rfl

theorem at_19 (d : Fin 512) : dotCol (latent (rowX (rows b o h) (gains 0 g : Vec Ideal S1x1x1024 .f32) r) (fun a e => (first w2) (ix3 0 a e)) 256 (fun d => (gains 3840 g : Vec Ideal S1x1x256 .f32) (ix3 0 0 d))) (fun a e => (first w8) (ix3 0 a e)) (1024 + d.val)
    = arrV h g w2 w8 (ix3 (Fin.ofNat 8 b) (Fin.ofNat 2048 (o + r.val)) d) := rfl

theorem at_20 (d : Fin 512) : blkRQ (rows b o h) (gains 0 g : Vec Ideal S1x1x1024 .f32) (first w3) (lines o x13) (lines o x14) (ix3 0 r d)
    = arrR 0 h g w3 x13 x14 (ix3 (Fin.ofNat 8 b) (Fin.ofNat 2048 (o + r.val)) d) := rfl

theorem at_21 (d : Fin 512) : blkRK (rows b o h) (gains 0 g : Vec Ideal S1x1x1024 .f32) (first w3) (lines o x15) (lines o x16) (ix3 0 r d)
    = arrR 512 h g w3 x15 x16 (ix3 (Fin.ofNat 8 b) (Fin.ofNat 2048 (o + r.val)) d) := rfl

theorem at_22 (d : Fin 512) : dotRow (rowX (rows b o h) (gains 0 g : Vec Ideal S1x1x1024 .f32) r) (fun a e => (first w4) (ix3 0 a e)) (0 + d.val)
    = arrW 0 h g w4 (ix3 (Fin.ofNat 8 b) (Fin.ofNat 2048 (o + r.val)) d) := rfl

theorem at_23 (d : Fin 512) : dotRow (rowX (rows b o h) (gains 0 g : Vec Ideal S1x1x1024 .f32) r) (fun a e => (first w4) (ix3 0 a e)) (512 + d.val)
    = arrW 512 h g w4 (ix3 (Fin.ofNat 8 b) (Fin.ofNat 2048 (o + r.val)) d) := rfl

end

theorem idx : ∀ t : Fin cfg0.N, win0_0.index t = ![t.val / 2, t.val % 2, 0] ∧ win0_1.index t = ![0, 0, 0] ∧ win0_2.index t = ![0, 0, 0] ∧ win0_3.index t = ![0, 0, 0] ∧ win0_4.index t = ![0, 0, 0] ∧ win0_5.index t = ![0, 0, 14] ∧ win0_6.index t = ![0, 0, 0] ∧ win0_7.index t = ![0, 0, 15] ∧ win0_8.index t = ![0, 0, 0] ∧ win0_9.index t = ![0, 0, 16] ∧ win0_10.index t = ![0, 0, 17] ∧ win0_11.index t = ![t.val % 2, 0] ∧ win0_12.index t = ![t.val % 2, 0] ∧ win0_13.index t = ![t.val % 2, 0] ∧ win0_14.index t = ![t.val % 2, 0] ∧ win0_15.index t = ![t.val % 2, 0] ∧ win0_16.index t = ![t.val % 2, 0] ∧ win0_17.index t = ![t.val / 2, t.val % 2, 0] ∧ win0_18.index t = ![t.val / 2, t.val % 2, 0] ∧ win0_19.index t = ![t.val / 2, t.val % 2, 0] ∧ win0_20.index t = ![t.val / 2, t.val % 2, 0] ∧ win0_21.index t = ![t.val / 2, t.val % 2, 0] ∧ win0_22.index t = ![t.val / 2, t.val % 2, 0] ∧ win0_23.index t = ![t.val / 2, t.val % 2, 0] :=
  (by decide +kernel : ∀ t : Fin grid0.N, _)

section
variable (m : (l : Loc nD τ sig) → Buf (Elt Ideal) l) (c : Dev nD) (t : Fin cfg0.N)

theorem in_0 : (iblk m c 0 t : Vec Ideal S1x1024x1024 .f32) = rows (t.val / 2) (1024 * (t.val % 2)) (m ((c : Thread nD τ).loc main_arg0)) := by
  have ht : t.val < 16 := t.isLt
  funext y
  obtain ⟨r, d, rfl⟩ := as_ix3 y
  rw [rows_at]
  blk_ext [iblk, V, idx t, Fin.val_ofNat]

theorem in_1 : (X0_1 m c t : Vec Ideal S1x1x1024 .f32) = gains 0 (m ((c : Thread nD τ).loc main_arg1)) := by
  have ht : t.val < 16 := t.isLt
  funext y
  obtain ⟨r, d, rfl⟩ := as_ix3 y
  rw [Subsingleton.elim (α := Fin 1) r 0]
  rw [gains_at]
  unfold X0_1 Pipeline.Window.fill
  rw [dif_pos (moved0_1 t _)]
  blk_ext [iblk, V, idx t, Fin.val_ofNat]

theorem in_2 : (iblk m c 2 t : Vec Ideal S1x768x1024 .bf16) = first (m ((c : Thread nD τ).loc main_arg2)) := by
  have ht : t.val < 16 := t.isLt
  funext y
  obtain ⟨r, d, rfl⟩ := as_ix3 y
  rw [first_at]
  blk_ext [iblk, V, idx t, Fin.val_ofNat]

theorem in_3 : (iblk m c 3 t : Vec Ideal S1x1024x1024 .bf16) = first (m ((c : Thread nD τ).loc main_arg3)) := by
  have ht : t.val < 16 := t.isLt
  funext y
  obtain ⟨r, d, rfl⟩ := as_ix3 y
  rw [first_at]
  blk_ext [iblk, V, idx t, Fin.val_ofNat]

theorem in_4 : (iblk m c 4 t : Vec Ideal S1x1024x1024 .bf16) = first (m ((c : Thread nD τ).loc main_arg4)) := by
  have ht : t.val < 16 := t.isLt
  funext y
  obtain ⟨r, d, rfl⟩ := as_ix3 y
  rw [first_at]
  blk_ext [iblk, V, idx t, Fin.val_ofNat]

theorem in_5 : (iblk m c 5 t : Vec Ideal S1x1x256 .f32) = gains 3584 (m ((c : Thread nD τ).loc main_arg1)) := by
  have ht : t.val < 16 := t.isLt
  funext y
  obtain ⟨r, d, rfl⟩ := as_ix3 y
  rw [Subsingleton.elim (α := Fin 1) r 0]
  rw [gains_at]
  blk_ext [iblk, V, idx t, Fin.val_ofNat]

theorem in_6 : (iblk m c 6 t : Vec Ideal S1x256x1024 .bf16) = first (m ((c : Thread nD τ).loc main_arg5)) := by
  have ht : t.val < 16 := t.isLt
  funext y
  obtain ⟨r, d, rfl⟩ := as_ix3 y
  rw [first_at]
  blk_ext [iblk, V, idx t, Fin.val_ofNat]

theorem in_7 : (iblk m c 7 t : Vec Ideal S1x1x256 .f32) = gains 3840 (m ((c : Thread nD τ).loc main_arg1)) := by
  have ht : t.val < 16 := t.isLt
  funext y
  obtain ⟨r, d, rfl⟩ := as_ix3 y
  rw [Subsingleton.elim (α := Fin 1) r 0]
  rw [gains_at]
  blk_ext [iblk, V, idx t, Fin.val_ofNat]

theorem in_8 : (iblk m c 8 t : Vec Ideal S1x256x1536 .bf16) = first (m ((c : Thread nD τ).loc main_arg6)) := by
  have ht : t.val < 16 := t.isLt
  funext y
  obtain ⟨r, d, rfl⟩ := as_ix3 y
  rw [first_at]
  blk_ext [iblk, V, idx t, Fin.val_ofNat]

theorem in_9 : (iblk m c 9 t : Vec Ideal S1x1x256 .f32) = gains 4096 (m ((c : Thread nD τ).loc main_arg1)) := by
  have ht : t.val < 16 := t.isLt
  funext y
  obtain ⟨r, d, rfl⟩ := as_ix3 y
  rw [Subsingleton.elim (α := Fin 1) r 0]
  rw [gains_at]
  blk_ext [iblk, V, idx t, Fin.val_ofNat]

theorem in_10 : (iblk m c 10 t : Vec Ideal S1x1x256 .f32) = gains 4352 (m ((c : Thread nD τ).loc main_arg1)) := by
  have ht : t.val < 16 := t.isLt
  funext y
  obtain ⟨r, d, rfl⟩ := as_ix3 y
  rw [Subsingleton.elim (α := Fin 1) r 0]
  rw [gains_at]
  blk_ext [iblk, V, idx t, Fin.val_ofNat]

theorem in_11 : (iblk m c 11 t : Vec Ideal S1024x128 .f32) = lines (1024 * (t.val % 2)) (m ((c : Thread nD τ).loc main_arg7)) := by
  have ht : t.val < 16 := t.isLt
  funext y
  obtain ⟨r, d, rfl⟩ := as_ix2 y
  rw [lines_at]
  blk_ext [iblk, V, idx t, Fin.val_ofNat]

theorem in_12 : (iblk m c 12 t : Vec Ideal S1024x128 .f32) = lines (1024 * (t.val % 2)) (m ((c : Thread nD τ).loc main_arg8)) := by
  have ht : t.val < 16 := t.isLt
  funext y
  obtain ⟨r, d, rfl⟩ := as_ix2 y
  rw [lines_at]
  blk_ext [iblk, V, idx t, Fin.val_ofNat]

theorem in_13 : (iblk m c 13 t : Vec Ideal S1024x128 .f32) = lines (1024 * (t.val % 2)) (m ((c : Thread nD τ).loc main_arg9)) := by
  have ht : t.val < 16 := t.isLt
  funext y
  obtain ⟨r, d, rfl⟩ := as_ix2 y
  rw [lines_at]
  blk_ext [iblk, V, idx t, Fin.val_ofNat]

theorem in_14 : (iblk m c 14 t : Vec Ideal S1024x128 .f32) = lines (1024 * (t.val % 2)) (m ((c : Thread nD τ).loc main_arg10)) := by
  have ht : t.val < 16 := t.isLt
  funext y
  obtain ⟨r, d, rfl⟩ := as_ix2 y
  rw [lines_at]
  blk_ext [iblk, V, idx t, Fin.val_ofNat]

theorem in_15 : (iblk m c 15 t : Vec Ideal S1024x128 .f32) = lines (1024 * (t.val % 2)) (m ((c : Thread nD τ).loc main_arg11)) := by
  have ht : t.val < 16 := t.isLt
  funext y
  obtain ⟨r, d, rfl⟩ := as_ix2 y
  rw [lines_at]
  blk_ext [iblk, V, idx t, Fin.val_ofNat]

theorem in_16 : (iblk m c 16 t : Vec Ideal S1024x128 .f32) = lines (1024 * (t.val % 2)) (m ((c : Thread nD τ).loc main_arg12)) := by
  have ht : t.val < 16 := t.isLt
  funext y
  obtain ⟨r, d, rfl⟩ := as_ix2 y
  rw [lines_at]
  blk_ext [iblk, V, idx t, Fin.val_ofNat]

end
end Cert.Kernel3Ideal.Pre
-- ==== Proof.PreFinal.lean ====
module
public import proofs.«01_k».proof.Proof.PreArrays
/-! The third kernel's results are the arrays of its arguments. -/
@[expose] public section
set_option maxRecDepth 16384
noncomputable section
namespace Cert.Kernel3Ideal.Pre
open Cert.Kernel3Ideal Cert.Kernel3Ideal.Gen Idealize.ShloMosaic Idealize.ShloMosaic.TcCoe Idealize.SL.Sem
open Idealize.ShloMosaic.Pipeline (Dat)

section
variable (m : (l : Loc nD τ sig) → Buf (Elt Ideal) l) (c : Dev nD) (t : Fin cfg0.N)

theorem val_17 (r : Fin 1024) (d : Fin 1024) : (outsAt0 m c t).1 (ix3 0 r d) = blkQ (iblk m c 0 t : Vec Ideal S1x1024x1024 .f32) (X0_1 m c t : Vec Ideal S1x1x1024 .f32) (iblk m c 2 t : Vec Ideal S1x768x1024 .bf16) (iblk m c 5 t : Vec Ideal S1x1x256 .f32) (iblk m c 6 t : Vec Ideal S1x256x1024 .bf16) (iblk m c 9 t : Vec Ideal S1x1x256 .f32) (iblk m c 11 t : Vec Ideal S1024x128 .f32) (iblk m c 12 t : Vec Ideal S1024x128 .f32) (ix3 0 r d) := by
  simp only [outsAt0]
  exact congrFun (block17 (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)) (ix3 0 r d)

theorem out_17 (y : S1x1024x1024.Idx) (j : S8x2048x1024.Idx) (h0 : (j 0).val = t.val / 2) (h1 : (j 1).val = 1024 * (t.val % 2) + (y 1).val) (h2 : (j 2).val = (y 2).val) :
    (outsAt0 m c t).1 y = arrQ (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  have hj : j = ix3 (Fin.ofNat 8 (t.val / 2)) (Fin.ofNat 2048 (1024 * (t.val % 2) + r.val)) d := by
    rw [e0, e1, e2]
    exact eq_ix3 j
  rw [val_17, in_0, in_1, in_2, in_5, in_6, in_9, in_11, in_12, hj]
  exact at_17 _ _ _ _ _ _ _ _ r d

theorem final17 : (dats m 0 c).arrAt 17 (cfgs 0).N = arrQ (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) := by
  refine (dats m 0 c).arrAt_eq_of_covers 17 _ (by decide +kernel) fun t _ y => ?_
  have ht : t.val < 16 := t.isLt
  blk_simp
  rw [after0_17]
  refine out_17 m c t y _ ?_ ?_ ?_ <;> blk_simp [idx t] <;> idx_bounds y <;> omega

theorem val_18 (r : Fin 1024) (d : Fin 1024) : (outsAt0 m c t).2.1 (ix3 0 r d) = blkK (iblk m c 0 t : Vec Ideal S1x1024x1024 .f32) (X0_1 m c t : Vec Ideal S1x1x1024 .f32) (iblk m c 2 t : Vec Ideal S1x768x1024 .bf16) (iblk m c 7 t : Vec Ideal S1x1x256 .f32) (iblk m c 8 t : Vec Ideal S1x256x1536 .bf16) (iblk m c 10 t : Vec Ideal S1x1x256 .f32) (iblk m c 11 t : Vec Ideal S1024x128 .f32) (iblk m c 12 t : Vec Ideal S1024x128 .f32) (ix3 0 r d) := by
  simp only [outsAt0]
  exact congrFun (block18 (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)) (ix3 0 r d)

theorem out_18 (y : S1x1024x1024.Idx) (j : S8x2048x1024.Idx) (h0 : (j 0).val = t.val / 2) (h1 : (j 1).val = 1024 * (t.val % 2) + (y 1).val) (h2 : (j 2).val = (y 2).val) :
    (outsAt0 m c t).2.1 y = arrK (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  have hj : j = ix3 (Fin.ofNat 8 (t.val / 2)) (Fin.ofNat 2048 (1024 * (t.val % 2) + r.val)) d := by
    rw [e0, e1, e2]
    exact eq_ix3 j
  rw [val_18, in_0, in_1, in_2, in_7, in_8, in_10, in_11, in_12, hj]
  exact at_18 _ _ _ _ _ _ _ _ r d

theorem final18 : (dats m 0 c).arrAt 18 (cfgs 0).N = arrK (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) := by
  refine (dats m 0 c).arrAt_eq_of_covers 18 _ (by decide +kernel) fun t _ y => ?_
  have ht : t.val < 16 := t.isLt
  blk_simp
  rw [after0_18]
  refine out_18 m c t y _ ?_ ?_ ?_ <;> blk_simp [idx t] <;> idx_bounds y <;> omega

theorem val_19 (r : Fin 1024) (d : Fin 512) : (outsAt0 m c t).2.2.1 (ix3 0 r d) = dotCol (latent (rowX (iblk m c 0 t : Vec Ideal S1x1024x1024 .f32) (X0_1 m c t : Vec Ideal S1x1x1024 .f32) r) (fun a e => (iblk m c 2 t : Vec Ideal S1x768x1024 .bf16) (ix3 0 a e)) 256 (fun d => (iblk m c 7 t : Vec Ideal S1x1x256 .f32) (ix3 0 0 d))) (fun a e => (iblk m c 8 t : Vec Ideal S1x256x1536 .bf16) (ix3 0 a e)) (1024 + d.val) := by
  simp only [outsAt0]
  exact block19 (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) r d

theorem out_19 (y : S1x1024x512.Idx) (j : S8x2048x512.Idx) (h0 : (j 0).val = t.val / 2) (h1 : (j 1).val = 1024 * (t.val % 2) + (y 1).val) (h2 : (j 2).val = (y 2).val) :
    (outsAt0 m c t).2.2.1 y = arrV (m ((c : Thread nD τ).loc main_arg0)) (m ((c : Thread nD τ).loc main_arg1)) (m ((c : Thread nD τ).loc main_arg2)) (m ((c : Thread nD τ).loc main_arg6)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  have hj : j = ix3 (Fin.ofNat 8 (t.val / 2)) (Fin.ofNat 2048 (1024 * (t.val % 2) + r.val)) d := by
    rw [e0, e1, e2]
    exact eq_ix3 j
  rw [val_19, in_0, in_1, in_2, in_7, in_8, hj]
  exact at_19 _ _ _ _ _ _ r d

theorem final19 : (dats m 0 c).arrAt 19 (cfgs 0).N = arrV (m ((c : Thread nD τ).loc main_arg0)) (m ((c : Thread nD τ).loc main_arg1)) (m ((c : Thread nD τ).loc main_arg2)) (m ((c : Thread nD τ).loc main_arg6)) := by
  refine (dats m 0 c).arrAt_eq_of_covers 19 _ (by decide +kernel) fun t _ y => ?_
  have ht : t.val < 16 := t.isLt
  blk_simp
  rw [after0_19]
  refine out_19 m c t y _ ?_ ?_ ?_ <;> blk_simp [idx t] <;> idx_bounds y <;> omega

theorem val_20 (r : Fin 1024) (d : Fin 512) : (outsAt0 m c t).2.2.2.1 (ix3 0 r d) = blkRQ (iblk m c 0 t : Vec Ideal S1x1024x1024 .f32) (X0_1 m c t : Vec Ideal S1x1x1024 .f32) (iblk m c 3 t : Vec Ideal S1x1024x1024 .bf16) (iblk m c 13 t : Vec Ideal S1024x128 .f32) (iblk m c 14 t : Vec Ideal S1024x128 .f32) (ix3 0 r d) := by
  simp only [outsAt0]
  exact congrFun (block20 (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)) (ix3 0 r d)

theorem out_20 (y : S1x1024x512.Idx) (j : S8x2048x512.Idx) (h0 : (j 0).val = t.val / 2) (h1 : (j 1).val = 1024 * (t.val % 2) + (y 1).val) (h2 : (j 2).val = (y 2).val) :
    (outsAt0 m c t).2.2.2.1 y = arrR 0 (m ((c : Thread nD τ).loc main_arg0)) (m ((c : Thread nD τ).loc main_arg1)) (m ((c : Thread nD τ).loc main_arg3)) (m ((c : Thread nD τ).loc main_arg9)) (m ((c : Thread nD τ).loc main_arg10)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  have hj : j = ix3 (Fin.ofNat 8 (t.val / 2)) (Fin.ofNat 2048 (1024 * (t.val % 2) + r.val)) d := by
    rw [e0, e1, e2]
    exact eq_ix3 j
  rw [val_20, in_0, in_1, in_3, in_13, in_14, hj]
  exact at_20 _ _ _ _ _ _ _ r d

theorem final20 : (dats m 0 c).arrAt 20 (cfgs 0).N = arrR 0 (m ((c : Thread nD τ).loc main_arg0)) (m ((c : Thread nD τ).loc main_arg1)) (m ((c : Thread nD τ).loc main_arg3)) (m ((c : Thread nD τ).loc main_arg9)) (m ((c : Thread nD τ).loc main_arg10)) := by
  refine (dats m 0 c).arrAt_eq_of_covers 20 _ (by decide +kernel) fun t _ y => ?_
  have ht : t.val < 16 := t.isLt
  blk_simp
  rw [after0_20]
  refine out_20 m c t y _ ?_ ?_ ?_ <;> blk_simp [idx t] <;> idx_bounds y <;> omega

theorem val_21 (r : Fin 1024) (d : Fin 512) : (outsAt0 m c t).2.2.2.2.1 (ix3 0 r d) = blkRK (iblk m c 0 t : Vec Ideal S1x1024x1024 .f32) (X0_1 m c t : Vec Ideal S1x1x1024 .f32) (iblk m c 3 t : Vec Ideal S1x1024x1024 .bf16) (iblk m c 15 t : Vec Ideal S1024x128 .f32) (iblk m c 16 t : Vec Ideal S1024x128 .f32) (ix3 0 r d) := by
  simp only [outsAt0]
  exact congrFun (block21 (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)) (ix3 0 r d)

theorem out_21 (y : S1x1024x512.Idx) (j : S8x2048x512.Idx) (h0 : (j 0).val = t.val / 2) (h1 : (j 1).val = 1024 * (t.val % 2) + (y 1).val) (h2 : (j 2).val = (y 2).val) :
    (outsAt0 m c t).2.2.2.2.1 y = arrR 512 (m ((c : Thread nD τ).loc main_arg0)) (m ((c : Thread nD τ).loc main_arg1)) (m ((c : Thread nD τ).loc main_arg3)) (m ((c : Thread nD τ).loc main_arg11)) (m ((c : Thread nD τ).loc main_arg12)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  have hj : j = ix3 (Fin.ofNat 8 (t.val / 2)) (Fin.ofNat 2048 (1024 * (t.val % 2) + r.val)) d := by
    rw [e0, e1, e2]
    exact eq_ix3 j
  rw [val_21, in_0, in_1, in_3, in_15, in_16, hj]
  exact at_21 _ _ _ _ _ _ _ r d

theorem final21 : (dats m 0 c).arrAt 21 (cfgs 0).N = arrR 512 (m ((c : Thread nD τ).loc main_arg0)) (m ((c : Thread nD τ).loc main_arg1)) (m ((c : Thread nD τ).loc main_arg3)) (m ((c : Thread nD τ).loc main_arg11)) (m ((c : Thread nD τ).loc main_arg12)) := by
  refine (dats m 0 c).arrAt_eq_of_covers 21 _ (by decide +kernel) fun t _ y => ?_
  have ht : t.val < 16 := t.isLt
  blk_simp
  rw [after0_21]
  refine out_21 m c t y _ ?_ ?_ ?_ <;> blk_simp [idx t] <;> idx_bounds y <;> omega

theorem val_22 (r : Fin 1024) (d : Fin 512) : (outsAt0 m c t).2.2.2.2.2.1 (ix3 0 r d) = dotRow (rowX (iblk m c 0 t : Vec Ideal S1x1024x1024 .f32) (X0_1 m c t : Vec Ideal S1x1x1024 .f32) r) (fun a e => (iblk m c 4 t : Vec Ideal S1x1024x1024 .bf16) (ix3 0 a e)) (0 + d.val) := by
  simp only [outsAt0]
  exact block22 (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) r d

theorem out_22 (y : S1x1024x512.Idx) (j : S8x2048x512.Idx) (h0 : (j 0).val = t.val / 2) (h1 : (j 1).val = 1024 * (t.val % 2) + (y 1).val) (h2 : (j 2).val = (y 2).val) :
    (outsAt0 m c t).2.2.2.2.2.1 y = arrW 0 (m ((c : Thread nD τ).loc main_arg0)) (m ((c : Thread nD τ).loc main_arg1)) (m ((c : Thread nD τ).loc main_arg4)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  have hj : j = ix3 (Fin.ofNat 8 (t.val / 2)) (Fin.ofNat 2048 (1024 * (t.val % 2) + r.val)) d := by
    rw [e0, e1, e2]
    exact eq_ix3 j
  rw [val_22, in_0, in_1, in_4, hj]
  exact at_22 _ _ _ _ _ r d

theorem final22 : (dats m 0 c).arrAt 22 (cfgs 0).N = arrW 0 (m ((c : Thread nD τ).loc main_arg0)) (m ((c : Thread nD τ).loc main_arg1)) (m ((c : Thread nD τ).loc main_arg4)) := by
  refine (dats m 0 c).arrAt_eq_of_covers 22 _ (by decide +kernel) fun t _ y => ?_
  have ht : t.val < 16 := t.isLt
  blk_simp
  rw [after0_22]
  refine out_22 m c t y _ ?_ ?_ ?_ <;> blk_simp [idx t] <;> idx_bounds y <;> omega

theorem val_23 (r : Fin 1024) (d : Fin 512) : (outsAt0 m c t).2.2.2.2.2.2 (ix3 0 r d) = dotRow (rowX (iblk m c 0 t : Vec Ideal S1x1024x1024 .f32) (X0_1 m c t : Vec Ideal S1x1x1024 .f32) r) (fun a e => (iblk m c 4 t : Vec Ideal S1x1024x1024 .bf16) (ix3 0 a e)) (512 + d.val) := by
  simp only [outsAt0]
  exact block23 (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) r d

theorem out_23 (y : S1x1024x512.Idx) (j : S8x2048x512.Idx) (h0 : (j 0).val = t.val / 2) (h1 : (j 1).val = 1024 * (t.val % 2) + (y 1).val) (h2 : (j 2).val = (y 2).val) :
    (outsAt0 m c t).2.2.2.2.2.2 y = arrW 512 (m ((c : Thread nD τ).loc main_arg0)) (m ((c : Thread nD τ).loc main_arg1)) (m ((c : Thread nD τ).loc main_arg4)) j := by
  obtain ⟨r, d, rfl⟩ := as_ix3 y
  have e0 : Fin.ofNat 8 (t.val / 2) = j 0 := Fin.ext (by rw [Fin.val_ofNat, ← h0]; exact Nat.mod_eq_of_lt (j 0).isLt)
  have e1 : Fin.ofNat 2048 (1024 * (t.val % 2) + r.val) = j 1 := Fin.ext (by rw [Fin.val_ofNat, show 1024 * (t.val % 2) + r.val = (j 1).val from h1.symm]; exact Nat.mod_eq_of_lt (j 1).isLt)
  have e2 : d = j 2 := Fin.ext h2.symm
  have hj : j = ix3 (Fin.ofNat 8 (t.val / 2)) (Fin.ofNat 2048 (1024 * (t.val % 2) + r.val)) d := by
    rw [e0, e1, e2]
    exact eq_ix3 j
  rw [val_23, in_0, in_1, in_4, hj]
  exact at_23 _ _ _ _ _ r d

theorem final23 : (dats m 0 c).arrAt 23 (cfgs 0).N = arrW 512 (m ((c : Thread nD τ).loc main_arg0)) (m ((c : Thread nD τ).loc main_arg1)) (m ((c : Thread nD τ).loc main_arg4)) := by
  refine (dats m 0 c).arrAt_eq_of_covers 23 _ (by decide +kernel) fun t _ y => ?_
  have ht : t.val < 16 := t.isLt
  blk_simp
  rw [after0_23]
  refine out_23 m c t y _ ?_ ?_ ?_ <;> blk_simp [idx t] <;> idx_bounds y <;> omega

end
end Cert.Kernel3Ideal.Pre
-- ==== Proof.PreEq.lean ====
module
public import proofs.«01_k».proof.Proof.Gen.Reference3Ideal.Read
public import proofs.«01_k».proof.Proof.PreArrays
/-! The projections, norms and rotations of the reference give the third kernel's arrays. -/
@[expose] public section
set_option maxRecDepth 16384
noncomputable section
namespace Cert.Reference3Ideal.PreRef
open Cert.Reference3Ideal Cert.Reference3Ideal.Gen Cert.Reference3Ideal.Read Idealize.ShloMosaic Idealize.ShloMosaic.TcCoe
open Cert.Kernel3Ideal.Pre (normed start dotRow dotCol latent lo hi scale turnLo turnHi turned swung headQ headK gain mat rowA latQ latK common line arrQ arrK arrV arrR arrW)

/-! ## Means and factors -/

theorem lit_1024 : Ideal.ofBits FTy.f32 0x44800000#32 = ((1024 : ℝ) : EReal) := by
  simp [Ideal.ofBits, Ideal.ieee, -EReal.coe_mul]; norm_num

theorem lit_inv1024 : Ideal.ofBits FTy.f32 0x3A800000#32 = ((1 / 1024 : ℝ) : EReal) := by
  simp [Ideal.ofBits, Ideal.ieee, -EReal.coe_mul]; norm_num

theorem lit_256 : Ideal.ofBits FTy.f32 0x43800000#32 = ((256 : ℝ) : EReal) := by
  simp [Ideal.ofBits, Ideal.ieee, -EReal.coe_mul]; norm_num

theorem lit_inv256 : Ideal.ofBits FTy.f32 0x3B800000#32 = ((1 / 256 : ℝ) : EReal) := by
  simp [Ideal.ofBits, Ideal.ieee, -EReal.coe_mul]; norm_num

theorem lit_192 : Ideal.ofBits FTy.f32 0x43400000#32 = ((192 : ℝ) : EReal) := by
  simp [Ideal.ofBits, Ideal.ieee, -EReal.coe_mul]; norm_num

theorem lit_eps : Ideal.ofBits FTy.f32 0x358637BD#32 = ((8796093 / 8796093022208 : ℝ) : EReal) := by
  simp [Ideal.ofBits, Ideal.ieee, -EReal.coe_mul]; norm_num

theorem mean_1024 (x : EReal) : Ideal.div x (Ideal.ofBits FTy.f32 0x44800000#32) = x * Ideal.ofBits FTy.f32 0x3A800000#32 := by
  rw [lit_1024, lit_inv1024, Ideal.div_coe (by norm_num)]

theorem mean_256 (x : EReal) : Ideal.div x (Ideal.ofBits FTy.f32 0x43800000#32) = x * Ideal.ofBits FTy.f32 0x3B800000#32 := by
  rw [lit_256, lit_inv256, Ideal.div_coe (by norm_num)]

theorem mean_192 (x : EReal) : Ideal.div x (Ideal.ofBits FTy.f32 0x43400000#32) = x * ((1 / 192 : ℝ) : EReal) := by
  rw [lit_192, Ideal.div_coe (by norm_num)]

theorem fin_lit {n v k : ℕ} [NeZero n] (h : v < n) (e : v = k) : (⟨v, h⟩ : Fin n) = Fin.ofNat n k := by
  subst e; exact Fin.ext (Nat.mod_eq_of_lt h).symm

/-- The reciprocal square root of a positive number is not negative and not infinite. -/
theorem rsqrt_pos (v : EReal) (hv : 0 < v) : 0 ≤ Ideal.rsqrt v ∧ Ideal.rsqrt v ≠ ⊤ := by
  induction v using EReal.rec with
  | bot => exact absurd hv (by simp)
  | top => rw [Ideal.rsqrt_top]; exact ⟨le_refl _, by simp⟩
  | coe r =>
    have hr : 0 < r := by exact_mod_cast hv
    rw [Ideal.rsqrt_coe, if_neg (not_lt.mpr hr.le), if_neg hr.ne']
    exact ⟨by exact_mod_cast inv_nonneg.mpr (Real.sqrt_nonneg r), EReal.coe_ne_top _⟩

theorem sq_nonneg' (a : EReal) : 0 ≤ a * a := by
  rcases le_total 0 a with h | h
  · exact mul_nonneg h h
  · have h' : 0 ≤ -a := by rw [← neg_zero]; exact EReal.neg_le_neg_iff.mpr h
    have := mul_nonneg h' h'
    rwa [neg_mul_neg] at this

theorem scale_fine (z : Fin 256 → EReal) : 0 ≤ scale z ∧ scale z ≠ ⊤ := by
  refine rsqrt_pos _ ?_
  have h1 : (0 : EReal) ≤ (∑ l : Fin 128, (z (lo l) * z (lo l) + z (hi l) * z (hi l))) * ((1 / 192 : ℝ) : EReal) :=
    mul_nonneg (Finset.sum_nonneg fun l _ => add_nonneg (sq_nonneg' _) (sq_nonneg' _)) (by exact_mod_cast (by norm_num : (0 : ℝ) ≤ 1 / 192))
  have h2 : (0 : EReal) < Ideal.ofBits FTy.f32 0x358637BD#32 := by
    rw [lit_eps]; exact_mod_cast (by norm_num : (0 : ℝ) < 8796093 / 8796093022208)
  exact lt_of_lt_of_le h2 (le_add_of_nonneg_left h1)

/-- The reference's factor of a head is the kernel's. -/
theorem factor (z : Fin 256 → EReal) :
    Ideal.rsqrt ((∑ i : Fin 256, z i * z i) * ((1 / 192 : ℝ) : EReal) + Ideal.ofBits FTy.f32 0x358637BD#32) = scale z := by
  rw [scale, show (∑ i : Fin 256, z i * z i) = ∑ l : Fin 128, (z (lo l) * z (lo l) + z (hi l) * z (hi l)) from ?_]
  rw [Finset.sum_add_distrib]
  exact Fin.sum_univ_add (a := 128) (b := 128) fun i : Fin 256 => z i * z i

theorem minus_mul (a b r : EReal) (h : 0 ≤ r) (h' : r ≠ ⊤) : a * r - b * r = (a - b) * r := by
  rw [sub_eq_add_neg, sub_eq_add_neg, ← EReal.neg_mul, ← EReal.right_distrib_of_nonneg_of_ne_top h h']

theorem moved (a r g c : EReal) : a * r * g * c = a * g * c * r := by
  rw [mul_right_comm a r g, mul_right_comm (a * g) r c]

theorem turn_lo (z g : Fin 256 → EReal) (c s : Fin 128 → EReal) (l : Fin 128) :
    z (lo l) * scale z * g (lo l) * c l - z (hi l) * scale z * g (hi l) * s l = turnLo z g c s l := by
  rw [turnLo, moved (z (lo l)), moved (z (hi l)), minus_mul _ _ _ (scale_fine z).1 (scale_fine z).2]

theorem turn_hi (z g : Fin 256 → EReal) (c s : Fin 128 → EReal) (l : Fin 128) :
    z (hi l) * scale z * g (hi l) * c l + z (lo l) * scale z * g (lo l) * s l = turnHi z g c s l := by
  rw [turnHi, moved (z (hi l)), moved (z (lo l)), ← EReal.right_distrib_of_nonneg_of_ne_top (scale_fine z).1 (scale_fine z).2]

theorem lane_lo (e : Fin 256) (h : e.val < 128) (p : e.val < 128) : (⟨e.val, p⟩ : Fin 128) = Fin.ofNat 128 e.val :=
  Fin.ext (by rw [Fin.val_ofNat]; show e.val = e.val % 128; omega)

theorem lane_hi (e : Fin 256) (h : ¬ e.val < 128) (p : e.val - 128 < 128) : (⟨e.val - 128, p⟩ : Fin 128) = Fin.ofNat 128 e.val :=
  Fin.ext (by rw [Fin.val_ofNat]; show e.val - 128 = e.val % 128; omega)

theorem lane_mod (j : ℕ) : Fin.ofNat 128 (Fin.ofNat 256 j).val = Fin.ofNat 128 j :=
  Fin.ext (by rw [Fin.val_ofNat, Fin.val_ofNat, Fin.val_ofNat]; omega)

variable (x0 : Vec Ideal S8x2048x1024 .f32) (x1 : Vec Ideal S2x1x4608 .f32) (x2 : Vec Ideal S2x768x1024 .bf16) (x3 x4 : Vec Ideal S2x1024x1024 .bf16)
  (x5 : Vec Ideal S2x256x1024 .bf16) (x6 : Vec Ideal S2x256x1536 .bf16) (x7 x8 x9 x10 x11 x12 : Vec Ideal S2048x128 .f32)

/-! ## The row and its projections -/

theorem row_at (b : Fin 8) (n : Fin 2048) (e : Fin 1024) : val_main_v14 (F := Ideal) x0 x1 (ix3 b n e) = rowA x0 x1 b n e := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [mean_1024, rowA, start, normed, gain]
  exact congrArg (fun i => _ * x1 (ix3 0 0 i)) (fin_lit _ (by simp))

theorem head_at (b : Fin 8) (n : Fin 2048) (f : Fin 768) : val_main_v18 (F := Ideal) x0 x1 x2 (ix3 b n f) = dotRow (rowA x0 x1 b n) (mat x2) f.val := by
  have h : val_main_v18 (F := Ideal) x0 x1 x2 (ix3 b n f) = ∑ e : Fin 1024, val_main_v14 (F := Ideal) x0 x1 (ix3 b n e) * x2 (ix3 0 f e) := by
    pointwise [val_main_v18, val_main_v17, val_main_v16, val_main_v15]
  rw [h, dotRow]
  simp only [row_at, mat, Fin.ofNat_val_eq_self]

theorem rqk_at (b : Fin 8) (n : Fin 2048) (f : Fin 1024) : val_main_v25 (F := Ideal) x0 x1 x3 (ix3 b n f) = dotRow (rowA x0 x1 b n) (mat x3) f.val := by
  have h : val_main_v25 (F := Ideal) x0 x1 x3 (ix3 b n f) = ∑ e : Fin 1024, val_main_v14 (F := Ideal) x0 x1 (ix3 b n e) * x3 (ix3 0 f e) := by
    pointwise [val_main_v25, val_main_v24, val_main_v23, val_main_v22]
  rw [h, dotRow]
  simp only [row_at, mat, Fin.ofNat_val_eq_self]

theorem rvg_at (b : Fin 8) (n : Fin 2048) (f : Fin 1024) : val_main_v31 (F := Ideal) x0 x1 x4 (ix3 b n f) = dotRow (rowA x0 x1 b n) (mat x4) f.val := by
  have h : val_main_v31 (F := Ideal) x0 x1 x4 (ix3 b n f) = ∑ e : Fin 1024, val_main_v14 (F := Ideal) x0 x1 (ix3 b n e) * x4 (ix3 0 f e) := by
    pointwise [val_main_v31, val_main_v30, val_main_v29, val_main_v28]
  rw [h, dotRow]
  simp only [row_at, mat, Fin.ofNat_val_eq_self]

theorem cq_at (b : Fin 8) (n : Fin 2048) (d : Fin 256) : val_main_v19 (F := Ideal) x0 x1 x2 (ix3 b n d) = dotRow (rowA x0 x1 b n) (mat x2) (0 + d.val) := by
  have hd := d.isLt
  have h : val_main_v19 (F := Ideal) x0 x1 x2 (ix3 b n d) = val_main_v18 (F := Ideal) x0 x1 x2 (ix3 b n ⟨0 + d.val, by omega⟩) := by
    pointwise [val_main_v19]
  rw [h, head_at]

theorem ckv_at (b : Fin 8) (n : Fin 2048) (d : Fin 256) : val_main_v20 (F := Ideal) x0 x1 x2 (ix3 b n d) = dotRow (rowA x0 x1 b n) (mat x2) (256 + d.val) := by
  have hd := d.isLt
  have h : val_main_v20 (F := Ideal) x0 x1 x2 (ix3 b n d) = val_main_v18 (F := Ideal) x0 x1 x2 (ix3 b n ⟨256 + d.val, by omega⟩) := by
    pointwise [val_main_v20]
  rw [h, head_at]

theorem kpe_at (b : Fin 8) (n : Fin 2048) (d : Fin 256) : val_main_v21 (F := Ideal) x0 x1 x2 (ix3 b n d) = dotRow (rowA x0 x1 b n) (mat x2) (512 + d.val) := by
  have hd := d.isLt
  have h : val_main_v21 (F := Ideal) x0 x1 x2 (ix3 b n d) = val_main_v18 (F := Ideal) x0 x1 x2 (ix3 b n ⟨512 + d.val, by omega⟩) := by
    pointwise [val_main_v21]
  rw [h, head_at]

theorem rq_at (b : Fin 8) (n : Fin 2048) (d : Fin 512) : val_main_v26 (F := Ideal) x0 x1 x3 (ix3 b n d) = dotRow (rowA x0 x1 b n) (mat x3) (0 + d.val) := by
  have hd := d.isLt
  have h : val_main_v26 (F := Ideal) x0 x1 x3 (ix3 b n d) = val_main_v25 (F := Ideal) x0 x1 x3 (ix3 b n ⟨0 + d.val, by omega⟩) := by
    pointwise [val_main_v26]
  rw [h, rqk_at]

theorem rk_at (b : Fin 8) (n : Fin 2048) (d : Fin 512) : val_main_v27 (F := Ideal) x0 x1 x3 (ix3 b n d) = dotRow (rowA x0 x1 b n) (mat x3) (512 + d.val) := by
  have hd := d.isLt
  have h : val_main_v27 (F := Ideal) x0 x1 x3 (ix3 b n d) = val_main_v25 (F := Ideal) x0 x1 x3 (ix3 b n ⟨512 + d.val, by omega⟩) := by
    pointwise [val_main_v27]
  rw [h, rqk_at]

theorem rv_at (b : Fin 8) (n : Fin 2048) (d : Fin 512) : val_main_v32 (F := Ideal) x0 x1 x4 (ix3 b n d) = dotRow (rowA x0 x1 b n) (mat x4) (0 + d.val) := by
  have hd := d.isLt
  have h : val_main_v32 (F := Ideal) x0 x1 x4 (ix3 b n d) = val_main_v31 (F := Ideal) x0 x1 x4 (ix3 b n ⟨0 + d.val, by omega⟩) := by
    pointwise [val_main_v32]
  rw [h, rvg_at]

theorem rg_at (b : Fin 8) (n : Fin 2048) (d : Fin 512) : val_main_v33 (F := Ideal) x0 x1 x4 (ix3 b n d) = dotRow (rowA x0 x1 b n) (mat x4) (512 + d.val) := by
  have hd := d.isLt
  have h : val_main_v33 (F := Ideal) x0 x1 x4 (ix3 b n d) = val_main_v31 (F := Ideal) x0 x1 x4 (ix3 b n ⟨512 + d.val, by omega⟩) := by
    pointwise [val_main_v33]
  rw [h, rvg_at]

/-! ## The latent vectors -/

theorem latQ_at (b : Fin 8) (n : Fin 2048) (d : Fin 256) : val_main_v48 (F := Ideal) x0 x1 x2 (ix3 b n d) = latQ x0 x1 x2 b n d := by
  have hd := d.isLt
  have h : val_main_v48 (F := Ideal) x0 x1 x2 (ix3 b n d) = normed (Ideal.ofBits .f32 0x3B800000#32) (fun i => val_main_v19 (F := Ideal) x0 x1 x2 (ix3 b n i)) (gain x1 3584) d := by
    pointwise [val_main_v48, val_main_v47, val_main_v46, val_main_v45, val_main_v44, val_main_v43, val_main_v42, val_main_v41, val_main_v40, val_main_v39, val_main_v38, val_main_v37, val_main_v36, val_main_v35, val_main_v34, val_main_cst_2, val_main_cst_3, val_main_cst_4]
    simp only [mean_256, normed, gain]
    exact congrArg (fun i => _ * x1 (ix3 0 0 i)) (fin_lit _ rfl)
  rw [h, latQ, latent]
  simp only [cq_at]

theorem latK_at (b : Fin 8) (n : Fin 2048) (d : Fin 256) : val_main_v68 (F := Ideal) x0 x1 x2 (ix3 b n d) = latK x0 x1 x2 b n d := by
  have hd := d.isLt
  have h : val_main_v68 (F := Ideal) x0 x1 x2 (ix3 b n d) = normed (Ideal.ofBits .f32 0x3B800000#32) (fun i => val_main_v20 (F := Ideal) x0 x1 x2 (ix3 b n i)) (gain x1 3840) d := by
    pointwise [val_main_v68, val_main_v67, val_main_v66, val_main_v65, val_main_v64, val_main_v63, val_main_v62, val_main_v61, val_main_v60, val_main_v59, val_main_v58, val_main_v57, val_main_v56, val_main_v55, val_main_v54, val_main_cst_5, val_main_cst_6, val_main_cst_7]
    simp only [mean_256, normed, gain]
    exact congrArg (fun i => _ * x1 (ix3 0 0 i)) (fin_lit _ rfl)
  rw [h, latK, latent]
  simp only [ckv_at]

theorem projQ_at (b : Fin 8) (n : Fin 2048) (f : Fin 1024) : val_main_v52 (F := Ideal) x0 x1 x2 x5 (ix3 b n f) = dotCol (latQ x0 x1 x2 b n) (mat x5) f.val := by
  have h : val_main_v52 (F := Ideal) x0 x1 x2 x5 (ix3 b n f) = ∑ e : Fin 256, val_main_v48 (F := Ideal) x0 x1 x2 (ix3 b n e) * x5 (ix3 0 e f) := by
    pointwise [val_main_v52, val_main_v51, val_main_v50, val_main_v49]
  rw [h, dotCol]
  simp only [latQ_at, mat, Fin.ofNat_val_eq_self]

theorem projK_at (b : Fin 8) (n : Fin 2048) (f : Fin 1536) : val_main_v72 (F := Ideal) x0 x1 x2 x6 (ix3 b n f) = dotCol (latK x0 x1 x2 b n) (mat x6) f.val := by
  have h : val_main_v72 (F := Ideal) x0 x1 x2 x6 (ix3 b n f) = ∑ e : Fin 256, val_main_v68 (F := Ideal) x0 x1 x2 (ix3 b n e) * x6 (ix3 0 e f) := by
    pointwise [val_main_v72, val_main_v71, val_main_v70, val_main_v69]
  rw [h, dotCol]
  simp only [latK_at, mat, Fin.ofNat_val_eq_self]

theorem value_at (b : Fin 8) (n : Fin 2048) (d : Fin 512) : val_main_v195 (F := Ideal) x0 x1 x2 x6 (ix3 b n d) = dotCol (latK x0 x1 x2 b n) (mat x6) (1024 + d.val) := by
  have hd := d.isLt
  have h : val_main_v195 (F := Ideal) x0 x1 x2 x6 (ix3 b n d) = val_main_v72 (F := Ideal) x0 x1 x2 x6 (ix3 b n ⟨1024 + d.val, by omega⟩) := by
    pointwise [val_main_v195, val_main_v78]
  rw [h, projK_at]

/-! ## The heads -/

theorem in53 (b : Fin 8) (n : Fin 2048) (k : Fin 4) (d : Fin 256) : idx_main_v53 (ix4 b n k d) = ix3 b n ⟨256 * k.val + d.val, by omega⟩ := by
  have hb := b.isLt
  have hn := n.isLt
  have hk := k.isLt
  have hd := d.isLt
  exact funext fun a => match a with
    | ⟨0, _⟩ => Fin.ext (show (((b.val * 2048 + n.val) * 4 + k.val) * 256 + d.val) / 2097152 = b.val by omega)
    | ⟨1, _⟩ => Fin.ext (show (((b.val * 2048 + n.val) * 4 + k.val) * 256 + d.val) / 1024 % 2048 = n.val by omega)
    | ⟨2, _⟩ => Fin.ext (show (((b.val * 2048 + n.val) * 4 + k.val) * 256 + d.val) % 1024 = 256 * k.val + d.val by omega)

theorem in74 (b : Fin 8) (n : Fin 2048) (k : Fin 4) (d : Fin 256) : idx_main_v74 (ix4 b n k d) = ix3 b n ⟨256 * k.val + d.val, by omega⟩ := by
  have hb := b.isLt
  have hn := n.isLt
  have hk := k.isLt
  have hd := d.isLt
  exact funext fun a => match a with
    | ⟨0, _⟩ => Fin.ext (show (((b.val * 2048 + n.val) * 4 + k.val) * 256 + d.val) / 2097152 = b.val by omega)
    | ⟨1, _⟩ => Fin.ext (show (((b.val * 2048 + n.val) * 4 + k.val) * 256 + d.val) / 1024 % 2048 = n.val by omega)
    | ⟨2, _⟩ => Fin.ext (show (((b.val * 2048 + n.val) * 4 + k.val) * 256 + d.val) % 1024 = 256 * k.val + d.val by omega)

theorem in151 (b : Fin 8) (n : Fin 2048) (k : Fin 2) (d : Fin 256) : idx_main_v151 (ix4 b n k d) = ix3 b n ⟨256 * k.val + d.val, by omega⟩ := by
  have hb := b.isLt
  have hn := n.isLt
  have hk := k.isLt
  have hd := d.isLt
  exact funext fun a => match a with
    | ⟨0, _⟩ => Fin.ext (show (((b.val * 2048 + n.val) * 2 + k.val) * 256 + d.val) / 1048576 = b.val by omega)
    | ⟨1, _⟩ => Fin.ext (show (((b.val * 2048 + n.val) * 2 + k.val) * 256 + d.val) / 512 % 2048 = n.val by omega)
    | ⟨2, _⟩ => Fin.ext (show (((b.val * 2048 + n.val) * 2 + k.val) * 256 + d.val) % 512 = 256 * k.val + d.val by omega)

theorem in173 (b : Fin 8) (n : Fin 2048) (k : Fin 2) (d : Fin 256) : idx_main_v173 (ix4 b n k d) = ix3 b n ⟨256 * k.val + d.val, by omega⟩ := by
  have hb := b.isLt
  have hn := n.isLt
  have hk := k.isLt
  have hd := d.isLt
  exact funext fun a => match a with
    | ⟨0, _⟩ => Fin.ext (show (((b.val * 2048 + n.val) * 2 + k.val) * 256 + d.val) / 1048576 = b.val by omega)
    | ⟨1, _⟩ => Fin.ext (show (((b.val * 2048 + n.val) * 2 + k.val) * 256 + d.val) / 512 % 2048 = n.val by omega)
    | ⟨2, _⟩ => Fin.ext (show (((b.val * 2048 + n.val) * 2 + k.val) * 256 + d.val) % 512 = 256 * k.val + d.val by omega)

theorem out113 (b : Fin 8) (n : Fin 2048) (j : Fin 1024) : idx_main_v113 (ix3 b n j) = ix4 b n (Fin.ofNat 4 (j.val / 256)) (Fin.ofNat 256 j.val) := by
  have hb := b.isLt
  have hn := n.isLt
  have hj := j.isLt
  exact funext fun a => match a with
    | ⟨0, _⟩ => Fin.ext (show ((b.val * 2048 + n.val) * 1024 + j.val) / 2097152 = b.val by omega)
    | ⟨1, _⟩ => Fin.ext (show ((b.val * 2048 + n.val) * 1024 + j.val) / 1024 % 2048 = n.val by omega)
    | ⟨2, _⟩ => Fin.ext (show ((b.val * 2048 + n.val) * 1024 + j.val) / 256 % 4 = (j.val / 256) % 4 by omega)
    | ⟨3, _⟩ => Fin.ext (show ((b.val * 2048 + n.val) * 1024 + j.val) % 256 = j.val % 256 by omega)

theorem out149 (b : Fin 8) (n : Fin 2048) (j : Fin 1024) : idx_main_v149 (ix3 b n j) = ix4 b n (Fin.ofNat 4 (j.val / 256)) (Fin.ofNat 256 j.val) := by
  have hb := b.isLt
  have hn := n.isLt
  have hj := j.isLt
  exact funext fun a => match a with
    | ⟨0, _⟩ => Fin.ext (show ((b.val * 2048 + n.val) * 1024 + j.val) / 2097152 = b.val by omega)
    | ⟨1, _⟩ => Fin.ext (show ((b.val * 2048 + n.val) * 1024 + j.val) / 1024 % 2048 = n.val by omega)
    | ⟨2, _⟩ => Fin.ext (show ((b.val * 2048 + n.val) * 1024 + j.val) / 256 % 4 = (j.val / 256) % 4 by omega)
    | ⟨3, _⟩ => Fin.ext (show ((b.val * 2048 + n.val) * 1024 + j.val) % 256 = j.val % 256 by omega)

theorem out171 (b : Fin 8) (n : Fin 2048) (j : Fin 512) : idx_main_v171 (ix3 b n j) = ix4 b n (Fin.ofNat 2 (j.val / 256)) (Fin.ofNat 256 j.val) := by
  have hb := b.isLt
  have hn := n.isLt
  have hj := j.isLt
  exact funext fun a => match a with
    | ⟨0, _⟩ => Fin.ext (show ((b.val * 2048 + n.val) * 512 + j.val) / 1048576 = b.val by omega)
    | ⟨1, _⟩ => Fin.ext (show ((b.val * 2048 + n.val) * 512 + j.val) / 512 % 2048 = n.val by omega)
    | ⟨2, _⟩ => Fin.ext (show ((b.val * 2048 + n.val) * 512 + j.val) / 256 % 2 = (j.val / 256) % 2 by omega)
    | ⟨3, _⟩ => Fin.ext (show ((b.val * 2048 + n.val) * 512 + j.val) % 256 = j.val % 256 by omega)

theorem out193 (b : Fin 8) (n : Fin 2048) (j : Fin 512) : idx_main_v193 (ix3 b n j) = ix4 b n (Fin.ofNat 2 (j.val / 256)) (Fin.ofNat 256 j.val) := by
  have hb := b.isLt
  have hn := n.isLt
  have hj := j.isLt
  exact funext fun a => match a with
    | ⟨0, _⟩ => Fin.ext (show ((b.val * 2048 + n.val) * 512 + j.val) / 1048576 = b.val by omega)
    | ⟨1, _⟩ => Fin.ext (show ((b.val * 2048 + n.val) * 512 + j.val) / 512 % 2048 = n.val by omega)
    | ⟨2, _⟩ => Fin.ext (show ((b.val * 2048 + n.val) * 512 + j.val) / 256 % 2 = (j.val / 256) % 2 by omega)
    | ⟨3, _⟩ => Fin.ext (show ((b.val * 2048 + n.val) * 512 + j.val) % 256 = j.val % 256 by omega)

theorem headQ_at (b : Fin 8) (n : Fin 2048) (k : Fin 4) (d : Fin 256) : val_main_v53 (F := Ideal) x0 x1 x2 x5 (ix4 b n k d) = headQ (latQ x0 x1 x2 b n) (mat x5) k.val d := by
  rw [val_main_v53_apply, in53, projQ_at, headQ]

theorem headK_at (b : Fin 8) (n : Fin 2048) (k : Fin 4) (d : Fin 256) :
    val_main_v77 (F := Ideal) x0 x1 x2 x6 (ix4 b n k d) = headK (latK x0 x1 x2 b n) (mat x6) (common x0 x1 x2 b n) k.val d := by
  have hk := k.isLt
  have hd := d.isLt
  have h : val_main_v77 (F := Ideal) x0 x1 x2 x6 (ix4 b n k d) = val_main_v74 (F := Ideal) x0 x1 x2 x6 (ix4 b n k d) + val_main_v21 (F := Ideal) x0 x1 x2 (ix3 b n d) := by
    pointwise [val_main_v77, val_main_v76, val_main_v75]
  have h' : val_main_v73 (F := Ideal) x0 x1 x2 x6 (ix3 b n ⟨256 * k.val + d.val, by omega⟩) = val_main_v72 (F := Ideal) x0 x1 x2 x6 (ix3 b n ⟨256 * k.val + d.val, by omega⟩) := by
    pointwise [val_main_v73]
  rw [h, val_main_v74_apply, in74, h', projK_at, kpe_at]
  rfl

theorem pairQ_at (b : Fin 8) (n : Fin 2048) (k : Fin 2) (d : Fin 256) : val_main_v151 (F := Ideal) x0 x1 x3 (ix4 b n k d) = dotRow (rowA x0 x1 b n) (mat x3) (0 + (256 * k.val + d.val)) := by
  rw [val_main_v151_apply, in151, rq_at]

theorem pairK_at (b : Fin 8) (n : Fin 2048) (k : Fin 2) (d : Fin 256) : val_main_v173 (F := Ideal) x0 x1 x3 (ix4 b n k d) = dotRow (rowA x0 x1 b n) (mat x3) (512 + (256 * k.val + d.val)) := by
  rw [val_main_v173_apply, in173, rk_at]

/-! ## Norms and rotations -/

theorem normQ_at (b : Fin 8) (n : Fin 2048) (k : Fin 4) (d : Fin 256) : val_main_v93 (F := Ideal) x0 x1 x2 x5 (ix4 b n k d) = (headQ (latQ x0 x1 x2 b n) (mat x5) k.val) d * scale (headQ (latQ x0 x1 x2 b n) (mat x5) k.val) * gain x1 4096 d := by
  have hd := d.isLt
  pointwise [val_main_v93, val_main_v92, val_main_v91, val_main_v90, val_main_v89, val_main_v88, val_main_v87, val_main_v86, val_main_v85, val_main_v84, val_main_v83, val_main_v82, val_main_v81, val_main_v80, val_main_v79, val_main_cst_8, val_main_cst_9, val_main_cst_10]
  simp only [mean_192, headQ_at, factor, gain]
  exact congrArg (fun i => _ * x1 (ix3 0 0 i)) (fin_lit _ rfl)

theorem normK_at (b : Fin 8) (n : Fin 2048) (k : Fin 4) (d : Fin 256) : val_main_v129 (F := Ideal) x0 x1 x2 x6 (ix4 b n k d) = (headK (latK x0 x1 x2 b n) (mat x6) (common x0 x1 x2 b n) k.val) d * scale (headK (latK x0 x1 x2 b n) (mat x6) (common x0 x1 x2 b n) k.val) * gain x1 4352 d := by
  have hd := d.isLt
  pointwise [val_main_v129, val_main_v128, val_main_v127, val_main_v126, val_main_v125, val_main_v124, val_main_v123, val_main_v122, val_main_v121, val_main_v120, val_main_v119, val_main_v118, val_main_v117, val_main_v116, val_main_v115, val_main_cst_11, val_main_cst_12, val_main_cst_13]
  simp only [mean_192, headK_at, factor, gain]
  exact congrArg (fun i => _ * x1 (ix3 0 0 i)) (fin_lit _ rfl)

theorem v104_at (b : Fin 8) (n : Fin 2048) (k : Fin 4) (l : Fin 128) :
    val_main_v104 (F := Ideal) x0 x1 x2 x5 x7 x8 (ix4 b n k l) = val_main_v93 (F := Ideal) x0 x1 x2 x5 (ix4 b n k (lo l)) * line x7 n l - val_main_v93 (F := Ideal) x0 x1 x2 x5 (ix4 b n k (hi l)) * line x8 n l := by
  pointwise [val_main_v104, val_main_v103, val_main_v102, val_main_v101, val_main_v100, val_main_v99, val_main_v98, val_main_v97, val_main_v96, val_main_v95, val_main_v94]
  rfl

theorem v111_at (b : Fin 8) (n : Fin 2048) (k : Fin 4) (l : Fin 128) :
    val_main_v111 (F := Ideal) x0 x1 x2 x5 x7 x8 (ix4 b n k l) = val_main_v93 (F := Ideal) x0 x1 x2 x5 (ix4 b n k (hi l)) * line x7 n l + val_main_v93 (F := Ideal) x0 x1 x2 x5 (ix4 b n k (lo l)) * line x8 n l := by
  pointwise [val_main_v111, val_main_v110, val_main_v109, val_main_v108, val_main_v107, val_main_v106, val_main_v105, val_main_v97, val_main_v96, val_main_v95, val_main_v94]
  rfl

theorem v112_at (b : Fin 8) (n : Fin 2048) (k : Fin 4) (e : Fin 256) : val_main_v112 (F := Ideal) x0 x1 x2 x5 x7 x8 (ix4 b n k e) =
    if e.val < 128 then val_main_v104 (F := Ideal) x0 x1 x2 x5 x7 x8 (ix4 b n k (Fin.ofNat 128 e.val)) else val_main_v111 (F := Ideal) x0 x1 x2 x5 x7 x8 (ix4 b n k (Fin.ofNat 128 e.val)) := by
  have he := e.isLt
  pointwise [val_main_v112]
  by_cases hs : e.val < 128
  · rw [dif_pos hs, if_pos hs]
    exact congrArg (fun i => val_main_v104 (F := Ideal) x0 x1 x2 x5 x7 x8 (ix4 b n k i)) (lane_lo e hs _)
  · rw [dif_neg hs, if_neg hs]
    exact congrArg (fun i => val_main_v111 (F := Ideal) x0 x1 x2 x5 x7 x8 (ix4 b n k i)) (lane_hi e hs _)

theorem v140_at (b : Fin 8) (n : Fin 2048) (k : Fin 4) (l : Fin 128) :
    val_main_v140 (F := Ideal) x0 x1 x2 x6 x7 x8 (ix4 b n k l) = val_main_v129 (F := Ideal) x0 x1 x2 x6 (ix4 b n k (lo l)) * line x7 n l - val_main_v129 (F := Ideal) x0 x1 x2 x6 (ix4 b n k (hi l)) * line x8 n l := by
  pointwise [val_main_v140, val_main_v139, val_main_v138, val_main_v137, val_main_v136, val_main_v135, val_main_v134, val_main_v133, val_main_v132, val_main_v131, val_main_v130]
  rfl

theorem v147_at (b : Fin 8) (n : Fin 2048) (k : Fin 4) (l : Fin 128) :
    val_main_v147 (F := Ideal) x0 x1 x2 x6 x7 x8 (ix4 b n k l) = val_main_v129 (F := Ideal) x0 x1 x2 x6 (ix4 b n k (hi l)) * line x7 n l + val_main_v129 (F := Ideal) x0 x1 x2 x6 (ix4 b n k (lo l)) * line x8 n l := by
  pointwise [val_main_v147, val_main_v146, val_main_v145, val_main_v144, val_main_v143, val_main_v142, val_main_v141, val_main_v133, val_main_v132, val_main_v131, val_main_v130]
  rfl

theorem v148_at (b : Fin 8) (n : Fin 2048) (k : Fin 4) (e : Fin 256) : val_main_v148 (F := Ideal) x0 x1 x2 x6 x7 x8 (ix4 b n k e) =
    if e.val < 128 then val_main_v140 (F := Ideal) x0 x1 x2 x6 x7 x8 (ix4 b n k (Fin.ofNat 128 e.val)) else val_main_v147 (F := Ideal) x0 x1 x2 x6 x7 x8 (ix4 b n k (Fin.ofNat 128 e.val)) := by
  have he := e.isLt
  pointwise [val_main_v148]
  by_cases hs : e.val < 128
  · rw [dif_pos hs, if_pos hs]
    exact congrArg (fun i => val_main_v140 (F := Ideal) x0 x1 x2 x6 x7 x8 (ix4 b n k i)) (lane_lo e hs _)
  · rw [dif_neg hs, if_neg hs]
    exact congrArg (fun i => val_main_v147 (F := Ideal) x0 x1 x2 x6 x7 x8 (ix4 b n k i)) (lane_hi e hs _)

theorem v162_at (b : Fin 8) (n : Fin 2048) (k : Fin 2) (l : Fin 128) :
    val_main_v162 (F := Ideal) x0 x1 x3 x9 x10 (ix4 b n k l) = val_main_v151 (F := Ideal) x0 x1 x3 (ix4 b n k (lo l)) * line x9 n l - val_main_v151 (F := Ideal) x0 x1 x3 (ix4 b n k (hi l)) * line x10 n l := by
  pointwise [val_main_v162, val_main_v161, val_main_v160, val_main_v159, val_main_v158, val_main_v157, val_main_v156, val_main_v155, val_main_v154, val_main_v153, val_main_v152]
  rfl

theorem v169_at (b : Fin 8) (n : Fin 2048) (k : Fin 2) (l : Fin 128) :
    val_main_v169 (F := Ideal) x0 x1 x3 x9 x10 (ix4 b n k l) = val_main_v151 (F := Ideal) x0 x1 x3 (ix4 b n k (hi l)) * line x9 n l + val_main_v151 (F := Ideal) x0 x1 x3 (ix4 b n k (lo l)) * line x10 n l := by
  pointwise [val_main_v169, val_main_v168, val_main_v167, val_main_v166, val_main_v165, val_main_v164, val_main_v163, val_main_v155, val_main_v154, val_main_v153, val_main_v152]
  rfl

theorem v170_at (b : Fin 8) (n : Fin 2048) (k : Fin 2) (e : Fin 256) : val_main_v170 (F := Ideal) x0 x1 x3 x9 x10 (ix4 b n k e) =
    if e.val < 128 then val_main_v162 (F := Ideal) x0 x1 x3 x9 x10 (ix4 b n k (Fin.ofNat 128 e.val)) else val_main_v169 (F := Ideal) x0 x1 x3 x9 x10 (ix4 b n k (Fin.ofNat 128 e.val)) := by
  have he := e.isLt
  pointwise [val_main_v170]
  by_cases hs : e.val < 128
  · rw [dif_pos hs, if_pos hs]
    exact congrArg (fun i => val_main_v162 (F := Ideal) x0 x1 x3 x9 x10 (ix4 b n k i)) (lane_lo e hs _)
  · rw [dif_neg hs, if_neg hs]
    exact congrArg (fun i => val_main_v169 (F := Ideal) x0 x1 x3 x9 x10 (ix4 b n k i)) (lane_hi e hs _)

theorem v184_at (b : Fin 8) (n : Fin 2048) (k : Fin 2) (l : Fin 128) :
    val_main_v184 (F := Ideal) x0 x1 x3 x11 x12 (ix4 b n k l) = val_main_v173 (F := Ideal) x0 x1 x3 (ix4 b n k (lo l)) * line x11 n l - val_main_v173 (F := Ideal) x0 x1 x3 (ix4 b n k (hi l)) * line x12 n l := by
  pointwise [val_main_v184, val_main_v183, val_main_v182, val_main_v181, val_main_v180, val_main_v179, val_main_v178, val_main_v177, val_main_v176, val_main_v175, val_main_v174]
  rfl

theorem v191_at (b : Fin 8) (n : Fin 2048) (k : Fin 2) (l : Fin 128) :
    val_main_v191 (F := Ideal) x0 x1 x3 x11 x12 (ix4 b n k l) = val_main_v173 (F := Ideal) x0 x1 x3 (ix4 b n k (hi l)) * line x11 n l + val_main_v173 (F := Ideal) x0 x1 x3 (ix4 b n k (lo l)) * line x12 n l := by
  pointwise [val_main_v191, val_main_v190, val_main_v189, val_main_v188, val_main_v187, val_main_v186, val_main_v185, val_main_v177, val_main_v176, val_main_v175, val_main_v174]
  rfl

theorem v192_at (b : Fin 8) (n : Fin 2048) (k : Fin 2) (e : Fin 256) : val_main_v192 (F := Ideal) x0 x1 x3 x11 x12 (ix4 b n k e) =
    if e.val < 128 then val_main_v184 (F := Ideal) x0 x1 x3 x11 x12 (ix4 b n k (Fin.ofNat 128 e.val)) else val_main_v191 (F := Ideal) x0 x1 x3 x11 x12 (ix4 b n k (Fin.ofNat 128 e.val)) := by
  have he := e.isLt
  pointwise [val_main_v192]
  by_cases hs : e.val < 128
  · rw [dif_pos hs, if_pos hs]
    exact congrArg (fun i => val_main_v184 (F := Ideal) x0 x1 x3 x11 x12 (ix4 b n k i)) (lane_lo e hs _)
  · rw [dif_neg hs, if_neg hs]
    exact congrArg (fun i => val_main_v191 (F := Ideal) x0 x1 x3 x11 x12 (ix4 b n k i)) (lane_hi e hs _)

/-! ## The arrays -/

theorem arrQ_at (b : Fin 8) (n : Fin 2048) (j : Fin 1024) : val_main_v114 (F := Ideal) x0 x1 x2 x5 x7 x8 (ix3 b n j) = arrQ x0 x1 x2 x5 x7 x8 (ix3 b n j) := by
  have hj := j.isLt
  rw [val_main_v114_apply, Ideal.truncf_def, val_main_v113_apply, out113, v112_at, lane_mod, v104_at, v111_at]
  simp only [normQ_at, turn_lo, turn_hi]
  rw [Fin.val_ofNat, Fin.val_ofNat, Nat.mod_eq_of_lt (show j.val / 256 < 4 by omega)]
  rfl

theorem arrQ_eq : val_main_v114 (F := Ideal) x0 x1 x2 x5 x7 x8 = arrQ x0 x1 x2 x5 x7 x8 := by
  funext j
  rw [eq_ix3 j]
  exact arrQ_at x0 x1 x2 x5 x7 x8 (j 0) (j 1) (j 2)

theorem arrK_at (b : Fin 8) (n : Fin 2048) (j : Fin 1024) : val_main_v150 (F := Ideal) x0 x1 x2 x6 x7 x8 (ix3 b n j) = arrK x0 x1 x2 x6 x7 x8 (ix3 b n j) := by
  have hj := j.isLt
  rw [val_main_v150_apply, Ideal.truncf_def, val_main_v149_apply, out149, v148_at, lane_mod, v140_at, v147_at]
  simp only [normK_at, turn_lo, turn_hi]
  rw [Fin.val_ofNat, Fin.val_ofNat, Nat.mod_eq_of_lt (show j.val / 256 < 4 by omega)]
  rfl

theorem arrK_eq : val_main_v150 (F := Ideal) x0 x1 x2 x6 x7 x8 = arrK x0 x1 x2 x6 x7 x8 := by
  funext j
  rw [eq_ix3 j]
  exact arrK_at x0 x1 x2 x6 x7 x8 (j 0) (j 1) (j 2)

theorem arrR0_at (b : Fin 8) (n : Fin 2048) (j : Fin 512) : val_main_v172 (F := Ideal) x0 x1 x3 x9 x10 (ix3 b n j) = arrR 0 x0 x1 x3 x9 x10 (ix3 b n j) := by
  have hj := j.isLt
  rw [val_main_v172_apply, Ideal.truncf_def, val_main_v171_apply, out171, v170_at, lane_mod, v162_at, v169_at]
  simp only [pairQ_at, lo, hi]
  have e1 : (Fin.ofNat 2 (j.val / 256)).val = j.val / 256 := Nat.mod_eq_of_lt (show j.val / 256 < 2 by omega)
  have e2 : (Fin.ofNat 128 j.val).val = j.val % 256 % 128 := by rw [Fin.val_ofNat]; omega
  have e3 : (Fin.ofNat 256 j.val).val = j.val % 256 := rfl
  have e4 : j.val % 256 % 128 = j.val % 128 := by omega
  rw [e1, e2, e3, e4, ← Nat.add_assoc (256 * (j.val / 256)) 128]
  rfl

theorem arrR0_eq : val_main_v172 (F := Ideal) x0 x1 x3 x9 x10 = arrR 0 x0 x1 x3 x9 x10 := by
  funext j
  rw [eq_ix3 j]
  exact arrR0_at x0 x1 x3 x9 x10 (j 0) (j 1) (j 2)

theorem arrR512_at (b : Fin 8) (n : Fin 2048) (j : Fin 512) : val_main_v194 (F := Ideal) x0 x1 x3 x11 x12 (ix3 b n j) = arrR 512 x0 x1 x3 x11 x12 (ix3 b n j) := by
  have hj := j.isLt
  rw [val_main_v194_apply, Ideal.truncf_def, val_main_v193_apply, out193, v192_at, lane_mod, v184_at, v191_at]
  simp only [pairK_at, lo, hi]
  have e1 : (Fin.ofNat 2 (j.val / 256)).val = j.val / 256 := Nat.mod_eq_of_lt (show j.val / 256 < 2 by omega)
  have e2 : (Fin.ofNat 128 j.val).val = j.val % 256 % 128 := by rw [Fin.val_ofNat]; omega
  have e3 : (Fin.ofNat 256 j.val).val = j.val % 256 := rfl
  have e4 : j.val % 256 % 128 = j.val % 128 := by omega
  rw [e1, e2, e3, e4, ← Nat.add_assoc (256 * (j.val / 256)) 128]
  rfl

theorem arrR512_eq : val_main_v194 (F := Ideal) x0 x1 x3 x11 x12 = arrR 512 x0 x1 x3 x11 x12 := by
  funext j
  rw [eq_ix3 j]
  exact arrR512_at x0 x1 x3 x11 x12 (j 0) (j 1) (j 2)

theorem arrV_eq : val_main_v195 (F := Ideal) x0 x1 x2 x6 = arrV x0 x1 x2 x6 := by
  funext j
  rw [eq_ix3 j]
  exact value_at x0 x1 x2 x6 (j 0) (j 1) (j 2)

theorem arrW0_eq : val_main_v196 (F := Ideal) x0 x1 x4 = arrW 0 x0 x1 x4 := by
  funext j
  rw [eq_ix3 j]
  exact (val_main_v196_apply x0 x1 x4 _).trans (rv_at x0 x1 x4 (j 0) (j 1) (j 2))

theorem arrW512_eq : val_main_v197 (F := Ideal) x0 x1 x4 = arrW 512 x0 x1 x4 := by
  funext j
  rw [eq_ix3 j]
  exact (val_main_v197_apply x0 x1 x4 _).trans (rg_at x0 x1 x4 (j 0) (j 1) (j 2))

end Cert.Reference3Ideal.PreRef
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.PreFrameFloat
public import proofs.«01_k».proof.Proof.PreFrame
public import proofs.«01_k».proof.Proof.PreLaunch
public import proofs.«01_k».proof.Proof.Gen.Reference3Ideal.Run
public import proofs.«01_k».proof.Proof.Gen.Reference3Ideal.Read
public import proofs.«01_k».proof.Proof.Arrays
public import proofs.«01_k».proof.Proof.AttEq
public import proofs.«01_k».proof.Proof.RetEq
public import proofs.«01_k».proof.Proof.Finite
public import proofs.«01_k».proof.Proof.FfnArrays
public import proofs.«01_k».proof.Proof.FfnEq
public import proofs.«01_k».proof.Proof.PreFinal
public import proofs.«01_k».proof.Proof.PreEq
public import Idealize.ShloMosaic.Adequacy
public import Idealize.ShloMosaic.Init
public import Idealize.ShloMosaic.Lib.Claim
public import Idealize.ShloMosaic.Lib.Quiescent

/-! The certificate: the kernel of the attention and the retention, that of the output projection and the feed-forward
part, and that of the norm and the input projections compute at the reals what their mathematics says. -/

@[expose] public section

set_option maxRecDepth 16384

noncomputable section

namespace Cert.Proof

open Idealize.ShloMosaic Idealize.SL.Sem Cert.KernelIdeal.AttnRet

/-- The reference runs, leaves its arguments alone, and ends with every counter at zero. -/
theorem reference_frame : Cert.quiescent_ReferenceIdeal := by
  intro m g _
  exact (θ_run Cert.ReferenceIdeal.defs _ _).mono (fun r h => ⟨fun c => (h c).2.2.2.2.2, sem_eq_zero_of_no_sems (by decide) _⟩) (Cert.ReferenceIdeal.Value.run m g)

/-- Both programs run, and end with the same five arrays. -/
theorem algebraic : Cert.algebraic_KernelIdeal_ReferenceIdeal_pre_finite := by
  intro m g m' g' hpre hagree
  refine ⟨fun c => attArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => layer0 (m ((c.tc : Thread Cert.KernelIdeal.nD Cert.KernelIdeal.τ).loc Cert.KernelIdeal.main_arg6)), fun c => layer0 (m ((c.tc : Thread Cert.KernelIdeal.nD Cert.KernelIdeal.τ).loc Cert.KernelIdeal.main_arg7)), fun c => layer0 (m ((c.tc : Thread Cert.KernelIdeal.nD Cert.KernelIdeal.τ).loc Cert.KernelIdeal.main_arg8)), fun c => retArr (m ((c.tc : Thread Cert.KernelIdeal.nD Cert.KernelIdeal.τ).loc Cert.KernelIdeal.main_arg15)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Value.run_blocks m g)
    obtain ⟨hq, hk, hkm, hrq, hrk, hrv, hrkm, hrvm, hlg⟩ := Cert.Pre_finite.finite_real (hpre c)
    obtain ⟨h0, h1, h2, h3, h4, hargs⟩ := h c
    exact ⟨h0.trans (final18 m c hq hk hkm), h1.trans (final19 m c), h2.trans (final20 m c), h3.trans (final21 m c), h4.trans (final22 m c hrq hrk hrv hrkm hrvm hlg), hargs⟩
  · refine (θ_run Cert.ReferenceIdeal.defs _ _).mono (fun r h c => ?_) (Cert.ReferenceIdeal.Value.run m' g')
    obtain ⟨hq, hk, hkm, hrq, hrk, hrv, hrkm, hrvm, hlg⟩ := Cert.Pre_finite.finite_real (hpre c)
    obtain ⟨e0, e1, e2, e3, e4, e5, e6, e7, e8, e9, e10, e11, e12, e13, e14, e15⟩ := hagree c
    obtain ⟨h0, h1, h2, h3, h4, hargs⟩ := h c
    refine ⟨(h0.trans (Cert.ReferenceIdeal.Read.val_main_v53_eq m' c)).trans ?_, (h1.trans (Cert.ReferenceIdeal.Read.val_main_v126_eq _)).trans ?_, (h2.trans (Cert.ReferenceIdeal.Read.val_main_v129_eq _)).trans ?_,
      (h3.trans (Cert.ReferenceIdeal.Read.val_main_v132_eq _)).trans ?_, (h4.trans (Cert.ReferenceIdeal.Read.val_main_v123_eq m' c)).trans ?_, hargs⟩
    · rw [e0, e1, e2, e3, e4, e5]
      exact att_eq _ _ _ hq hk hkm
    · rw [e6]
      exact w_out_eq _
    · rw [e7]
      exact w_gate_up_eq _
    · rw [e8]
      exact w_down_eq _
    · rw [e5, e9, e10, e11, e12, e13, e14, e15]
      exact ret_eq _ _ hrq hrk hrv hrkm hrvm hlg

/-- The second reference runs, leaves its arguments alone, and ends with every counter at zero. -/
theorem reference2_frame : Cert.quiescent_Reference2Ideal := by
  intro m g _
  exact (θ_run Cert.Reference2Ideal.defs _ _).mono (fun r h => ⟨fun c => (h c).2, sem_eq_zero_of_no_sems (by decide) _⟩) (Cert.Reference2Ideal.Value.run m g)

/-- The second kernel and its reference run, and end with the same array. -/
theorem algebraic2 : Cert.algebraic_Kernel2Ideal_Reference2Ideal := by
  intro m g m' g' _ hagree
  refine ⟨fun c => Cert.Kernel2Ideal.Ffn.layerArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)), ?_, ?_⟩
  · refine (θ_run Cert.Kernel2Ideal.defs _ _).mono (fun r h c => ?_) (Cert.Kernel2Ideal.Value.run_blocks m g)
    obtain ⟨h0, hargs⟩ := h c
    exact ⟨h0.trans (Cert.Kernel2Ideal.Ffn.final7 m c), hargs⟩
  · refine (θ_run Cert.Reference2Ideal.defs _ _).mono (fun r h c => ?_) (Cert.Reference2Ideal.Value.run m' g')
    obtain ⟨e0, e1, e2, e3, e4, e5, e6⟩ := hagree c
    obtain ⟨h0, hargs⟩ := h c
    refine ⟨(h0.trans (Cert.Reference2Ideal.Read.val_main_v28_eq m' c)).trans ?_, hargs⟩
    rw [e0, e1, e2, e3, e4, e5, e6]
    exact Cert.Reference2Ideal.FfnRef.layer_eq _ _ _ _ _ _ _

/-- The third reference runs, leaves its arguments alone, and ends with every counter at zero. -/
theorem reference3_frame : Cert.quiescent_Reference3Ideal := by
  intro m g _
  exact (θ_run Cert.Reference3Ideal.defs _ _).mono (fun r h => ⟨fun c => (h c).2.2.2.2.2.2.2, sem_eq_zero_of_no_sems (by decide) _⟩) (Cert.Reference3Ideal.Value.run m g)

/-- The third kernel and its reference run, and end with the same seven arrays. -/
theorem algebraic3 : Cert.algebraic_Kernel3Ideal_Reference3Ideal := by
  intro m g m' g' _ hagree
  refine ⟨fun c => Cert.Kernel3Ideal.Pre.arrQ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)), fun c => Cert.Kernel3Ideal.Pre.arrK (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)), fun c => Cert.Kernel3Ideal.Pre.arrV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg6)), fun c => Cert.Kernel3Ideal.Pre.arrR 0 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)), fun c => Cert.Kernel3Ideal.Pre.arrR 512 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)), fun c => Cert.Kernel3Ideal.Pre.arrW 0 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)), fun c => Cert.Kernel3Ideal.Pre.arrW 512 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)), ?_, ?_⟩
  · refine (θ_run Cert.Kernel3Ideal.defs _ _).mono (fun r h c => ?_) (Cert.Kernel3Ideal.Value.run_blocks m g)
    obtain ⟨h0, h1, h2, h3, h4, h5, h6, hargs⟩ := h c
    exact ⟨h0.trans (Cert.Kernel3Ideal.Pre.final17 m c), h1.trans (Cert.Kernel3Ideal.Pre.final18 m c), h2.trans (Cert.Kernel3Ideal.Pre.final19 m c), h3.trans (Cert.Kernel3Ideal.Pre.final20 m c), h4.trans (Cert.Kernel3Ideal.Pre.final21 m c), h5.trans (Cert.Kernel3Ideal.Pre.final22 m c), h6.trans (Cert.Kernel3Ideal.Pre.final23 m c), hargs⟩
  · refine (θ_run Cert.Reference3Ideal.defs _ _).mono (fun r h c => ?_) (Cert.Reference3Ideal.Value.run m' g')
    obtain ⟨e0, e1, e2, e3, e4, e5, e6, e7, e8, e9, e10, e11, e12⟩ := hagree c
    obtain ⟨h0, h1, h2, h3, h4, h5, h6, hargs⟩ := h c
    refine ⟨(h0.trans (Cert.Reference3Ideal.Read.val_main_v114_eq _)).trans ?_, (h1.trans (Cert.Reference3Ideal.Read.val_main_v150_eq _)).trans ?_, (h2.trans (Cert.Reference3Ideal.Read.val_main_v195_eq _)).trans ?_, (h3.trans (Cert.Reference3Ideal.Read.val_main_v172_eq _)).trans ?_, (h4.trans (Cert.Reference3Ideal.Read.val_main_v194_eq _)).trans ?_, (h5.trans (Cert.Reference3Ideal.Read.val_main_v196_eq _)).trans ?_, (h6.trans (Cert.Reference3Ideal.Read.val_main_v197_eq _)).trans ?_, hargs⟩
    · show Cert.Reference3Ideal.Read.val_main_v114 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) = _
      rw [e0, e1, e2, e5, e7, e8]
      exact Cert.Reference3Ideal.PreRef.arrQ_eq _ _ _ _ _ _
    · show Cert.Reference3Ideal.Read.val_main_v150 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) = _
      rw [e0, e1, e2, e6, e7, e8]
      exact Cert.Reference3Ideal.PreRef.arrK_eq _ _ _ _ _ _
    · show Cert.Reference3Ideal.Read.val_main_v195 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg6)) = _
      rw [e0, e1, e2, e6]
      exact Cert.Reference3Ideal.PreRef.arrV_eq _ _ _ _
    · show Cert.Reference3Ideal.Read.val_main_v172 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) = _
      rw [e0, e1, e3, e9, e10]
      exact Cert.Reference3Ideal.PreRef.arrR0_eq _ _ _ _ _
    · show Cert.Reference3Ideal.Read.val_main_v194 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = _
      rw [e0, e1, e3, e11, e12]
      exact Cert.Reference3Ideal.PreRef.arrR512_eq _ _ _ _ _
    · show Cert.Reference3Ideal.Read.val_main_v196 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg4)) = _
      rw [e0, e1, e4]
      exact Cert.Reference3Ideal.PreRef.arrW0_eq _ _ _
    · show Cert.Reference3Ideal.Read.val_main_v197 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg4)) = _
      rw [e0, e1, e4]
      exact Cert.Reference3Ideal.PreRef.arrW512_eq _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  IdealRules.named_const.statement Cert.KernelIdeal.κ "mask" .f32 0xF149F2CA#32 ⊥ rfl, algebraic, trivial, algebraic2,
  IdealRules.named_const.statement Cert.Kernel3Ideal.κ "inv192" .f32 0x3BAAAAAB#32 ((1 / 192 : ℝ) : EReal) rfl, algebraic3⟩

end Cert.Proof

end
